-- ==== Defs.lean ====
def Pre_Attn [hPre_rows_in_range : Cert.Pre_rows_in_range.Facts] (m : (ℓ : Loc Cert.Attn.nD Cert.Attn.τ Cert.Attn.sig) → Buf (Elt Bits) ℓ) : Prop :=
  ∀ c : Dev Cert.Attn.nD,
    (Cert.Pre_rows_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7))) = (fun _ => 1#1)

def Pre_AttnIdeal [hPre_rows_in_range : Cert.Pre_rows_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_rows_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnIdeal_rows_in_range_and_finite [hPre_rows_in_range_and_finite : Cert.Pre_rows_in_range_and_finite.Facts] (m : (ℓ : Loc Cert.AttnIdeal.nD Cert.AttnIdeal.τ Cert.AttnIdeal.sig) → Buf (Elt Ideal) ℓ) : Prop :=
  ∀ c : Dev Cert.AttnIdeal.nD,
    (Cert.Pre_rows_in_range_and_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_rows_in_range_and_finite [hPre_rows_in_range_and_finite : Cert.Pre_rows_in_range_and_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_rows_in_range_and_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCIdeal_distinct_rows [hPre_distinct_rows : Cert.Pre_distinct_rows.Facts] (m : (ℓ : Loc Cert.OutCIdeal.nD Cert.OutCIdeal.τ Cert.OutCIdeal.sig) → Buf (Elt Ideal) ℓ) : Prop :=
  ∀ c : Dev Cert.OutCIdeal.nD,
    (Cert.Pre_distinct_rows.fn (F := Ideal) (m ((c.tc : Thread Cert.OutCIdeal.nD Cert.OutCIdeal.τ).loc Cert.OutCIdeal.main_arg0)) (m ((c.tc : Thread Cert.OutCIdeal.nD Cert.OutCIdeal.τ).loc Cert.OutCIdeal.main_arg1)) (m ((c.tc : Thread Cert.OutCIdeal.nD Cert.OutCIdeal.τ).loc Cert.OutCIdeal.main_arg2)) (m ((c.tc : Thread Cert.OutCIdeal.nD Cert.OutCIdeal.τ).loc Cert.OutCIdeal.main_arg3))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_distinct_rows [hPre_distinct_rows : Cert.Pre_distinct_rows.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_distinct_rows.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKRefIdeal (m : (ℓ : Loc Cert.TopKRefIdeal.nD Cert.TopKRefIdeal.τ Cert.TopKRefIdeal.sig) → Buf (Elt Ideal) ℓ) : Prop :=
  True

def quiescent_Attn [hAttn : Cert.Attn.Facts] [hPre_rows_in_range : Cert.Pre_rows_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] [hPre_rows_in_range : Cert.Pre_rows_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_rows_in_range_and_finite [hAttnIdeal : Cert.AttnIdeal.Facts] [hPre_rows_in_range_and_finite : Cert.Pre_rows_in_range_and_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_rows_in_range_and_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_rows_in_range_and_finite [hAttnRefIdeal : Cert.AttnRefIdeal.Facts] [hPre_rows_in_range_and_finite : Cert.Pre_rows_in_range_and_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_rows_in_range_and_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3))
      ∧ r.2.sem = fun _ => 0)

def quiescent_OutCIdeal_pre_distinct_rows [hOutCIdeal : Cert.OutCIdeal.Facts] [hPre_distinct_rows : Cert.Pre_distinct_rows.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal_distinct_rows m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutRefIdeal_pre_distinct_rows [hOutRefIdeal : Cert.OutRefIdeal.Facts] [hPre_distinct_rows : Cert.Pre_distinct_rows.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_distinct_rows m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0)
      ∧ r.2.mem ((c.tc : Thread Cert.TopK.nD Cert.TopK.τ).loc Cert.TopK.main_arg1) = m ((c.tc : Thread Cert.TopK.nD Cert.TopK.τ).loc Cert.TopK.main_arg1)
      ∧ r.2.mem ((c.tc : Thread Cert.TopK.nD Cert.TopK.τ).loc Cert.TopK.main_arg2) = m ((c.tc : Thread Cert.TopK.nD Cert.TopK.τ).loc Cert.TopK.main_arg2))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
      ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2))
      ∧ r.2.sem = fun _ => 0)

def quiescent_TopKRefIdeal [hTopKRefIdeal : Cert.TopKRefIdeal.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0)
      ∧ r.2.mem ((c.tc : Thread Cert.TopKRefIdeal.nD Cert.TopKRefIdeal.τ).loc Cert.TopKRefIdeal.main_arg1) = m ((c.tc : Thread Cert.TopKRefIdeal.nD Cert.TopKRefIdeal.τ).loc Cert.TopKRefIdeal.main_arg1)
      ∧ r.2.mem ((c.tc : Thread Cert.TopKRefIdeal.nD Cert.TopKRefIdeal.τ).loc Cert.TopKRefIdeal.main_arg2) = m ((c.tc : Thread Cert.TopKRefIdeal.nD Cert.TopKRefIdeal.τ).loc Cert.TopKRefIdeal.main_arg2))
      ∧ r.2.sem = fun _ => 0)

def preserves_Attn_AttnIdeal : Prop :=
  True

def algebraic_AttnIdeal_AttnRefIdeal_pre_rows_in_range_and_finite [hAttnIdeal : Cert.AttnIdeal.Facts] [hAttnRefIdeal : Cert.AttnRefIdeal.Facts] [hPre_rows_in_range_and_finite : Cert.Pre_rows_in_range_and_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_rows_in_range_and_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v47) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_OutC_OutCIdeal : Prop :=
  True

def algebraic_OutCIdeal_OutRefIdeal_pre_distinct_rows [hOutCIdeal : Cert.OutCIdeal.Facts] [hOutRefIdeal : Cert.OutRefIdeal.Facts] [hPre_distinct_rows : Cert.Pre_distinct_rows.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutCIdeal_distinct_rows m →
    (∀ c : Dev Cert.OutCIdeal.nD,
      m' ((c.tc : Thread Cert.OutRefIdeal.nD Cert.OutRefIdeal.τ).loc Cert.OutRefIdeal.main_arg0) = m ((c.tc : Thread Cert.OutCIdeal.nD Cert.OutCIdeal.τ).loc Cert.OutCIdeal.main_arg0)
      ∧ m' ((c.tc : Thread Cert.OutRefIdeal.nD Cert.OutRefIdeal.τ).loc Cert.OutRefIdeal.main_arg1) = m ((c.tc : Thread Cert.OutCIdeal.nD Cert.OutCIdeal.τ).loc Cert.OutCIdeal.main_arg1)
      ∧ m' ((c.tc : Thread Cert.OutRefIdeal.nD Cert.OutRefIdeal.τ).loc Cert.OutRefIdeal.main_arg2) = m ((c.tc : Thread Cert.OutCIdeal.nD Cert.OutCIdeal.τ).loc Cert.OutCIdeal.main_arg2)
      ∧ m' ((c.tc : Thread Cert.OutRefIdeal.nD Cert.OutRefIdeal.τ).loc Cert.OutRefIdeal.main_arg3) = m ((c.tc : Thread Cert.OutCIdeal.nD Cert.OutCIdeal.τ).loc Cert.OutCIdeal.main_arg3)) →
    ∃ (v0 : (c : Dev Cert.OutCIdeal.nD) → Buf (Elt Ideal) ((c.tc : Thread Cert.OutCIdeal.nD Cert.OutCIdeal.τ).loc Cert.OutCIdeal.main_v4)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v4) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v38) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_TopK_TopKIdeal : Prop :=
  True

def algebraic_TopKIdeal_TopKRefIdeal [hTopKIdeal : Cert.TopKIdeal.Facts] [hTopKRefIdeal : Cert.TopKRefIdeal.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKRefIdeal.nD Cert.TopKRefIdeal.τ Cert.TopKRefIdeal.sig) → Buf (Elt Ideal) ℓ) (g' : Dev Cert.TopKRefIdeal.nD → PrngReg), Pre_TopKIdeal m →
    (∀ c : Dev Cert.TopKIdeal.nD,
      m' ((c.tc : Thread Cert.TopKRefIdeal.nD Cert.TopKRefIdeal.τ).loc Cert.TopKRefIdeal.main_arg0) = m ((c.tc : Thread Cert.TopKIdeal.nD Cert.TopKIdeal.τ).loc Cert.TopKIdeal.main_arg0)
      ∧ m' ((c.tc : Thread Cert.TopKRefIdeal.nD Cert.TopKRefIdeal.τ).loc Cert.TopKRefIdeal.main_arg1) = m ((c.tc : Thread Cert.TopKIdeal.nD Cert.TopKIdeal.τ).loc Cert.TopKIdeal.main_arg1)
      ∧ m' ((c.tc : Thread Cert.TopKRefIdeal.nD Cert.TopKRefIdeal.τ).loc Cert.TopKRefIdeal.main_arg2) = m ((c.tc : Thread Cert.TopKIdeal.nD Cert.TopKIdeal.τ).loc Cert.TopKIdeal.main_arg2)) →
    ∃ (v0 : (c : Dev Cert.TopKIdeal.nD) → Buf (Elt Ideal) ((c.tc : Thread Cert.TopKIdeal.nD Cert.TopKIdeal.τ).loc Cert.TopKIdeal.main_v0)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0) = v0 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
          ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
          ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2))
      ∧ θ_run (Cert.TopKRefIdeal.defs (F := Ideal)) (onTc (τ := Cert.TopKRefIdeal.τ) (Cert.TopKRefIdeal.main (F := Ideal))) ⟨m', fun _ => 0, g'⟩ (fun r => ∀ c : Dev Cert.TopKRefIdeal.nD,
          r.2.mem ((c.tc : Thread Cert.TopKRefIdeal.nD Cert.TopKRefIdeal.τ).loc Cert.TopKRefIdeal.main_v10) = v0 c
          ∧ r.2.mem ((c.tc : Thread Cert.TopKRefIdeal.nD Cert.TopKRefIdeal.τ).loc Cert.TopKRefIdeal.main_arg0) = m' ((c.tc : Thread Cert.TopKRefIdeal.nD Cert.TopKRefIdeal.τ).loc Cert.TopKRefIdeal.main_arg0)
          ∧ r.2.mem ((c.tc : Thread Cert.TopKRefIdeal.nD Cert.TopKRefIdeal.τ).loc Cert.TopKRefIdeal.main_arg1) = m' ((c.tc : Thread Cert.TopKRefIdeal.nD Cert.TopKRefIdeal.τ).loc Cert.TopKRefIdeal.main_arg1)
          ∧ r.2.mem ((c.tc : Thread Cert.TopKRefIdeal.nD Cert.TopKRefIdeal.τ).loc Cert.TopKRefIdeal.main_arg2) = m' ((c.tc : Thread Cert.TopKRefIdeal.nD Cert.TopKRefIdeal.τ).loc Cert.TopKRefIdeal.main_arg2))

def Claim : Prop :=
  ∃ (hAttn : Cert.Attn.Facts) (hAttnIdeal : Cert.AttnIdeal.Facts) (hAttnRefIdeal : Cert.AttnRefIdeal.Facts) (hOutC : Cert.OutC.Facts) (hOutCIdeal : Cert.OutCIdeal.Facts) (hOutRefIdeal : Cert.OutRefIdeal.Facts) (hTopK : Cert.TopK.Facts) (hTopKIdeal : Cert.TopKIdeal.Facts) (hTopKRefIdeal : Cert.TopKRefIdeal.Facts) (hPre_rows_in_range : Cert.Pre_rows_in_range.Facts) (hPre_rows_in_range_and_finite : Cert.Pre_rows_in_range_and_finite.Facts) (hPre_distinct_rows : Cert.Pre_distinct_rows.Facts),
    quiescent_Attn (hAttn := hAttn) (hPre_rows_in_range := hPre_rows_in_range)
    ∧ quiescent_AttnIdeal (hAttnIdeal := hAttnIdeal) (hPre_rows_in_range := hPre_rows_in_range)
    ∧ quiescent_AttnIdeal_pre_rows_in_range_and_finite (hAttnIdeal := hAttnIdeal) (hPre_rows_in_range_and_finite := hPre_rows_in_range_and_finite)
    ∧ quiescent_AttnRefIdeal (hAttnRefIdeal := hAttnRefIdeal)
    ∧ quiescent_AttnRefIdeal_pre_rows_in_range_and_finite (hAttnRefIdeal := hAttnRefIdeal) (hPre_rows_in_range_and_finite := hPre_rows_in_range_and_finite)
    ∧ quiescent_OutC (hOutC := hOutC)
    ∧ quiescent_OutCIdeal (hOutCIdeal := hOutCIdeal)
    ∧ quiescent_OutCIdeal_pre_distinct_rows (hOutCIdeal := hOutCIdeal) (hPre_distinct_rows := hPre_distinct_rows)
    ∧ quiescent_OutRefIdeal (hOutRefIdeal := hOutRefIdeal)
    ∧ quiescent_OutRefIdeal_pre_distinct_rows (hOutRefIdeal := hOutRefIdeal) (hPre_distinct_rows := hPre_distinct_rows)
    ∧ quiescent_TopK (hTopK := hTopK)
    ∧ quiescent_TopKIdeal (hTopKIdeal := hTopKIdeal)
    ∧ quiescent_TopKRefIdeal (hTopKRefIdeal := hTopKRefIdeal)
    ∧ preserves_Attn_AttnIdeal
    ∧ algebraic_AttnIdeal_AttnRefIdeal_pre_rows_in_range_and_finite (hAttnIdeal := hAttnIdeal) (hAttnRefIdeal := hAttnRefIdeal) (hPre_rows_in_range_and_finite := hPre_rows_in_range_and_finite)
    ∧ preserves_OutC_OutCIdeal
    ∧ algebraic_OutCIdeal_OutRefIdeal_pre_distinct_rows (hOutCIdeal := hOutCIdeal) (hOutRefIdeal := hOutRefIdeal) (hPre_distinct_rows := hPre_distinct_rows)
    ∧ preserves_TopK_TopKIdeal
    ∧ algebraic_TopKIdeal_TopKRefIdeal (hTopKIdeal := hTopKIdeal) (hTopKRefIdeal := hTopKRefIdeal)
-- ==== Pre_distinct_rows.lean ====
abbrev S16x40 : Shape := ⟨2, ![16, 40]⟩
abbrev S16x40x64 : Shape := ⟨3, ![16, 40, 64]⟩
abbrev S1024x1024 : Shape := ⟨2, ![1024, 1024]⟩
abbrev S1024 : Shape := ⟨1, ![1024]⟩
abbrev S16x38 : Shape := ⟨2, ![16, 38]⟩
abbrev S16x38x1 : Shape := ⟨3, ![16, 38, 1]⟩
abbrev S16x1x38 : Shape := ⟨3, ![16, 1, 38]⟩
abbrev S16x38x38 : Shape := ⟨3, ![16, 38, 38]⟩
abbrev S_ : Shape := ⟨0, ![]⟩
abbrev S38 : Shape := ⟨1, ![38]⟩
abbrev S38x1 : Shape := ⟨2, ![38, 1]⟩
abbrev S1x38 : Shape := ⟨2, ![1, 38]⟩
abbrev S38x38 : Shape := ⟨2, ![38, 38]⟩
abbrev S1x38x38 : Shape := ⟨3, ![1, 38, 38]⟩

class Facts : Prop where
  slices_S16x40_S16x38_0_0 : S16x40.Slices ![0, 0] S16x38
  bcast_S16x38_S16x38x1_0_1 : S16x38.BroadcastsInDim S16x38x1 (![0, 1] : Fin 2 → Fin S16x38x1.rank)
  bcast_S16x38_S16x1x38_0_2 : S16x38.BroadcastsInDim S16x1x38 (![0, 2] : Fin 2 → Fin S16x1x38.rank)
  bcast_S16x38x1_S16x38x38_0_1_2 : S16x38x1.BroadcastsInDim S16x38x38 (![0, 1, 2] : Fin 3 → Fin S16x38x38.rank)
  bcast_S16x1x38_S16x38x38_0_1_2 : S16x1x38.BroadcastsInDim S16x38x38 (![0, 1, 2] : Fin 3 → Fin S16x38x38.rank)
  bcast_S_S16x40 : S_.BroadcastsInDim S16x40 (![] : Fin 0 → Fin S16x40.rank)
  reducesTo_S16x40_S_d0_1 : S16x40.ReducesTo [0, 1] S_
  h_S_ : 0 < S_.numel
  bcast_S38_S38x1_0 : S38.BroadcastsInDim S38x1 (![0] : Fin 1 → Fin S38x1.rank)
  bcast_S38_S1x38_1 : S38.BroadcastsInDim S1x38 (![1] : Fin 1 → Fin S1x38.rank)
  bcast_S38x1_S38x38_0_1 : S38x1.BroadcastsInDim S38x38 (![0, 1] : Fin 2 → Fin S38x38.rank)
  bcast_S1x38_S38x38_0_1 : S1x38.BroadcastsInDim S38x38 (![0, 1] : Fin 2 → Fin S38x38.rank)
  bcast_S38x38_S1x38x38_1_2 : S38x38.BroadcastsInDim S1x38x38 (![1, 2] : Fin 2 → Fin S1x38x38.rank)
  bcast_S1x38x38_S16x38x38_0_1_2 : S1x38x38.BroadcastsInDim S16x38x38 (![0, 1, 2] : Fin 3 → Fin S16x38x38.rank)
  reducesTo_S16x38x38_S_d0_1_2 : S16x38x38.ReducesTo [0, 1, 2] S_

variable [Facts]

def fn_part1 {F : FTy → Type} [FloatOps F] (main_v12 : IVec S_ 1) (main_v13 : IVec S16x38x38 1) (main_v20 : IVec S38x38 1) : IVec S_ 1 :=
  let main_v21 : IVec S1x38x38 1 := broadcastInDim S1x38x38 ![1, 2] bcast_S38x38_S1x38x38_1_2 main_v20
  let main_v22 : IVec S16x38x38 1 := broadcastInDim S16x38x38 ![0, 1, 2] bcast_S1x38x38_S16x38x38_0_1_2 main_v21
  let main_v23 : IVec S16x38x38 1 := ori main_v13 main_v22
  let main_c_2 : IVec S_ 1 := constantI S_ 1 1#1
  let main_v24 : IVec S_ 1 := (fun x v => Host.reduce IntOp.andi x v reducesTo_S16x38x38_S_d0_1_2 h_S_) main_v23 main_c_2
  let main_v25 : IVec S_ 1 := andi main_v12 main_v24
  main_v25

def fn {F : FTy → Type} [FloatOps F] (main_arg0 : IVec S16x40 32) (main_arg1 : FVec F S16x40x64 .f32) (main_arg2 : FVec F S1024x1024 .f32) (main_arg3 : FVec F S1024 .f32) : IVec S_ 1 :=
  let main_v0 : IVec S16x38 32 := (extractStridedSlice S16x38 ![0, 0] · slices_S16x40_S16x38_0_0) main_arg0
  let main_v1 : IVec S16x38x1 32 := broadcastInDim S16x38x1 ![0, 1] bcast_S16x38_S16x38x1_0_1 main_v0
  let main_v2 : IVec S16x38 32 := (extractStridedSlice S16x38 ![0, 0] · slices_S16x40_S16x38_0_0) main_arg0
  let main_v3 : IVec S16x1x38 32 := broadcastInDim S16x1x38 ![0, 2] bcast_S16x38_S16x1x38_0_2 main_v2
  let main_v4 : IVec S16x38x38 32 := broadcastInDim S16x38x38 ![0, 1, 2] bcast_S16x38x1_S16x38x38_0_1_2 main_v1
  let main_v5 : IVec S16x38x38 32 := broadcastInDim S16x38x38 ![0, 1, 2] bcast_S16x1x38_S16x38x38_0_1_2 main_v3
  let main_v6 : IVec S16x38x38 1 := cmpi .eq main_v4 main_v5
  let main_c : IVec S_ 32 := constantI S_ 32 0#32
  let main_v7 : IVec S16x40 32 := broadcastInDim S16x40 ![] bcast_S_S16x40 main_c
  let main_v8 : IVec S16x40 1 := cmpi .sge main_arg0 main_v7
  let main_c_0 : IVec S_ 32 := constantI S_ 32 2048#32
  let main_v9 : IVec S16x40 32 := broadcastInDim S16x40 ![] bcast_S_S16x40 main_c_0
  let main_v10 : IVec S16x40 1 := cmpi .slt main_arg0 main_v9
  let main_v11 : IVec S16x40 1 := andi main_v8 main_v10
  let main_c_1 : IVec S_ 1 := constantI S_ 1 1#1
  let main_v12 : IVec S_ 1 := (fun x v => Host.reduce IntOp.andi x v reducesTo_S16x40_S_d0_1 h_S_) main_v11 main_c_1
  let main_v13 : IVec S16x38x38 1 := noti main_v6
  let main_v14 : IVec S38 32 := iotaInDim S38 32 0
  let main_v15 : IVec S38x1 32 := broadcastInDim S38x1 ![0] bcast_S38_S38x1_0 main_v14
  let main_v16 : IVec S38 32 := iotaInDim S38 32 0
  let main_v17 : IVec S1x38 32 := broadcastInDim S1x38 ![1] bcast_S38_S1x38_1 main_v16
  let main_v18 : IVec S38x38 32 := broadcastInDim S38x38 ![0, 1] bcast_S38x1_S38x38_0_1 main_v15
  let main_v19 : IVec S38x38 32 := broadcastInDim S38x38 ![0, 1] bcast_S1x38_S38x38_0_1 main_v17
  let main_v20 : IVec S38x38 1 := cmpi .eq main_v18 main_v19
  fn_part1 (F := F) main_v12 main_v13 main_v20
-- ==== Pre_rows_in_range.lean ====
abbrev S2048x1024 : Shape := ⟨2, ![2048, 1024]⟩
abbrev S1024x1024 : Shape := ⟨2, ![1024, 1024]⟩
abbrev S16x64 : Shape := ⟨2, ![16, 64]⟩
abbrev S16x40 : Shape := ⟨2, ![16, 40]⟩
abbrev S_ : Shape := ⟨0, ![]⟩

class Facts : Prop where
  bcast_S_S16x40 : S_.BroadcastsInDim S16x40 (![] : Fin 0 → Fin S16x40.rank)
  reducesTo_S16x40_S_d0_1 : S16x40.ReducesTo [0, 1] S_
  h_S_ : 0 < S_.numel

variable [Facts]

def fn {F : FTy → Type} [FloatOps F] (main_arg0 : FVec F S2048x1024 .f32) (main_arg1 : FVec F S1024x1024 .f32) (main_arg2 : FVec F S1024x1024 .f32) (main_arg3 : FVec F S1024x1024 .f32) (main_arg4 : FVec F S16x64 .f32) (main_arg5 : FVec F S16x64 .f32) (main_arg6 : FVec F S16x64 .f32) (main_arg7 : IVec S16x40 32) : IVec S_ 1 :=
  let main_c : IVec S_ 32 := constantI S_ 32 0#32
  let main_v0 : IVec S16x40 32 := broadcastInDim S16x40 ![] bcast_S_S16x40 main_c
  let main_v1 : IVec S16x40 1 := cmpi .sge main_arg7 main_v0
  let main_c_0 : IVec S_ 32 := constantI S_ 32 2048#32
  let main_v2 : IVec S16x40 32 := broadcastInDim S16x40 ![] bcast_S_S16x40 main_c_0
  let main_v3 : IVec S16x40 1 := cmpi .slt main_arg7 main_v2
  let main_v4 : IVec S16x40 1 := andi main_v1 main_v3
  let main_c_1 : IVec S_ 1 := constantI S_ 1 1#1
  let main_v5 : IVec S_ 1 := (fun x v => Host.reduce IntOp.andi x v reducesTo_S16x40_S_d0_1 h_S_) main_v4 main_c_1
  main_v5
-- ==== Pre_rows_in_range_and_finite.lean ====
abbrev S2048x1024 : Shape := ⟨2, ![2048, 1024]⟩
abbrev S1024x1024 : Shape := ⟨2, ![1024, 1024]⟩
abbrev S16x64 : Shape := ⟨2, ![16, 64]⟩
abbrev S16x40 : Shape := ⟨2, ![16, 40]⟩
abbrev S_ : Shape := ⟨0, ![]⟩

class Facts : Prop where
  bcast_S_S16x40 : S_.BroadcastsInDim S16x40 (![] : Fin 0 → Fin S16x40.rank)
  reducesTo_S16x40_S_d0_1 : S16x40.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg6 : FVec F S16x64 .f32) (main_v30 : IVec S_ 1) (main_v33 : IVec S16x64 1) : IVec S_ 1 :=
  let main_c_12 : IVec S_ 1 := constantI S_ 1 1#1
  let main_v34 : IVec S_ 1 := (fun x v => Host.reduce IntOp.andi x v reducesTo_S16x64_S_d0_1 h_S_) main_v33 main_c_12
  let main_v35 : IVec S_ 1 := andi main_v30 main_v34
  let main_v36 : FVec F S16x64 .f32 := Host.absf main_arg6
  let main_cst_13 : FVec F S_ .f32 := constant S_ .f32 0x7F800000#32
  let main_v37 : FVec F S16x64 .f32 := broadcastInDim S16x64 ![] bcast_S_S16x64 main_cst_13
  let main_v38 : IVec S16x64 1 := cmpf .olt main_v36 main_v37
  let main_c_14 : IVec S_ 1 := constantI S_ 1 1#1
  let main_v39 : IVec S_ 1 := (fun x v => Host.reduce IntOp.andi x v reducesTo_S16x64_S_d0_1 h_S_) main_v38 main_c_14
  let main_v40 : IVec S_ 1 := andi main_v35 main_v39
  main_v40

def fn_part1 {F : FTy → Type} [FloatOps F] (main_arg3 : FVec F S1024x1024 .f32) (main_arg4 : FVec F S16x64 .f32) (main_arg5 : FVec F S16x64 .f32) (main_arg6 : FVec F S16x64 .f32) (main_v15 : IVec S_ 1) (main_v16 : FVec F S1024x1024 .f32) : IVec S_ 1 :=
  let main_cst_5 : FVec F S_ .f32 := constant S_ .f32 0x7F800000#32
  let main_v17 : FVec F S1024x1024 .f32 := broadcastInDim S1024x1024 ![] bcast_S_S1024x1024 main_cst_5
  let main_v18 : IVec S1024x1024 1 := cmpf .olt main_v16 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v15 main_v19
  let main_v21 : FVec F S1024x1024 .f32 := Host.absf main_arg3
  let main_cst_7 : FVec F S_ .f32 := constant S_ .f32 0x7F800000#32
  let main_v22 : FVec F S1024x1024 .f32 := broadcastInDim S1024x1024 ![] bcast_S_S1024x1024 main_cst_7
  let main_v23 : IVec S1024x1024 1 := cmpf .olt main_v21 main_v22
  let main_c_8 : IVec S_ 1 := constantI S_ 1 1#1
  let main_v24 : IVec S_ 1 := (fun x v => Host.reduce IntOp.andi x v reducesTo_S1024x1024_S_d0_1 h_S_) main_v23 main_c_8
  let main_v25 : IVec S_ 1 := andi main_v20 main_v24
  let main_v26 : FVec F S16x64 .f32 := Host.absf main_arg4
  let main_cst_9 : FVec F S_ .f32 := constant S_ .f32 0x7F800000#32
  let main_v27 : FVec F S16x64 .f32 := broadcastInDim S16x64 ![] bcast_S_S16x64 main_cst_9
  let main_v28 : IVec S16x64 1 := cmpf .olt main_v26 main_v27
  let main_c_10 : IVec S_ 1 := constantI S_ 1 1#1
  let main_v29 : IVec S_ 1 := (fun x v => Host.reduce IntOp.andi x v reducesTo_S16x64_S_d0_1 h_S_) main_v28 main_c_10
  let main_v30 : IVec S_ 1 := andi main_v25 main_v29
  let main_v31 : FVec F S16x64 .f32 := Host.absf main_arg5
  let main_cst_11 : FVec F S_ .f32 := constant S_ .f32 0x7F800000#32
  let main_v32 : FVec F S16x64 .f32 := broadcastInDim S16x64 ![] bcast_S_S16x64 main_cst_11
  let main_v33 : IVec S16x64 1 := cmpf .olt main_v31 main_v32
  fn_part2 (F := F) main_arg6 main_v30 main_v33

def fn {F : FTy → Type} [FloatOps F] (main_arg0 : FVec F S2048x1024 .f32) (main_arg1 : FVec F S1024x1024 .f32) (main_arg2 : FVec F S1024x1024 .f32) (main_arg3 : FVec F S1024x1024 .f32) (main_arg4 : FVec F S16x64 .f32) (main_arg5 : FVec F S16x64 .f32) (main_arg6 : FVec F S16x64 .f32) (main_arg7 : IVec S16x40 32) : IVec S_ 1 :=
  let main_c : IVec S_ 32 := constantI S_ 32 0#32
  let main_v0 : IVec S16x40 32 := broadcastInDim S16x40 ![] bcast_S_S16x40 main_c
  let main_v1 : IVec S16x40 1 := cmpi .sge main_arg7 main_v0
  let main_c_0 : IVec S_ 32 := constantI S_ 32 2048#32
  let main_v2 : IVec S16x40 32 := broadcastInDim S16x40 ![] bcast_S_S16x40 main_c_0
  let main_v3 : IVec S16x40 1 := cmpi .slt main_arg7 main_v2
  let main_v4 : IVec S16x40 1 := andi main_v1 main_v3
  let main_c_1 : IVec S_ 1 := constantI S_ 1 1#1
  let main_v5 : IVec S_ 1 := (fun x v => Host.reduce IntOp.andi x v reducesTo_S16x40_S_d0_1 h_S_) main_v4 main_c_1
  let main_v6 : FVec F S2048x1024 .f32 := Host.absf main_arg0
  let main_cst : FVec F S_ .f32 := constant S_ .f32 0x7F800000#32
  let main_v7 : FVec F S2048x1024 .f32 := broadcastInDim S2048x1024 ![] bcast_S_S2048x1024 main_cst
  let main_v8 : IVec S2048x1024 1 := cmpf .olt main_v6 main_v7
  let main_c_2 : IVec S_ 1 := constantI S_ 1 1#1
  let main_v9 : IVec S_ 1 := (fun x v => Host.reduce IntOp.andi x v reducesTo_S2048x1024_S_d0_1 h_S_) main_v8 main_c_2
  let main_v10 : IVec S_ 1 := andi main_v5 main_v9
  let main_v11 : FVec F S1024x1024 .f32 := Host.absf main_arg1
  let main_cst_3 : FVec F S_ .f32 := constant S_ .f32 0x7F800000#32
  let main_v12 : FVec F S1024x1024 .f32 := broadcastInDim S1024x1024 ![] bcast_S_S1024x1024 main_cst_3
  let main_v13 : IVec S1024x1024 1 := cmpf .olt main_v11 main_v12
  let main_c_4 : IVec S_ 1 := constantI S_ 1 1#1
  let main_v14 : IVec S_ 1 := (fun x v => Host.reduce IntOp.andi x v reducesTo_S1024x1024_S_d0_1 h_S_) main_v13 main_c_4
  let main_v15 : IVec S_ 1 := andi main_v10 main_v14
  let main_v16 : FVec F S1024x1024 .f32 := Host.absf main_arg2
  fn_part1 (F := F) main_arg3 main_arg4 main_arg5 main_arg6 main_v15 main_v16
-- ==== Attn.lean ====
abbrev S2048x1024 : Shape := ⟨2, ![2048, 1024]⟩
abbrev S1024x1024 : Shape := ⟨2, ![1024, 1024]⟩
abbrev S16x64 : Shape := ⟨2, ![16, 64]⟩
abbrev S16x40 : Shape := ⟨2, ![16, 40]⟩
abbrev S16x40x64 : Shape := ⟨3, ![16, 40, 64]⟩
abbrev S640x1024 : Shape := ⟨2, ![640, 1024]⟩
abbrev S640x2048 : Shape := ⟨2, ![640, 2048]⟩
abbrev S40x40 : Shape := ⟨2, ![40, 40]⟩
abbrev S40x2048 : Shape := ⟨2, ![40, 2048]⟩
abbrev S1x1 : Shape := ⟨2, ![1, 1]⟩
abbrev S1x1024 : Shape := ⟨2, ![1, 1024]⟩
abbrev S40x1024 : Shape := ⟨2, ![40, 1024]⟩
abbrev S64x1024 : Shape := ⟨2, ![64, 1024]⟩
abbrev S40x64 : Shape := ⟨2, ![40, 64]⟩
abbrev S1x64 : Shape := ⟨2, ![1, 64]⟩
abbrev S40x1 : Shape := ⟨2, ![40, 1]⟩
abbrev S640x1 : Shape := ⟨2, ![640, 1]⟩
abbrev S1x40 : Shape := ⟨2, ![1, 40]⟩
abbrev S40 : Shape := ⟨1, ![40]⟩
abbrev S1x40x64 : Shape := ⟨3, ![1, 40, 64]⟩

abbrev nBuf : Space → Nat
  | .hbm => 9
  | .vmem => 13
  | .smem => 1
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x40, .i32⟩
  | .hbm, ⟨8, _⟩ => ⟨S16x40x64, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | .local _ .vmem, ⟨7, _⟩ => ⟨S16x40, .i32⟩
  | .local _ .vmem, ⟨8, _⟩ => ⟨S16x40x64, .f32⟩
  | .local _ .vmem, ⟨9, _⟩ => ⟨S640x1024, .f32⟩
  | .local _ .vmem, ⟨10, _⟩ => ⟨S640x1024, .f32⟩
  | .local _ .vmem, ⟨11, _⟩ => ⟨S640x2048, .f32⟩
  | .local _ .vmem, ⟨12, _⟩ => ⟨S640x1024, .f32⟩
  | .local _ .smem, ⟨0, _⟩ => ⟨S16x40, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg7_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def k0_off1 (v7 : BitVec 32) : Fin 2 → Nat :=
  let v8 : Index := Scalar.indexCast v7
  let c0_1 : Index := 0#32
  ![v8.toNat, 0]

def k0_chk1 (v7 : BitVec 32) : Prop :=
  (∀ a, (k0_off1 v7) a + S1x1024.size a ≤ S2048x1024.size a)
theorem k0_off1_inb : ∀ (v7 : BitVec 32) (k0_hw1 : k0_chk1 v7), ∀ a, (k0_off1 v7) a + S1x1024.size a ≤ S2048x1024.size a := fun v7 k0_hw1 => k0_hw1

def k0_off2 (v13 : BitVec 32) : Fin 2 → Nat :=
  let v14 : Index := Scalar.indexCast v13
  let c0_5 : Index := 0#32
  ![v14.toNat, 0]

def k0_chk2 (v13 : BitVec 32) : Prop :=
  (∀ a, (k0_off2 v13) a + S1x1024.size a ≤ S2048x1024.size a)
theorem k0_off2_inb : ∀ (v13 : BitVec 32) (k0_hw2 : k0_chk2 v13), ∀ a, (k0_off2 v13) a + S1x1024.size a ≤ S2048x1024.size a := fun v13 k0_hw2 => k0_hw2

def k0_off3 (v19 : BitVec 32) : Fin 2 → Nat :=
  let v20 : Index := Scalar.indexCast v19
  let c0_9 : Index := 0#32
  ![v20.toNat, 0]

def k0_chk3 (v19 : BitVec 32) : Prop :=
  (∀ a, (k0_off3 v19) a + S1x1024.size a ≤ S2048x1024.size a)
theorem k0_off3_inb : ∀ (v19 : BitVec 32) (k0_hw3 : k0_chk3 v19), ∀ a, (k0_off3 v19) a + S1x1024.size a ≤ S2048x1024.size a := fun v19 k0_hw3 => k0_hw3

def k0_off4 (v25 : BitVec 32) : Fin 2 → Nat :=
  let v26 : Index := Scalar.indexCast v25
  let c0_13 : Index := 0#32
  ![v26.toNat, 0]

def k0_chk4 (v25 : BitVec 32) : Prop :=
  (∀ a, (k0_off4 v25) a + S1x1024.size a ≤ S2048x1024.size a)
theorem k0_off4_inb : ∀ (v25 : BitVec 32) (k0_hw4 : k0_chk4 v25), ∀ a, (k0_off4 v25) a + S1x1024.size a ≤ S2048x1024.size a := fun v25 k0_hw4 => k0_hw4

def k0_off5 (v31 : BitVec 32) : Fin 2 → Nat :=
  let v32 : Index := Scalar.indexCast v31
  let c0_17 : Index := 0#32
  ![v32.toNat, 0]

def k0_chk5 (v31 : BitVec 32) : Prop :=
  (∀ a, (k0_off5 v31) a + S1x1024.size a ≤ S2048x1024.size a)
theorem k0_off5_inb : ∀ (v31 : BitVec 32) (k0_hw5 : k0_chk5 v31), ∀ a, (k0_off5 v31) a + S1x1024.size a ≤ S2048x1024.size a := fun v31 k0_hw5 => k0_hw5

def k0_off6 (v37 : BitVec 32) : Fin 2 → Nat :=
  let v38 : Index := Scalar.indexCast v37
  let c0_21 : Index := 0#32
  ![v38.toNat, 0]

def k0_chk6 (v37 : BitVec 32) : Prop :=
  (∀ a, (k0_off6 v37) a + S1x1024.size a ≤ S2048x1024.size a)
theorem k0_off6_inb : ∀ (v37 : BitVec 32) (k0_hw6 : k0_chk6 v37), ∀ a, (k0_off6 v37) a + S1x1024.size a ≤ S2048x1024.size a := fun v37 k0_hw6 => k0_hw6

def k0_off7 (v43 : BitVec 32) : Fin 2 → Nat :=
  let v44 : Index := Scalar.indexCast v43
  let c0_25 : Index := 0#32
  ![v44.toNat, 0]

def k0_chk7 (v43 : BitVec 32) : Prop :=
  (∀ a, (k0_off7 v43) a + S1x1024.size a ≤ S2048x1024.size a)
theorem k0_off7_inb : ∀ (v43 : BitVec 32) (k0_hw7 : k0_chk7 v43), ∀ a, (k0_off7 v43) a + S1x1024.size a ≤ S2048x1024.size a := fun v43 k0_hw7 => k0_hw7

def k0_off8 (v49 : BitVec 32) : Fin 2 → Nat :=
  let v50 : Index := Scalar.indexCast v49
  let c0_29 : Index := 0#32
  ![v50.toNat, 0]

def k0_chk8 (v49 : BitVec 32) : Prop :=
  (∀ a, (k0_off8 v49) a + S1x1024.size a ≤ S2048x1024.size a)
theorem k0_off8_inb : ∀ (v49 : BitVec 32) (k0_hw8 : k0_chk8 v49), ∀ a, (k0_off8 v49) a + S1x1024.size a ≤ S2048x1024.size a := fun v49 k0_hw8 => k0_hw8

def k0_off9 (v55 : BitVec 32) : Fin 2 → Nat :=
  let v56 : Index := Scalar.indexCast v55
  let c0_33 : Index := 0#32
  ![v56.toNat, 0]

def k0_chk9 (v55 : BitVec 32) : Prop :=
  (∀ a, (k0_off9 v55) a + S1x1024.size a ≤ S2048x1024.size a)
theorem k0_off9_inb : ∀ (v55 : BitVec 32) (k0_hw9 : k0_chk9 v55), ∀ a, (k0_off9 v55) a + S1x1024.size a ≤ S2048x1024.size a := fun v55 k0_hw9 => k0_hw9

def k0_off10 (v61 : BitVec 32) : Fin 2 → Nat :=
  let v62 : Index := Scalar.indexCast v61
  let c0_37 : Index := 0#32
  ![v62.toNat, 0]

def k0_chk10 (v61 : BitVec 32) : Prop :=
  (∀ a, (k0_off10 v61) a + S1x1024.size a ≤ S2048x1024.size a)
theorem k0_off10_inb : ∀ (v61 : BitVec 32) (k0_hw10 : k0_chk10 v61), ∀ a, (k0_off10 v61) a + S1x1024.size a ≤ S2048x1024.size a := fun v61 k0_hw10 => k0_hw10

def k0_off11 (v67 : BitVec 32) : Fin 2 → Nat :=
  let v68 : Index := Scalar.indexCast v67
  let c0_41 : Index := 0#32
  ![v68.toNat, 0]

def k0_chk11 (v67 : BitVec 32) : Prop :=
  (∀ a, (k0_off11 v67) a + S1x1024.size a ≤ S2048x1024.size a)
theorem k0_off11_inb : ∀ (v67 : BitVec 32) (k0_hw11 : k0_chk11 v67), ∀ a, (k0_off11 v67) a + S1x1024.size a ≤ S2048x1024.size a := fun v67 k0_hw11 => k0_hw11

def k0_off12 (v73 : BitVec 32) : Fin 2 → Nat :=
  let v74 : Index := Scalar.indexCast v73
  let c0_45 : Index := 0#32
  ![v74.toNat, 0]

def k0_chk12 (v73 : BitVec 32) : Prop :=
  (∀ a, (k0_off12 v73) a + S1x1024.size a ≤ S2048x1024.size a)
theorem k0_off12_inb : ∀ (v73 : BitVec 32) (k0_hw12 : k0_chk12 v73), ∀ a, (k0_off12 v73) a + S1x1024.size a ≤ S2048x1024.size a := fun v73 k0_hw12 => k0_hw12

def k0_off13 (v79 : BitVec 32) : Fin 2 → Nat :=
  let v80 : Index := Scalar.indexCast v79
  let c0_49 : Index := 0#32
  ![v80.toNat, 0]

def k0_chk13 (v79 : BitVec 32) : Prop :=
  (∀ a, (k0_off13 v79) a + S1x1024.size a ≤ S2048x1024.size a)
theorem k0_off13_inb : ∀ (v79 : BitVec 32) (k0_hw13 : k0_chk13 v79), ∀ a, (k0_off13 v79) a + S1x1024.size a ≤ S2048x1024.size a := fun v79 k0_hw13 => k0_hw13

def k0_off14 (v85 : BitVec 32) : Fin 2 → Nat :=
  let v86 : Index := Scalar.indexCast v85
  let c0_53 : Index := 0#32
  ![v86.toNat, 0]

def k0_chk14 (v85 : BitVec 32) : Prop :=
  (∀ a, (k0_off14 v85) a + S1x1024.size a ≤ S2048x1024.size a)
theorem k0_off14_inb : ∀ (v85 : BitVec 32) (k0_hw14 : k0_chk14 v85), ∀ a, (k0_off14 v85) a + S1x1024.size a ≤ S2048x1024.size a := fun v85 k0_hw14 => k0_hw14

def k0_off15 (v91 : BitVec 32) : Fin 2 → Nat :=
  let v92 : Index := Scalar.indexCast v91
  let c0_57 : Index := 0#32
  ![v92.toNat, 0]

def k0_chk15 (v91 : BitVec 32) : Prop :=
  (∀ a, (k0_off15 v91) a + S1x1024.size a ≤ S2048x1024.size a)
theorem k0_off15_inb : ∀ (v91 : BitVec 32) (k0_hw15 : k0_chk15 v91), ∀ a, (k0_off15 v91) a + S1x1024.size a ≤ S2048x1024.size a := fun v91 k0_hw15 => k0_hw15

def k0_off16 (v97 : BitVec 32) : Fin 2 → Nat :=
  let v98 : Index := Scalar.indexCast v97
  let c0_61 : Index := 0#32
  ![v98.toNat, 0]

def k0_chk16 (v97 : BitVec 32) : Prop :=
  (∀ a, (k0_off16 v97) a + S1x1024.size a ≤ S2048x1024.size a)
theorem k0_off16_inb : ∀ (v97 : BitVec 32) (k0_hw16 : k0_chk16 v97), ∀ a, (k0_off16 v97) a + S1x1024.size a ≤ S2048x1024.size a := fun v97 k0_hw16 => k0_hw16

def k0_off17 (v103 : BitVec 32) : Fin 2 → Nat :=
  let v104 : Index := Scalar.indexCast v103
  let c0_65 : Index := 0#32
  ![v104.toNat, 0]

def k0_chk17 (v103 : BitVec 32) : Prop :=
  (∀ a, (k0_off17 v103) a + S1x1024.size a ≤ S2048x1024.size a)
theorem k0_off17_inb : ∀ (v103 : BitVec 32) (k0_hw17 : k0_chk17 v103), ∀ a, (k0_off17 v103) a + S1x1024.size a ≤ S2048x1024.size a := fun v103 k0_hw17 => k0_hw17

def k0_off18 (v109 : BitVec 32) : Fin 2 → Nat :=
  let v110 : Index := Scalar.indexCast v109
  let c0_69 : Index := 0#32
  ![v110.toNat, 0]

def k0_chk18 (v109 : BitVec 32) : Prop :=
  (∀ a, (k0_off18 v109) a + S1x1024.size a ≤ S2048x1024.size a)
theorem k0_off18_inb : ∀ (v109 : BitVec 32) (k0_hw18 : k0_chk18 v109), ∀ a, (k0_off18 v109) a + S1x1024.size a ≤ S2048x1024.size a := fun v109 k0_hw18 => k0_hw18

def k0_off19 (v115 : BitVec 32) : Fin 2 → Nat :=
  let v116 : Index := Scalar.indexCast v115
  let c0_73 : Index := 0#32
  ![v116.toNat, 0]

def k0_chk19 (v115 : BitVec 32) : Prop :=
  (∀ a, (k0_off19 v115) a + S1x1024.size a ≤ S2048x1024.size a)
theorem k0_off19_inb : ∀ (v115 : BitVec 32) (k0_hw19 : k0_chk19 v115), ∀ a, (k0_off19 v115) a + S1x1024.size a ≤ S2048x1024.size a := fun v115 k0_hw19 => k0_hw19

def k0_off20 (v121 : BitVec 32) : Fin 2 → Nat :=
  let v122 : Index := Scalar.indexCast v121
  let c0_77 : Index := 0#32
  ![v122.toNat, 0]

def k0_chk20 (v121 : BitVec 32) : Prop :=
  (∀ a, (k0_off20 v121) a + S1x1024.size a ≤ S2048x1024.size a)
theorem k0_off20_inb : ∀ (v121 : BitVec 32) (k0_hw20 : k0_chk20 v121), ∀ a, (k0_off20 v121) a + S1x1024.size a ≤ S2048x1024.size a := fun v121 k0_hw20 => k0_hw20

def k0_off21 (v127 : BitVec 32) : Fin 2 → Nat :=
  let v128 : Index := Scalar.indexCast v127
  let c0_81 : Index := 0#32
  ![v128.toNat, 0]

def k0_chk21 (v127 : BitVec 32) : Prop :=
  (∀ a, (k0_off21 v127) a + S1x1024.size a ≤ S2048x1024.size a)
theorem k0_off21_inb : ∀ (v127 : BitVec 32) (k0_hw21 : k0_chk21 v127), ∀ a, (k0_off21 v127) a + S1x1024.size a ≤ S2048x1024.size a := fun v127 k0_hw21 => k0_hw21

def k0_off22 (v133 : BitVec 32) : Fin 2 → Nat :=
  let v134 : Index := Scalar.indexCast v133
  let c0_85 : Index := 0#32
  ![v134.toNat, 0]

def k0_chk22 (v133 : BitVec 32) : Prop :=
  (∀ a, (k0_off22 v133) a + S1x1024.size a ≤ S2048x1024.size a)
theorem k0_off22_inb : ∀ (v133 : BitVec 32) (k0_hw22 : k0_chk22 v133), ∀ a, (k0_off22 v133) a + S1x1024.size a ≤ S2048x1024.size a := fun v133 k0_hw22 => k0_hw22

def k0_off23 (v139 : BitVec 32) : Fin 2 → Nat :=
  let v140 : Index := Scalar.indexCast v139
  let c0_89 : Index := 0#32
  ![v140.toNat, 0]

def k0_chk23 (v139 : BitVec 32) : Prop :=
  (∀ a, (k0_off23 v139) a + S1x1024.size a ≤ S2048x1024.size a)
theorem k0_off23_inb : ∀ (v139 : BitVec 32) (k0_hw23 : k0_chk23 v139), ∀ a, (k0_off23 v139) a + S1x1024.size a ≤ S2048x1024.size a := fun v139 k0_hw23 => k0_hw23

def k0_off24 (v145 : BitVec 32) : Fin 2 → Nat :=
  let v146 : Index := Scalar.indexCast v145
  let c0_93 : Index := 0#32
  ![v146.toNat, 0]

def k0_chk24 (v145 : BitVec 32) : Prop :=
  (∀ a, (k0_off24 v145) a + S1x1024.size a ≤ S2048x1024.size a)
theorem k0_off24_inb : ∀ (v145 : BitVec 32) (k0_hw24 : k0_chk24 v145), ∀ a, (k0_off24 v145) a + S1x1024.size a ≤ S2048x1024.size a := fun v145 k0_hw24 => k0_hw24

def k0_off25 (v151 : BitVec 32) : Fin 2 → Nat :=
  let v152 : Index := Scalar.indexCast v151
  let c0_97 : Index := 0#32
  ![v152.toNat, 0]

def k0_chk25 (v151 : BitVec 32) : Prop :=
  (∀ a, (k0_off25 v151) a + S1x1024.size a ≤ S2048x1024.size a)
theorem k0_off25_inb : ∀ (v151 : BitVec 32) (k0_hw25 : k0_chk25 v151), ∀ a, (k0_off25 v151) a + S1x1024.size a ≤ S2048x1024.size a := fun v151 k0_hw25 => k0_hw25

def k0_off26 (v157 : BitVec 32) : Fin 2 → Nat :=
  let v158 : Index := Scalar.indexCast v157
  let c0_101 : Index := 0#32
  ![v158.toNat, 0]

def k0_chk26 (v157 : BitVec 32) : Prop :=
  (∀ a, (k0_off26 v157) a + S1x1024.size a ≤ S2048x1024.size a)
theorem k0_off26_inb : ∀ (v157 : BitVec 32) (k0_hw26 : k0_chk26 v157), ∀ a, (k0_off26 v157) a + S1x1024.size a ≤ S2048x1024.size a := fun v157 k0_hw26 => k0_hw26

def k0_off27 (v163 : BitVec 32) : Fin 2 → Nat :=
  let v164 : Index := Scalar.indexCast v163
  let c0_105 : Index := 0#32
  ![v164.toNat, 0]

def k0_chk27 (v163 : BitVec 32) : Prop :=
  (∀ a, (k0_off27 v163) a + S1x1024.size a ≤ S2048x1024.size a)
theorem k0_off27_inb : ∀ (v163 : BitVec 32) (k0_hw27 : k0_chk27 v163), ∀ a, (k0_off27 v163) a + S1x1024.size a ≤ S2048x1024.size a := fun v163 k0_hw27 => k0_hw27

def k0_off28 (v169 : BitVec 32) : Fin 2 → Nat :=
  let v170 : Index := Scalar.indexCast v169
  let c0_109 : Index := 0#32
  ![v170.toNat, 0]

def k0_chk28 (v169 : BitVec 32) : Prop :=
  (∀ a, (k0_off28 v169) a + S1x1024.size a ≤ S2048x1024.size a)
theorem k0_off28_inb : ∀ (v169 : BitVec 32) (k0_hw28 : k0_chk28 v169), ∀ a, (k0_off28 v169) a + S1x1024.size a ≤ S2048x1024.size a := fun v169 k0_hw28 => k0_hw28

def k0_off29 (v175 : BitVec 32) : Fin 2 → Nat :=
  let v176 : Index := Scalar.indexCast v175
  let c0_113 : Index := 0#32
  ![v176.toNat, 0]

def k0_chk29 (v175 : BitVec 32) : Prop :=
  (∀ a, (k0_off29 v175) a + S1x1024.size a ≤ S2048x1024.size a)
theorem k0_off29_inb : ∀ (v175 : BitVec 32) (k0_hw29 : k0_chk29 v175), ∀ a, (k0_off29 v175) a + S1x1024.size a ≤ S2048x1024.size a := fun v175 k0_hw29 => k0_hw29

def k0_off30 (v181 : BitVec 32) : Fin 2 → Nat :=
  let v182 : Index := Scalar.indexCast v181
  let c0_117 : Index := 0#32
  ![v182.toNat, 0]

def k0_chk30 (v181 : BitVec 32) : Prop :=
  (∀ a, (k0_off30 v181) a + S1x1024.size a ≤ S2048x1024.size a)
theorem k0_off30_inb : ∀ (v181 : BitVec 32) (k0_hw30 : k0_chk30 v181), ∀ a, (k0_off30 v181) a + S1x1024.size a ≤ S2048x1024.size a := fun v181 k0_hw30 => k0_hw30

def k0_off31 (v187 : BitVec 32) : Fin 2 → Nat :=
  let v188 : Index := Scalar.indexCast v187
  let c0_121 : Index := 0#32
  ![v188.toNat, 0]

def k0_chk31 (v187 : BitVec 32) : Prop :=
  (∀ a, (k0_off31 v187) a + S1x1024.size a ≤ S2048x1024.size a)
theorem k0_off31_inb : ∀ (v187 : BitVec 32) (k0_hw31 : k0_chk31 v187), ∀ a, (k0_off31 v187) a + S1x1024.size a ≤ S2048x1024.size a := fun v187 k0_hw31 => k0_hw31

def k0_off32 (v193 : BitVec 32) : Fin 2 → Nat :=
  let v194 : Index := Scalar.indexCast v193
  let c0_125 : Index := 0#32
  ![v194.toNat, 0]

def k0_chk32 (v193 : BitVec 32) : Prop :=
  (∀ a, (k0_off32 v193) a + S1x1024.size a ≤ S2048x1024.size a)
theorem k0_off32_inb : ∀ (v193 : BitVec 32) (k0_hw32 : k0_chk32 v193), ∀ a, (k0_off32 v193) a + S1x1024.size a ≤ S2048x1024.size a := fun v193 k0_hw32 => k0_hw32

def k0_off33 (v199 : BitVec 32) : Fin 2 → Nat :=
  let v200 : Index := Scalar.indexCast v199
  let c0_129 : Index := 0#32
  ![v200.toNat, 0]

def k0_chk33 (v199 : BitVec 32) : Prop :=
  (∀ a, (k0_off33 v199) a + S1x1024.size a ≤ S2048x1024.size a)
theorem k0_off33_inb : ∀ (v199 : BitVec 32) (k0_hw33 : k0_chk33 v199), ∀ a, (k0_off33 v199) a + S1x1024.size a ≤ S2048x1024.size a := fun v199 k0_hw33 => k0_hw33

def k0_off34 (v205 : BitVec 32) : Fin 2 → Nat :=
  let v206 : Index := Scalar.indexCast v205
  let c0_133 : Index := 0#32
  ![v206.toNat, 0]

def k0_chk34 (v205 : BitVec 32) : Prop :=
  (∀ a, (k0_off34 v205) a + S1x1024.size a ≤ S2048x1024.size a)
theorem k0_off34_inb : ∀ (v205 : BitVec 32) (k0_hw34 : k0_chk34 v205), ∀ a, (k0_off34 v205) a + S1x1024.size a ≤ S2048x1024.size a := fun v205 k0_hw34 => k0_hw34

def k0_off35 (v211 : BitVec 32) : Fin 2 → Nat :=
  let v212 : Index := Scalar.indexCast v211
  let c0_137 : Index := 0#32
  ![v212.toNat, 0]

def k0_chk35 (v211 : BitVec 32) : Prop :=
  (∀ a, (k0_off35 v211) a + S1x1024.size a ≤ S2048x1024.size a)
theorem k0_off35_inb : ∀ (v211 : BitVec 32) (k0_hw35 : k0_chk35 v211), ∀ a, (k0_off35 v211) a + S1x1024.size a ≤ S2048x1024.size a := fun v211 k0_hw35 => k0_hw35

def k0_off36 (v217 : BitVec 32) : Fin 2 → Nat :=
  let v218 : Index := Scalar.indexCast v217
  let c0_141 : Index := 0#32
  ![v218.toNat, 0]

def k0_chk36 (v217 : BitVec 32) : Prop :=
  (∀ a, (k0_off36 v217) a + S1x1024.size a ≤ S2048x1024.size a)
theorem k0_off36_inb : ∀ (v217 : BitVec 32) (k0_hw36 : k0_chk36 v217), ∀ a, (k0_off36 v217) a + S1x1024.size a ≤ S2048x1024.size a := fun v217 k0_hw36 => k0_hw36

def k0_off37 (v223 : BitVec 32) : Fin 2 → Nat :=
  let v224 : Index := Scalar.indexCast v223
  let c0_145 : Index := 0#32
  ![v224.toNat, 0]

def k0_chk37 (v223 : BitVec 32) : Prop :=
  (∀ a, (k0_off37 v223) a + S1x1024.size a ≤ S2048x1024.size a)
theorem k0_off37_inb : ∀ (v223 : BitVec 32) (k0_hw37 : k0_chk37 v223), ∀ a, (k0_off37 v223) a + S1x1024.size a ≤ S2048x1024.size a := fun v223 k0_hw37 => k0_hw37

def k0_off38 (v229 : BitVec 32) : Fin 2 → Nat :=
  let v230 : Index := Scalar.indexCast v229
  let c0_149 : Index := 0#32
  ![v230.toNat, 0]

def k0_chk38 (v229 : BitVec 32) : Prop :=
  (∀ a, (k0_off38 v229) a + S1x1024.size a ≤ S2048x1024.size a)
theorem k0_off38_inb : ∀ (v229 : BitVec 32) (k0_hw38 : k0_chk38 v229), ∀ a, (k0_off38 v229) a + S1x1024.size a ≤ S2048x1024.size a := fun v229 k0_hw38 => k0_hw38

def k0_off39 (v235 : BitVec 32) : Fin 2 → Nat :=
  let v236 : Index := Scalar.indexCast v235
  let c0_153 : Index := 0#32
  ![v236.toNat, 0]

def k0_chk39 (v235 : BitVec 32) : Prop :=
  (∀ a, (k0_off39 v235) a + S1x1024.size a ≤ S2048x1024.size a)
theorem k0_off39_inb : ∀ (v235 : BitVec 32) (k0_hw39 : k0_chk39 v235), ∀ a, (k0_off39 v235) a + S1x1024.size a ≤ S2048x1024.size a := fun v235 k0_hw39 => k0_hw39

def k0_off40 (v241 : BitVec 32) : Fin 2 → Nat :=
  let v242 : Index := Scalar.indexCast v241
  let c0_157 : Index := 0#32
  ![v242.toNat, 0]

def k0_chk40 (v241 : BitVec 32) : Prop :=
  (∀ a, (k0_off40 v241) a + S1x1024.size a ≤ S2048x1024.size a)
theorem k0_off40_inb : ∀ (v241 : BitVec 32) (k0_hw40 : k0_chk40 v241), ∀ a, (k0_off40 v241) a + S1x1024.size a ≤ S2048x1024.size a := fun v241 k0_hw40 => k0_hw40

def k0_off41 (v247 : BitVec 32) : Fin 2 → Nat :=
  let v248 : Index := Scalar.indexCast v247
  let c0_162 : Index := 0#32
  ![v248.toNat, 0]

def k0_chk41 (v247 : BitVec 32) : Prop :=
  (∀ a, (k0_off41 v247) a + S1x1024.size a ≤ S2048x1024.size a)
theorem k0_off41_inb : ∀ (v247 : BitVec 32) (k0_hw41 : k0_chk41 v247), ∀ a, (k0_off41 v247) a + S1x1024.size a ≤ S2048x1024.size a := fun v247 k0_hw41 => k0_hw41

def k0_off42 (v253 : BitVec 32) : Fin 2 → Nat :=
  let v254 : Index := Scalar.indexCast v253
  let c0_166 : Index := 0#32
  ![v254.toNat, 0]

def k0_chk42 (v253 : BitVec 32) : Prop :=
  (∀ a, (k0_off42 v253) a + S1x1024.size a ≤ S2048x1024.size a)
theorem k0_off42_inb : ∀ (v253 : BitVec 32) (k0_hw42 : k0_chk42 v253), ∀ a, (k0_off42 v253) a + S1x1024.size a ≤ S2048x1024.size a := fun v253 k0_hw42 => k0_hw42

def k0_off43 (v259 : BitVec 32) : Fin 2 → Nat :=
  let v260 : Index := Scalar.indexCast v259
  let c0_170 : Index := 0#32
  ![v260.toNat, 0]

def k0_chk43 (v259 : BitVec 32) : Prop :=
  (∀ a, (k0_off43 v259) a + S1x1024.size a ≤ S2048x1024.size a)
theorem k0_off43_inb : ∀ (v259 : BitVec 32) (k0_hw43 : k0_chk43 v259), ∀ a, (k0_off43 v259) a + S1x1024.size a ≤ S2048x1024.size a := fun v259 k0_hw43 => k0_hw43

def k0_off44 (v265 : BitVec 32) : Fin 2 → Nat :=
  let v266 : Index := Scalar.indexCast v265
  let c0_174 : Index := 0#32
  ![v266.toNat, 0]

def k0_chk44 (v265 : BitVec 32) : Prop :=
  (∀ a, (k0_off44 v265) a + S1x1024.size a ≤ S2048x1024.size a)
theorem k0_off44_inb : ∀ (v265 : BitVec 32) (k0_hw44 : k0_chk44 v265), ∀ a, (k0_off44 v265) a + S1x1024.size a ≤ S2048x1024.size a := fun v265 k0_hw44 => k0_hw44

def k0_off45 (v271 : BitVec 32) : Fin 2 → Nat :=
  let v272 : Index := Scalar.indexCast v271
  let c0_178 : Index := 0#32
  ![v272.toNat, 0]

def k0_chk45 (v271 : BitVec 32) : Prop :=
  (∀ a, (k0_off45 v271) a + S1x1024.size a ≤ S2048x1024.size a)
theorem k0_off45_inb : ∀ (v271 : BitVec 32) (k0_hw45 : k0_chk45 v271), ∀ a, (k0_off45 v271) a + S1x1024.size a ≤ S2048x1024.size a := fun v271 k0_hw45 => k0_hw45

def k0_off46 (v277 : BitVec 32) : Fin 2 → Nat :=
  let v278 : Index := Scalar.indexCast v277
  let c0_182 : Index := 0#32
  ![v278.toNat, 0]

def k0_chk46 (v277 : BitVec 32) : Prop :=
  (∀ a, (k0_off46 v277) a + S1x1024.size a ≤ S2048x1024.size a)
theorem k0_off46_inb : ∀ (v277 : BitVec 32) (k0_hw46 : k0_chk46 v277), ∀ a, (k0_off46 v277) a + S1x1024.size a ≤ S2048x1024.size a := fun v277 k0_hw46 => k0_hw46

def k0_off47 (v283 : BitVec 32) : Fin 2 → Nat :=
  let v284 : Index := Scalar.indexCast v283
  let c0_186 : Index := 0#32
  ![v284.toNat, 0]

def k0_chk47 (v283 : BitVec 32) : Prop :=
  (∀ a, (k0_off47 v283) a + S1x1024.size a ≤ S2048x1024.size a)
theorem k0_off47_inb : ∀ (v283 : BitVec 32) (k0_hw47 : k0_chk47 v283), ∀ a, (k0_off47 v283) a + S1x1024.size a ≤ S2048x1024.size a := fun v283 k0_hw47 => k0_hw47

def k0_off48 (v289 : BitVec 32) : Fin 2 → Nat :=
  let v290 : Index := Scalar.indexCast v289
  let c0_190 : Index := 0#32
  ![v290.toNat, 0]

def k0_chk48 (v289 : BitVec 32) : Prop :=
  (∀ a, (k0_off48 v289) a + S1x1024.size a ≤ S2048x1024.size a)
theorem k0_off48_inb : ∀ (v289 : BitVec 32) (k0_hw48 : k0_chk48 v289), ∀ a, (k0_off48 v289) a + S1x1024.size a ≤ S2048x1024.size a := fun v289 k0_hw48 => k0_hw48

def k0_off49 (v295 : BitVec 32) : Fin 2 → Nat :=
  let v296 : Index := Scalar.indexCast v295
  let c0_194 : Index := 0#32
  ![v296.toNat, 0]

def k0_chk49 (v295 : BitVec 32) : Prop :=
  (∀ a, (k0_off49 v295) a + S1x1024.size a ≤ S2048x1024.size a)
theorem k0_off49_inb : ∀ (v295 : BitVec 32) (k0_hw49 : k0_chk49 v295), ∀ a, (k0_off49 v295) a + S1x1024.size a ≤ S2048x1024.size a := fun v295 k0_hw49 => k0_hw49

def k0_off50 (v301 : BitVec 32) : Fin 2 → Nat :=
  let v302 : Index := Scalar.indexCast v301
  let c0_198 : Index := 0#32
  ![v302.toNat, 0]

def k0_chk50 (v301 : BitVec 32) : Prop :=
  (∀ a, (k0_off50 v301) a + S1x1024.size a ≤ S2048x1024.size a)
theorem k0_off50_inb : ∀ (v301 : BitVec 32) (k0_hw50 : k0_chk50 v301), ∀ a, (k0_off50 v301) a + S1x1024.size a ≤ S2048x1024.size a := fun v301 k0_hw50 => k0_hw50

def k0_off51 (v307 : BitVec 32) : Fin 2 → Nat :=
  let v308 : Index := Scalar.indexCast v307
  let c0_202 : Index := 0#32
  ![v308.toNat, 0]

def k0_chk51 (v307 : BitVec 32) : Prop :=
  (∀ a, (k0_off51 v307) a + S1x1024.size a ≤ S2048x1024.size a)
theorem k0_off51_inb : ∀ (v307 : BitVec 32) (k0_hw51 : k0_chk51 v307), ∀ a, (k0_off51 v307) a + S1x1024.size a ≤ S2048x1024.size a := fun v307 k0_hw51 => k0_hw51

def k0_off52 (v313 : BitVec 32) : Fin 2 → Nat :=
  let v314 : Index := Scalar.indexCast v313
  let c0_206 : Index := 0#32
  ![v314.toNat, 0]

def k0_chk52 (v313 : BitVec 32) : Prop :=
  (∀ a, (k0_off52 v313) a + S1x1024.size a ≤ S2048x1024.size a)
theorem k0_off52_inb : ∀ (v313 : BitVec 32) (k0_hw52 : k0_chk52 v313), ∀ a, (k0_off52 v313) a + S1x1024.size a ≤ S2048x1024.size a := fun v313 k0_hw52 => k0_hw52

def k0_off53 (v319 : BitVec 32) : Fin 2 → Nat :=
  let v320 : Index := Scalar.indexCast v319
  let c0_210 : Index := 0#32
  ![v320.toNat, 0]

def k0_chk53 (v319 : BitVec 32) : Prop :=
  (∀ a, (k0_off53 v319) a + S1x1024.size a ≤ S2048x1024.size a)
theorem k0_off53_inb : ∀ (v319 : BitVec 32) (k0_hw53 : k0_chk53 v319), ∀ a, (k0_off53 v319) a + S1x1024.size a ≤ S2048x1024.size a := fun v319 k0_hw53 => k0_hw53

def k0_off54 (v325 : BitVec 32) : Fin 2 → Nat :=
  let v326 : Index := Scalar.indexCast v325
  let c0_214 : Index := 0#32
  ![v326.toNat, 0]

def k0_chk54 (v325 : BitVec 32) : Prop :=
  (∀ a, (k0_off54 v325) a + S1x1024.size a ≤ S2048x1024.size a)
theorem k0_off54_inb : ∀ (v325 : BitVec 32) (k0_hw54 : k0_chk54 v325), ∀ a, (k0_off54 v325) a + S1x1024.size a ≤ S2048x1024.size a := fun v325 k0_hw54 => k0_hw54

def k0_off55 (v331 : BitVec 32) : Fin 2 → Nat :=
  let v332 : Index := Scalar.indexCast v331
  let c0_218 : Index := 0#32
  ![v332.toNat, 0]

def k0_chk55 (v331 : BitVec 32) : Prop :=
  (∀ a, (k0_off55 v331) a + S1x1024.size a ≤ S2048x1024.size a)
theorem k0_off55_inb : ∀ (v331 : BitVec 32) (k0_hw55 : k0_chk55 v331), ∀ a, (k0_off55 v331) a + S1x1024.size a ≤ S2048x1024.size a := fun v331 k0_hw55 => k0_hw55

def k0_off56 (v337 : BitVec 32) : Fin 2 → Nat :=
  let v338 : Index := Scalar.indexCast v337
  let c0_222 : Index := 0#32
  ![v338.toNat, 0]

def k0_chk56 (v337 : BitVec 32) : Prop :=
  (∀ a, (k0_off56 v337) a + S1x1024.size a ≤ S2048x1024.size a)
theorem k0_off56_inb : ∀ (v337 : BitVec 32) (k0_hw56 : k0_chk56 v337), ∀ a, (k0_off56 v337) a + S1x1024.size a ≤ S2048x1024.size a := fun v337 k0_hw56 => k0_hw56

def k0_off57 (v343 : BitVec 32) : Fin 2 → Nat :=
  let v344 : Index := Scalar.indexCast v343
  let c0_226 : Index := 0#32
  ![v344.toNat, 0]

def k0_chk57 (v343 : BitVec 32) : Prop :=
  (∀ a, (k0_off57 v343) a + S1x1024.size a ≤ S2048x1024.size a)
theorem k0_off57_inb : ∀ (v343 : BitVec 32) (k0_hw57 : k0_chk57 v343), ∀ a, (k0_off57 v343) a + S1x1024.size a ≤ S2048x1024.size a := fun v343 k0_hw57 => k0_hw57

def k0_off58 (v349 : BitVec 32) : Fin 2 → Nat :=
  let v350 : Index := Scalar.indexCast v349
  let c0_230 : Index := 0#32
  ![v350.toNat, 0]

def k0_chk58 (v349 : BitVec 32) : Prop :=
  (∀ a, (k0_off58 v349) a + S1x1024.size a ≤ S2048x1024.size a)
theorem k0_off58_inb : ∀ (v349 : BitVec 32) (k0_hw58 : k0_chk58 v349), ∀ a, (k0_off58 v349) a + S1x1024.size a ≤ S2048x1024.size a := fun v349 k0_hw58 => k0_hw58

def k0_off59 (v355 : BitVec 32) : Fin 2 → Nat :=
  let v356 : Index := Scalar.indexCast v355
  let c0_234 : Index := 0#32
  ![v356.toNat, 0]

def k0_chk59 (v355 : BitVec 32) : Prop :=
  (∀ a, (k0_off59 v355) a + S1x1024.size a ≤ S2048x1024.size a)
theorem k0_off59_inb : ∀ (v355 : BitVec 32) (k0_hw59 : k0_chk59 v355), ∀ a, (k0_off59 v355) a + S1x1024.size a ≤ S2048x1024.size a := fun v355 k0_hw59 => k0_hw59

def k0_off60 (v361 : BitVec 32) : Fin 2 → Nat :=
  let v362 : Index := Scalar.indexCast v361
  let c0_238 : Index := 0#32
  ![v362.toNat, 0]

def k0_chk60 (v361 : BitVec 32) : Prop :=
  (∀ a, (k0_off60 v361) a + S1x1024.size a ≤ S2048x1024.size a)
theorem k0_off60_inb : ∀ (v361 : BitVec 32) (k0_hw60 : k0_chk60 v361), ∀ a, (k0_off60 v361) a + S1x1024.size a ≤ S2048x1024.size a := fun v361 k0_hw60 => k0_hw60

def k0_off61 (v367 : BitVec 32) : Fin 2 → Nat :=
  let v368 : Index := Scalar.indexCast v367
  let c0_242 : Index := 0#32
  ![v368.toNat, 0]

def k0_chk61 (v367 : BitVec 32) : Prop :=
  (∀ a, (k0_off61 v367) a + S1x1024.size a ≤ S2048x1024.size a)
theorem k0_off61_inb : ∀ (v367 : BitVec 32) (k0_hw61 : k0_chk61 v367), ∀ a, (k0_off61 v367) a + S1x1024.size a ≤ S2048x1024.size a := fun v367 k0_hw61 => k0_hw61

def k0_off62 (v373 : BitVec 32) : Fin 2 → Nat :=
  let v374 : Index := Scalar.indexCast v373
  let c0_246 : Index := 0#32
  ![v374.toNat, 0]

def k0_chk62 (v373 : BitVec 32) : Prop :=
  (∀ a, (k0_off62 v373) a + S1x1024.size a ≤ S2048x1024.size a)
theorem k0_off62_inb : ∀ (v373 : BitVec 32) (k0_hw62 : k0_chk62 v373), ∀ a, (k0_off62 v373) a + S1x1024.size a ≤ S2048x1024.size a := fun v373 k0_hw62 => k0_hw62

def k0_off63 (v379 : BitVec 32) : Fin 2 → Nat :=
  let v380 : Index := Scalar.indexCast v379
  let c0_250 : Index := 0#32
  ![v380.toNat, 0]

def k0_chk63 (v379 : BitVec 32) : Prop :=
  (∀ a, (k0_off63 v379) a + S1x1024.size a ≤ S2048x1024.size a)
theorem k0_off63_inb : ∀ (v379 : BitVec 32) (k0_hw63 : k0_chk63 v379), ∀ a, (k0_off63 v379) a + S1x1024.size a ≤ S2048x1024.size a := fun v379 k0_hw63 => k0_hw63

def k0_off64 (v385 : BitVec 32) : Fin 2 → Nat :=
  let v386 : Index := Scalar.indexCast v385
  let c0_254 : Index := 0#32
  ![v386.toNat, 0]

def k0_chk64 (v385 : BitVec 32) : Prop :=
  (∀ a, (k0_off64 v385) a + S1x1024.size a ≤ S2048x1024.size a)
theorem k0_off64_inb : ∀ (v385 : BitVec 32) (k0_hw64 : k0_chk64 v385), ∀ a, (k0_off64 v385) a + S1x1024.size a ≤ S2048x1024.size a := fun v385 k0_hw64 => k0_hw64

def k0_off65 (v391 : BitVec 32) : Fin 2 → Nat :=
  let v392 : Index := Scalar.indexCast v391
  let c0_258 : Index := 0#32
  ![v392.toNat, 0]

def k0_chk65 (v391 : BitVec 32) : Prop :=
  (∀ a, (k0_off65 v391) a + S1x1024.size a ≤ S2048x1024.size a)
theorem k0_off65_inb : ∀ (v391 : BitVec 32) (k0_hw65 : k0_chk65 v391), ∀ a, (k0_off65 v391) a + S1x1024.size a ≤ S2048x1024.size a := fun v391 k0_hw65 => k0_hw65

def k0_off66 (v397 : BitVec 32) : Fin 2 → Nat :=
  let v398 : Index := Scalar.indexCast v397
  let c0_262 : Index := 0#32
  ![v398.toNat, 0]

def k0_chk66 (v397 : BitVec 32) : Prop :=
  (∀ a, (k0_off66 v397) a + S1x1024.size a ≤ S2048x1024.size a)
theorem k0_off66_inb : ∀ (v397 : BitVec 32) (k0_hw66 : k0_chk66 v397), ∀ a, (k0_off66 v397) a + S1x1024.size a ≤ S2048x1024.size a := fun v397 k0_hw66 => k0_hw66

def k0_off67 (v403 : BitVec 32) : Fin 2 → Nat :=
  let v404 : Index := Scalar.indexCast v403
  let c0_266 : Index := 0#32
  ![v404.toNat, 0]

def k0_chk67 (v403 : BitVec 32) : Prop :=
  (∀ a, (k0_off67 v403) a + S1x1024.size a ≤ S2048x1024.size a)
theorem k0_off67_inb : ∀ (v403 : BitVec 32) (k0_hw67 : k0_chk67 v403), ∀ a, (k0_off67 v403) a + S1x1024.size a ≤ S2048x1024.size a := fun v403 k0_hw67 => k0_hw67

def k0_off68 (v409 : BitVec 32) : Fin 2 → Nat :=
  let v410 : Index := Scalar.indexCast v409
  let c0_270 : Index := 0#32
  ![v410.toNat, 0]

def k0_chk68 (v409 : BitVec 32) : Prop :=
  (∀ a, (k0_off68 v409) a + S1x1024.size a ≤ S2048x1024.size a)
theorem k0_off68_inb : ∀ (v409 : BitVec 32) (k0_hw68 : k0_chk68 v409), ∀ a, (k0_off68 v409) a + S1x1024.size a ≤ S2048x1024.size a := fun v409 k0_hw68 => k0_hw68

def k0_off69 (v415 : BitVec 32) : Fin 2 → Nat :=
  let v416 : Index := Scalar.indexCast v415
  let c0_274 : Index := 0#32
  ![v416.toNat, 0]

def k0_chk69 (v415 : BitVec 32) : Prop :=
  (∀ a, (k0_off69 v415) a + S1x1024.size a ≤ S2048x1024.size a)
theorem k0_off69_inb : ∀ (v415 : BitVec 32) (k0_hw69 : k0_chk69 v415), ∀ a, (k0_off69 v415) a + S1x1024.size a ≤ S2048x1024.size a := fun v415 k0_hw69 => k0_hw69

def k0_off70 (v421 : BitVec 32) : Fin 2 → Nat :=
  let v422 : Index := Scalar.indexCast v421
  let c0_278 : Index := 0#32
  ![v422.toNat, 0]

def k0_chk70 (v421 : BitVec 32) : Prop :=
  (∀ a, (k0_off70 v421) a + S1x1024.size a ≤ S2048x1024.size a)
theorem k0_off70_inb : ∀ (v421 : BitVec 32) (k0_hw70 : k0_chk70 v421), ∀ a, (k0_off70 v421) a + S1x1024.size a ≤ S2048x1024.size a := fun v421 k0_hw70 => k0_hw70

def k0_off71 (v427 : BitVec 32) : Fin 2 → Nat :=
  let v428 : Index := Scalar.indexCast v427
  let c0_282 : Index := 0#32
  ![v428.toNat, 0]

def k0_chk71 (v427 : BitVec 32) : Prop :=
  (∀ a, (k0_off71 v427) a + S1x1024.size a ≤ S2048x1024.size a)
theorem k0_off71_inb : ∀ (v427 : BitVec 32) (k0_hw71 : k0_chk71 v427), ∀ a, (k0_off71 v427) a + S1x1024.size a ≤ S2048x1024.size a := fun v427 k0_hw71 => k0_hw71

def k0_off72 (v433 : BitVec 32) : Fin 2 → Nat :=
  let v434 : Index := Scalar.indexCast v433
  let c0_286 : Index := 0#32
  ![v434.toNat, 0]

def k0_chk72 (v433 : BitVec 32) : Prop :=
  (∀ a, (k0_off72 v433) a + S1x1024.size a ≤ S2048x1024.size a)
theorem k0_off72_inb : ∀ (v433 : BitVec 32) (k0_hw72 : k0_chk72 v433), ∀ a, (k0_off72 v433) a + S1x1024.size a ≤ S2048x1024.size a := fun v433 k0_hw72 => k0_hw72

def k0_off73 (v439 : BitVec 32) : Fin 2 → Nat :=
  let v440 : Index := Scalar.indexCast v439
  let c0_290 : Index := 0#32
  ![v440.toNat, 0]

def k0_chk73 (v439 : BitVec 32) : Prop :=
  (∀ a, (k0_off73 v439) a + S1x1024.size a ≤ S2048x1024.size a)
theorem k0_off73_inb : ∀ (v439 : BitVec 32) (k0_hw73 : k0_chk73 v439), ∀ a, (k0_off73 v439) a + S1x1024.size a ≤ S2048x1024.size a := fun v439 k0_hw73 => k0_hw73

def k0_off74 (v445 : BitVec 32) : Fin 2 → Nat :=
  let v446 : Index := Scalar.indexCast v445
  let c0_294 : Index := 0#32
  ![v446.toNat, 0]

def k0_chk74 (v445 : BitVec 32) : Prop :=
  (∀ a, (k0_off74 v445) a + S1x1024.size a ≤ S2048x1024.size a)
theorem k0_off74_inb : ∀ (v445 : BitVec 32) (k0_hw74 : k0_chk74 v445), ∀ a, (k0_off74 v445) a + S1x1024.size a ≤ S2048x1024.size a := fun v445 k0_hw74 => k0_hw74

def k0_off75 (v451 : BitVec 32) : Fin 2 → Nat :=
  let v452 : Index := Scalar.indexCast v451
  let c0_298 : Index := 0#32
  ![v452.toNat, 0]

def k0_chk75 (v451 : BitVec 32) : Prop :=
  (∀ a, (k0_off75 v451) a + S1x1024.size a ≤ S2048x1024.size a)
theorem k0_off75_inb : ∀ (v451 : BitVec 32) (k0_hw75 : k0_chk75 v451), ∀ a, (k0_off75 v451) a + S1x1024.size a ≤ S2048x1024.size a := fun v451 k0_hw75 => k0_hw75

def k0_off76 (v457 : BitVec 32) : Fin 2 → Nat :=
  let v458 : Index := Scalar.indexCast v457
  let c0_302 : Index := 0#32
  ![v458.toNat, 0]

def k0_chk76 (v457 : BitVec 32) : Prop :=
  (∀ a, (k0_off76 v457) a + S1x1024.size a ≤ S2048x1024.size a)
theorem k0_off76_inb : ∀ (v457 : BitVec 32) (k0_hw76 : k0_chk76 v457), ∀ a, (k0_off76 v457) a + S1x1024.size a ≤ S2048x1024.size a := fun v457 k0_hw76 => k0_hw76

def k0_off77 (v463 : BitVec 32) : Fin 2 → Nat :=
  let v464 : Index := Scalar.indexCast v463
  let c0_306 : Index := 0#32
  ![v464.toNat, 0]

def k0_chk77 (v463 : BitVec 32) : Prop :=
  (∀ a, (k0_off77 v463) a + S1x1024.size a ≤ S2048x1024.size a)
theorem k0_off77_inb : ∀ (v463 : BitVec 32) (k0_hw77 : k0_chk77 v463), ∀ a, (k0_off77 v463) a + S1x1024.size a ≤ S2048x1024.size a := fun v463 k0_hw77 => k0_hw77

def k0_off78 (v469 : BitVec 32) : Fin 2 → Nat :=
  let v470 : Index := Scalar.indexCast v469
  let c0_310 : Index := 0#32
  ![v470.toNat, 0]

def k0_chk78 (v469 : BitVec 32) : Prop :=
  (∀ a, (k0_off78 v469) a + S1x1024.size a ≤ S2048x1024.size a)
theorem k0_off78_inb : ∀ (v469 : BitVec 32) (k0_hw78 : k0_chk78 v469), ∀ a, (k0_off78 v469) a + S1x1024.size a ≤ S2048x1024.size a := fun v469 k0_hw78 => k0_hw78

def k0_off79 (v475 : BitVec 32) : Fin 2 → Nat :=
  let v476 : Index := Scalar.indexCast v475
  let c0_314 : Index := 0#32
  ![v476.toNat, 0]

def k0_chk79 (v475 : BitVec 32) : Prop :=
  (∀ a, (k0_off79 v475) a + S1x1024.size a ≤ S2048x1024.size a)
theorem k0_off79_inb : ∀ (v475 : BitVec 32) (k0_hw79 : k0_chk79 v475), ∀ a, (k0_off79 v475) a + S1x1024.size a ≤ S2048x1024.size a := fun v475 k0_hw79 => k0_hw79

def k0_off80 (v481 : BitVec 32) : Fin 2 → Nat :=
  let v482 : Index := Scalar.indexCast v481
  let c0_318 : Index := 0#32
  ![v482.toNat, 0]

def k0_chk80 (v481 : BitVec 32) : Prop :=
  (∀ a, (k0_off80 v481) a + S1x1024.size a ≤ S2048x1024.size a)
theorem k0_off80_inb : ∀ (v481 : BitVec 32) (k0_hw80 : k0_chk80 v481), ∀ a, (k0_off80 v481) a + S1x1024.size a ≤ S2048x1024.size a := fun v481 k0_hw80 => k0_hw80

def k0_off81 (v487 : BitVec 32) : Fin 2 → Nat :=
  let v488 : Index := Scalar.indexCast v487
  let c0_322 : Index := 0#32
  ![v488.toNat, 0]

def k0_chk81 (v487 : BitVec 32) : Prop :=
  (∀ a, (k0_off81 v487) a + S1x1024.size a ≤ S2048x1024.size a)
theorem k0_off81_inb : ∀ (v487 : BitVec 32) (k0_hw81 : k0_chk81 v487), ∀ a, (k0_off81 v487) a + S1x1024.size a ≤ S2048x1024.size a := fun v487 k0_hw81 => k0_hw81

def k0_off82 (v493 : BitVec 32) : Fin 2 → Nat :=
  let v494 : Index := Scalar.indexCast v493
  let c0_326 : Index := 0#32
  ![v494.toNat, 0]

def k0_chk82 (v493 : BitVec 32) : Prop :=
  (∀ a, (k0_off82 v493) a + S1x1024.size a ≤ S2048x1024.size a)
theorem k0_off82_inb : ∀ (v493 : BitVec 32) (k0_hw82 : k0_chk82 v493), ∀ a, (k0_off82 v493) a + S1x1024.size a ≤ S2048x1024.size a := fun v493 k0_hw82 => k0_hw82

def k0_off83 (v499 : BitVec 32) : Fin 2 → Nat :=
  let v500 : Index := Scalar.indexCast v499
  let c0_330 : Index := 0#32
  ![v500.toNat, 0]

def k0_chk83 (v499 : BitVec 32) : Prop :=
  (∀ a, (k0_off83 v499) a + S1x1024.size a ≤ S2048x1024.size a)
theorem k0_off83_inb : ∀ (v499 : BitVec 32) (k0_hw83 : k0_chk83 v499), ∀ a, (k0_off83 v499) a + S1x1024.size a ≤ S2048x1024.size a := fun v499 k0_hw83 => k0_hw83

def k0_off84 (v505 : BitVec 32) : Fin 2 → Nat :=
  let v506 : Index := Scalar.indexCast v505
  let c0_334 : Index := 0#32
  ![v506.toNat, 0]

def k0_chk84 (v505 : BitVec 32) : Prop :=
  (∀ a, (k0_off84 v505) a + S1x1024.size a ≤ S2048x1024.size a)
theorem k0_off84_inb : ∀ (v505 : BitVec 32) (k0_hw84 : k0_chk84 v505), ∀ a, (k0_off84 v505) a + S1x1024.size a ≤ S2048x1024.size a := fun v505 k0_hw84 => k0_hw84

def k0_off85 (v511 : BitVec 32) : Fin 2 → Nat :=
  let v512 : Index := Scalar.indexCast v511
  let c0_338 : Index := 0#32
  ![v512.toNat, 0]

def k0_chk85 (v511 : BitVec 32) : Prop :=
  (∀ a, (k0_off85 v511) a + S1x1024.size a ≤ S2048x1024.size a)
theorem k0_off85_inb : ∀ (v511 : BitVec 32) (k0_hw85 : k0_chk85 v511), ∀ a, (k0_off85 v511) a + S1x1024.size a ≤ S2048x1024.size a := fun v511 k0_hw85 => k0_hw85

def k0_off86 (v517 : BitVec 32) : Fin 2 → Nat :=
  let v518 : Index := Scalar.indexCast v517
  let c0_342 : Index := 0#32
  ![v518.toNat, 0]

def k0_chk86 (v517 : BitVec 32) : Prop :=
  (∀ a, (k0_off86 v517) a + S1x1024.size a ≤ S2048x1024.size a)
theorem k0_off86_inb : ∀ (v517 : BitVec 32) (k0_hw86 : k0_chk86 v517), ∀ a, (k0_off86 v517) a + S1x1024.size a ≤ S2048x1024.size a := fun v517 k0_hw86 => k0_hw86

def k0_off87 (v523 : BitVec 32) : Fin 2 → Nat :=
  let v524 : Index := Scalar.indexCast v523
  let c0_346 : Index := 0#32
  ![v524.toNat, 0]

def k0_chk87 (v523 : BitVec 32) : Prop :=
  (∀ a, (k0_off87 v523) a + S1x1024.size a ≤ S2048x1024.size a)
theorem k0_off87_inb : ∀ (v523 : BitVec 32) (k0_hw87 : k0_chk87 v523), ∀ a, (k0_off87 v523) a + S1x1024.size a ≤ S2048x1024.size a := fun v523 k0_hw87 => k0_hw87

def k0_off88 (v529 : BitVec 32) : Fin 2 → Nat :=
  let v530 : Index := Scalar.indexCast v529
  let c0_350 : Index := 0#32
  ![v530.toNat, 0]

def k0_chk88 (v529 : BitVec 32) : Prop :=
  (∀ a, (k0_off88 v529) a + S1x1024.size a ≤ S2048x1024.size a)
theorem k0_off88_inb : ∀ (v529 : BitVec 32) (k0_hw88 : k0_chk88 v529), ∀ a, (k0_off88 v529) a + S1x1024.size a ≤ S2048x1024.size a := fun v529 k0_hw88 => k0_hw88

def k0_off89 (v535 : BitVec 32) : Fin 2 → Nat :=
  let v536 : Index := Scalar.indexCast v535
  let c0_354 : Index := 0#32
  ![v536.toNat, 0]

def k0_chk89 (v535 : BitVec 32) : Prop :=
  (∀ a, (k0_off89 v535) a + S1x1024.size a ≤ S2048x1024.size a)
theorem k0_off89_inb : ∀ (v535 : BitVec 32) (k0_hw89 : k0_chk89 v535), ∀ a, (k0_off89 v535) a + S1x1024.size a ≤ S2048x1024.size a := fun v535 k0_hw89 => k0_hw89

def k0_off90 (v541 : BitVec 32) : Fin 2 → Nat :=
  let v542 : Index := Scalar.indexCast v541
  let c0_358 : Index := 0#32
  ![v542.toNat, 0]

def k0_chk90 (v541 : BitVec 32) : Prop :=
  (∀ a, (k0_off90 v541) a + S1x1024.size a ≤ S2048x1024.size a)
theorem k0_off90_inb : ∀ (v541 : BitVec 32) (k0_hw90 : k0_chk90 v541), ∀ a, (k0_off90 v541) a + S1x1024.size a ≤ S2048x1024.size a := fun v541 k0_hw90 => k0_hw90

def k0_off91 (v547 : BitVec 32) : Fin 2 → Nat :=
  let v548 : Index := Scalar.indexCast v547
  let c0_362 : Index := 0#32
  ![v548.toNat, 0]

def k0_chk91 (v547 : BitVec 32) : Prop :=
  (∀ a, (k0_off91 v547) a + S1x1024.size a ≤ S2048x1024.size a)
theorem k0_off91_inb : ∀ (v547 : BitVec 32) (k0_hw91 : k0_chk91 v547), ∀ a, (k0_off91 v547) a + S1x1024.size a ≤ S2048x1024.size a := fun v547 k0_hw91 => k0_hw91

def k0_off92 (v553 : BitVec 32) : Fin 2 → Nat :=
  let v554 : Index := Scalar.indexCast v553
  let c0_366 : Index := 0#32
  ![v554.toNat, 0]

def k0_chk92 (v553 : BitVec 32) : Prop :=
  (∀ a, (k0_off92 v553) a + S1x1024.size a ≤ S2048x1024.size a)
theorem k0_off92_inb : ∀ (v553 : BitVec 32) (k0_hw92 : k0_chk92 v553), ∀ a, (k0_off92 v553) a + S1x1024.size a ≤ S2048x1024.size a := fun v553 k0_hw92 => k0_hw92

def k0_off93 (v559 : BitVec 32) : Fin 2 → Nat :=
  let v560 : Index := Scalar.indexCast v559
  let c0_370 : Index := 0#32
  ![v560.toNat, 0]

def k0_chk93 (v559 : BitVec 32) : Prop :=
  (∀ a, (k0_off93 v559) a + S1x1024.size a ≤ S2048x1024.size a)
theorem k0_off93_inb : ∀ (v559 : BitVec 32) (k0_hw93 : k0_chk93 v559), ∀ a, (k0_off93 v559) a + S1x1024.size a ≤ S2048x1024.size a := fun v559 k0_hw93 => k0_hw93

def k0_off94 (v565 : BitVec 32) : Fin 2 → Nat :=
  let v566 : Index := Scalar.indexCast v565
  let c0_374 : Index := 0#32
  ![v566.toNat, 0]

def k0_chk94 (v565 : BitVec 32) : Prop :=
  (∀ a, (k0_off94 v565) a + S1x1024.size a ≤ S2048x1024.size a)
theorem k0_off94_inb : ∀ (v565 : BitVec 32) (k0_hw94 : k0_chk94 v565), ∀ a, (k0_off94 v565) a + S1x1024.size a ≤ S2048x1024.size a := fun v565 k0_hw94 => k0_hw94

def k0_off95 (v571 : BitVec 32) : Fin 2 → Nat :=
  let v572 : Index := Scalar.indexCast v571
  let c0_378 : Index := 0#32
  ![v572.toNat, 0]

def k0_chk95 (v571 : BitVec 32) : Prop :=
  (∀ a, (k0_off95 v571) a + S1x1024.size a ≤ S2048x1024.size a)
theorem k0_off95_inb : ∀ (v571 : BitVec 32) (k0_hw95 : k0_chk95 v571), ∀ a, (k0_off95 v571) a + S1x1024.size a ≤ S2048x1024.size a := fun v571 k0_hw95 => k0_hw95

def k0_off96 (v577 : BitVec 32) : Fin 2 → Nat :=
  let v578 : Index := Scalar.indexCast v577
  let c0_382 : Index := 0#32
  ![v578.toNat, 0]

def k0_chk96 (v577 : BitVec 32) : Prop :=
  (∀ a, (k0_off96 v577) a + S1x1024.size a ≤ S2048x1024.size a)
theorem k0_off96_inb : ∀ (v577 : BitVec 32) (k0_hw96 : k0_chk96 v577), ∀ a, (k0_off96 v577) a + S1x1024.size a ≤ S2048x1024.size a := fun v577 k0_hw96 => k0_hw96

def k0_off97 (v583 : BitVec 32) : Fin 2 → Nat :=
  let v584 : Index := Scalar.indexCast v583
  let c0_386 : Index := 0#32
  ![v584.toNat, 0]

def k0_chk97 (v583 : BitVec 32) : Prop :=
  (∀ a, (k0_off97 v583) a + S1x1024.size a ≤ S2048x1024.size a)
theorem k0_off97_inb : ∀ (v583 : BitVec 32) (k0_hw97 : k0_chk97 v583), ∀ a, (k0_off97 v583) a + S1x1024.size a ≤ S2048x1024.size a := fun v583 k0_hw97 => k0_hw97

def k0_off98 (v589 : BitVec 32) : Fin 2 → Nat :=
  let v590 : Index := Scalar.indexCast v589
  let c0_390 : Index := 0#32
  ![v590.toNat, 0]

def k0_chk98 (v589 : BitVec 32) : Prop :=
  (∀ a, (k0_off98 v589) a + S1x1024.size a ≤ S2048x1024.size a)
theorem k0_off98_inb : ∀ (v589 : BitVec 32) (k0_hw98 : k0_chk98 v589), ∀ a, (k0_off98 v589) a + S1x1024.size a ≤ S2048x1024.size a := fun v589 k0_hw98 => k0_hw98

def k0_off99 (v595 : BitVec 32) : Fin 2 → Nat :=
  let v596 : Index := Scalar.indexCast v595
  let c0_394 : Index := 0#32
  ![v596.toNat, 0]

def k0_chk99 (v595 : BitVec 32) : Prop :=
  (∀ a, (k0_off99 v595) a + S1x1024.size a ≤ S2048x1024.size a)
theorem k0_off99_inb : ∀ (v595 : BitVec 32) (k0_hw99 : k0_chk99 v595), ∀ a, (k0_off99 v595) a + S1x1024.size a ≤ S2048x1024.size a := fun v595 k0_hw99 => k0_hw99

def k0_off100 (v601 : BitVec 32) : Fin 2 → Nat :=
  let v602 : Index := Scalar.indexCast v601
  let c0_398 : Index := 0#32
  ![v602.toNat, 0]

def k0_chk100 (v601 : BitVec 32) : Prop :=
  (∀ a, (k0_off100 v601) a + S1x1024.size a ≤ S2048x1024.size a)
theorem k0_off100_inb : ∀ (v601 : BitVec 32) (k0_hw100 : k0_chk100 v601), ∀ a, (k0_off100 v601) a + S1x1024.size a ≤ S2048x1024.size a := fun v601 k0_hw100 => k0_hw100

def k0_off101 (v607 : BitVec 32) : Fin 2 → Nat :=
  let v608 : Index := Scalar.indexCast v607
  let c0_402 : Index := 0#32
  ![v608.toNat, 0]

def k0_chk101 (v607 : BitVec 32) : Prop :=
  (∀ a, (k0_off101 v607) a + S1x1024.size a ≤ S2048x1024.size a)
theorem k0_off101_inb : ∀ (v607 : BitVec 32) (k0_hw101 : k0_chk101 v607), ∀ a, (k0_off101 v607) a + S1x1024.size a ≤ S2048x1024.size a := fun v607 k0_hw101 => k0_hw101

def k0_off102 (v613 : BitVec 32) : Fin 2 → Nat :=
  let v614 : Index := Scalar.indexCast v613
  let c0_406 : Index := 0#32
  ![v614.toNat, 0]

def k0_chk102 (v613 : BitVec 32) : Prop :=
  (∀ a, (k0_off102 v613) a + S1x1024.size a ≤ S2048x1024.size a)
theorem k0_off102_inb : ∀ (v613 : BitVec 32) (k0_hw102 : k0_chk102 v613), ∀ a, (k0_off102 v613) a + S1x1024.size a ≤ S2048x1024.size a := fun v613 k0_hw102 => k0_hw102

def k0_off103 (v619 : BitVec 32) : Fin 2 → Nat :=
  let v620 : Index := Scalar.indexCast v619
  let c0_410 : Index := 0#32
  ![v620.toNat, 0]

def k0_chk103 (v619 : BitVec 32) : Prop :=
  (∀ a, (k0_off103 v619) a + S1x1024.size a ≤ S2048x1024.size a)
theorem k0_off103_inb : ∀ (v619 : BitVec 32) (k0_hw103 : k0_chk103 v619), ∀ a, (k0_off103 v619) a + S1x1024.size a ≤ S2048x1024.size a := fun v619 k0_hw103 => k0_hw103

def k0_off104 (v625 : BitVec 32) : Fin 2 → Nat :=
  let v626 : Index := Scalar.indexCast v625
  let c0_414 : Index := 0#32
  ![v626.toNat, 0]

def k0_chk104 (v625 : BitVec 32) : Prop :=
  (∀ a, (k0_off104 v625) a + S1x1024.size a ≤ S2048x1024.size a)
theorem k0_off104_inb : ∀ (v625 : BitVec 32) (k0_hw104 : k0_chk104 v625), ∀ a, (k0_off104 v625) a + S1x1024.size a ≤ S2048x1024.size a := fun v625 k0_hw104 => k0_hw104

def k0_off105 (v631 : BitVec 32) : Fin 2 → Nat :=
  let v632 : Index := Scalar.indexCast v631
  let c0_418 : Index := 0#32
  ![v632.toNat, 0]

def k0_chk105 (v631 : BitVec 32) : Prop :=
  (∀ a, (k0_off105 v631) a + S1x1024.size a ≤ S2048x1024.size a)
theorem k0_off105_inb : ∀ (v631 : BitVec 32) (k0_hw105 : k0_chk105 v631), ∀ a, (k0_off105 v631) a + S1x1024.size a ≤ S2048x1024.size a := fun v631 k0_hw105 => k0_hw105

def k0_off106 (v637 : BitVec 32) : Fin 2 → Nat :=
  let v638 : Index := Scalar.indexCast v637
  let c0_422 : Index := 0#32
  ![v638.toNat, 0]

def k0_chk106 (v637 : BitVec 32) : Prop :=
  (∀ a, (k0_off106 v637) a + S1x1024.size a ≤ S2048x1024.size a)
theorem k0_off106_inb : ∀ (v637 : BitVec 32) (k0_hw106 : k0_chk106 v637), ∀ a, (k0_off106 v637) a + S1x1024.size a ≤ S2048x1024.size a := fun v637 k0_hw106 => k0_hw106

def k0_off107 (v643 : BitVec 32) : Fin 2 → Nat :=
  let v644 : Index := Scalar.indexCast v643
  let c0_426 : Index := 0#32
  ![v644.toNat, 0]

def k0_chk107 (v643 : BitVec 32) : Prop :=
  (∀ a, (k0_off107 v643) a + S1x1024.size a ≤ S2048x1024.size a)
theorem k0_off107_inb : ∀ (v643 : BitVec 32) (k0_hw107 : k0_chk107 v643), ∀ a, (k0_off107 v643) a + S1x1024.size a ≤ S2048x1024.size a := fun v643 k0_hw107 => k0_hw107

def k0_off108 (v649 : BitVec 32) : Fin 2 → Nat :=
  let v650 : Index := Scalar.indexCast v649
  let c0_430 : Index := 0#32
  ![v650.toNat, 0]

def k0_chk108 (v649 : BitVec 32) : Prop :=
  (∀ a, (k0_off108 v649) a + S1x1024.size a ≤ S2048x1024.size a)
theorem k0_off108_inb : ∀ (v649 : BitVec 32) (k0_hw108 : k0_chk108 v649), ∀ a, (k0_off108 v649) a + S1x1024.size a ≤ S2048x1024.size a := fun v649 k0_hw108 => k0_hw108

def k0_off109 (v655 : BitVec 32) : Fin 2 → Nat :=
  let v656 : Index := Scalar.indexCast v655
  let c0_434 : Index := 0#32
  ![v656.toNat, 0]

def k0_chk109 (v655 : BitVec 32) : Prop :=
  (∀ a, (k0_off109 v655) a + S1x1024.size a ≤ S2048x1024.size a)
theorem k0_off109_inb : ∀ (v655 : BitVec 32) (k0_hw109 : k0_chk109 v655), ∀ a, (k0_off109 v655) a + S1x1024.size a ≤ S2048x1024.size a := fun v655 k0_hw109 => k0_hw109

def k0_off110 (v661 : BitVec 32) : Fin 2 → Nat :=
  let v662 : Index := Scalar.indexCast v661
  let c0_438 : Index := 0#32
  ![v662.toNat, 0]

def k0_chk110 (v661 : BitVec 32) : Prop :=
  (∀ a, (k0_off110 v661) a + S1x1024.size a ≤ S2048x1024.size a)
theorem k0_off110_inb : ∀ (v661 : BitVec 32) (k0_hw110 : k0_chk110 v661), ∀ a, (k0_off110 v661) a + S1x1024.size a ≤ S2048x1024.size a := fun v661 k0_hw110 => k0_hw110

def k0_off111 (v667 : BitVec 32) : Fin 2 → Nat :=
  let v668 : Index := Scalar.indexCast v667
  let c0_442 : Index := 0#32
  ![v668.toNat, 0]

def k0_chk111 (v667 : BitVec 32) : Prop :=
  (∀ a, (k0_off111 v667) a + S1x1024.size a ≤ S2048x1024.size a)
theorem k0_off111_inb : ∀ (v667 : BitVec 32) (k0_hw111 : k0_chk111 v667), ∀ a, (k0_off111 v667) a + S1x1024.size a ≤ S2048x1024.size a := fun v667 k0_hw111 => k0_hw111

def k0_off112 (v673 : BitVec 32) : Fin 2 → Nat :=
  let v674 : Index := Scalar.indexCast v673
  let c0_446 : Index := 0#32
  ![v674.toNat, 0]

def k0_chk112 (v673 : BitVec 32) : Prop :=
  (∀ a, (k0_off112 v673) a + S1x1024.size a ≤ S2048x1024.size a)
theorem k0_off112_inb : ∀ (v673 : BitVec 32) (k0_hw112 : k0_chk112 v673), ∀ a, (k0_off112 v673) a + S1x1024.size a ≤ S2048x1024.size a := fun v673 k0_hw112 => k0_hw112

def k0_off113 (v679 : BitVec 32) : Fin 2 → Nat :=
  let v680 : Index := Scalar.indexCast v679
  let c0_450 : Index := 0#32
  ![v680.toNat, 0]

def k0_chk113 (v679 : BitVec 32) : Prop :=
  (∀ a, (k0_off113 v679) a + S1x1024.size a ≤ S2048x1024.size a)
theorem k0_off113_inb : ∀ (v679 : BitVec 32) (k0_hw113 : k0_chk113 v679), ∀ a, (k0_off113 v679) a + S1x1024.size a ≤ S2048x1024.size a := fun v679 k0_hw113 => k0_hw113

def k0_off114 (v685 : BitVec 32) : Fin 2 → Nat :=
  let v686 : Index := Scalar.indexCast v685
  let c0_454 : Index := 0#32
  ![v686.toNat, 0]

def k0_chk114 (v685 : BitVec 32) : Prop :=
  (∀ a, (k0_off114 v685) a + S1x1024.size a ≤ S2048x1024.size a)
theorem k0_off114_inb : ∀ (v685 : BitVec 32) (k0_hw114 : k0_chk114 v685), ∀ a, (k0_off114 v685) a + S1x1024.size a ≤ S2048x1024.size a := fun v685 k0_hw114 => k0_hw114

def k0_off115 (v691 : BitVec 32) : Fin 2 → Nat :=
  let v692 : Index := Scalar.indexCast v691
  let c0_458 : Index := 0#32
  ![v692.toNat, 0]

def k0_chk115 (v691 : BitVec 32) : Prop :=
  (∀ a, (k0_off115 v691) a + S1x1024.size a ≤ S2048x1024.size a)
theorem k0_off115_inb : ∀ (v691 : BitVec 32) (k0_hw115 : k0_chk115 v691), ∀ a, (k0_off115 v691) a + S1x1024.size a ≤ S2048x1024.size a := fun v691 k0_hw115 => k0_hw115

def k0_off116 (v697 : BitVec 32) : Fin 2 → Nat :=
  let v698 : Index := Scalar.indexCast v697
  let c0_462 : Index := 0#32
  ![v698.toNat, 0]

def k0_chk116 (v697 : BitVec 32) : Prop :=
  (∀ a, (k0_off116 v697) a + S1x1024.size a ≤ S2048x1024.size a)
theorem k0_off116_inb : ∀ (v697 : BitVec 32) (k0_hw116 : k0_chk116 v697), ∀ a, (k0_off116 v697) a + S1x1024.size a ≤ S2048x1024.size a := fun v697 k0_hw116 => k0_hw116

def k0_off117 (v703 : BitVec 32) : Fin 2 → Nat :=
  let v704 : Index := Scalar.indexCast v703
  let c0_466 : Index := 0#32
  ![v704.toNat, 0]

def k0_chk117 (v703 : BitVec 32) : Prop :=
  (∀ a, (k0_off117 v703) a + S1x1024.size a ≤ S2048x1024.size a)
theorem k0_off117_inb : ∀ (v703 : BitVec 32) (k0_hw117 : k0_chk117 v703), ∀ a, (k0_off117 v703) a + S1x1024.size a ≤ S2048x1024.size a := fun v703 k0_hw117 => k0_hw117

def k0_off118 (v709 : BitVec 32) : Fin 2 → Nat :=
  let v710 : Index := Scalar.indexCast v709
  let c0_470 : Index := 0#32
  ![v710.toNat, 0]

def k0_chk118 (v709 : BitVec 32) : Prop :=
  (∀ a, (k0_off118 v709) a + S1x1024.size a ≤ S2048x1024.size a)
theorem k0_off118_inb : ∀ (v709 : BitVec 32) (k0_hw118 : k0_chk118 v709), ∀ a, (k0_off118 v709) a + S1x1024.size a ≤ S2048x1024.size a := fun v709 k0_hw118 => k0_hw118

def k0_off119 (v715 : BitVec 32) : Fin 2 → Nat :=
  let v716 : Index := Scalar.indexCast v715
  let c0_474 : Index := 0#32
  ![v716.toNat, 0]

def k0_chk119 (v715 : BitVec 32) : Prop :=
  (∀ a, (k0_off119 v715) a + S1x1024.size a ≤ S2048x1024.size a)
theorem k0_off119_inb : ∀ (v715 : BitVec 32) (k0_hw119 : k0_chk119 v715), ∀ a, (k0_off119 v715) a + S1x1024.size a ≤ S2048x1024.size a := fun v715 k0_hw119 => k0_hw119

def k0_off120 (v721 : BitVec 32) : Fin 2 → Nat :=
  let v722 : Index := Scalar.indexCast v721
  let c0_478 : Index := 0#32
  ![v722.toNat, 0]

def k0_chk120 (v721 : BitVec 32) : Prop :=
  (∀ a, (k0_off120 v721) a + S1x1024.size a ≤ S2048x1024.size a)
theorem k0_off120_inb : ∀ (v721 : BitVec 32) (k0_hw120 : k0_chk120 v721), ∀ a, (k0_off120 v721) a + S1x1024.size a ≤ S2048x1024.size a := fun v721 k0_hw120 => k0_hw120

def k0_off121 (v727 : BitVec 32) : Fin 2 → Nat :=
  let v728 : Index := Scalar.indexCast v727
  let c0_482 : Index := 0#32
  ![v728.toNat, 0]

def k0_chk121 (v727 : BitVec 32) : Prop :=
  (∀ a, (k0_off121 v727) a + S1x1024.size a ≤ S2048x1024.size a)
theorem k0_off121_inb : ∀ (v727 : BitVec 32) (k0_hw121 : k0_chk121 v727), ∀ a, (k0_off121 v727) a + S1x1024.size a ≤ S2048x1024.size a := fun v727 k0_hw121 => k0_hw121

def k0_off122 (v733 : BitVec 32) : Fin 2 → Nat :=
  let v734 : Index := Scalar.indexCast v733
  let c0_486 : Index := 0#32
  ![v734.toNat, 0]

def k0_chk122 (v733 : BitVec 32) : Prop :=
  (∀ a, (k0_off122 v733) a + S1x1024.size a ≤ S2048x1024.size a)
theorem k0_off122_inb : ∀ (v733 : BitVec 32) (k0_hw122 : k0_chk122 v733), ∀ a, (k0_off122 v733) a + S1x1024.size a ≤ S2048x1024.size a := fun v733 k0_hw122 => k0_hw122

def k0_off123 (v739 : BitVec 32) : Fin 2 → Nat :=
  let v740 : Index := Scalar.indexCast v739
  let c0_490 : Index := 0#32
  ![v740.toNat, 0]

def k0_chk123 (v739 : BitVec 32) : Prop :=
  (∀ a, (k0_off123 v739) a + S1x1024.size a ≤ S2048x1024.size a)
theorem k0_off123_inb : ∀ (v739 : BitVec 32) (k0_hw123 : k0_chk123 v739), ∀ a, (k0_off123 v739) a + S1x1024.size a ≤ S2048x1024.size a := fun v739 k0_hw123 => k0_hw123

def k0_off124 (v745 : BitVec 32) : Fin 2 → Nat :=
  let v746 : Index := Scalar.indexCast v745
  let c0_494 : Index := 0#32
  ![v746.toNat, 0]

def k0_chk124 (v745 : BitVec 32) : Prop :=
  (∀ a, (k0_off124 v745) a + S1x1024.size a ≤ S2048x1024.size a)
theorem k0_off124_inb : ∀ (v745 : BitVec 32) (k0_hw124 : k0_chk124 v745), ∀ a, (k0_off124 v745) a + S1x1024.size a ≤ S2048x1024.size a := fun v745 k0_hw124 => k0_hw124

def k0_off125 (v751 : BitVec 32) : Fin 2 → Nat :=
  let v752 : Index := Scalar.indexCast v751
  let c0_498 : Index := 0#32
  ![v752.toNat, 0]

def k0_chk125 (v751 : BitVec 32) : Prop :=
  (∀ a, (k0_off125 v751) a + S1x1024.size a ≤ S2048x1024.size a)
theorem k0_off125_inb : ∀ (v751 : BitVec 32) (k0_hw125 : k0_chk125 v751), ∀ a, (k0_off125 v751) a + S1x1024.size a ≤ S2048x1024.size a := fun v751 k0_hw125 => k0_hw125

def k0_off126 (v757 : BitVec 32) : Fin 2 → Nat :=
  let v758 : Index := Scalar.indexCast v757
  let c0_502 : Index := 0#32
  ![v758.toNat, 0]

def k0_chk126 (v757 : BitVec 32) : Prop :=
  (∀ a, (k0_off126 v757) a + S1x1024.size a ≤ S2048x1024.size a)
theorem k0_off126_inb : ∀ (v757 : BitVec 32) (k0_hw126 : k0_chk126 v757), ∀ a, (k0_off126 v757) a + S1x1024.size a ≤ S2048x1024.size a := fun v757 k0_hw126 => k0_hw126

def k0_off127 (v763 : BitVec 32) : Fin 2 → Nat :=
  let v764 : Index := Scalar.indexCast v763
  let c0_506 : Index := 0#32
  ![v764.toNat, 0]

def k0_chk127 (v763 : BitVec 32) : Prop :=
  (∀ a, (k0_off127 v763) a + S1x1024.size a ≤ S2048x1024.size a)
theorem k0_off127_inb : ∀ (v763 : BitVec 32) (k0_hw127 : k0_chk127 v763), ∀ a, (k0_off127 v763) a + S1x1024.size a ≤ S2048x1024.size a := fun v763 k0_hw127 => k0_hw127

def k0_off128 (v769 : BitVec 32) : Fin 2 → Nat :=
  let v770 : Index := Scalar.indexCast v769
  let c0_510 : Index := 0#32
  ![v770.toNat, 0]

def k0_chk128 (v769 : BitVec 32) : Prop :=
  (∀ a, (k0_off128 v769) a + S1x1024.size a ≤ S2048x1024.size a)
theorem k0_off128_inb : ∀ (v769 : BitVec 32) (k0_hw128 : k0_chk128 v769), ∀ a, (k0_off128 v769) a + S1x1024.size a ≤ S2048x1024.size a := fun v769 k0_hw128 => k0_hw128

def k0_off129 (v775 : BitVec 32) : Fin 2 → Nat :=
  let v776 : Index := Scalar.indexCast v775
  let c0_514 : Index := 0#32
  ![v776.toNat, 0]

def k0_chk129 (v775 : BitVec 32) : Prop :=
  (∀ a, (k0_off129 v775) a + S1x1024.size a ≤ S2048x1024.size a)
theorem k0_off129_inb : ∀ (v775 : BitVec 32) (k0_hw129 : k0_chk129 v775), ∀ a, (k0_off129 v775) a + S1x1024.size a ≤ S2048x1024.size a := fun v775 k0_hw129 => k0_hw129

def k0_off130 (v781 : BitVec 32) : Fin 2 → Nat :=
  let v782 : Index := Scalar.indexCast v781
  let c0_518 : Index := 0#32
  ![v782.toNat, 0]

def k0_chk130 (v781 : BitVec 32) : Prop :=
  (∀ a, (k0_off130 v781) a + S1x1024.size a ≤ S2048x1024.size a)
theorem k0_off130_inb : ∀ (v781 : BitVec 32) (k0_hw130 : k0_chk130 v781), ∀ a, (k0_off130 v781) a + S1x1024.size a ≤ S2048x1024.size a := fun v781 k0_hw130 => k0_hw130

def k0_off131 (v787 : BitVec 32) : Fin 2 → Nat :=
  let v788 : Index := Scalar.indexCast v787
  let c0_522 : Index := 0#32
  ![v788.toNat, 0]

def k0_chk131 (v787 : BitVec 32) : Prop :=
  (∀ a, (k0_off131 v787) a + S1x1024.size a ≤ S2048x1024.size a)
theorem k0_off131_inb : ∀ (v787 : BitVec 32) (k0_hw131 : k0_chk131 v787), ∀ a, (k0_off131 v787) a + S1x1024.size a ≤ S2048x1024.size a := fun v787 k0_hw131 => k0_hw131

def k0_off132 (v793 : BitVec 32) : Fin 2 → Nat :=
  let v794 : Index := Scalar.indexCast v793
  let c0_526 : Index := 0#32
  ![v794.toNat, 0]

def k0_chk132 (v793 : BitVec 32) : Prop :=
  (∀ a, (k0_off132 v793) a + S1x1024.size a ≤ S2048x1024.size a)
theorem k0_off132_inb : ∀ (v793 : BitVec 32) (k0_hw132 : k0_chk132 v793), ∀ a, (k0_off132 v793) a + S1x1024.size a ≤ S2048x1024.size a := fun v793 k0_hw132 => k0_hw132

def k0_off133 (v799 : BitVec 32) : Fin 2 → Nat :=
  let v800 : Index := Scalar.indexCast v799
  let c0_530 : Index := 0#32
  ![v800.toNat, 0]

def k0_chk133 (v799 : BitVec 32) : Prop :=
  (∀ a, (k0_off133 v799) a + S1x1024.size a ≤ S2048x1024.size a)
theorem k0_off133_inb : ∀ (v799 : BitVec 32) (k0_hw133 : k0_chk133 v799), ∀ a, (k0_off133 v799) a + S1x1024.size a ≤ S2048x1024.size a := fun v799 k0_hw133 => k0_hw133

def k0_off134 (v805 : BitVec 32) : Fin 2 → Nat :=
  let v806 : Index := Scalar.indexCast v805
  let c0_534 : Index := 0#32
  ![v806.toNat, 0]

def k0_chk134 (v805 : BitVec 32) : Prop :=
  (∀ a, (k0_off134 v805) a + S1x1024.size a ≤ S2048x1024.size a)
theorem k0_off134_inb : ∀ (v805 : BitVec 32) (k0_hw134 : k0_chk134 v805), ∀ a, (k0_off134 v805) a + S1x1024.size a ≤ S2048x1024.size a := fun v805 k0_hw134 => k0_hw134

def k0_off135 (v811 : BitVec 32) : Fin 2 → Nat :=
  let v812 : Index := Scalar.indexCast v811
  let c0_538 : Index := 0#32
  ![v812.toNat, 0]

def k0_chk135 (v811 : BitVec 32) : Prop :=
  (∀ a, (k0_off135 v811) a + S1x1024.size a ≤ S2048x1024.size a)
theorem k0_off135_inb : ∀ (v811 : BitVec 32) (k0_hw135 : k0_chk135 v811), ∀ a, (k0_off135 v811) a + S1x1024.size a ≤ S2048x1024.size a := fun v811 k0_hw135 => k0_hw135

def k0_off136 (v817 : BitVec 32) : Fin 2 → Nat :=
  let v818 : Index := Scalar.indexCast v817
  let c0_542 : Index := 0#32
  ![v818.toNat, 0]

def k0_chk136 (v817 : BitVec 32) : Prop :=
  (∀ a, (k0_off136 v817) a + S1x1024.size a ≤ S2048x1024.size a)
theorem k0_off136_inb : ∀ (v817 : BitVec 32) (k0_hw136 : k0_chk136 v817), ∀ a, (k0_off136 v817) a + S1x1024.size a ≤ S2048x1024.size a := fun v817 k0_hw136 => k0_hw136

def k0_off137 (v823 : BitVec 32) : Fin 2 → Nat :=
  let v824 : Index := Scalar.indexCast v823
  let c0_546 : Index := 0#32
  ![v824.toNat, 0]

def k0_chk137 (v823 : BitVec 32) : Prop :=
  (∀ a, (k0_off137 v823) a + S1x1024.size a ≤ S2048x1024.size a)
theorem k0_off137_inb : ∀ (v823 : BitVec 32) (k0_hw137 : k0_chk137 v823), ∀ a, (k0_off137 v823) a + S1x1024.size a ≤ S2048x1024.size a := fun v823 k0_hw137 => k0_hw137

def k0_off138 (v829 : BitVec 32) : Fin 2 → Nat :=
  let v830 : Index := Scalar.indexCast v829
  let c0_550 : Index := 0#32
  ![v830.toNat, 0]

def k0_chk138 (v829 : BitVec 32) : Prop :=
  (∀ a, (k0_off138 v829) a + S1x1024.size a ≤ S2048x1024.size a)
theorem k0_off138_inb : ∀ (v829 : BitVec 32) (k0_hw138 : k0_chk138 v829), ∀ a, (k0_off138 v829) a + S1x1024.size a ≤ S2048x1024.size a := fun v829 k0_hw138 => k0_hw138

def k0_off139 (v835 : BitVec 32) : Fin 2 → Nat :=
  let v836 : Index := Scalar.indexCast v835
  let c0_554 : Index := 0#32
  ![v836.toNat, 0]

def k0_chk139 (v835 : BitVec 32) : Prop :=
  (∀ a, (k0_off139 v835) a + S1x1024.size a ≤ S2048x1024.size a)
theorem k0_off139_inb : ∀ (v835 : BitVec 32) (k0_hw139 : k0_chk139 v835), ∀ a, (k0_off139 v835) a + S1x1024.size a ≤ S2048x1024.size a := fun v835 k0_hw139 => k0_hw139

def k0_off140 (v841 : BitVec 32) : Fin 2 → Nat :=
  let v842 : Index := Scalar.indexCast v841
  let c0_558 : Index := 0#32
  ![v842.toNat, 0]

def k0_chk140 (v841 : BitVec 32) : Prop :=
  (∀ a, (k0_off140 v841) a + S1x1024.size a ≤ S2048x1024.size a)
theorem k0_off140_inb : ∀ (v841 : BitVec 32) (k0_hw140 : k0_chk140 v841), ∀ a, (k0_off140 v841) a + S1x1024.size a ≤ S2048x1024.size a := fun v841 k0_hw140 => k0_hw140

def k0_off141 (v847 : BitVec 32) : Fin 2 → Nat :=
  let v848 : Index := Scalar.indexCast v847
  let c0_562 : Index := 0#32
  ![v848.toNat, 0]

def k0_chk141 (v847 : BitVec 32) : Prop :=
  (∀ a, (k0_off141 v847) a + S1x1024.size a ≤ S2048x1024.size a)
theorem k0_off141_inb : ∀ (v847 : BitVec 32) (k0_hw141 : k0_chk141 v847), ∀ a, (k0_off141 v847) a + S1x1024.size a ≤ S2048x1024.size a := fun v847 k0_hw141 => k0_hw141

def k0_off142 (v853 : BitVec 32) : Fin 2 → Nat :=
  let v854 : Index := Scalar.indexCast v853
  let c0_566 : Index := 0#32
  ![v854.toNat, 0]

def k0_chk142 (v853 : BitVec 32) : Prop :=
  (∀ a, (k0_off142 v853) a + S1x1024.size a ≤ S2048x1024.size a)
theorem k0_off142_inb : ∀ (v853 : BitVec 32) (k0_hw142 : k0_chk142 v853), ∀ a, (k0_off142 v853) a + S1x1024.size a ≤ S2048x1024.size a := fun v853 k0_hw142 => k0_hw142

def k0_off143 (v859 : BitVec 32) : Fin 2 → Nat :=
  let v860 : Index := Scalar.indexCast v859
  let c0_570 : Index := 0#32
  ![v860.toNat, 0]

def k0_chk143 (v859 : BitVec 32) : Prop :=
  (∀ a, (k0_off143 v859) a + S1x1024.size a ≤ S2048x1024.size a)
theorem k0_off143_inb : ∀ (v859 : BitVec 32) (k0_hw143 : k0_chk143 v859), ∀ a, (k0_off143 v859) a + S1x1024.size a ≤ S2048x1024.size a := fun v859 k0_hw143 => k0_hw143

def k0_off144 (v865 : BitVec 32) : Fin 2 → Nat :=
  let v866 : Index := Scalar.indexCast v865
  let c0_574 : Index := 0#32
  ![v866.toNat, 0]

def k0_chk144 (v865 : BitVec 32) : Prop :=
  (∀ a, (k0_off144 v865) a + S1x1024.size a ≤ S2048x1024.size a)
theorem k0_off144_inb : ∀ (v865 : BitVec 32) (k0_hw144 : k0_chk144 v865), ∀ a, (k0_off144 v865) a + S1x1024.size a ≤ S2048x1024.size a := fun v865 k0_hw144 => k0_hw144

def k0_off145 (v871 : BitVec 32) : Fin 2 → Nat :=
  let v872 : Index := Scalar.indexCast v871
  let c0_578 : Index := 0#32
  ![v872.toNat, 0]

def k0_chk145 (v871 : BitVec 32) : Prop :=
  (∀ a, (k0_off145 v871) a + S1x1024.size a ≤ S2048x1024.size a)
theorem k0_off145_inb : ∀ (v871 : BitVec 32) (k0_hw145 : k0_chk145 v871), ∀ a, (k0_off145 v871) a + S1x1024.size a ≤ S2048x1024.size a := fun v871 k0_hw145 => k0_hw145

def k0_off146 (v877 : BitVec 32) : Fin 2 → Nat :=
  let v878 : Index := Scalar.indexCast v877
  let c0_582 : Index := 0#32
  ![v878.toNat, 0]

def k0_chk146 (v877 : BitVec 32) : Prop :=
  (∀ a, (k0_off146 v877) a + S1x1024.size a ≤ S2048x1024.size a)
theorem k0_off146_inb : ∀ (v877 : BitVec 32) (k0_hw146 : k0_chk146 v877), ∀ a, (k0_off146 v877) a + S1x1024.size a ≤ S2048x1024.size a := fun v877 k0_hw146 => k0_hw146

def k0_off147 (v883 : BitVec 32) : Fin 2 → Nat :=
  let v884 : Index := Scalar.indexCast v883
  let c0_586 : Index := 0#32
  ![v884.toNat, 0]

def k0_chk147 (v883 : BitVec 32) : Prop :=
  (∀ a, (k0_off147 v883) a + S1x1024.size a ≤ S2048x1024.size a)
theorem k0_off147_inb : ∀ (v883 : BitVec 32) (k0_hw147 : k0_chk147 v883), ∀ a, (k0_off147 v883) a + S1x1024.size a ≤ S2048x1024.size a := fun v883 k0_hw147 => k0_hw147

def k0_off148 (v889 : BitVec 32) : Fin 2 → Nat :=
  let v890 : Index := Scalar.indexCast v889
  let c0_590 : Index := 0#32
  ![v890.toNat, 0]

def k0_chk148 (v889 : BitVec 32) : Prop :=
  (∀ a, (k0_off148 v889) a + S1x1024.size a ≤ S2048x1024.size a)
theorem k0_off148_inb : ∀ (v889 : BitVec 32) (k0_hw148 : k0_chk148 v889), ∀ a, (k0_off148 v889) a + S1x1024.size a ≤ S2048x1024.size a := fun v889 k0_hw148 => k0_hw148

def k0_off149 (v895 : BitVec 32) : Fin 2 → Nat :=
  let v896 : Index := Scalar.indexCast v895
  let c0_594 : Index := 0#32
  ![v896.toNat, 0]

def k0_chk149 (v895 : BitVec 32) : Prop :=
  (∀ a, (k0_off149 v895) a + S1x1024.size a ≤ S2048x1024.size a)
theorem k0_off149_inb : ∀ (v895 : BitVec 32) (k0_hw149 : k0_chk149 v895), ∀ a, (k0_off149 v895) a + S1x1024.size a ≤ S2048x1024.size a := fun v895 k0_hw149 => k0_hw149

def k0_off150 (v901 : BitVec 32) : Fin 2 → Nat :=
  let v902 : Index := Scalar.indexCast v901
  let c0_598 : Index := 0#32
  ![v902.toNat, 0]

def k0_chk150 (v901 : BitVec 32) : Prop :=
  (∀ a, (k0_off150 v901) a + S1x1024.size a ≤ S2048x1024.size a)
theorem k0_off150_inb : ∀ (v901 : BitVec 32) (k0_hw150 : k0_chk150 v901), ∀ a, (k0_off150 v901) a + S1x1024.size a ≤ S2048x1024.size a := fun v901 k0_hw150 => k0_hw150

def k0_off151 (v907 : BitVec 32) : Fin 2 → Nat :=
  let v908 : Index := Scalar.indexCast v907
  let c0_602 : Index := 0#32
  ![v908.toNat, 0]

def k0_chk151 (v907 : BitVec 32) : Prop :=
  (∀ a, (k0_off151 v907) a + S1x1024.size a ≤ S2048x1024.size a)
theorem k0_off151_inb : ∀ (v907 : BitVec 32) (k0_hw151 : k0_chk151 v907), ∀ a, (k0_off151 v907) a + S1x1024.size a ≤ S2048x1024.size a := fun v907 k0_hw151 => k0_hw151

def k0_off152 (v913 : BitVec 32) : Fin 2 → Nat :=
  let v914 : Index := Scalar.indexCast v913
  let c0_606 : Index := 0#32
  ![v914.toNat, 0]

def k0_chk152 (v913 : BitVec 32) : Prop :=
  (∀ a, (k0_off152 v913) a + S1x1024.size a ≤ S2048x1024.size a)
theorem k0_off152_inb : ∀ (v913 : BitVec 32) (k0_hw152 : k0_chk152 v913), ∀ a, (k0_off152 v913) a + S1x1024.size a ≤ S2048x1024.size a := fun v913 k0_hw152 => k0_hw152

def k0_off153 (v919 : BitVec 32) : Fin 2 → Nat :=
  let v920 : Index := Scalar.indexCast v919
  let c0_610 : Index := 0#32
  ![v920.toNat, 0]

def k0_chk153 (v919 : BitVec 32) : Prop :=
  (∀ a, (k0_off153 v919) a + S1x1024.size a ≤ S2048x1024.size a)
theorem k0_off153_inb : ∀ (v919 : BitVec 32) (k0_hw153 : k0_chk153 v919), ∀ a, (k0_off153 v919) a + S1x1024.size a ≤ S2048x1024.size a := fun v919 k0_hw153 => k0_hw153

def k0_off154 (v925 : BitVec 32) : Fin 2 → Nat :=
  let v926 : Index := Scalar.indexCast v925
  let c0_614 : Index := 0#32
  ![v926.toNat, 0]

def k0_chk154 (v925 : BitVec 32) : Prop :=
  (∀ a, (k0_off154 v925) a + S1x1024.size a ≤ S2048x1024.size a)
theorem k0_off154_inb : ∀ (v925 : BitVec 32) (k0_hw154 : k0_chk154 v925), ∀ a, (k0_off154 v925) a + S1x1024.size a ≤ S2048x1024.size a := fun v925 k0_hw154 => k0_hw154

def k0_off155 (v931 : BitVec 32) : Fin 2 → Nat :=
  let v932 : Index := Scalar.indexCast v931
  let c0_618 : Index := 0#32
  ![v932.toNat, 0]

def k0_chk155 (v931 : BitVec 32) : Prop :=
  (∀ a, (k0_off155 v931) a + S1x1024.size a ≤ S2048x1024.size a)
theorem k0_off155_inb : ∀ (v931 : BitVec 32) (k0_hw155 : k0_chk155 v931), ∀ a, (k0_off155 v931) a + S1x1024.size a ≤ S2048x1024.size a := fun v931 k0_hw155 => k0_hw155

def k0_off156 (v937 : BitVec 32) : Fin 2 → Nat :=
  let v938 : Index := Scalar.indexCast v937
  let c0_622 : Index := 0#32
  ![v938.toNat, 0]

def k0_chk156 (v937 : BitVec 32) : Prop :=
  (∀ a, (k0_off156 v937) a + S1x1024.size a ≤ S2048x1024.size a)
theorem k0_off156_inb : ∀ (v937 : BitVec 32) (k0_hw156 : k0_chk156 v937), ∀ a, (k0_off156 v937) a + S1x1024.size a ≤ S2048x1024.size a := fun v937 k0_hw156 => k0_hw156

def k0_off157 (v943 : BitVec 32) : Fin 2 → Nat :=
  let v944 : Index := Scalar.indexCast v943
  let c0_626 : Index := 0#32
  ![v944.toNat, 0]

def k0_chk157 (v943 : BitVec 32) : Prop :=
  (∀ a, (k0_off157 v943) a + S1x1024.size a ≤ S2048x1024.size a)
theorem k0_off157_inb : ∀ (v943 : BitVec 32) (k0_hw157 : k0_chk157 v943), ∀ a, (k0_off157 v943) a + S1x1024.size a ≤ S2048x1024.size a := fun v943 k0_hw157 => k0_hw157

def k0_off158 (v949 : BitVec 32) : Fin 2 → Nat :=
  let v950 : Index := Scalar.indexCast v949
  let c0_630 : Index := 0#32
  ![v950.toNat, 0]

def k0_chk158 (v949 : BitVec 32) : Prop :=
  (∀ a, (k0_off158 v949) a + S1x1024.size a ≤ S2048x1024.size a)
theorem k0_off158_inb : ∀ (v949 : BitVec 32) (k0_hw158 : k0_chk158 v949), ∀ a, (k0_off158 v949) a + S1x1024.size a ≤ S2048x1024.size a := fun v949 k0_hw158 => k0_hw158

def k0_off159 (v955 : BitVec 32) : Fin 2 → Nat :=
  let v956 : Index := Scalar.indexCast v955
  let c0_634 : Index := 0#32
  ![v956.toNat, 0]

def k0_chk159 (v955 : BitVec 32) : Prop :=
  (∀ a, (k0_off159 v955) a + S1x1024.size a ≤ S2048x1024.size a)
theorem k0_off159_inb : ∀ (v955 : BitVec 32) (k0_hw159 : k0_chk159 v955), ∀ a, (k0_off159 v955) a + S1x1024.size a ≤ S2048x1024.size a := fun v955 k0_hw159 => k0_hw159

def k0_off160 (v961 : BitVec 32) : Fin 2 → Nat :=
  let v962 : Index := Scalar.indexCast v961
  let c0_638 : Index := 0#32
  ![v962.toNat, 0]

def k0_chk160 (v961 : BitVec 32) : Prop :=
  (∀ a, (k0_off160 v961) a + S1x1024.size a ≤ S2048x1024.size a)
theorem k0_off160_inb : ∀ (v961 : BitVec 32) (k0_hw160 : k0_chk160 v961), ∀ a, (k0_off160 v961) a + S1x1024.size a ≤ S2048x1024.size a := fun v961 k0_hw160 => k0_hw160

def k0_off161 (v967 : BitVec 32) : Fin 2 → Nat :=
  let v968 : Index := Scalar.indexCast v967
  let c0_642 : Index := 0#32
  ![v968.toNat, 0]

def k0_chk161 (v967 : BitVec 32) : Prop :=
  (∀ a, (k0_off161 v967) a + S1x1024.size a ≤ S2048x1024.size a)
theorem k0_off161_inb : ∀ (v967 : BitVec 32) (k0_hw161 : k0_chk161 v967), ∀ a, (k0_off161 v967) a + S1x1024.size a ≤ S2048x1024.size a := fun v967 k0_hw161 => k0_hw161

def k0_off162 (v973 : BitVec 32) : Fin 2 → Nat :=
  let v974 : Index := Scalar.indexCast v973
  let c0_646 : Index := 0#32
  ![v974.toNat, 0]

def k0_chk162 (v973 : BitVec 32) : Prop :=
  (∀ a, (k0_off162 v973) a + S1x1024.size a ≤ S2048x1024.size a)
theorem k0_off162_inb : ∀ (v973 : BitVec 32) (k0_hw162 : k0_chk162 v973), ∀ a, (k0_off162 v973) a + S1x1024.size a ≤ S2048x1024.size a := fun v973 k0_hw162 => k0_hw162

def k0_off163 (v979 : BitVec 32) : Fin 2 → Nat :=
  let v980 : Index := Scalar.indexCast v979
  let c0_650 : Index := 0#32
  ![v980.toNat, 0]

def k0_chk163 (v979 : BitVec 32) : Prop :=
  (∀ a, (k0_off163 v979) a + S1x1024.size a ≤ S2048x1024.size a)
theorem k0_off163_inb : ∀ (v979 : BitVec 32) (k0_hw163 : k0_chk163 v979), ∀ a, (k0_off163 v979) a + S1x1024.size a ≤ S2048x1024.size a := fun v979 k0_hw163 => k0_hw163

def k0_off164 (v985 : BitVec 32) : Fin 2 → Nat :=
  let v986 : Index := Scalar.indexCast v985
  let c0_654 : Index := 0#32
  ![v986.toNat, 0]

def k0_chk164 (v985 : BitVec 32) : Prop :=
  (∀ a, (k0_off164 v985) a + S1x1024.size a ≤ S2048x1024.size a)
theorem k0_off164_inb : ∀ (v985 : BitVec 32) (k0_hw164 : k0_chk164 v985), ∀ a, (k0_off164 v985) a + S1x1024.size a ≤ S2048x1024.size a := fun v985 k0_hw164 => k0_hw164

def k0_off165 (v991 : BitVec 32) : Fin 2 → Nat :=
  let v992 : Index := Scalar.indexCast v991
  let c0_658 : Index := 0#32
  ![v992.toNat, 0]

def k0_chk165 (v991 : BitVec 32) : Prop :=
  (∀ a, (k0_off165 v991) a + S1x1024.size a ≤ S2048x1024.size a)
theorem k0_off165_inb : ∀ (v991 : BitVec 32) (k0_hw165 : k0_chk165 v991), ∀ a, (k0_off165 v991) a + S1x1024.size a ≤ S2048x1024.size a := fun v991 k0_hw165 => k0_hw165

def k0_off166 (v997 : BitVec 32) : Fin 2 → Nat :=
  let v998 : Index := Scalar.indexCast v997
  let c0_662 : Index := 0#32
  ![v998.toNat, 0]

def k0_chk166 (v997 : BitVec 32) : Prop :=
  (∀ a, (k0_off166 v997) a + S1x1024.size a ≤ S2048x1024.size a)
theorem k0_off166_inb : ∀ (v997 : BitVec 32) (k0_hw166 : k0_chk166 v997), ∀ a, (k0_off166 v997) a + S1x1024.size a ≤ S2048x1024.size a := fun v997 k0_hw166 => k0_hw166

def k0_off167 (v1003 : BitVec 32) : Fin 2 → Nat :=
  let v1004 : Index := Scalar.indexCast v1003
  let c0_666 : Index := 0#32
  ![v1004.toNat, 0]

def k0_chk167 (v1003 : BitVec 32) : Prop :=
  (∀ a, (k0_off167 v1003) a + S1x1024.size a ≤ S2048x1024.size a)
theorem k0_off167_inb : ∀ (v1003 : BitVec 32) (k0_hw167 : k0_chk167 v1003), ∀ a, (k0_off167 v1003) a + S1x1024.size a ≤ S2048x1024.size a := fun v1003 k0_hw167 => k0_hw167

def k0_off168 (v1009 : BitVec 32) : Fin 2 → Nat :=
  let v1010 : Index := Scalar.indexCast v1009
  let c0_670 : Index := 0#32
  ![v1010.toNat, 0]

def k0_chk168 (v1009 : BitVec 32) : Prop :=
  (∀ a, (k0_off168 v1009) a + S1x1024.size a ≤ S2048x1024.size a)
theorem k0_off168_inb : ∀ (v1009 : BitVec 32) (k0_hw168 : k0_chk168 v1009), ∀ a, (k0_off168 v1009) a + S1x1024.size a ≤ S2048x1024.size a := fun v1009 k0_hw168 => k0_hw168

def k0_off169 (v1015 : BitVec 32) : Fin 2 → Nat :=
  let v1016 : Index := Scalar.indexCast v1015
  let c0_674 : Index := 0#32
  ![v1016.toNat, 0]

def k0_chk169 (v1015 : BitVec 32) : Prop :=
  (∀ a, (k0_off169 v1015) a + S1x1024.size a ≤ S2048x1024.size a)
theorem k0_off169_inb : ∀ (v1015 : BitVec 32) (k0_hw169 : k0_chk169 v1015), ∀ a, (k0_off169 v1015) a + S1x1024.size a ≤ S2048x1024.size a := fun v1015 k0_hw169 => k0_hw169

def k0_off170 (v1021 : BitVec 32) : Fin 2 → Nat :=
  let v1022 : Index := Scalar.indexCast v1021
  let c0_678 : Index := 0#32
  ![v1022.toNat, 0]

def k0_chk170 (v1021 : BitVec 32) : Prop :=
  (∀ a, (k0_off170 v1021) a + S1x1024.size a ≤ S2048x1024.size a)
theorem k0_off170_inb : ∀ (v1021 : BitVec 32) (k0_hw170 : k0_chk170 v1021), ∀ a, (k0_off170 v1021) a + S1x1024.size a ≤ S2048x1024.size a := fun v1021 k0_hw170 => k0_hw170

def k0_off171 (v1027 : BitVec 32) : Fin 2 → Nat :=
  let v1028 : Index := Scalar.indexCast v1027
  let c0_682 : Index := 0#32
  ![v1028.toNat, 0]

def k0_chk171 (v1027 : BitVec 32) : Prop :=
  (∀ a, (k0_off171 v1027) a + S1x1024.size a ≤ S2048x1024.size a)
theorem k0_off171_inb : ∀ (v1027 : BitVec 32) (k0_hw171 : k0_chk171 v1027), ∀ a, (k0_off171 v1027) a + S1x1024.size a ≤ S2048x1024.size a := fun v1027 k0_hw171 => k0_hw171

def k0_off172 (v1033 : BitVec 32) : Fin 2 → Nat :=
  let v1034 : Index := Scalar.indexCast v1033
  let c0_686 : Index := 0#32
  ![v1034.toNat, 0]

def k0_chk172 (v1033 : BitVec 32) : Prop :=
  (∀ a, (k0_off172 v1033) a + S1x1024.size a ≤ S2048x1024.size a)
theorem k0_off172_inb : ∀ (v1033 : BitVec 32) (k0_hw172 : k0_chk172 v1033), ∀ a, (k0_off172 v1033) a + S1x1024.size a ≤ S2048x1024.size a := fun v1033 k0_hw172 => k0_hw172

def k0_off173 (v1039 : BitVec 32) : Fin 2 → Nat :=
  let v1040 : Index := Scalar.indexCast v1039
  let c0_690 : Index := 0#32
  ![v1040.toNat, 0]

def k0_chk173 (v1039 : BitVec 32) : Prop :=
  (∀ a, (k0_off173 v1039) a + S1x1024.size a ≤ S2048x1024.size a)
theorem k0_off173_inb : ∀ (v1039 : BitVec 32) (k0_hw173 : k0_chk173 v1039), ∀ a, (k0_off173 v1039) a + S1x1024.size a ≤ S2048x1024.size a := fun v1039 k0_hw173 => k0_hw173

def k0_off174 (v1045 : BitVec 32) : Fin 2 → Nat :=
  let v1046 : Index := Scalar.indexCast v1045
  let c0_694 : Index := 0#32
  ![v1046.toNat, 0]

def k0_chk174 (v1045 : BitVec 32) : Prop :=
  (∀ a, (k0_off174 v1045) a + S1x1024.size a ≤ S2048x1024.size a)
theorem k0_off174_inb : ∀ (v1045 : BitVec 32) (k0_hw174 : k0_chk174 v1045), ∀ a, (k0_off174 v1045) a + S1x1024.size a ≤ S2048x1024.size a := fun v1045 k0_hw174 => k0_hw174

def k0_off175 (v1051 : BitVec 32) : Fin 2 → Nat :=
  let v1052 : Index := Scalar.indexCast v1051
  let c0_698 : Index := 0#32
  ![v1052.toNat, 0]

def k0_chk175 (v1051 : BitVec 32) : Prop :=
  (∀ a, (k0_off175 v1051) a + S1x1024.size a ≤ S2048x1024.size a)
theorem k0_off175_inb : ∀ (v1051 : BitVec 32) (k0_hw175 : k0_chk175 v1051), ∀ a, (k0_off175 v1051) a + S1x1024.size a ≤ S2048x1024.size a := fun v1051 k0_hw175 => k0_hw175

def k0_off176 (v1057 : BitVec 32) : Fin 2 → Nat :=
  let v1058 : Index := Scalar.indexCast v1057
  let c0_702 : Index := 0#32
  ![v1058.toNat, 0]

def k0_chk176 (v1057 : BitVec 32) : Prop :=
  (∀ a, (k0_off176 v1057) a + S1x1024.size a ≤ S2048x1024.size a)
theorem k0_off176_inb : ∀ (v1057 : BitVec 32) (k0_hw176 : k0_chk176 v1057), ∀ a, (k0_off176 v1057) a + S1x1024.size a ≤ S2048x1024.size a := fun v1057 k0_hw176 => k0_hw176

def k0_off177 (v1063 : BitVec 32) : Fin 2 → Nat :=
  let v1064 : Index := Scalar.indexCast v1063
  let c0_706 : Index := 0#32
  ![v1064.toNat, 0]

def k0_chk177 (v1063 : BitVec 32) : Prop :=
  (∀ a, (k0_off177 v1063) a + S1x1024.size a ≤ S2048x1024.size a)
theorem k0_off177_inb : ∀ (v1063 : BitVec 32) (k0_hw177 : k0_chk177 v1063), ∀ a, (k0_off177 v1063) a + S1x1024.size a ≤ S2048x1024.size a := fun v1063 k0_hw177 => k0_hw177

def k0_off178 (v1069 : BitVec 32) : Fin 2 → Nat :=
  let v1070 : Index := Scalar.indexCast v1069
  let c0_710 : Index := 0#32
  ![v1070.toNat, 0]

def k0_chk178 (v1069 : BitVec 32) : Prop :=
  (∀ a, (k0_off178 v1069) a + S1x1024.size a ≤ S2048x1024.size a)
theorem k0_off178_inb : ∀ (v1069 : BitVec 32) (k0_hw178 : k0_chk178 v1069), ∀ a, (k0_off178 v1069) a + S1x1024.size a ≤ S2048x1024.size a := fun v1069 k0_hw178 => k0_hw178

def k0_off179 (v1075 : BitVec 32) : Fin 2 → Nat :=
  let v1076 : Index := Scalar.indexCast v1075
  let c0_714 : Index := 0#32
  ![v1076.toNat, 0]

def k0_chk179 (v1075 : BitVec 32) : Prop :=
  (∀ a, (k0_off179 v1075) a + S1x1024.size a ≤ S2048x1024.size a)
theorem k0_off179_inb : ∀ (v1075 : BitVec 32) (k0_hw179 : k0_chk179 v1075), ∀ a, (k0_off179 v1075) a + S1x1024.size a ≤ S2048x1024.size a := fun v1075 k0_hw179 => k0_hw179

def k0_off180 (v1081 : BitVec 32) : Fin 2 → Nat :=
  let v1082 : Index := Scalar.indexCast v1081
  let c0_718 : Index := 0#32
  ![v1082.toNat, 0]

def k0_chk180 (v1081 : BitVec 32) : Prop :=
  (∀ a, (k0_off180 v1081) a + S1x1024.size a ≤ S2048x1024.size a)
theorem k0_off180_inb : ∀ (v1081 : BitVec 32) (k0_hw180 : k0_chk180 v1081), ∀ a, (k0_off180 v1081) a + S1x1024.size a ≤ S2048x1024.size a := fun v1081 k0_hw180 => k0_hw180

def k0_off181 (v1087 : BitVec 32) : Fin 2 → Nat :=
  let v1088 : Index := Scalar.indexCast v1087
  let c0_722 : Index := 0#32
  ![v1088.toNat, 0]

def k0_chk181 (v1087 : BitVec 32) : Prop :=
  (∀ a, (k0_off181 v1087) a + S1x1024.size a ≤ S2048x1024.size a)
theorem k0_off181_inb : ∀ (v1087 : BitVec 32) (k0_hw181 : k0_chk181 v1087), ∀ a, (k0_off181 v1087) a + S1x1024.size a ≤ S2048x1024.size a := fun v1087 k0_hw181 => k0_hw181

def k0_off182 (v1093 : BitVec 32) : Fin 2 → Nat :=
  let v1094 : Index := Scalar.indexCast v1093
  let c0_726 : Index := 0#32
  ![v1094.toNat, 0]

def k0_chk182 (v1093 : BitVec 32) : Prop :=
  (∀ a, (k0_off182 v1093) a + S1x1024.size a ≤ S2048x1024.size a)
theorem k0_off182_inb : ∀ (v1093 : BitVec 32) (k0_hw182 : k0_chk182 v1093), ∀ a, (k0_off182 v1093) a + S1x1024.size a ≤ S2048x1024.size a := fun v1093 k0_hw182 => k0_hw182

def k0_off183 (v1099 : BitVec 32) : Fin 2 → Nat :=
  let v1100 : Index := Scalar.indexCast v1099
  let c0_730 : Index := 0#32
  ![v1100.toNat, 0]

def k0_chk183 (v1099 : BitVec 32) : Prop :=
  (∀ a, (k0_off183 v1099) a + S1x1024.size a ≤ S2048x1024.size a)
theorem k0_off183_inb : ∀ (v1099 : BitVec 32) (k0_hw183 : k0_chk183 v1099), ∀ a, (k0_off183 v1099) a + S1x1024.size a ≤ S2048x1024.size a := fun v1099 k0_hw183 => k0_hw183

def k0_off184 (v1105 : BitVec 32) : Fin 2 → Nat :=
  let v1106 : Index := Scalar.indexCast v1105
  let c0_734 : Index := 0#32
  ![v1106.toNat, 0]

def k0_chk184 (v1105 : BitVec 32) : Prop :=
  (∀ a, (k0_off184 v1105) a + S1x1024.size a ≤ S2048x1024.size a)
theorem k0_off184_inb : ∀ (v1105 : BitVec 32) (k0_hw184 : k0_chk184 v1105), ∀ a, (k0_off184 v1105) a + S1x1024.size a ≤ S2048x1024.size a := fun v1105 k0_hw184 => k0_hw184

def k0_off185 (v1111 : BitVec 32) : Fin 2 → Nat :=
  let v1112 : Index := Scalar.indexCast v1111
  let c0_738 : Index := 0#32
  ![v1112.toNat, 0]

def k0_chk185 (v1111 : BitVec 32) : Prop :=
  (∀ a, (k0_off185 v1111) a + S1x1024.size a ≤ S2048x1024.size a)
theorem k0_off185_inb : ∀ (v1111 : BitVec 32) (k0_hw185 : k0_chk185 v1111), ∀ a, (k0_off185 v1111) a + S1x1024.size a ≤ S2048x1024.size a := fun v1111 k0_hw185 => k0_hw185

def k0_off186 (v1117 : BitVec 32) : Fin 2 → Nat :=
  let v1118 : Index := Scalar.indexCast v1117
  let c0_742 : Index := 0#32
  ![v1118.toNat, 0]

def k0_chk186 (v1117 : BitVec 32) : Prop :=
  (∀ a, (k0_off186 v1117) a + S1x1024.size a ≤ S2048x1024.size a)
theorem k0_off186_inb : ∀ (v1117 : BitVec 32) (k0_hw186 : k0_chk186 v1117), ∀ a, (k0_off186 v1117) a + S1x1024.size a ≤ S2048x1024.size a := fun v1117 k0_hw186 => k0_hw186

def k0_off187 (v1123 : BitVec 32) : Fin 2 → Nat :=
  let v1124 : Index := Scalar.indexCast v1123
  let c0_746 : Index := 0#32
  ![v1124.toNat, 0]

def k0_chk187 (v1123 : BitVec 32) : Prop :=
  (∀ a, (k0_off187 v1123) a + S1x1024.size a ≤ S2048x1024.size a)
theorem k0_off187_inb : ∀ (v1123 : BitVec 32) (k0_hw187 : k0_chk187 v1123), ∀ a, (k0_off187 v1123) a + S1x1024.size a ≤ S2048x1024.size a := fun v1123 k0_hw187 => k0_hw187

def k0_off188 (v1129 : BitVec 32) : Fin 2 → Nat :=
  let v1130 : Index := Scalar.indexCast v1129
  let c0_750 : Index := 0#32
  ![v1130.toNat, 0]

def k0_chk188 (v1129 : BitVec 32) : Prop :=
  (∀ a, (k0_off188 v1129) a + S1x1024.size a ≤ S2048x1024.size a)
theorem k0_off188_inb : ∀ (v1129 : BitVec 32) (k0_hw188 : k0_chk188 v1129), ∀ a, (k0_off188 v1129) a + S1x1024.size a ≤ S2048x1024.size a := fun v1129 k0_hw188 => k0_hw188

def k0_off189 (v1135 : BitVec 32) : Fin 2 → Nat :=
  let v1136 : Index := Scalar.indexCast v1135
  let c0_754 : Index := 0#32
  ![v1136.toNat, 0]

def k0_chk189 (v1135 : BitVec 32) : Prop :=
  (∀ a, (k0_off189 v1135) a + S1x1024.size a ≤ S2048x1024.size a)
theorem k0_off189_inb : ∀ (v1135 : BitVec 32) (k0_hw189 : k0_chk189 v1135), ∀ a, (k0_off189 v1135) a + S1x1024.size a ≤ S2048x1024.size a := fun v1135 k0_hw189 => k0_hw189

def k0_off190 (v1141 : BitVec 32) : Fin 2 → Nat :=
  let v1142 : Index := Scalar.indexCast v1141
  let c0_758 : Index := 0#32
  ![v1142.toNat, 0]

def k0_chk190 (v1141 : BitVec 32) : Prop :=
  (∀ a, (k0_off190 v1141) a + S1x1024.size a ≤ S2048x1024.size a)
theorem k0_off190_inb : ∀ (v1141 : BitVec 32) (k0_hw190 : k0_chk190 v1141), ∀ a, (k0_off190 v1141) a + S1x1024.size a ≤ S2048x1024.size a := fun v1141 k0_hw190 => k0_hw190

def k0_off191 (v1147 : BitVec 32) : Fin 2 → Nat :=
  let v1148 : Index := Scalar.indexCast v1147
  let c0_762 : Index := 0#32
  ![v1148.toNat, 0]

def k0_chk191 (v1147 : BitVec 32) : Prop :=
  (∀ a, (k0_off191 v1147) a + S1x1024.size a ≤ S2048x1024.size a)
theorem k0_off191_inb : ∀ (v1147 : BitVec 32) (k0_hw191 : k0_chk191 v1147), ∀ a, (k0_off191 v1147) a + S1x1024.size a ≤ S2048x1024.size a := fun v1147 k0_hw191 => k0_hw191

def k0_off192 (v1153 : BitVec 32) : Fin 2 → Nat :=
  let v1154 : Index := Scalar.indexCast v1153
  let c0_766 : Index := 0#32
  ![v1154.toNat, 0]

def k0_chk192 (v1153 : BitVec 32) : Prop :=
  (∀ a, (k0_off192 v1153) a + S1x1024.size a ≤ S2048x1024.size a)
theorem k0_off192_inb : ∀ (v1153 : BitVec 32) (k0_hw192 : k0_chk192 v1153), ∀ a, (k0_off192 v1153) a + S1x1024.size a ≤ S2048x1024.size a := fun v1153 k0_hw192 => k0_hw192

def k0_off193 (v1159 : BitVec 32) : Fin 2 → Nat :=
  let v1160 : Index := Scalar.indexCast v1159
  let c0_770 : Index := 0#32
  ![v1160.toNat, 0]

def k0_chk193 (v1159 : BitVec 32) : Prop :=
  (∀ a, (k0_off193 v1159) a + S1x1024.size a ≤ S2048x1024.size a)
theorem k0_off193_inb : ∀ (v1159 : BitVec 32) (k0_hw193 : k0_chk193 v1159), ∀ a, (k0_off193 v1159) a + S1x1024.size a ≤ S2048x1024.size a := fun v1159 k0_hw193 => k0_hw193

def k0_off194 (v1165 : BitVec 32) : Fin 2 → Nat :=
  let v1166 : Index := Scalar.indexCast v1165
  let c0_774 : Index := 0#32
  ![v1166.toNat, 0]

def k0_chk194 (v1165 : BitVec 32) : Prop :=
  (∀ a, (k0_off194 v1165) a + S1x1024.size a ≤ S2048x1024.size a)
theorem k0_off194_inb : ∀ (v1165 : BitVec 32) (k0_hw194 : k0_chk194 v1165), ∀ a, (k0_off194 v1165) a + S1x1024.size a ≤ S2048x1024.size a := fun v1165 k0_hw194 => k0_hw194

def k0_off195 (v1171 : BitVec 32) : Fin 2 → Nat :=
  let v1172 : Index := Scalar.indexCast v1171
  let c0_778 : Index := 0#32
  ![v1172.toNat, 0]

def k0_chk195 (v1171 : BitVec 32) : Prop :=
  (∀ a, (k0_off195 v1171) a + S1x1024.size a ≤ S2048x1024.size a)
theorem k0_off195_inb : ∀ (v1171 : BitVec 32) (k0_hw195 : k0_chk195 v1171), ∀ a, (k0_off195 v1171) a + S1x1024.size a ≤ S2048x1024.size a := fun v1171 k0_hw195 => k0_hw195

def k0_off196 (v1177 : BitVec 32) : Fin 2 → Nat :=
  let v1178 : Index := Scalar.indexCast v1177
  let c0_782 : Index := 0#32
  ![v1178.toNat, 0]

def k0_chk196 (v1177 : BitVec 32) : Prop :=
  (∀ a, (k0_off196 v1177) a + S1x1024.size a ≤ S2048x1024.size a)
theorem k0_off196_inb : ∀ (v1177 : BitVec 32) (k0_hw196 : k0_chk196 v1177), ∀ a, (k0_off196 v1177) a + S1x1024.size a ≤ S2048x1024.size a := fun v1177 k0_hw196 => k0_hw196

def k0_off197 (v1183 : BitVec 32) : Fin 2 → Nat :=
  let v1184 : Index := Scalar.indexCast v1183
  let c0_786 : Index := 0#32
  ![v1184.toNat, 0]

def k0_chk197 (v1183 : BitVec 32) : Prop :=
  (∀ a, (k0_off197 v1183) a + S1x1024.size a ≤ S2048x1024.size a)
theorem k0_off197_inb : ∀ (v1183 : BitVec 32) (k0_hw197 : k0_chk197 v1183), ∀ a, (k0_off197 v1183) a + S1x1024.size a ≤ S2048x1024.size a := fun v1183 k0_hw197 => k0_hw197

def k0_off198 (v1189 : BitVec 32) : Fin 2 → Nat :=
  let v1190 : Index := Scalar.indexCast v1189
  let c0_790 : Index := 0#32
  ![v1190.toNat, 0]

def k0_chk198 (v1189 : BitVec 32) : Prop :=
  (∀ a, (k0_off198 v1189) a + S1x1024.size a ≤ S2048x1024.size a)
theorem k0_off198_inb : ∀ (v1189 : BitVec 32) (k0_hw198 : k0_chk198 v1189), ∀ a, (k0_off198 v1189) a + S1x1024.size a ≤ S2048x1024.size a := fun v1189 k0_hw198 => k0_hw198

def k0_off199 (v1195 : BitVec 32) : Fin 2 → Nat :=
  let v1196 : Index := Scalar.indexCast v1195
  let c0_794 : Index := 0#32
  ![v1196.toNat, 0]

def k0_chk199 (v1195 : BitVec 32) : Prop :=
  (∀ a, (k0_off199 v1195) a + S1x1024.size a ≤ S2048x1024.size a)
theorem k0_off199_inb : ∀ (v1195 : BitVec 32) (k0_hw199 : k0_chk199 v1195), ∀ a, (k0_off199 v1195) a + S1x1024.size a ≤ S2048x1024.size a := fun v1195 k0_hw199 => k0_hw199

def k0_off200 (v1201 : BitVec 32) : Fin 2 → Nat :=
  let v1202 : Index := Scalar.indexCast v1201
  let c0_798 : Index := 0#32
  ![v1202.toNat, 0]

def k0_chk200 (v1201 : BitVec 32) : Prop :=
  (∀ a, (k0_off200 v1201) a + S1x1024.size a ≤ S2048x1024.size a)
theorem k0_off200_inb : ∀ (v1201 : BitVec 32) (k0_hw200 : k0_chk200 v1201), ∀ a, (k0_off200 v1201) a + S1x1024.size a ≤ S2048x1024.size a := fun v1201 k0_hw200 => k0_hw200

def k0_off201 (v1207 : BitVec 32) : Fin 2 → Nat :=
  let v1208 : Index := Scalar.indexCast v1207
  let c0_802 : Index := 0#32
  ![v1208.toNat, 0]

def k0_chk201 (v1207 : BitVec 32) : Prop :=
  (∀ a, (k0_off201 v1207) a + S1x1024.size a ≤ S2048x1024.size a)
theorem k0_off201_inb : ∀ (v1207 : BitVec 32) (k0_hw201 : k0_chk201 v1207), ∀ a, (k0_off201 v1207) a + S1x1024.size a ≤ S2048x1024.size a := fun v1207 k0_hw201 => k0_hw201

def k0_off202 (v1213 : BitVec 32) : Fin 2 → Nat :=
  let v1214 : Index := Scalar.indexCast v1213
  let c0_806 : Index := 0#32
  ![v1214.toNat, 0]

def k0_chk202 (v1213 : BitVec 32) : Prop :=
  (∀ a, (k0_off202 v1213) a + S1x1024.size a ≤ S2048x1024.size a)
theorem k0_off202_inb : ∀ (v1213 : BitVec 32) (k0_hw202 : k0_chk202 v1213), ∀ a, (k0_off202 v1213) a + S1x1024.size a ≤ S2048x1024.size a := fun v1213 k0_hw202 => k0_hw202

def k0_off203 (v1219 : BitVec 32) : Fin 2 → Nat :=
  let v1220 : Index := Scalar.indexCast v1219
  let c0_810 : Index := 0#32
  ![v1220.toNat, 0]

def k0_chk203 (v1219 : BitVec 32) : Prop :=
  (∀ a, (k0_off203 v1219) a + S1x1024.size a ≤ S2048x1024.size a)
theorem k0_off203_inb : ∀ (v1219 : BitVec 32) (k0_hw203 : k0_chk203 v1219), ∀ a, (k0_off203 v1219) a + S1x1024.size a ≤ S2048x1024.size a := fun v1219 k0_hw203 => k0_hw203

def k0_off204 (v1225 : BitVec 32) : Fin 2 → Nat :=
  let v1226 : Index := Scalar.indexCast v1225
  let c0_814 : Index := 0#32
  ![v1226.toNat, 0]

def k0_chk204 (v1225 : BitVec 32) : Prop :=
  (∀ a, (k0_off204 v1225) a + S1x1024.size a ≤ S2048x1024.size a)
theorem k0_off204_inb : ∀ (v1225 : BitVec 32) (k0_hw204 : k0_chk204 v1225), ∀ a, (k0_off204 v1225) a + S1x1024.size a ≤ S2048x1024.size a := fun v1225 k0_hw204 => k0_hw204

def k0_off205 (v1231 : BitVec 32) : Fin 2 → Nat :=
  let v1232 : Index := Scalar.indexCast v1231
  let c0_818 : Index := 0#32
  ![v1232.toNat, 0]

def k0_chk205 (v1231 : BitVec 32) : Prop :=
  (∀ a, (k0_off205 v1231) a + S1x1024.size a ≤ S2048x1024.size a)
theorem k0_off205_inb : ∀ (v1231 : BitVec 32) (k0_hw205 : k0_chk205 v1231), ∀ a, (k0_off205 v1231) a + S1x1024.size a ≤ S2048x1024.size a := fun v1231 k0_hw205 => k0_hw205

def k0_off206 (v1237 : BitVec 32) : Fin 2 → Nat :=
  let v1238 : Index := Scalar.indexCast v1237
  let c0_822 : Index := 0#32
  ![v1238.toNat, 0]

def k0_chk206 (v1237 : BitVec 32) : Prop :=
  (∀ a, (k0_off206 v1237) a + S1x1024.size a ≤ S2048x1024.size a)
theorem k0_off206_inb : ∀ (v1237 : BitVec 32) (k0_hw206 : k0_chk206 v1237), ∀ a, (k0_off206 v1237) a + S1x1024.size a ≤ S2048x1024.size a := fun v1237 k0_hw206 => k0_hw206

def k0_off207 (v1243 : BitVec 32) : Fin 2 → Nat :=
  let v1244 : Index := Scalar.indexCast v1243
  let c0_826 : Index := 0#32
  ![v1244.toNat, 0]

def k0_chk207 (v1243 : BitVec 32) : Prop :=
  (∀ a, (k0_off207 v1243) a + S1x1024.size a ≤ S2048x1024.size a)
theorem k0_off207_inb : ∀ (v1243 : BitVec 32) (k0_hw207 : k0_chk207 v1243), ∀ a, (k0_off207 v1243) a + S1x1024.size a ≤ S2048x1024.size a := fun v1243 k0_hw207 => k0_hw207

def k0_off208 (v1249 : BitVec 32) : Fin 2 → Nat :=
  let v1250 : Index := Scalar.indexCast v1249
  let c0_830 : Index := 0#32
  ![v1250.toNat, 0]

def k0_chk208 (v1249 : BitVec 32) : Prop :=
  (∀ a, (k0_off208 v1249) a + S1x1024.size a ≤ S2048x1024.size a)
theorem k0_off208_inb : ∀ (v1249 : BitVec 32) (k0_hw208 : k0_chk208 v1249), ∀ a, (k0_off208 v1249) a + S1x1024.size a ≤ S2048x1024.size a := fun v1249 k0_hw208 => k0_hw208

def k0_off209 (v1255 : BitVec 32) : Fin 2 → Nat :=
  let v1256 : Index := Scalar.indexCast v1255
  let c0_834 : Index := 0#32
  ![v1256.toNat, 0]

def k0_chk209 (v1255 : BitVec 32) : Prop :=
  (∀ a, (k0_off209 v1255) a + S1x1024.size a ≤ S2048x1024.size a)
theorem k0_off209_inb : ∀ (v1255 : BitVec 32) (k0_hw209 : k0_chk209 v1255), ∀ a, (k0_off209 v1255) a + S1x1024.size a ≤ S2048x1024.size a := fun v1255 k0_hw209 => k0_hw209

def k0_off210 (v1261 : BitVec 32) : Fin 2 → Nat :=
  let v1262 : Index := Scalar.indexCast v1261
  let c0_838 : Index := 0#32
  ![v1262.toNat, 0]

def k0_chk210 (v1261 : BitVec 32) : Prop :=
  (∀ a, (k0_off210 v1261) a + S1x1024.size a ≤ S2048x1024.size a)
theorem k0_off210_inb : ∀ (v1261 : BitVec 32) (k0_hw210 : k0_chk210 v1261), ∀ a, (k0_off210 v1261) a + S1x1024.size a ≤ S2048x1024.size a := fun v1261 k0_hw210 => k0_hw210

def k0_off211 (v1267 : BitVec 32) : Fin 2 → Nat :=
  let v1268 : Index := Scalar.indexCast v1267
  let c0_842 : Index := 0#32
  ![v1268.toNat, 0]

def k0_chk211 (v1267 : BitVec 32) : Prop :=
  (∀ a, (k0_off211 v1267) a + S1x1024.size a ≤ S2048x1024.size a)
theorem k0_off211_inb : ∀ (v1267 : BitVec 32) (k0_hw211 : k0_chk211 v1267), ∀ a, (k0_off211 v1267) a + S1x1024.size a ≤ S2048x1024.size a := fun v1267 k0_hw211 => k0_hw211

def k0_off212 (v1273 : BitVec 32) : Fin 2 → Nat :=
  let v1274 : Index := Scalar.indexCast v1273
  let c0_846 : Index := 0#32
  ![v1274.toNat, 0]

def k0_chk212 (v1273 : BitVec 32) : Prop :=
  (∀ a, (k0_off212 v1273) a + S1x1024.size a ≤ S2048x1024.size a)
theorem k0_off212_inb : ∀ (v1273 : BitVec 32) (k0_hw212 : k0_chk212 v1273), ∀ a, (k0_off212 v1273) a + S1x1024.size a ≤ S2048x1024.size a := fun v1273 k0_hw212 => k0_hw212

def k0_off213 (v1279 : BitVec 32) : Fin 2 → Nat :=
  let v1280 : Index := Scalar.indexCast v1279
  let c0_850 : Index := 0#32
  ![v1280.toNat, 0]

def k0_chk213 (v1279 : BitVec 32) : Prop :=
  (∀ a, (k0_off213 v1279) a + S1x1024.size a ≤ S2048x1024.size a)
theorem k0_off213_inb : ∀ (v1279 : BitVec 32) (k0_hw213 : k0_chk213 v1279), ∀ a, (k0_off213 v1279) a + S1x1024.size a ≤ S2048x1024.size a := fun v1279 k0_hw213 => k0_hw213

def k0_off214 (v1285 : BitVec 32) : Fin 2 → Nat :=
  let v1286 : Index := Scalar.indexCast v1285
  let c0_854 : Index := 0#32
  ![v1286.toNat, 0]

def k0_chk214 (v1285 : BitVec 32) : Prop :=
  (∀ a, (k0_off214 v1285) a + S1x1024.size a ≤ S2048x1024.size a)
theorem k0_off214_inb : ∀ (v1285 : BitVec 32) (k0_hw214 : k0_chk214 v1285), ∀ a, (k0_off214 v1285) a + S1x1024.size a ≤ S2048x1024.size a := fun v1285 k0_hw214 => k0_hw214

def k0_off215 (v1291 : BitVec 32) : Fin 2 → Nat :=
  let v1292 : Index := Scalar.indexCast v1291
  let c0_858 : Index := 0#32
  ![v1292.toNat, 0]

def k0_chk215 (v1291 : BitVec 32) : Prop :=
  (∀ a, (k0_off215 v1291) a + S1x1024.size a ≤ S2048x1024.size a)
theorem k0_off215_inb : ∀ (v1291 : BitVec 32) (k0_hw215 : k0_chk215 v1291), ∀ a, (k0_off215 v1291) a + S1x1024.size a ≤ S2048x1024.size a := fun v1291 k0_hw215 => k0_hw215

def k0_off216 (v1297 : BitVec 32) : Fin 2 → Nat :=
  let v1298 : Index := Scalar.indexCast v1297
  let c0_862 : Index := 0#32
  ![v1298.toNat, 0]

def k0_chk216 (v1297 : BitVec 32) : Prop :=
  (∀ a, (k0_off216 v1297) a + S1x1024.size a ≤ S2048x1024.size a)
theorem k0_off216_inb : ∀ (v1297 : BitVec 32) (k0_hw216 : k0_chk216 v1297), ∀ a, (k0_off216 v1297) a + S1x1024.size a ≤ S2048x1024.size a := fun v1297 k0_hw216 => k0_hw216

def k0_off217 (v1303 : BitVec 32) : Fin 2 → Nat :=
  let v1304 : Index := Scalar.indexCast v1303
  let c0_866 : Index := 0#32
  ![v1304.toNat, 0]

def k0_chk217 (v1303 : BitVec 32) : Prop :=
  (∀ a, (k0_off217 v1303) a + S1x1024.size a ≤ S2048x1024.size a)
theorem k0_off217_inb : ∀ (v1303 : BitVec 32) (k0_hw217 : k0_chk217 v1303), ∀ a, (k0_off217 v1303) a + S1x1024.size a ≤ S2048x1024.size a := fun v1303 k0_hw217 => k0_hw217

def k0_off218 (v1309 : BitVec 32) : Fin 2 → Nat :=
  let v1310 : Index := Scalar.indexCast v1309
  let c0_870 : Index := 0#32
  ![v1310.toNat, 0]

def k0_chk218 (v1309 : BitVec 32) : Prop :=
  (∀ a, (k0_off218 v1309) a + S1x1024.size a ≤ S2048x1024.size a)
theorem k0_off218_inb : ∀ (v1309 : BitVec 32) (k0_hw218 : k0_chk218 v1309), ∀ a, (k0_off218 v1309) a + S1x1024.size a ≤ S2048x1024.size a := fun v1309 k0_hw218 => k0_hw218

def k0_off219 (v1315 : BitVec 32) : Fin 2 → Nat :=
  let v1316 : Index := Scalar.indexCast v1315
  let c0_874 : Index := 0#32
  ![v1316.toNat, 0]

def k0_chk219 (v1315 : BitVec 32) : Prop :=
  (∀ a, (k0_off219 v1315) a + S1x1024.size a ≤ S2048x1024.size a)
theorem k0_off219_inb : ∀ (v1315 : BitVec 32) (k0_hw219 : k0_chk219 v1315), ∀ a, (k0_off219 v1315) a + S1x1024.size a ≤ S2048x1024.size a := fun v1315 k0_hw219 => k0_hw219

def k0_off220 (v1321 : BitVec 32) : Fin 2 → Nat :=
  let v1322 : Index := Scalar.indexCast v1321
  let c0_878 : Index := 0#32
  ![v1322.toNat, 0]

def k0_chk220 (v1321 : BitVec 32) : Prop :=
  (∀ a, (k0_off220 v1321) a + S1x1024.size a ≤ S2048x1024.size a)
theorem k0_off220_inb : ∀ (v1321 : BitVec 32) (k0_hw220 : k0_chk220 v1321), ∀ a, (k0_off220 v1321) a + S1x1024.size a ≤ S2048x1024.size a := fun v1321 k0_hw220 => k0_hw220

def k0_off221 (v1327 : BitVec 32) : Fin 2 → Nat :=
  let v1328 : Index := Scalar.indexCast v1327
  let c0_882 : Index := 0#32
  ![v1328.toNat, 0]

def k0_chk221 (v1327 : BitVec 32) : Prop :=
  (∀ a, (k0_off221 v1327) a + S1x1024.size a ≤ S2048x1024.size a)
theorem k0_off221_inb : ∀ (v1327 : BitVec 32) (k0_hw221 : k0_chk221 v1327), ∀ a, (k0_off221 v1327) a + S1x1024.size a ≤ S2048x1024.size a := fun v1327 k0_hw221 => k0_hw221

def k0_off222 (v1333 : BitVec 32) : Fin 2 → Nat :=
  let v1334 : Index := Scalar.indexCast v1333
  let c0_886 : Index := 0#32
  ![v1334.toNat, 0]

def k0_chk222 (v1333 : BitVec 32) : Prop :=
  (∀ a, (k0_off222 v1333) a + S1x1024.size a ≤ S2048x1024.size a)
theorem k0_off222_inb : ∀ (v1333 : BitVec 32) (k0_hw222 : k0_chk222 v1333), ∀ a, (k0_off222 v1333) a + S1x1024.size a ≤ S2048x1024.size a := fun v1333 k0_hw222 => k0_hw222

def k0_off223 (v1339 : BitVec 32) : Fin 2 → Nat :=
  let v1340 : Index := Scalar.indexCast v1339
  let c0_890 : Index := 0#32
  ![v1340.toNat, 0]

def k0_chk223 (v1339 : BitVec 32) : Prop :=
  (∀ a, (k0_off223 v1339) a + S1x1024.size a ≤ S2048x1024.size a)
theorem k0_off223_inb : ∀ (v1339 : BitVec 32) (k0_hw223 : k0_chk223 v1339), ∀ a, (k0_off223 v1339) a + S1x1024.size a ≤ S2048x1024.size a := fun v1339 k0_hw223 => k0_hw223

def k0_off224 (v1345 : BitVec 32) : Fin 2 → Nat :=
  let v1346 : Index := Scalar.indexCast v1345
  let c0_894 : Index := 0#32
  ![v1346.toNat, 0]

def k0_chk224 (v1345 : BitVec 32) : Prop :=
  (∀ a, (k0_off224 v1345) a + S1x1024.size a ≤ S2048x1024.size a)
theorem k0_off224_inb : ∀ (v1345 : BitVec 32) (k0_hw224 : k0_chk224 v1345), ∀ a, (k0_off224 v1345) a + S1x1024.size a ≤ S2048x1024.size a := fun v1345 k0_hw224 => k0_hw224

def k0_off225 (v1351 : BitVec 32) : Fin 2 → Nat :=
  let v1352 : Index := Scalar.indexCast v1351
  let c0_898 : Index := 0#32
  ![v1352.toNat, 0]

def k0_chk225 (v1351 : BitVec 32) : Prop :=
  (∀ a, (k0_off225 v1351) a + S1x1024.size a ≤ S2048x1024.size a)
theorem k0_off225_inb : ∀ (v1351 : BitVec 32) (k0_hw225 : k0_chk225 v1351), ∀ a, (k0_off225 v1351) a + S1x1024.size a ≤ S2048x1024.size a := fun v1351 k0_hw225 => k0_hw225

def k0_off226 (v1357 : BitVec 32) : Fin 2 → Nat :=
  let v1358 : Index := Scalar.indexCast v1357
  let c0_902 : Index := 0#32
  ![v1358.toNat, 0]

def k0_chk226 (v1357 : BitVec 32) : Prop :=
  (∀ a, (k0_off226 v1357) a + S1x1024.size a ≤ S2048x1024.size a)
theorem k0_off226_inb : ∀ (v1357 : BitVec 32) (k0_hw226 : k0_chk226 v1357), ∀ a, (k0_off226 v1357) a + S1x1024.size a ≤ S2048x1024.size a := fun v1357 k0_hw226 => k0_hw226

def k0_off227 (v1363 : BitVec 32) : Fin 2 → Nat :=
  let v1364 : Index := Scalar.indexCast v1363
  let c0_906 : Index := 0#32
  ![v1364.toNat, 0]

def k0_chk227 (v1363 : BitVec 32) : Prop :=
  (∀ a, (k0_off227 v1363) a + S1x1024.size a ≤ S2048x1024.size a)
theorem k0_off227_inb : ∀ (v1363 : BitVec 32) (k0_hw227 : k0_chk227 v1363), ∀ a, (k0_off227 v1363) a + S1x1024.size a ≤ S2048x1024.size a := fun v1363 k0_hw227 => k0_hw227

def k0_off228 (v1369 : BitVec 32) : Fin 2 → Nat :=
  let v1370 : Index := Scalar.indexCast v1369
  let c0_910 : Index := 0#32
  ![v1370.toNat, 0]

def k0_chk228 (v1369 : BitVec 32) : Prop :=
  (∀ a, (k0_off228 v1369) a + S1x1024.size a ≤ S2048x1024.size a)
theorem k0_off228_inb : ∀ (v1369 : BitVec 32) (k0_hw228 : k0_chk228 v1369), ∀ a, (k0_off228 v1369) a + S1x1024.size a ≤ S2048x1024.size a := fun v1369 k0_hw228 => k0_hw228

def k0_off229 (v1375 : BitVec 32) : Fin 2 → Nat :=
  let v1376 : Index := Scalar.indexCast v1375
  let c0_914 : Index := 0#32
  ![v1376.toNat, 0]

def k0_chk229 (v1375 : BitVec 32) : Prop :=
  (∀ a, (k0_off229 v1375) a + S1x1024.size a ≤ S2048x1024.size a)
theorem k0_off229_inb : ∀ (v1375 : BitVec 32) (k0_hw229 : k0_chk229 v1375), ∀ a, (k0_off229 v1375) a + S1x1024.size a ≤ S2048x1024.size a := fun v1375 k0_hw229 => k0_hw229

def k0_off230 (v1381 : BitVec 32) : Fin 2 → Nat :=
  let v1382 : Index := Scalar.indexCast v1381
  let c0_918 : Index := 0#32
  ![v1382.toNat, 0]

def k0_chk230 (v1381 : BitVec 32) : Prop :=
  (∀ a, (k0_off230 v1381) a + S1x1024.size a ≤ S2048x1024.size a)
theorem k0_off230_inb : ∀ (v1381 : BitVec 32) (k0_hw230 : k0_chk230 v1381), ∀ a, (k0_off230 v1381) a + S1x1024.size a ≤ S2048x1024.size a := fun v1381 k0_hw230 => k0_hw230

def k0_off231 (v1387 : BitVec 32) : Fin 2 → Nat :=
  let v1388 : Index := Scalar.indexCast v1387
  let c0_922 : Index := 0#32
  ![v1388.toNat, 0]

def k0_chk231 (v1387 : BitVec 32) : Prop :=
  (∀ a, (k0_off231 v1387) a + S1x1024.size a ≤ S2048x1024.size a)
theorem k0_off231_inb : ∀ (v1387 : BitVec 32) (k0_hw231 : k0_chk231 v1387), ∀ a, (k0_off231 v1387) a + S1x1024.size a ≤ S2048x1024.size a := fun v1387 k0_hw231 => k0_hw231

def k0_off232 (v1393 : BitVec 32) : Fin 2 → Nat :=
  let v1394 : Index := Scalar.indexCast v1393
  let c0_926 : Index := 0#32
  ![v1394.toNat, 0]

def k0_chk232 (v1393 : BitVec 32) : Prop :=
  (∀ a, (k0_off232 v1393) a + S1x1024.size a ≤ S2048x1024.size a)
theorem k0_off232_inb : ∀ (v1393 : BitVec 32) (k0_hw232 : k0_chk232 v1393), ∀ a, (k0_off232 v1393) a + S1x1024.size a ≤ S2048x1024.size a := fun v1393 k0_hw232 => k0_hw232

def k0_off233 (v1399 : BitVec 32) : Fin 2 → Nat :=
  let v1400 : Index := Scalar.indexCast v1399
  let c0_930 : Index := 0#32
  ![v1400.toNat, 0]

def k0_chk233 (v1399 : BitVec 32) : Prop :=
  (∀ a, (k0_off233 v1399) a + S1x1024.size a ≤ S2048x1024.size a)
theorem k0_off233_inb : ∀ (v1399 : BitVec 32) (k0_hw233 : k0_chk233 v1399), ∀ a, (k0_off233 v1399) a + S1x1024.size a ≤ S2048x1024.size a := fun v1399 k0_hw233 => k0_hw233

def k0_off234 (v1405 : BitVec 32) : Fin 2 → Nat :=
  let v1406 : Index := Scalar.indexCast v1405
  let c0_934 : Index := 0#32
  ![v1406.toNat, 0]

def k0_chk234 (v1405 : BitVec 32) : Prop :=
  (∀ a, (k0_off234 v1405) a + S1x1024.size a ≤ S2048x1024.size a)
theorem k0_off234_inb : ∀ (v1405 : BitVec 32) (k0_hw234 : k0_chk234 v1405), ∀ a, (k0_off234 v1405) a + S1x1024.size a ≤ S2048x1024.size a := fun v1405 k0_hw234 => k0_hw234

def k0_off235 (v1411 : BitVec 32) : Fin 2 → Nat :=
  let v1412 : Index := Scalar.indexCast v1411
  let c0_938 : Index := 0#32
  ![v1412.toNat, 0]

def k0_chk235 (v1411 : BitVec 32) : Prop :=
  (∀ a, (k0_off235 v1411) a + S1x1024.size a ≤ S2048x1024.size a)
theorem k0_off235_inb : ∀ (v1411 : BitVec 32) (k0_hw235 : k0_chk235 v1411), ∀ a, (k0_off235 v1411) a + S1x1024.size a ≤ S2048x1024.size a := fun v1411 k0_hw235 => k0_hw235

def k0_off236 (v1417 : BitVec 32) : Fin 2 → Nat :=
  let v1418 : Index := Scalar.indexCast v1417
  let c0_942 : Index := 0#32
  ![v1418.toNat, 0]

def k0_chk236 (v1417 : BitVec 32) : Prop :=
  (∀ a, (k0_off236 v1417) a + S1x1024.size a ≤ S2048x1024.size a)
theorem k0_off236_inb : ∀ (v1417 : BitVec 32) (k0_hw236 : k0_chk236 v1417), ∀ a, (k0_off236 v1417) a + S1x1024.size a ≤ S2048x1024.size a := fun v1417 k0_hw236 => k0_hw236

def k0_off237 (v1423 : BitVec 32) : Fin 2 → Nat :=
  let v1424 : Index := Scalar.indexCast v1423
  let c0_946 : Index := 0#32
  ![v1424.toNat, 0]

def k0_chk237 (v1423 : BitVec 32) : Prop :=
  (∀ a, (k0_off237 v1423) a + S1x1024.size a ≤ S2048x1024.size a)
theorem k0_off237_inb : ∀ (v1423 : BitVec 32) (k0_hw237 : k0_chk237 v1423), ∀ a, (k0_off237 v1423) a + S1x1024.size a ≤ S2048x1024.size a := fun v1423 k0_hw237 => k0_hw237

def k0_off238 (v1429 : BitVec 32) : Fin 2 → Nat :=
  let v1430 : Index := Scalar.indexCast v1429
  let c0_950 : Index := 0#32
  ![v1430.toNat, 0]

def k0_chk238 (v1429 : BitVec 32) : Prop :=
  (∀ a, (k0_off238 v1429) a + S1x1024.size a ≤ S2048x1024.size a)
theorem k0_off238_inb : ∀ (v1429 : BitVec 32) (k0_hw238 : k0_chk238 v1429), ∀ a, (k0_off238 v1429) a + S1x1024.size a ≤ S2048x1024.size a := fun v1429 k0_hw238 => k0_hw238

def k0_off239 (v1435 : BitVec 32) : Fin 2 → Nat :=
  let v1436 : Index := Scalar.indexCast v1435
  let c0_954 : Index := 0#32
  ![v1436.toNat, 0]

def k0_chk239 (v1435 : BitVec 32) : Prop :=
  (∀ a, (k0_off239 v1435) a + S1x1024.size a ≤ S2048x1024.size a)
theorem k0_off239_inb : ∀ (v1435 : BitVec 32) (k0_hw239 : k0_chk239 v1435), ∀ a, (k0_off239 v1435) a + S1x1024.size a ≤ S2048x1024.size a := fun v1435 k0_hw239 => k0_hw239

def k0_off240 (v1441 : BitVec 32) : Fin 2 → Nat :=
  let v1442 : Index := Scalar.indexCast v1441
  let c0_958 : Index := 0#32
  ![v1442.toNat, 0]

def k0_chk240 (v1441 : BitVec 32) : Prop :=
  (∀ a, (k0_off240 v1441) a + S1x1024.size a ≤ S2048x1024.size a)
theorem k0_off240_inb : ∀ (v1441 : BitVec 32) (k0_hw240 : k0_chk240 v1441), ∀ a, (k0_off240 v1441) a + S1x1024.size a ≤ S2048x1024.size a := fun v1441 k0_hw240 => k0_hw240

def k0_off241 (v1447 : BitVec 32) : Fin 2 → Nat :=
  let v1448 : Index := Scalar.indexCast v1447
  let c0_962 : Index := 0#32
  ![v1448.toNat, 0]

def k0_chk241 (v1447 : BitVec 32) : Prop :=
  (∀ a, (k0_off241 v1447) a + S1x1024.size a ≤ S2048x1024.size a)
theorem k0_off241_inb : ∀ (v1447 : BitVec 32) (k0_hw241 : k0_chk241 v1447), ∀ a, (k0_off241 v1447) a + S1x1024.size a ≤ S2048x1024.size a := fun v1447 k0_hw241 => k0_hw241

def k0_off242 (v1453 : BitVec 32) : Fin 2 → Nat :=
  let v1454 : Index := Scalar.indexCast v1453
  let c0_966 : Index := 0#32
  ![v1454.toNat, 0]

def k0_chk242 (v1453 : BitVec 32) : Prop :=
  (∀ a, (k0_off242 v1453) a + S1x1024.size a ≤ S2048x1024.size a)
theorem k0_off242_inb : ∀ (v1453 : BitVec 32) (k0_hw242 : k0_chk242 v1453), ∀ a, (k0_off242 v1453) a + S1x1024.size a ≤ S2048x1024.size a := fun v1453 k0_hw242 => k0_hw242

def k0_off243 (v1459 : BitVec 32) : Fin 2 → Nat :=
  let v1460 : Index := Scalar.indexCast v1459
  let c0_970 : Index := 0#32
  ![v1460.toNat, 0]

def k0_chk243 (v1459 : BitVec 32) : Prop :=
  (∀ a, (k0_off243 v1459) a + S1x1024.size a ≤ S2048x1024.size a)
theorem k0_off243_inb : ∀ (v1459 : BitVec 32) (k0_hw243 : k0_chk243 v1459), ∀ a, (k0_off243 v1459) a + S1x1024.size a ≤ S2048x1024.size a := fun v1459 k0_hw243 => k0_hw243

def k0_off244 (v1465 : BitVec 32) : Fin 2 → Nat :=
  let v1466 : Index := Scalar.indexCast v1465
  let c0_974 : Index := 0#32
  ![v1466.toNat, 0]

def k0_chk244 (v1465 : BitVec 32) : Prop :=
  (∀ a, (k0_off244 v1465) a + S1x1024.size a ≤ S2048x1024.size a)
theorem k0_off244_inb : ∀ (v1465 : BitVec 32) (k0_hw244 : k0_chk244 v1465), ∀ a, (k0_off244 v1465) a + S1x1024.size a ≤ S2048x1024.size a := fun v1465 k0_hw244 => k0_hw244

def k0_off245 (v1471 : BitVec 32) : Fin 2 → Nat :=
  let v1472 : Index := Scalar.indexCast v1471
  let c0_978 : Index := 0#32
  ![v1472.toNat, 0]

def k0_chk245 (v1471 : BitVec 32) : Prop :=
  (∀ a, (k0_off245 v1471) a + S1x1024.size a ≤ S2048x1024.size a)
theorem k0_off245_inb : ∀ (v1471 : BitVec 32) (k0_hw245 : k0_chk245 v1471), ∀ a, (k0_off245 v1471) a + S1x1024.size a ≤ S2048x1024.size a := fun v1471 k0_hw245 => k0_hw245

def k0_off246 (v1477 : BitVec 32) : Fin 2 → Nat :=
  let v1478 : Index := Scalar.indexCast v1477
  let c0_982 : Index := 0#32
  ![v1478.toNat, 0]

def k0_chk246 (v1477 : BitVec 32) : Prop :=
  (∀ a, (k0_off246 v1477) a + S1x1024.size a ≤ S2048x1024.size a)
theorem k0_off246_inb : ∀ (v1477 : BitVec 32) (k0_hw246 : k0_chk246 v1477), ∀ a, (k0_off246 v1477) a + S1x1024.size a ≤ S2048x1024.size a := fun v1477 k0_hw246 => k0_hw246

def k0_off247 (v1483 : BitVec 32) : Fin 2 → Nat :=
  let v1484 : Index := Scalar.indexCast v1483
  let c0_986 : Index := 0#32
  ![v1484.toNat, 0]

def k0_chk247 (v1483 : BitVec 32) : Prop :=
  (∀ a, (k0_off247 v1483) a + S1x1024.size a ≤ S2048x1024.size a)
theorem k0_off247_inb : ∀ (v1483 : BitVec 32) (k0_hw247 : k0_chk247 v1483), ∀ a, (k0_off247 v1483) a + S1x1024.size a ≤ S2048x1024.size a := fun v1483 k0_hw247 => k0_hw247

def k0_off248 (v1489 : BitVec 32) : Fin 2 → Nat :=
  let v1490 : Index := Scalar.indexCast v1489
  let c0_990 : Index := 0#32
  ![v1490.toNat, 0]

def k0_chk248 (v1489 : BitVec 32) : Prop :=
  (∀ a, (k0_off248 v1489) a + S1x1024.size a ≤ S2048x1024.size a)
theorem k0_off248_inb : ∀ (v1489 : BitVec 32) (k0_hw248 : k0_chk248 v1489), ∀ a, (k0_off248 v1489) a + S1x1024.size a ≤ S2048x1024.size a := fun v1489 k0_hw248 => k0_hw248

def k0_off249 (v1495 : BitVec 32) : Fin 2 → Nat :=
  let v1496 : Index := Scalar.indexCast v1495
  let c0_994 : Index := 0#32
  ![v1496.toNat, 0]

def k0_chk249 (v1495 : BitVec 32) : Prop :=
  (∀ a, (k0_off249 v1495) a + S1x1024.size a ≤ S2048x1024.size a)
theorem k0_off249_inb : ∀ (v1495 : BitVec 32) (k0_hw249 : k0_chk249 v1495), ∀ a, (k0_off249 v1495) a + S1x1024.size a ≤ S2048x1024.size a := fun v1495 k0_hw249 => k0_hw249

def k0_off250 (v1501 : BitVec 32) : Fin 2 → Nat :=
  let v1502 : Index := Scalar.indexCast v1501
  let c0_998 : Index := 0#32
  ![v1502.toNat, 0]

def k0_chk250 (v1501 : BitVec 32) : Prop :=
  (∀ a, (k0_off250 v1501) a + S1x1024.size a ≤ S2048x1024.size a)
theorem k0_off250_inb : ∀ (v1501 : BitVec 32) (k0_hw250 : k0_chk250 v1501), ∀ a, (k0_off250 v1501) a + S1x1024.size a ≤ S2048x1024.size a := fun v1501 k0_hw250 => k0_hw250

def k0_off251 (v1507 : BitVec 32) : Fin 2 → Nat :=
  let v1508 : Index := Scalar.indexCast v1507
  let c0_1002 : Index := 0#32
  ![v1508.toNat, 0]

def k0_chk251 (v1507 : BitVec 32) : Prop :=
  (∀ a, (k0_off251 v1507) a + S1x1024.size a ≤ S2048x1024.size a)
theorem k0_off251_inb : ∀ (v1507 : BitVec 32) (k0_hw251 : k0_chk251 v1507), ∀ a, (k0_off251 v1507) a + S1x1024.size a ≤ S2048x1024.size a := fun v1507 k0_hw251 => k0_hw251

def k0_off252 (v1513 : BitVec 32) : Fin 2 → Nat :=
  let v1514 : Index := Scalar.indexCast v1513
  let c0_1006 : Index := 0#32
  ![v1514.toNat, 0]

def k0_chk252 (v1513 : BitVec 32) : Prop :=
  (∀ a, (k0_off252 v1513) a + S1x1024.size a ≤ S2048x1024.size a)
theorem k0_off252_inb : ∀ (v1513 : BitVec 32) (k0_hw252 : k0_chk252 v1513), ∀ a, (k0_off252 v1513) a + S1x1024.size a ≤ S2048x1024.size a := fun v1513 k0_hw252 => k0_hw252

def k0_off253 (v1519 : BitVec 32) : Fin 2 → Nat :=
  let v1520 : Index := Scalar.indexCast v1519
  let c0_1010 : Index := 0#32
  ![v1520.toNat, 0]

def k0_chk253 (v1519 : BitVec 32) : Prop :=
  (∀ a, (k0_off253 v1519) a + S1x1024.size a ≤ S2048x1024.size a)
theorem k0_off253_inb : ∀ (v1519 : BitVec 32) (k0_hw253 : k0_chk253 v1519), ∀ a, (k0_off253 v1519) a + S1x1024.size a ≤ S2048x1024.size a := fun v1519 k0_hw253 => k0_hw253

def k0_off254 (v1525 : BitVec 32) : Fin 2 → Nat :=
  let v1526 : Index := Scalar.indexCast v1525
  let c0_1014 : Index := 0#32
  ![v1526.toNat, 0]

def k0_chk254 (v1525 : BitVec 32) : Prop :=
  (∀ a, (k0_off254 v1525) a + S1x1024.size a ≤ S2048x1024.size a)
theorem k0_off254_inb : ∀ (v1525 : BitVec 32) (k0_hw254 : k0_chk254 v1525), ∀ a, (k0_off254 v1525) a + S1x1024.size a ≤ S2048x1024.size a := fun v1525 k0_hw254 => k0_hw254

def k0_off255 (v1531 : BitVec 32) : Fin 2 → Nat :=
  let v1532 : Index := Scalar.indexCast v1531
  let c0_1018 : Index := 0#32
  ![v1532.toNat, 0]

def k0_chk255 (v1531 : BitVec 32) : Prop :=
  (∀ a, (k0_off255 v1531) a + S1x1024.size a ≤ S2048x1024.size a)
theorem k0_off255_inb : ∀ (v1531 : BitVec 32) (k0_hw255 : k0_chk255 v1531), ∀ a, (k0_off255 v1531) a + S1x1024.size a ≤ S2048x1024.size a := fun v1531 k0_hw255 => k0_hw255

def k0_off256 (v1537 : BitVec 32) : Fin 2 → Nat :=
  let v1538 : Index := Scalar.indexCast v1537
  let c0_1022 : Index := 0#32
  ![v1538.toNat, 0]

def k0_chk256 (v1537 : BitVec 32) : Prop :=
  (∀ a, (k0_off256 v1537) a + S1x1024.size a ≤ S2048x1024.size a)
theorem k0_off256_inb : ∀ (v1537 : BitVec 32) (k0_hw256 : k0_chk256 v1537), ∀ a, (k0_off256 v1537) a + S1x1024.size a ≤ S2048x1024.size a := fun v1537 k0_hw256 => k0_hw256

def k0_off257 (v1543 : BitVec 32) : Fin 2 → Nat :=
  let v1544 : Index := Scalar.indexCast v1543
  let c0_1026 : Index := 0#32
  ![v1544.toNat, 0]

def k0_chk257 (v1543 : BitVec 32) : Prop :=
  (∀ a, (k0_off257 v1543) a + S1x1024.size a ≤ S2048x1024.size a)
theorem k0_off257_inb : ∀ (v1543 : BitVec 32) (k0_hw257 : k0_chk257 v1543), ∀ a, (k0_off257 v1543) a + S1x1024.size a ≤ S2048x1024.size a := fun v1543 k0_hw257 => k0_hw257

def k0_off258 (v1549 : BitVec 32) : Fin 2 → Nat :=
  let v1550 : Index := Scalar.indexCast v1549
  let c0_1030 : Index := 0#32
  ![v1550.toNat, 0]

def k0_chk258 (v1549 : BitVec 32) : Prop :=
  (∀ a, (k0_off258 v1549) a + S1x1024.size a ≤ S2048x1024.size a)
theorem k0_off258_inb : ∀ (v1549 : BitVec 32) (k0_hw258 : k0_chk258 v1549), ∀ a, (k0_off258 v1549) a + S1x1024.size a ≤ S2048x1024.size a := fun v1549 k0_hw258 => k0_hw258

def k0_off259 (v1555 : BitVec 32) : Fin 2 → Nat :=
  let v1556 : Index := Scalar.indexCast v1555
  let c0_1034 : Index := 0#32
  ![v1556.toNat, 0]

def k0_chk259 (v1555 : BitVec 32) : Prop :=
  (∀ a, (k0_off259 v1555) a + S1x1024.size a ≤ S2048x1024.size a)
theorem k0_off259_inb : ∀ (v1555 : BitVec 32) (k0_hw259 : k0_chk259 v1555), ∀ a, (k0_off259 v1555) a + S1x1024.size a ≤ S2048x1024.size a := fun v1555 k0_hw259 => k0_hw259

def k0_off260 (v1561 : BitVec 32) : Fin 2 → Nat :=
  let v1562 : Index := Scalar.indexCast v1561
  let c0_1038 : Index := 0#32
  ![v1562.toNat, 0]

def k0_chk260 (v1561 : BitVec 32) : Prop :=
  (∀ a, (k0_off260 v1561) a + S1x1024.size a ≤ S2048x1024.size a)
theorem k0_off260_inb : ∀ (v1561 : BitVec 32) (k0_hw260 : k0_chk260 v1561), ∀ a, (k0_off260 v1561) a + S1x1024.size a ≤ S2048x1024.size a := fun v1561 k0_hw260 => k0_hw260

def k0_off261 (v1567 : BitVec 32) : Fin 2 → Nat :=
  let v1568 : Index := Scalar.indexCast v1567
  let c0_1042 : Index := 0#32
  ![v1568.toNat, 0]

def k0_chk261 (v1567 : BitVec 32) : Prop :=
  (∀ a, (k0_off261 v1567) a + S1x1024.size a ≤ S2048x1024.size a)
theorem k0_off261_inb : ∀ (v1567 : BitVec 32) (k0_hw261 : k0_chk261 v1567), ∀ a, (k0_off261 v1567) a + S1x1024.size a ≤ S2048x1024.size a := fun v1567 k0_hw261 => k0_hw261

def k0_off262 (v1573 : BitVec 32) : Fin 2 → Nat :=
  let v1574 : Index := Scalar.indexCast v1573
  let c0_1046 : Index := 0#32
  ![v1574.toNat, 0]

def k0_chk262 (v1573 : BitVec 32) : Prop :=
  (∀ a, (k0_off262 v1573) a + S1x1024.size a ≤ S2048x1024.size a)
theorem k0_off262_inb : ∀ (v1573 : BitVec 32) (k0_hw262 : k0_chk262 v1573), ∀ a, (k0_off262 v1573) a + S1x1024.size a ≤ S2048x1024.size a := fun v1573 k0_hw262 => k0_hw262

def k0_off263 (v1579 : BitVec 32) : Fin 2 → Nat :=
  let v1580 : Index := Scalar.indexCast v1579
  let c0_1050 : Index := 0#32
  ![v1580.toNat, 0]

def k0_chk263 (v1579 : BitVec 32) : Prop :=
  (∀ a, (k0_off263 v1579) a + S1x1024.size a ≤ S2048x1024.size a)
theorem k0_off263_inb : ∀ (v1579 : BitVec 32) (k0_hw263 : k0_chk263 v1579), ∀ a, (k0_off263 v1579) a + S1x1024.size a ≤ S2048x1024.size a := fun v1579 k0_hw263 => k0_hw263

def k0_off264 (v1585 : BitVec 32) : Fin 2 → Nat :=
  let v1586 : Index := Scalar.indexCast v1585
  let c0_1054 : Index := 0#32
  ![v1586.toNat, 0]

def k0_chk264 (v1585 : BitVec 32) : Prop :=
  (∀ a, (k0_off264 v1585) a + S1x1024.size a ≤ S2048x1024.size a)
theorem k0_off264_inb : ∀ (v1585 : BitVec 32) (k0_hw264 : k0_chk264 v1585), ∀ a, (k0_off264 v1585) a + S1x1024.size a ≤ S2048x1024.size a := fun v1585 k0_hw264 => k0_hw264

def k0_off265 (v1591 : BitVec 32) : Fin 2 → Nat :=
  let v1592 : Index := Scalar.indexCast v1591
  let c0_1058 : Index := 0#32
  ![v1592.toNat, 0]

def k0_chk265 (v1591 : BitVec 32) : Prop :=
  (∀ a, (k0_off265 v1591) a + S1x1024.size a ≤ S2048x1024.size a)
theorem k0_off265_inb : ∀ (v1591 : BitVec 32) (k0_hw265 : k0_chk265 v1591), ∀ a, (k0_off265 v1591) a + S1x1024.size a ≤ S2048x1024.size a := fun v1591 k0_hw265 => k0_hw265

def k0_off266 (v1597 : BitVec 32) : Fin 2 → Nat :=
  let v1598 : Index := Scalar.indexCast v1597
  let c0_1062 : Index := 0#32
  ![v1598.toNat, 0]

def k0_chk266 (v1597 : BitVec 32) : Prop :=
  (∀ a, (k0_off266 v1597) a + S1x1024.size a ≤ S2048x1024.size a)
theorem k0_off266_inb : ∀ (v1597 : BitVec 32) (k0_hw266 : k0_chk266 v1597), ∀ a, (k0_off266 v1597) a + S1x1024.size a ≤ S2048x1024.size a := fun v1597 k0_hw266 => k0_hw266

def k0_off267 (v1603 : BitVec 32) : Fin 2 → Nat :=
  let v1604 : Index := Scalar.indexCast v1603
  let c0_1066 : Index := 0#32
  ![v1604.toNat, 0]

def k0_chk267 (v1603 : BitVec 32) : Prop :=
  (∀ a, (k0_off267 v1603) a + S1x1024.size a ≤ S2048x1024.size a)
theorem k0_off267_inb : ∀ (v1603 : BitVec 32) (k0_hw267 : k0_chk267 v1603), ∀ a, (k0_off267 v1603) a + S1x1024.size a ≤ S2048x1024.size a := fun v1603 k0_hw267 => k0_hw267

def k0_off268 (v1609 : BitVec 32) : Fin 2 → Nat :=
  let v1610 : Index := Scalar.indexCast v1609
  let c0_1070 : Index := 0#32
  ![v1610.toNat, 0]

def k0_chk268 (v1609 : BitVec 32) : Prop :=
  (∀ a, (k0_off268 v1609) a + S1x1024.size a ≤ S2048x1024.size a)
theorem k0_off268_inb : ∀ (v1609 : BitVec 32) (k0_hw268 : k0_chk268 v1609), ∀ a, (k0_off268 v1609) a + S1x1024.size a ≤ S2048x1024.size a := fun v1609 k0_hw268 => k0_hw268

def k0_off269 (v1615 : BitVec 32) : Fin 2 → Nat :=
  let v1616 : Index := Scalar.indexCast v1615
  let c0_1074 : Index := 0#32
  ![v1616.toNat, 0]

def k0_chk269 (v1615 : BitVec 32) : Prop :=
  (∀ a, (k0_off269 v1615) a + S1x1024.size a ≤ S2048x1024.size a)
theorem k0_off269_inb : ∀ (v1615 : BitVec 32) (k0_hw269 : k0_chk269 v1615), ∀ a, (k0_off269 v1615) a + S1x1024.size a ≤ S2048x1024.size a := fun v1615 k0_hw269 => k0_hw269

def k0_off270 (v1621 : BitVec 32) : Fin 2 → Nat :=
  let v1622 : Index := Scalar.indexCast v1621
  let c0_1078 : Index := 0#32
  ![v1622.toNat, 0]

def k0_chk270 (v1621 : BitVec 32) : Prop :=
  (∀ a, (k0_off270 v1621) a + S1x1024.size a ≤ S2048x1024.size a)
theorem k0_off270_inb : ∀ (v1621 : BitVec 32) (k0_hw270 : k0_chk270 v1621), ∀ a, (k0_off270 v1621) a + S1x1024.size a ≤ S2048x1024.size a := fun v1621 k0_hw270 => k0_hw270

def k0_off271 (v1627 : BitVec 32) : Fin 2 → Nat :=
  let v1628 : Index := Scalar.indexCast v1627
  let c0_1082 : Index := 0#32
  ![v1628.toNat, 0]

def k0_chk271 (v1627 : BitVec 32) : Prop :=
  (∀ a, (k0_off271 v1627) a + S1x1024.size a ≤ S2048x1024.size a)
theorem k0_off271_inb : ∀ (v1627 : BitVec 32) (k0_hw271 : k0_chk271 v1627), ∀ a, (k0_off271 v1627) a + S1x1024.size a ≤ S2048x1024.size a := fun v1627 k0_hw271 => k0_hw271

def k0_off272 (v1633 : BitVec 32) : Fin 2 → Nat :=
  let v1634 : Index := Scalar.indexCast v1633
  let c0_1086 : Index := 0#32
  ![v1634.toNat, 0]

def k0_chk272 (v1633 : BitVec 32) : Prop :=
  (∀ a, (k0_off272 v1633) a + S1x1024.size a ≤ S2048x1024.size a)
theorem k0_off272_inb : ∀ (v1633 : BitVec 32) (k0_hw272 : k0_chk272 v1633), ∀ a, (k0_off272 v1633) a + S1x1024.size a ≤ S2048x1024.size a := fun v1633 k0_hw272 => k0_hw272

def k0_off273 (v1639 : BitVec 32) : Fin 2 → Nat :=
  let v1640 : Index := Scalar.indexCast v1639
  let c0_1090 : Index := 0#32
  ![v1640.toNat, 0]

def k0_chk273 (v1639 : BitVec 32) : Prop :=
  (∀ a, (k0_off273 v1639) a + S1x1024.size a ≤ S2048x1024.size a)
theorem k0_off273_inb : ∀ (v1639 : BitVec 32) (k0_hw273 : k0_chk273 v1639), ∀ a, (k0_off273 v1639) a + S1x1024.size a ≤ S2048x1024.size a := fun v1639 k0_hw273 => k0_hw273

def k0_off274 (v1645 : BitVec 32) : Fin 2 → Nat :=
  let v1646 : Index := Scalar.indexCast v1645
  let c0_1094 : Index := 0#32
  ![v1646.toNat, 0]

def k0_chk274 (v1645 : BitVec 32) : Prop :=
  (∀ a, (k0_off274 v1645) a + S1x1024.size a ≤ S2048x1024.size a)
theorem k0_off274_inb : ∀ (v1645 : BitVec 32) (k0_hw274 : k0_chk274 v1645), ∀ a, (k0_off274 v1645) a + S1x1024.size a ≤ S2048x1024.size a := fun v1645 k0_hw274 => k0_hw274

def k0_off275 (v1651 : BitVec 32) : Fin 2 → Nat :=
  let v1652 : Index := Scalar.indexCast v1651
  let c0_1098 : Index := 0#32
  ![v1652.toNat, 0]

def k0_chk275 (v1651 : BitVec 32) : Prop :=
  (∀ a, (k0_off275 v1651) a + S1x1024.size a ≤ S2048x1024.size a)
theorem k0_off275_inb : ∀ (v1651 : BitVec 32) (k0_hw275 : k0_chk275 v1651), ∀ a, (k0_off275 v1651) a + S1x1024.size a ≤ S2048x1024.size a := fun v1651 k0_hw275 => k0_hw275

def k0_off276 (v1657 : BitVec 32) : Fin 2 → Nat :=
  let v1658 : Index := Scalar.indexCast v1657
  let c0_1102 : Index := 0#32
  ![v1658.toNat, 0]

def k0_chk276 (v1657 : BitVec 32) : Prop :=
  (∀ a, (k0_off276 v1657) a + S1x1024.size a ≤ S2048x1024.size a)
theorem k0_off276_inb : ∀ (v1657 : BitVec 32) (k0_hw276 : k0_chk276 v1657), ∀ a, (k0_off276 v1657) a + S1x1024.size a ≤ S2048x1024.size a := fun v1657 k0_hw276 => k0_hw276

def k0_off277 (v1663 : BitVec 32) : Fin 2 → Nat :=
  let v1664 : Index := Scalar.indexCast v1663
  let c0_1106 : Index := 0#32
  ![v1664.toNat, 0]

def k0_chk277 (v1663 : BitVec 32) : Prop :=
  (∀ a, (k0_off277 v1663) a + S1x1024.size a ≤ S2048x1024.size a)
theorem k0_off277_inb : ∀ (v1663 : BitVec 32) (k0_hw277 : k0_chk277 v1663), ∀ a, (k0_off277 v1663) a + S1x1024.size a ≤ S2048x1024.size a := fun v1663 k0_hw277 => k0_hw277

def k0_off278 (v1669 : BitVec 32) : Fin 2 → Nat :=
  let v1670 : Index := Scalar.indexCast v1669
  let c0_1110 : Index := 0#32
  ![v1670.toNat, 0]

def k0_chk278 (v1669 : BitVec 32) : Prop :=
  (∀ a, (k0_off278 v1669) a + S1x1024.size a ≤ S2048x1024.size a)
theorem k0_off278_inb : ∀ (v1669 : BitVec 32) (k0_hw278 : k0_chk278 v1669), ∀ a, (k0_off278 v1669) a + S1x1024.size a ≤ S2048x1024.size a := fun v1669 k0_hw278 => k0_hw278

def k0_off279 (v1675 : BitVec 32) : Fin 2 → Nat :=
  let v1676 : Index := Scalar.indexCast v1675
  let c0_1114 : Index := 0#32
  ![v1676.toNat, 0]

def k0_chk279 (v1675 : BitVec 32) : Prop :=
  (∀ a, (k0_off279 v1675) a + S1x1024.size a ≤ S2048x1024.size a)
theorem k0_off279_inb : ∀ (v1675 : BitVec 32) (k0_hw279 : k0_chk279 v1675), ∀ a, (k0_off279 v1675) a + S1x1024.size a ≤ S2048x1024.size a := fun v1675 k0_hw279 => k0_hw279

def k0_off280 (v1681 : BitVec 32) : Fin 2 → Nat :=
  let v1682 : Index := Scalar.indexCast v1681
  let c0_1118 : Index := 0#32
  ![v1682.toNat, 0]

def k0_chk280 (v1681 : BitVec 32) : Prop :=
  (∀ a, (k0_off280 v1681) a + S1x1024.size a ≤ S2048x1024.size a)
theorem k0_off280_inb : ∀ (v1681 : BitVec 32) (k0_hw280 : k0_chk280 v1681), ∀ a, (k0_off280 v1681) a + S1x1024.size a ≤ S2048x1024.size a := fun v1681 k0_hw280 => k0_hw280

def k0_off281 (v1687 : BitVec 32) : Fin 2 → Nat :=
  let v1688 : Index := Scalar.indexCast v1687
  let c0_1122 : Index := 0#32
  ![v1688.toNat, 0]

def k0_chk281 (v1687 : BitVec 32) : Prop :=
  (∀ a, (k0_off281 v1687) a + S1x1024.size a ≤ S2048x1024.size a)
theorem k0_off281_inb : ∀ (v1687 : BitVec 32) (k0_hw281 : k0_chk281 v1687), ∀ a, (k0_off281 v1687) a + S1x1024.size a ≤ S2048x1024.size a := fun v1687 k0_hw281 => k0_hw281

def k0_off282 (v1693 : BitVec 32) : Fin 2 → Nat :=
  let v1694 : Index := Scalar.indexCast v1693
  let c0_1126 : Index := 0#32
  ![v1694.toNat, 0]

def k0_chk282 (v1693 : BitVec 32) : Prop :=
  (∀ a, (k0_off282 v1693) a + S1x1024.size a ≤ S2048x1024.size a)
theorem k0_off282_inb : ∀ (v1693 : BitVec 32) (k0_hw282 : k0_chk282 v1693), ∀ a, (k0_off282 v1693) a + S1x1024.size a ≤ S2048x1024.size a := fun v1693 k0_hw282 => k0_hw282

def k0_off283 (v1699 : BitVec 32) : Fin 2 → Nat :=
  let v1700 : Index := Scalar.indexCast v1699
  let c0_1130 : Index := 0#32
  ![v1700.toNat, 0]

def k0_chk283 (v1699 : BitVec 32) : Prop :=
  (∀ a, (k0_off283 v1699) a + S1x1024.size a ≤ S2048x1024.size a)
theorem k0_off283_inb : ∀ (v1699 : BitVec 32) (k0_hw283 : k0_chk283 v1699), ∀ a, (k0_off283 v1699) a + S1x1024.size a ≤ S2048x1024.size a := fun v1699 k0_hw283 => k0_hw283

def k0_off284 (v1705 : BitVec 32) : Fin 2 → Nat :=
  let v1706 : Index := Scalar.indexCast v1705
  let c0_1134 : Index := 0#32
  ![v1706.toNat, 0]

def k0_chk284 (v1705 : BitVec 32) : Prop :=
  (∀ a, (k0_off284 v1705) a + S1x1024.size a ≤ S2048x1024.size a)
theorem k0_off284_inb : ∀ (v1705 : BitVec 32) (k0_hw284 : k0_chk284 v1705), ∀ a, (k0_off284 v1705) a + S1x1024.size a ≤ S2048x1024.size a := fun v1705 k0_hw284 => k0_hw284

def k0_off285 (v1711 : BitVec 32) : Fin 2 → Nat :=
  let v1712 : Index := Scalar.indexCast v1711
  let c0_1138 : Index := 0#32
  ![v1712.toNat, 0]

def k0_chk285 (v1711 : BitVec 32) : Prop :=
  (∀ a, (k0_off285 v1711) a + S1x1024.size a ≤ S2048x1024.size a)
theorem k0_off285_inb : ∀ (v1711 : BitVec 32) (k0_hw285 : k0_chk285 v1711), ∀ a, (k0_off285 v1711) a + S1x1024.size a ≤ S2048x1024.size a := fun v1711 k0_hw285 => k0_hw285

def k0_off286 (v1717 : BitVec 32) : Fin 2 → Nat :=
  let v1718 : Index := Scalar.indexCast v1717
  let c0_1142 : Index := 0#32
  ![v1718.toNat, 0]

def k0_chk286 (v1717 : BitVec 32) : Prop :=
  (∀ a, (k0_off286 v1717) a + S1x1024.size a ≤ S2048x1024.size a)
theorem k0_off286_inb : ∀ (v1717 : BitVec 32) (k0_hw286 : k0_chk286 v1717), ∀ a, (k0_off286 v1717) a + S1x1024.size a ≤ S2048x1024.size a := fun v1717 k0_hw286 => k0_hw286

def k0_off287 (v1723 : BitVec 32) : Fin 2 → Nat :=
  let v1724 : Index := Scalar.indexCast v1723
  let c0_1146 : Index := 0#32
  ![v1724.toNat, 0]

def k0_chk287 (v1723 : BitVec 32) : Prop :=
  (∀ a, (k0_off287 v1723) a + S1x1024.size a ≤ S2048x1024.size a)
theorem k0_off287_inb : ∀ (v1723 : BitVec 32) (k0_hw287 : k0_chk287 v1723), ∀ a, (k0_off287 v1723) a + S1x1024.size a ≤ S2048x1024.size a := fun v1723 k0_hw287 => k0_hw287

def k0_off288 (v1729 : BitVec 32) : Fin 2 → Nat :=
  let v1730 : Index := Scalar.indexCast v1729
  let c0_1150 : Index := 0#32
  ![v1730.toNat, 0]

def k0_chk288 (v1729 : BitVec 32) : Prop :=
  (∀ a, (k0_off288 v1729) a + S1x1024.size a ≤ S2048x1024.size a)
theorem k0_off288_inb : ∀ (v1729 : BitVec 32) (k0_hw288 : k0_chk288 v1729), ∀ a, (k0_off288 v1729) a + S1x1024.size a ≤ S2048x1024.size a := fun v1729 k0_hw288 => k0_hw288

def k0_off289 (v1735 : BitVec 32) : Fin 2 → Nat :=
  let v1736 : Index := Scalar.indexCast v1735
  let c0_1154 : Index := 0#32
  ![v1736.toNat, 0]

def k0_chk289 (v1735 : BitVec 32) : Prop :=
  (∀ a, (k0_off289 v1735) a + S1x1024.size a ≤ S2048x1024.size a)
theorem k0_off289_inb : ∀ (v1735 : BitVec 32) (k0_hw289 : k0_chk289 v1735), ∀ a, (k0_off289 v1735) a + S1x1024.size a ≤ S2048x1024.size a := fun v1735 k0_hw289 => k0_hw289

def k0_off290 (v1741 : BitVec 32) : Fin 2 → Nat :=
  let v1742 : Index := Scalar.indexCast v1741
  let c0_1158 : Index := 0#32
  ![v1742.toNat, 0]

def k0_chk290 (v1741 : BitVec 32) : Prop :=
  (∀ a, (k0_off290 v1741) a + S1x1024.size a ≤ S2048x1024.size a)
theorem k0_off290_inb : ∀ (v1741 : BitVec 32) (k0_hw290 : k0_chk290 v1741), ∀ a, (k0_off290 v1741) a + S1x1024.size a ≤ S2048x1024.size a := fun v1741 k0_hw290 => k0_hw290

def k0_off291 (v1747 : BitVec 32) : Fin 2 → Nat :=
  let v1748 : Index := Scalar.indexCast v1747
  let c0_1162 : Index := 0#32
  ![v1748.toNat, 0]

def k0_chk291 (v1747 : BitVec 32) : Prop :=
  (∀ a, (k0_off291 v1747) a + S1x1024.size a ≤ S2048x1024.size a)
theorem k0_off291_inb : ∀ (v1747 : BitVec 32) (k0_hw291 : k0_chk291 v1747), ∀ a, (k0_off291 v1747) a + S1x1024.size a ≤ S2048x1024.size a := fun v1747 k0_hw291 => k0_hw291

def k0_off292 (v1753 : BitVec 32) : Fin 2 → Nat :=
  let v1754 : Index := Scalar.indexCast v1753
  let c0_1166 : Index := 0#32
  ![v1754.toNat, 0]

def k0_chk292 (v1753 : BitVec 32) : Prop :=
  (∀ a, (k0_off292 v1753) a + S1x1024.size a ≤ S2048x1024.size a)
theorem k0_off292_inb : ∀ (v1753 : BitVec 32) (k0_hw292 : k0_chk292 v1753), ∀ a, (k0_off292 v1753) a + S1x1024.size a ≤ S2048x1024.size a := fun v1753 k0_hw292 => k0_hw292

def k0_off293 (v1759 : BitVec 32) : Fin 2 → Nat :=
  let v1760 : Index := Scalar.indexCast v1759
  let c0_1170 : Index := 0#32
  ![v1760.toNat, 0]

def k0_chk293 (v1759 : BitVec 32) : Prop :=
  (∀ a, (k0_off293 v1759) a + S1x1024.size a ≤ S2048x1024.size a)
theorem k0_off293_inb : ∀ (v1759 : BitVec 32) (k0_hw293 : k0_chk293 v1759), ∀ a, (k0_off293 v1759) a + S1x1024.size a ≤ S2048x1024.size a := fun v1759 k0_hw293 => k0_hw293

def k0_off294 (v1765 : BitVec 32) : Fin 2 → Nat :=
  let v1766 : Index := Scalar.indexCast v1765
  let c0_1174 : Index := 0#32
  ![v1766.toNat, 0]

def k0_chk294 (v1765 : BitVec 32) : Prop :=
  (∀ a, (k0_off294 v1765) a + S1x1024.size a ≤ S2048x1024.size a)
theorem k0_off294_inb : ∀ (v1765 : BitVec 32) (k0_hw294 : k0_chk294 v1765), ∀ a, (k0_off294 v1765) a + S1x1024.size a ≤ S2048x1024.size a := fun v1765 k0_hw294 => k0_hw294

def k0_off295 (v1771 : BitVec 32) : Fin 2 → Nat :=
  let v1772 : Index := Scalar.indexCast v1771
  let c0_1178 : Index := 0#32
  ![v1772.toNat, 0]

def k0_chk295 (v1771 : BitVec 32) : Prop :=
  (∀ a, (k0_off295 v1771) a + S1x1024.size a ≤ S2048x1024.size a)
theorem k0_off295_inb : ∀ (v1771 : BitVec 32) (k0_hw295 : k0_chk295 v1771), ∀ a, (k0_off295 v1771) a + S1x1024.size a ≤ S2048x1024.size a := fun v1771 k0_hw295 => k0_hw295

def k0_off296 (v1777 : BitVec 32) : Fin 2 → Nat :=
  let v1778 : Index := Scalar.indexCast v1777
  let c0_1182 : Index := 0#32
  ![v1778.toNat, 0]

def k0_chk296 (v1777 : BitVec 32) : Prop :=
  (∀ a, (k0_off296 v1777) a + S1x1024.size a ≤ S2048x1024.size a)
theorem k0_off296_inb : ∀ (v1777 : BitVec 32) (k0_hw296 : k0_chk296 v1777), ∀ a, (k0_off296 v1777) a + S1x1024.size a ≤ S2048x1024.size a := fun v1777 k0_hw296 => k0_hw296

def k0_off297 (v1783 : BitVec 32) : Fin 2 → Nat :=
  let v1784 : Index := Scalar.indexCast v1783
  let c0_1186 : Index := 0#32
  ![v1784.toNat, 0]

def k0_chk297 (v1783 : BitVec 32) : Prop :=
  (∀ a, (k0_off297 v1783) a + S1x1024.size a ≤ S2048x1024.size a)
theorem k0_off297_inb : ∀ (v1783 : BitVec 32) (k0_hw297 : k0_chk297 v1783), ∀ a, (k0_off297 v1783) a + S1x1024.size a ≤ S2048x1024.size a := fun v1783 k0_hw297 => k0_hw297

def k0_off298 (v1789 : BitVec 32) : Fin 2 → Nat :=
  let v1790 : Index := Scalar.indexCast v1789
  let c0_1190 : Index := 0#32
  ![v1790.toNat, 0]

def k0_chk298 (v1789 : BitVec 32) : Prop :=
  (∀ a, (k0_off298 v1789) a + S1x1024.size a ≤ S2048x1024.size a)
theorem k0_off298_inb : ∀ (v1789 : BitVec 32) (k0_hw298 : k0_chk298 v1789), ∀ a, (k0_off298 v1789) a + S1x1024.size a ≤ S2048x1024.size a := fun v1789 k0_hw298 => k0_hw298

def k0_off299 (v1795 : BitVec 32) : Fin 2 → Nat :=
  let v1796 : Index := Scalar.indexCast v1795
  let c0_1194 : Index := 0#32
  ![v1796.toNat, 0]

def k0_chk299 (v1795 : BitVec 32) : Prop :=
  (∀ a, (k0_off299 v1795) a + S1x1024.size a ≤ S2048x1024.size a)
theorem k0_off299_inb : ∀ (v1795 : BitVec 32) (k0_hw299 : k0_chk299 v1795), ∀ a, (k0_off299 v1795) a + S1x1024.size a ≤ S2048x1024.size a := fun v1795 k0_hw299 => k0_hw299

def k0_off300 (v1801 : BitVec 32) : Fin 2 → Nat :=
  let v1802 : Index := Scalar.indexCast v1801
  let c0_1198 : Index := 0#32
  ![v1802.toNat, 0]

def k0_chk300 (v1801 : BitVec 32) : Prop :=
  (∀ a, (k0_off300 v1801) a + S1x1024.size a ≤ S2048x1024.size a)
theorem k0_off300_inb : ∀ (v1801 : BitVec 32) (k0_hw300 : k0_chk300 v1801), ∀ a, (k0_off300 v1801) a + S1x1024.size a ≤ S2048x1024.size a := fun v1801 k0_hw300 => k0_hw300

def k0_off301 (v1807 : BitVec 32) : Fin 2 → Nat :=
  let v1808 : Index := Scalar.indexCast v1807
  let c0_1202 : Index := 0#32
  ![v1808.toNat, 0]

def k0_chk301 (v1807 : BitVec 32) : Prop :=
  (∀ a, (k0_off301 v1807) a + S1x1024.size a ≤ S2048x1024.size a)
theorem k0_off301_inb : ∀ (v1807 : BitVec 32) (k0_hw301 : k0_chk301 v1807), ∀ a, (k0_off301 v1807) a + S1x1024.size a ≤ S2048x1024.size a := fun v1807 k0_hw301 => k0_hw301

def k0_off302 (v1813 : BitVec 32) : Fin 2 → Nat :=
  let v1814 : Index := Scalar.indexCast v1813
  let c0_1206 : Index := 0#32
  ![v1814.toNat, 0]

def k0_chk302 (v1813 : BitVec 32) : Prop :=
  (∀ a, (k0_off302 v1813) a + S1x1024.size a ≤ S2048x1024.size a)
theorem k0_off302_inb : ∀ (v1813 : BitVec 32) (k0_hw302 : k0_chk302 v1813), ∀ a, (k0_off302 v1813) a + S1x1024.size a ≤ S2048x1024.size a := fun v1813 k0_hw302 => k0_hw302

def k0_off303 (v1819 : BitVec 32) : Fin 2 → Nat :=
  let v1820 : Index := Scalar.indexCast v1819
  let c0_1210 : Index := 0#32
  ![v1820.toNat, 0]

def k0_chk303 (v1819 : BitVec 32) : Prop :=
  (∀ a, (k0_off303 v1819) a + S1x1024.size a ≤ S2048x1024.size a)
theorem k0_off303_inb : ∀ (v1819 : BitVec 32) (k0_hw303 : k0_chk303 v1819), ∀ a, (k0_off303 v1819) a + S1x1024.size a ≤ S2048x1024.size a := fun v1819 k0_hw303 => k0_hw303

def k0_off304 (v1825 : BitVec 32) : Fin 2 → Nat :=
  let v1826 : Index := Scalar.indexCast v1825
  let c0_1214 : Index := 0#32
  ![v1826.toNat, 0]

def k0_chk304 (v1825 : BitVec 32) : Prop :=
  (∀ a, (k0_off304 v1825) a + S1x1024.size a ≤ S2048x1024.size a)
theorem k0_off304_inb : ∀ (v1825 : BitVec 32) (k0_hw304 : k0_chk304 v1825), ∀ a, (k0_off304 v1825) a + S1x1024.size a ≤ S2048x1024.size a := fun v1825 k0_hw304 => k0_hw304

def k0_off305 (v1831 : BitVec 32) : Fin 2 → Nat :=
  let v1832 : Index := Scalar.indexCast v1831
  let c0_1218 : Index := 0#32
  ![v1832.toNat, 0]

def k0_chk305 (v1831 : BitVec 32) : Prop :=
  (∀ a, (k0_off305 v1831) a + S1x1024.size a ≤ S2048x1024.size a)
theorem k0_off305_inb : ∀ (v1831 : BitVec 32) (k0_hw305 : k0_chk305 v1831), ∀ a, (k0_off305 v1831) a + S1x1024.size a ≤ S2048x1024.size a := fun v1831 k0_hw305 => k0_hw305

def k0_off306 (v1837 : BitVec 32) : Fin 2 → Nat :=
  let v1838 : Index := Scalar.indexCast v1837
  let c0_1222 : Index := 0#32
  ![v1838.toNat, 0]

def k0_chk306 (v1837 : BitVec 32) : Prop :=
  (∀ a, (k0_off306 v1837) a + S1x1024.size a ≤ S2048x1024.size a)
theorem k0_off306_inb : ∀ (v1837 : BitVec 32) (k0_hw306 : k0_chk306 v1837), ∀ a, (k0_off306 v1837) a + S1x1024.size a ≤ S2048x1024.size a := fun v1837 k0_hw306 => k0_hw306

def k0_off307 (v1843 : BitVec 32) : Fin 2 → Nat :=
  let v1844 : Index := Scalar.indexCast v1843
  let c0_1226 : Index := 0#32
  ![v1844.toNat, 0]

def k0_chk307 (v1843 : BitVec 32) : Prop :=
  (∀ a, (k0_off307 v1843) a + S1x1024.size a ≤ S2048x1024.size a)
theorem k0_off307_inb : ∀ (v1843 : BitVec 32) (k0_hw307 : k0_chk307 v1843), ∀ a, (k0_off307 v1843) a + S1x1024.size a ≤ S2048x1024.size a := fun v1843 k0_hw307 => k0_hw307

def k0_off308 (v1849 : BitVec 32) : Fin 2 → Nat :=
  let v1850 : Index := Scalar.indexCast v1849
  let c0_1230 : Index := 0#32
  ![v1850.toNat, 0]

def k0_chk308 (v1849 : BitVec 32) : Prop :=
  (∀ a, (k0_off308 v1849) a + S1x1024.size a ≤ S2048x1024.size a)
theorem k0_off308_inb : ∀ (v1849 : BitVec 32) (k0_hw308 : k0_chk308 v1849), ∀ a, (k0_off308 v1849) a + S1x1024.size a ≤ S2048x1024.size a := fun v1849 k0_hw308 => k0_hw308

def k0_off309 (v1855 : BitVec 32) : Fin 2 → Nat :=
  let v1856 : Index := Scalar.indexCast v1855
  let c0_1234 : Index := 0#32
  ![v1856.toNat, 0]

def k0_chk309 (v1855 : BitVec 32) : Prop :=
  (∀ a, (k0_off309 v1855) a + S1x1024.size a ≤ S2048x1024.size a)
theorem k0_off309_inb : ∀ (v1855 : BitVec 32) (k0_hw309 : k0_chk309 v1855), ∀ a, (k0_off309 v1855) a + S1x1024.size a ≤ S2048x1024.size a := fun v1855 k0_hw309 => k0_hw309

def k0_off310 (v1861 : BitVec 32) : Fin 2 → Nat :=
  let v1862 : Index := Scalar.indexCast v1861
  let c0_1238 : Index := 0#32
  ![v1862.toNat, 0]

def k0_chk310 (v1861 : BitVec 32) : Prop :=
  (∀ a, (k0_off310 v1861) a + S1x1024.size a ≤ S2048x1024.size a)
theorem k0_off310_inb : ∀ (v1861 : BitVec 32) (k0_hw310 : k0_chk310 v1861), ∀ a, (k0_off310 v1861) a + S1x1024.size a ≤ S2048x1024.size a := fun v1861 k0_hw310 => k0_hw310

def k0_off311 (v1867 : BitVec 32) : Fin 2 → Nat :=
  let v1868 : Index := Scalar.indexCast v1867
  let c0_1242 : Index := 0#32
  ![v1868.toNat, 0]

def k0_chk311 (v1867 : BitVec 32) : Prop :=
  (∀ a, (k0_off311 v1867) a + S1x1024.size a ≤ S2048x1024.size a)
theorem k0_off311_inb : ∀ (v1867 : BitVec 32) (k0_hw311 : k0_chk311 v1867), ∀ a, (k0_off311 v1867) a + S1x1024.size a ≤ S2048x1024.size a := fun v1867 k0_hw311 => k0_hw311

def k0_off312 (v1873 : BitVec 32) : Fin 2 → Nat :=
  let v1874 : Index := Scalar.indexCast v1873
  let c0_1246 : Index := 0#32
  ![v1874.toNat, 0]

def k0_chk312 (v1873 : BitVec 32) : Prop :=
  (∀ a, (k0_off312 v1873) a + S1x1024.size a ≤ S2048x1024.size a)
theorem k0_off312_inb : ∀ (v1873 : BitVec 32) (k0_hw312 : k0_chk312 v1873), ∀ a, (k0_off312 v1873) a + S1x1024.size a ≤ S2048x1024.size a := fun v1873 k0_hw312 => k0_hw312

def k0_off313 (v1879 : BitVec 32) : Fin 2 → Nat :=
  let v1880 : Index := Scalar.indexCast v1879
  let c0_1250 : Index := 0#32
  ![v1880.toNat, 0]

def k0_chk313 (v1879 : BitVec 32) : Prop :=
  (∀ a, (k0_off313 v1879) a + S1x1024.size a ≤ S2048x1024.size a)
theorem k0_off313_inb : ∀ (v1879 : BitVec 32) (k0_hw313 : k0_chk313 v1879), ∀ a, (k0_off313 v1879) a + S1x1024.size a ≤ S2048x1024.size a := fun v1879 k0_hw313 => k0_hw313

def k0_off314 (v1885 : BitVec 32) : Fin 2 → Nat :=
  let v1886 : Index := Scalar.indexCast v1885
  let c0_1254 : Index := 0#32
  ![v1886.toNat, 0]

def k0_chk314 (v1885 : BitVec 32) : Prop :=
  (∀ a, (k0_off314 v1885) a + S1x1024.size a ≤ S2048x1024.size a)
theorem k0_off314_inb : ∀ (v1885 : BitVec 32) (k0_hw314 : k0_chk314 v1885), ∀ a, (k0_off314 v1885) a + S1x1024.size a ≤ S2048x1024.size a := fun v1885 k0_hw314 => k0_hw314

def k0_off315 (v1891 : BitVec 32) : Fin 2 → Nat :=
  let v1892 : Index := Scalar.indexCast v1891
  let c0_1258 : Index := 0#32
  ![v1892.toNat, 0]

def k0_chk315 (v1891 : BitVec 32) : Prop :=
  (∀ a, (k0_off315 v1891) a + S1x1024.size a ≤ S2048x1024.size a)
theorem k0_off315_inb : ∀ (v1891 : BitVec 32) (k0_hw315 : k0_chk315 v1891), ∀ a, (k0_off315 v1891) a + S1x1024.size a ≤ S2048x1024.size a := fun v1891 k0_hw315 => k0_hw315

def k0_off316 (v1897 : BitVec 32) : Fin 2 → Nat :=
  let v1898 : Index := Scalar.indexCast v1897
  let c0_1262 : Index := 0#32
  ![v1898.toNat, 0]

def k0_chk316 (v1897 : BitVec 32) : Prop :=
  (∀ a, (k0_off316 v1897) a + S1x1024.size a ≤ S2048x1024.size a)
theorem k0_off316_inb : ∀ (v1897 : BitVec 32) (k0_hw316 : k0_chk316 v1897), ∀ a, (k0_off316 v1897) a + S1x1024.size a ≤ S2048x1024.size a := fun v1897 k0_hw316 => k0_hw316

def k0_off317 (v1903 : BitVec 32) : Fin 2 → Nat :=
  let v1904 : Index := Scalar.indexCast v1903
  let c0_1266 : Index := 0#32
  ![v1904.toNat, 0]

def k0_chk317 (v1903 : BitVec 32) : Prop :=
  (∀ a, (k0_off317 v1903) a + S1x1024.size a ≤ S2048x1024.size a)
theorem k0_off317_inb : ∀ (v1903 : BitVec 32) (k0_hw317 : k0_chk317 v1903), ∀ a, (k0_off317 v1903) a + S1x1024.size a ≤ S2048x1024.size a := fun v1903 k0_hw317 => k0_hw317

def k0_off318 (v1909 : BitVec 32) : Fin 2 → Nat :=
  let v1910 : Index := Scalar.indexCast v1909
  let c0_1270 : Index := 0#32
  ![v1910.toNat, 0]

def k0_chk318 (v1909 : BitVec 32) : Prop :=
  (∀ a, (k0_off318 v1909) a + S1x1024.size a ≤ S2048x1024.size a)
theorem k0_off318_inb : ∀ (v1909 : BitVec 32) (k0_hw318 : k0_chk318 v1909), ∀ a, (k0_off318 v1909) a + S1x1024.size a ≤ S2048x1024.size a := fun v1909 k0_hw318 => k0_hw318

def k0_off319 (v1915 : BitVec 32) : Fin 2 → Nat :=
  let v1916 : Index := Scalar.indexCast v1915
  let c0_1274 : Index := 0#32
  ![v1916.toNat, 0]

def k0_chk319 (v1915 : BitVec 32) : Prop :=
  (∀ a, (k0_off319 v1915) a + S1x1024.size a ≤ S2048x1024.size a)
theorem k0_off319_inb : ∀ (v1915 : BitVec 32) (k0_hw319 : k0_chk319 v1915), ∀ a, (k0_off319 v1915) a + S1x1024.size a ≤ S2048x1024.size a := fun v1915 k0_hw319 => k0_hw319

def k0_off320 (v1921 : BitVec 32) : Fin 2 → Nat :=
  let v1922 : Index := Scalar.indexCast v1921
  let c0_1278 : Index := 0#32
  ![v1922.toNat, 0]

def k0_chk320 (v1921 : BitVec 32) : Prop :=
  (∀ a, (k0_off320 v1921) a + S1x1024.size a ≤ S2048x1024.size a)
theorem k0_off320_inb : ∀ (v1921 : BitVec 32) (k0_hw320 : k0_chk320 v1921), ∀ a, (k0_off320 v1921) a + S1x1024.size a ≤ S2048x1024.size a := fun v1921 k0_hw320 => k0_hw320

def k0_off321 (v1927 : BitVec 32) : Fin 2 → Nat :=
  let v1928 : Index := Scalar.indexCast v1927
  let c0_1282 : Index := 0#32
  ![v1928.toNat, 0]

def k0_chk321 (v1927 : BitVec 32) : Prop :=
  (∀ a, (k0_off321 v1927) a + S1x1024.size a ≤ S2048x1024.size a)
theorem k0_off321_inb : ∀ (v1927 : BitVec 32) (k0_hw321 : k0_chk321 v1927), ∀ a, (k0_off321 v1927) a + S1x1024.size a ≤ S2048x1024.size a := fun v1927 k0_hw321 => k0_hw321

def k0_off322 (v1933 : BitVec 32) : Fin 2 → Nat :=
  let v1934 : Index := Scalar.indexCast v1933
  let c0_1286 : Index := 0#32
  ![v1934.toNat, 0]

def k0_chk322 (v1933 : BitVec 32) : Prop :=
  (∀ a, (k0_off322 v1933) a + S1x1024.size a ≤ S2048x1024.size a)
theorem k0_off322_inb : ∀ (v1933 : BitVec 32) (k0_hw322 : k0_chk322 v1933), ∀ a, (k0_off322 v1933) a + S1x1024.size a ≤ S2048x1024.size a := fun v1933 k0_hw322 => k0_hw322

def k0_off323 (v1939 : BitVec 32) : Fin 2 → Nat :=
  let v1940 : Index := Scalar.indexCast v1939
  let c0_1290 : Index := 0#32
  ![v1940.toNat, 0]

def k0_chk323 (v1939 : BitVec 32) : Prop :=
  (∀ a, (k0_off323 v1939) a + S1x1024.size a ≤ S2048x1024.size a)
theorem k0_off323_inb : ∀ (v1939 : BitVec 32) (k0_hw323 : k0_chk323 v1939), ∀ a, (k0_off323 v1939) a + S1x1024.size a ≤ S2048x1024.size a := fun v1939 k0_hw323 => k0_hw323

def k0_off324 (v1945 : BitVec 32) : Fin 2 → Nat :=
  let v1946 : Index := Scalar.indexCast v1945
  let c0_1294 : Index := 0#32
  ![v1946.toNat, 0]

def k0_chk324 (v1945 : BitVec 32) : Prop :=
  (∀ a, (k0_off324 v1945) a + S1x1024.size a ≤ S2048x1024.size a)
theorem k0_off324_inb : ∀ (v1945 : BitVec 32) (k0_hw324 : k0_chk324 v1945), ∀ a, (k0_off324 v1945) a + S1x1024.size a ≤ S2048x1024.size a := fun v1945 k0_hw324 => k0_hw324

def k0_off325 (v1951 : BitVec 32) : Fin 2 → Nat :=
  let v1952 : Index := Scalar.indexCast v1951
  let c0_1298 : Index := 0#32
  ![v1952.toNat, 0]

def k0_chk325 (v1951 : BitVec 32) : Prop :=
  (∀ a, (k0_off325 v1951) a + S1x1024.size a ≤ S2048x1024.size a)
theorem k0_off325_inb : ∀ (v1951 : BitVec 32) (k0_hw325 : k0_chk325 v1951), ∀ a, (k0_off325 v1951) a + S1x1024.size a ≤ S2048x1024.size a := fun v1951 k0_hw325 => k0_hw325

def k0_off326 (v1957 : BitVec 32) : Fin 2 → Nat :=
  let v1958 : Index := Scalar.indexCast v1957
  let c0_1302 : Index := 0#32
  ![v1958.toNat, 0]

def k0_chk326 (v1957 : BitVec 32) : Prop :=
  (∀ a, (k0_off326 v1957) a + S1x1024.size a ≤ S2048x1024.size a)
theorem k0_off326_inb : ∀ (v1957 : BitVec 32) (k0_hw326 : k0_chk326 v1957), ∀ a, (k0_off326 v1957) a + S1x1024.size a ≤ S2048x1024.size a := fun v1957 k0_hw326 => k0_hw326

def k0_off327 (v1963 : BitVec 32) : Fin 2 → Nat :=
  let v1964 : Index := Scalar.indexCast v1963
  let c0_1306 : Index := 0#32
  ![v1964.toNat, 0]

def k0_chk327 (v1963 : BitVec 32) : Prop :=
  (∀ a, (k0_off327 v1963) a + S1x1024.size a ≤ S2048x1024.size a)
theorem k0_off327_inb : ∀ (v1963 : BitVec 32) (k0_hw327 : k0_chk327 v1963), ∀ a, (k0_off327 v1963) a + S1x1024.size a ≤ S2048x1024.size a := fun v1963 k0_hw327 => k0_hw327

def k0_off328 (v1969 : BitVec 32) : Fin 2 → Nat :=
  let v1970 : Index := Scalar.indexCast v1969
  let c0_1310 : Index := 0#32
  ![v1970.toNat, 0]

def k0_chk328 (v1969 : BitVec 32) : Prop :=
  (∀ a, (k0_off328 v1969) a + S1x1024.size a ≤ S2048x1024.size a)
theorem k0_off328_inb : ∀ (v1969 : BitVec 32) (k0_hw328 : k0_chk328 v1969), ∀ a, (k0_off328 v1969) a + S1x1024.size a ≤ S2048x1024.size a := fun v1969 k0_hw328 => k0_hw328

def k0_off329 (v1975 : BitVec 32) : Fin 2 → Nat :=
  let v1976 : Index := Scalar.indexCast v1975
  let c0_1314 : Index := 0#32
  ![v1976.toNat, 0]

def k0_chk329 (v1975 : BitVec 32) : Prop :=
  (∀ a, (k0_off329 v1975) a + S1x1024.size a ≤ S2048x1024.size a)
theorem k0_off329_inb : ∀ (v1975 : BitVec 32) (k0_hw329 : k0_chk329 v1975), ∀ a, (k0_off329 v1975) a + S1x1024.size a ≤ S2048x1024.size a := fun v1975 k0_hw329 => k0_hw329

def k0_off330 (v1981 : BitVec 32) : Fin 2 → Nat :=
  let v1982 : Index := Scalar.indexCast v1981
  let c0_1318 : Index := 0#32
  ![v1982.toNat, 0]

def k0_chk330 (v1981 : BitVec 32) : Prop :=
  (∀ a, (k0_off330 v1981) a + S1x1024.size a ≤ S2048x1024.size a)
theorem k0_off330_inb : ∀ (v1981 : BitVec 32) (k0_hw330 : k0_chk330 v1981), ∀ a, (k0_off330 v1981) a + S1x1024.size a ≤ S2048x1024.size a := fun v1981 k0_hw330 => k0_hw330

def k0_off331 (v1987 : BitVec 32) : Fin 2 → Nat :=
  let v1988 : Index := Scalar.indexCast v1987
  let c0_1322 : Index := 0#32
  ![v1988.toNat, 0]

def k0_chk331 (v1987 : BitVec 32) : Prop :=
  (∀ a, (k0_off331 v1987) a + S1x1024.size a ≤ S2048x1024.size a)
theorem k0_off331_inb : ∀ (v1987 : BitVec 32) (k0_hw331 : k0_chk331 v1987), ∀ a, (k0_off331 v1987) a + S1x1024.size a ≤ S2048x1024.size a := fun v1987 k0_hw331 => k0_hw331

def k0_off332 (v1993 : BitVec 32) : Fin 2 → Nat :=
  let v1994 : Index := Scalar.indexCast v1993
  let c0_1326 : Index := 0#32
  ![v1994.toNat, 0]

def k0_chk332 (v1993 : BitVec 32) : Prop :=
  (∀ a, (k0_off332 v1993) a + S1x1024.size a ≤ S2048x1024.size a)
theorem k0_off332_inb : ∀ (v1993 : BitVec 32) (k0_hw332 : k0_chk332 v1993), ∀ a, (k0_off332 v1993) a + S1x1024.size a ≤ S2048x1024.size a := fun v1993 k0_hw332 => k0_hw332

def k0_off333 (v1999 : BitVec 32) : Fin 2 → Nat :=
  let v2000 : Index := Scalar.indexCast v1999
  let c0_1330 : Index := 0#32
  ![v2000.toNat, 0]

def k0_chk333 (v1999 : BitVec 32) : Prop :=
  (∀ a, (k0_off333 v1999) a + S1x1024.size a ≤ S2048x1024.size a)
theorem k0_off333_inb : ∀ (v1999 : BitVec 32) (k0_hw333 : k0_chk333 v1999), ∀ a, (k0_off333 v1999) a + S1x1024.size a ≤ S2048x1024.size a := fun v1999 k0_hw333 => k0_hw333

def k0_off334 (v2005 : BitVec 32) : Fin 2 → Nat :=
  let v2006 : Index := Scalar.indexCast v2005
  let c0_1334 : Index := 0#32
  ![v2006.toNat, 0]

def k0_chk334 (v2005 : BitVec 32) : Prop :=
  (∀ a, (k0_off334 v2005) a + S1x1024.size a ≤ S2048x1024.size a)
theorem k0_off334_inb : ∀ (v2005 : BitVec 32) (k0_hw334 : k0_chk334 v2005), ∀ a, (k0_off334 v2005) a + S1x1024.size a ≤ S2048x1024.size a := fun v2005 k0_hw334 => k0_hw334

def k0_off335 (v2011 : BitVec 32) : Fin 2 → Nat :=
  let v2012 : Index := Scalar.indexCast v2011
  let c0_1338 : Index := 0#32
  ![v2012.toNat, 0]

def k0_chk335 (v2011 : BitVec 32) : Prop :=
  (∀ a, (k0_off335 v2011) a + S1x1024.size a ≤ S2048x1024.size a)
theorem k0_off335_inb : ∀ (v2011 : BitVec 32) (k0_hw335 : k0_chk335 v2011), ∀ a, (k0_off335 v2011) a + S1x1024.size a ≤ S2048x1024.size a := fun v2011 k0_hw335 => k0_hw335

def k0_off336 (v2017 : BitVec 32) : Fin 2 → Nat :=
  let v2018 : Index := Scalar.indexCast v2017
  let c0_1342 : Index := 0#32
  ![v2018.toNat, 0]

def k0_chk336 (v2017 : BitVec 32) : Prop :=
  (∀ a, (k0_off336 v2017) a + S1x1024.size a ≤ S2048x1024.size a)
theorem k0_off336_inb : ∀ (v2017 : BitVec 32) (k0_hw336 : k0_chk336 v2017), ∀ a, (k0_off336 v2017) a + S1x1024.size a ≤ S2048x1024.size a := fun v2017 k0_hw336 => k0_hw336

def k0_off337 (v2023 : BitVec 32) : Fin 2 → Nat :=
  let v2024 : Index := Scalar.indexCast v2023
  let c0_1346 : Index := 0#32
  ![v2024.toNat, 0]

def k0_chk337 (v2023 : BitVec 32) : Prop :=
  (∀ a, (k0_off337 v2023) a + S1x1024.size a ≤ S2048x1024.size a)
theorem k0_off337_inb : ∀ (v2023 : BitVec 32) (k0_hw337 : k0_chk337 v2023), ∀ a, (k0_off337 v2023) a + S1x1024.size a ≤ S2048x1024.size a := fun v2023 k0_hw337 => k0_hw337

def k0_off338 (v2029 : BitVec 32) : Fin 2 → Nat :=
  let v2030 : Index := Scalar.indexCast v2029
  let c0_1350 : Index := 0#32
  ![v2030.toNat, 0]

def k0_chk338 (v2029 : BitVec 32) : Prop :=
  (∀ a, (k0_off338 v2029) a + S1x1024.size a ≤ S2048x1024.size a)
theorem k0_off338_inb : ∀ (v2029 : BitVec 32) (k0_hw338 : k0_chk338 v2029), ∀ a, (k0_off338 v2029) a + S1x1024.size a ≤ S2048x1024.size a := fun v2029 k0_hw338 => k0_hw338

def k0_off339 (v2035 : BitVec 32) : Fin 2 → Nat :=
  let v2036 : Index := Scalar.indexCast v2035
  let c0_1354 : Index := 0#32
  ![v2036.toNat, 0]

def k0_chk339 (v2035 : BitVec 32) : Prop :=
  (∀ a, (k0_off339 v2035) a + S1x1024.size a ≤ S2048x1024.size a)
theorem k0_off339_inb : ∀ (v2035 : BitVec 32) (k0_hw339 : k0_chk339 v2035), ∀ a, (k0_off339 v2035) a + S1x1024.size a ≤ S2048x1024.size a := fun v2035 k0_hw339 => k0_hw339

def k0_off340 (v2041 : BitVec 32) : Fin 2 → Nat :=
  let v2042 : Index := Scalar.indexCast v2041
  let c0_1358 : Index := 0#32
  ![v2042.toNat, 0]

def k0_chk340 (v2041 : BitVec 32) : Prop :=
  (∀ a, (k0_off340 v2041) a + S1x1024.size a ≤ S2048x1024.size a)
theorem k0_off340_inb : ∀ (v2041 : BitVec 32) (k0_hw340 : k0_chk340 v2041), ∀ a, (k0_off340 v2041) a + S1x1024.size a ≤ S2048x1024.size a := fun v2041 k0_hw340 => k0_hw340

def k0_off341 (v2047 : BitVec 32) : Fin 2 → Nat :=
  let v2048 : Index := Scalar.indexCast v2047
  let c0_1362 : Index := 0#32
  ![v2048.toNat, 0]

def k0_chk341 (v2047 : BitVec 32) : Prop :=
  (∀ a, (k0_off341 v2047) a + S1x1024.size a ≤ S2048x1024.size a)
theorem k0_off341_inb : ∀ (v2047 : BitVec 32) (k0_hw341 : k0_chk341 v2047), ∀ a, (k0_off341 v2047) a + S1x1024.size a ≤ S2048x1024.size a := fun v2047 k0_hw341 => k0_hw341

def k0_off342 (v2053 : BitVec 32) : Fin 2 → Nat :=
  let v2054 : Index := Scalar.indexCast v2053
  let c0_1366 : Index := 0#32
  ![v2054.toNat, 0]

def k0_chk342 (v2053 : BitVec 32) : Prop :=
  (∀ a, (k0_off342 v2053) a + S1x1024.size a ≤ S2048x1024.size a)
theorem k0_off342_inb : ∀ (v2053 : BitVec 32) (k0_hw342 : k0_chk342 v2053), ∀ a, (k0_off342 v2053) a + S1x1024.size a ≤ S2048x1024.size a := fun v2053 k0_hw342 => k0_hw342

def k0_off343 (v2059 : BitVec 32) : Fin 2 → Nat :=
  let v2060 : Index := Scalar.indexCast v2059
  let c0_1370 : Index := 0#32
  ![v2060.toNat, 0]

def k0_chk343 (v2059 : BitVec 32) : Prop :=
  (∀ a, (k0_off343 v2059) a + S1x1024.size a ≤ S2048x1024.size a)
theorem k0_off343_inb : ∀ (v2059 : BitVec 32) (k0_hw343 : k0_chk343 v2059), ∀ a, (k0_off343 v2059) a + S1x1024.size a ≤ S2048x1024.size a := fun v2059 k0_hw343 => k0_hw343

def k0_off344 (v2065 : BitVec 32) : Fin 2 → Nat :=
  let v2066 : Index := Scalar.indexCast v2065
  let c0_1374 : Index := 0#32
  ![v2066.toNat, 0]

def k0_chk344 (v2065 : BitVec 32) : Prop :=
  (∀ a, (k0_off344 v2065) a + S1x1024.size a ≤ S2048x1024.size a)
theorem k0_off344_inb : ∀ (v2065 : BitVec 32) (k0_hw344 : k0_chk344 v2065), ∀ a, (k0_off344 v2065) a + S1x1024.size a ≤ S2048x1024.size a := fun v2065 k0_hw344 => k0_hw344

def k0_off345 (v2071 : BitVec 32) : Fin 2 → Nat :=
  let v2072 : Index := Scalar.indexCast v2071
  let c0_1378 : Index := 0#32
  ![v2072.toNat, 0]

def k0_chk345 (v2071 : BitVec 32) : Prop :=
  (∀ a, (k0_off345 v2071) a + S1x1024.size a ≤ S2048x1024.size a)
theorem k0_off345_inb : ∀ (v2071 : BitVec 32) (k0_hw345 : k0_chk345 v2071), ∀ a, (k0_off345 v2071) a + S1x1024.size a ≤ S2048x1024.size a := fun v2071 k0_hw345 => k0_hw345

def k0_off346 (v2077 : BitVec 32) : Fin 2 → Nat :=
  let v2078 : Index := Scalar.indexCast v2077
  let c0_1382 : Index := 0#32
  ![v2078.toNat, 0]

def k0_chk346 (v2077 : BitVec 32) : Prop :=
  (∀ a, (k0_off346 v2077) a + S1x1024.size a ≤ S2048x1024.size a)
theorem k0_off346_inb : ∀ (v2077 : BitVec 32) (k0_hw346 : k0_chk346 v2077), ∀ a, (k0_off346 v2077) a + S1x1024.size a ≤ S2048x1024.size a := fun v2077 k0_hw346 => k0_hw346

def k0_off347 (v2083 : BitVec 32) : Fin 2 → Nat :=
  let v2084 : Index := Scalar.indexCast v2083
  let c0_1386 : Index := 0#32
  ![v2084.toNat, 0]

def k0_chk347 (v2083 : BitVec 32) : Prop :=
  (∀ a, (k0_off347 v2083) a + S1x1024.size a ≤ S2048x1024.size a)
theorem k0_off347_inb : ∀ (v2083 : BitVec 32) (k0_hw347 : k0_chk347 v2083), ∀ a, (k0_off347 v2083) a + S1x1024.size a ≤ S2048x1024.size a := fun v2083 k0_hw347 => k0_hw347

def k0_off348 (v2089 : BitVec 32) : Fin 2 → Nat :=
  let v2090 : Index := Scalar.indexCast v2089
  let c0_1390 : Index := 0#32
  ![v2090.toNat, 0]

def k0_chk348 (v2089 : BitVec 32) : Prop :=
  (∀ a, (k0_off348 v2089) a + S1x1024.size a ≤ S2048x1024.size a)
theorem k0_off348_inb : ∀ (v2089 : BitVec 32) (k0_hw348 : k0_chk348 v2089), ∀ a, (k0_off348 v2089) a + S1x1024.size a ≤ S2048x1024.size a := fun v2089 k0_hw348 => k0_hw348

def k0_off349 (v2095 : BitVec 32) : Fin 2 → Nat :=
  let v2096 : Index := Scalar.indexCast v2095
  let c0_1394 : Index := 0#32
  ![v2096.toNat, 0]

def k0_chk349 (v2095 : BitVec 32) : Prop :=
  (∀ a, (k0_off349 v2095) a + S1x1024.size a ≤ S2048x1024.size a)
theorem k0_off349_inb : ∀ (v2095 : BitVec 32) (k0_hw349 : k0_chk349 v2095), ∀ a, (k0_off349 v2095) a + S1x1024.size a ≤ S2048x1024.size a := fun v2095 k0_hw349 => k0_hw349

def k0_off350 (v2101 : BitVec 32) : Fin 2 → Nat :=
  let v2102 : Index := Scalar.indexCast v2101
  let c0_1398 : Index := 0#32
  ![v2102.toNat, 0]

def k0_chk350 (v2101 : BitVec 32) : Prop :=
  (∀ a, (k0_off350 v2101) a + S1x1024.size a ≤ S2048x1024.size a)
theorem k0_off350_inb : ∀ (v2101 : BitVec 32) (k0_hw350 : k0_chk350 v2101), ∀ a, (k0_off350 v2101) a + S1x1024.size a ≤ S2048x1024.size a := fun v2101 k0_hw350 => k0_hw350

def k0_off351 (v2107 : BitVec 32) : Fin 2 → Nat :=
  let v2108 : Index := Scalar.indexCast v2107
  let c0_1402 : Index := 0#32
  ![v2108.toNat, 0]

def k0_chk351 (v2107 : BitVec 32) : Prop :=
  (∀ a, (k0_off351 v2107) a + S1x1024.size a ≤ S2048x1024.size a)
theorem k0_off351_inb : ∀ (v2107 : BitVec 32) (k0_hw351 : k0_chk351 v2107), ∀ a, (k0_off351 v2107) a + S1x1024.size a ≤ S2048x1024.size a := fun v2107 k0_hw351 => k0_hw351

def k0_off352 (v2113 : BitVec 32) : Fin 2 → Nat :=
  let v2114 : Index := Scalar.indexCast v2113
  let c0_1406 : Index := 0#32
  ![v2114.toNat, 0]

def k0_chk352 (v2113 : BitVec 32) : Prop :=
  (∀ a, (k0_off352 v2113) a + S1x1024.size a ≤ S2048x1024.size a)
theorem k0_off352_inb : ∀ (v2113 : BitVec 32) (k0_hw352 : k0_chk352 v2113), ∀ a, (k0_off352 v2113) a + S1x1024.size a ≤ S2048x1024.size a := fun v2113 k0_hw352 => k0_hw352

def k0_off353 (v2119 : BitVec 32) : Fin 2 → Nat :=
  let v2120 : Index := Scalar.indexCast v2119
  let c0_1410 : Index := 0#32
  ![v2120.toNat, 0]

def k0_chk353 (v2119 : BitVec 32) : Prop :=
  (∀ a, (k0_off353 v2119) a + S1x1024.size a ≤ S2048x1024.size a)
theorem k0_off353_inb : ∀ (v2119 : BitVec 32) (k0_hw353 : k0_chk353 v2119), ∀ a, (k0_off353 v2119) a + S1x1024.size a ≤ S2048x1024.size a := fun v2119 k0_hw353 => k0_hw353

def k0_off354 (v2125 : BitVec 32) : Fin 2 → Nat :=
  let v2126 : Index := Scalar.indexCast v2125
  let c0_1414 : Index := 0#32
  ![v2126.toNat, 0]

def k0_chk354 (v2125 : BitVec 32) : Prop :=
  (∀ a, (k0_off354 v2125) a + S1x1024.size a ≤ S2048x1024.size a)
theorem k0_off354_inb : ∀ (v2125 : BitVec 32) (k0_hw354 : k0_chk354 v2125), ∀ a, (k0_off354 v2125) a + S1x1024.size a ≤ S2048x1024.size a := fun v2125 k0_hw354 => k0_hw354

def k0_off355 (v2131 : BitVec 32) : Fin 2 → Nat :=
  let v2132 : Index := Scalar.indexCast v2131
  let c0_1418 : Index := 0#32
  ![v2132.toNat, 0]

def k0_chk355 (v2131 : BitVec 32) : Prop :=
  (∀ a, (k0_off355 v2131) a + S1x1024.size a ≤ S2048x1024.size a)
theorem k0_off355_inb : ∀ (v2131 : BitVec 32) (k0_hw355 : k0_chk355 v2131), ∀ a, (k0_off355 v2131) a + S1x1024.size a ≤ S2048x1024.size a := fun v2131 k0_hw355 => k0_hw355

def k0_off356 (v2137 : BitVec 32) : Fin 2 → Nat :=
  let v2138 : Index := Scalar.indexCast v2137
  let c0_1422 : Index := 0#32
  ![v2138.toNat, 0]

def k0_chk356 (v2137 : BitVec 32) : Prop :=
  (∀ a, (k0_off356 v2137) a + S1x1024.size a ≤ S2048x1024.size a)
theorem k0_off356_inb : ∀ (v2137 : BitVec 32) (k0_hw356 : k0_chk356 v2137), ∀ a, (k0_off356 v2137) a + S1x1024.size a ≤ S2048x1024.size a := fun v2137 k0_hw356 => k0_hw356

def k0_off357 (v2143 : BitVec 32) : Fin 2 → Nat :=
  let v2144 : Index := Scalar.indexCast v2143
  let c0_1426 : Index := 0#32
  ![v2144.toNat, 0]

def k0_chk357 (v2143 : BitVec 32) : Prop :=
  (∀ a, (k0_off357 v2143) a + S1x1024.size a ≤ S2048x1024.size a)
theorem k0_off357_inb : ∀ (v2143 : BitVec 32) (k0_hw357 : k0_chk357 v2143), ∀ a, (k0_off357 v2143) a + S1x1024.size a ≤ S2048x1024.size a := fun v2143 k0_hw357 => k0_hw357

def k0_off358 (v2149 : BitVec 32) : Fin 2 → Nat :=
  let v2150 : Index := Scalar.indexCast v2149
  let c0_1430 : Index := 0#32
  ![v2150.toNat, 0]

def k0_chk358 (v2149 : BitVec 32) : Prop :=
  (∀ a, (k0_off358 v2149) a + S1x1024.size a ≤ S2048x1024.size a)
theorem k0_off358_inb : ∀ (v2149 : BitVec 32) (k0_hw358 : k0_chk358 v2149), ∀ a, (k0_off358 v2149) a + S1x1024.size a ≤ S2048x1024.size a := fun v2149 k0_hw358 => k0_hw358

def k0_off359 (v2155 : BitVec 32) : Fin 2 → Nat :=
  let v2156 : Index := Scalar.indexCast v2155
  let c0_1434 : Index := 0#32
  ![v2156.toNat, 0]

def k0_chk359 (v2155 : BitVec 32) : Prop :=
  (∀ a, (k0_off359 v2155) a + S1x1024.size a ≤ S2048x1024.size a)
theorem k0_off359_inb : ∀ (v2155 : BitVec 32) (k0_hw359 : k0_chk359 v2155), ∀ a, (k0_off359 v2155) a + S1x1024.size a ≤ S2048x1024.size a := fun v2155 k0_hw359 => k0_hw359

def k0_off360 (v2161 : BitVec 32) : Fin 2 → Nat :=
  let v2162 : Index := Scalar.indexCast v2161
  let c0_1438 : Index := 0#32
  ![v2162.toNat, 0]

def k0_chk360 (v2161 : BitVec 32) : Prop :=
  (∀ a, (k0_off360 v2161) a + S1x1024.size a ≤ S2048x1024.size a)
theorem k0_off360_inb : ∀ (v2161 : BitVec 32) (k0_hw360 : k0_chk360 v2161), ∀ a, (k0_off360 v2161) a + S1x1024.size a ≤ S2048x1024.size a := fun v2161 k0_hw360 => k0_hw360

def k0_off361 (v2167 : BitVec 32) : Fin 2 → Nat :=
  let v2168 : Index := Scalar.indexCast v2167
  let c0_1442 : Index := 0#32
  ![v2168.toNat, 0]

def k0_chk361 (v2167 : BitVec 32) : Prop :=
  (∀ a, (k0_off361 v2167) a + S1x1024.size a ≤ S2048x1024.size a)
theorem k0_off361_inb : ∀ (v2167 : BitVec 32) (k0_hw361 : k0_chk361 v2167), ∀ a, (k0_off361 v2167) a + S1x1024.size a ≤ S2048x1024.size a := fun v2167 k0_hw361 => k0_hw361

def k0_off362 (v2173 : BitVec 32) : Fin 2 → Nat :=
  let v2174 : Index := Scalar.indexCast v2173
  let c0_1446 : Index := 0#32
  ![v2174.toNat, 0]

def k0_chk362 (v2173 : BitVec 32) : Prop :=
  (∀ a, (k0_off362 v2173) a + S1x1024.size a ≤ S2048x1024.size a)
theorem k0_off362_inb : ∀ (v2173 : BitVec 32) (k0_hw362 : k0_chk362 v2173), ∀ a, (k0_off362 v2173) a + S1x1024.size a ≤ S2048x1024.size a := fun v2173 k0_hw362 => k0_hw362

def k0_off363 (v2179 : BitVec 32) : Fin 2 → Nat :=
  let v2180 : Index := Scalar.indexCast v2179
  let c0_1450 : Index := 0#32
  ![v2180.toNat, 0]

def k0_chk363 (v2179 : BitVec 32) : Prop :=
  (∀ a, (k0_off363 v2179) a + S1x1024.size a ≤ S2048x1024.size a)
theorem k0_off363_inb : ∀ (v2179 : BitVec 32) (k0_hw363 : k0_chk363 v2179), ∀ a, (k0_off363 v2179) a + S1x1024.size a ≤ S2048x1024.size a := fun v2179 k0_hw363 => k0_hw363

def k0_off364 (v2185 : BitVec 32) : Fin 2 → Nat :=
  let v2186 : Index := Scalar.indexCast v2185
  let c0_1454 : Index := 0#32
  ![v2186.toNat, 0]

def k0_chk364 (v2185 : BitVec 32) : Prop :=
  (∀ a, (k0_off364 v2185) a + S1x1024.size a ≤ S2048x1024.size a)
theorem k0_off364_inb : ∀ (v2185 : BitVec 32) (k0_hw364 : k0_chk364 v2185), ∀ a, (k0_off364 v2185) a + S1x1024.size a ≤ S2048x1024.size a := fun v2185 k0_hw364 => k0_hw364

def k0_off365 (v2191 : BitVec 32) : Fin 2 → Nat :=
  let v2192 : Index := Scalar.indexCast v2191
  let c0_1458 : Index := 0#32
  ![v2192.toNat, 0]

def k0_chk365 (v2191 : BitVec 32) : Prop :=
  (∀ a, (k0_off365 v2191) a + S1x1024.size a ≤ S2048x1024.size a)
theorem k0_off365_inb : ∀ (v2191 : BitVec 32) (k0_hw365 : k0_chk365 v2191), ∀ a, (k0_off365 v2191) a + S1x1024.size a ≤ S2048x1024.size a := fun v2191 k0_hw365 => k0_hw365

def k0_off366 (v2197 : BitVec 32) : Fin 2 → Nat :=
  let v2198 : Index := Scalar.indexCast v2197
  let c0_1462 : Index := 0#32
  ![v2198.toNat, 0]

def k0_chk366 (v2197 : BitVec 32) : Prop :=
  (∀ a, (k0_off366 v2197) a + S1x1024.size a ≤ S2048x1024.size a)
theorem k0_off366_inb : ∀ (v2197 : BitVec 32) (k0_hw366 : k0_chk366 v2197), ∀ a, (k0_off366 v2197) a + S1x1024.size a ≤ S2048x1024.size a := fun v2197 k0_hw366 => k0_hw366

def k0_off367 (v2203 : BitVec 32) : Fin 2 → Nat :=
  let v2204 : Index := Scalar.indexCast v2203
  let c0_1466 : Index := 0#32
  ![v2204.toNat, 0]

def k0_chk367 (v2203 : BitVec 32) : Prop :=
  (∀ a, (k0_off367 v2203) a + S1x1024.size a ≤ S2048x1024.size a)
theorem k0_off367_inb : ∀ (v2203 : BitVec 32) (k0_hw367 : k0_chk367 v2203), ∀ a, (k0_off367 v2203) a + S1x1024.size a ≤ S2048x1024.size a := fun v2203 k0_hw367 => k0_hw367

def k0_off368 (v2209 : BitVec 32) : Fin 2 → Nat :=
  let v2210 : Index := Scalar.indexCast v2209
  let c0_1470 : Index := 0#32
  ![v2210.toNat, 0]

def k0_chk368 (v2209 : BitVec 32) : Prop :=
  (∀ a, (k0_off368 v2209) a + S1x1024.size a ≤ S2048x1024.size a)
theorem k0_off368_inb : ∀ (v2209 : BitVec 32) (k0_hw368 : k0_chk368 v2209), ∀ a, (k0_off368 v2209) a + S1x1024.size a ≤ S2048x1024.size a := fun v2209 k0_hw368 => k0_hw368

def k0_off369 (v2215 : BitVec 32) : Fin 2 → Nat :=
  let v2216 : Index := Scalar.indexCast v2215
  let c0_1474 : Index := 0#32
  ![v2216.toNat, 0]

def k0_chk369 (v2215 : BitVec 32) : Prop :=
  (∀ a, (k0_off369 v2215) a + S1x1024.size a ≤ S2048x1024.size a)
theorem k0_off369_inb : ∀ (v2215 : BitVec 32) (k0_hw369 : k0_chk369 v2215), ∀ a, (k0_off369 v2215) a + S1x1024.size a ≤ S2048x1024.size a := fun v2215 k0_hw369 => k0_hw369

def k0_off370 (v2221 : BitVec 32) : Fin 2 → Nat :=
  let v2222 : Index := Scalar.indexCast v2221
  let c0_1478 : Index := 0#32
  ![v2222.toNat, 0]

def k0_chk370 (v2221 : BitVec 32) : Prop :=
  (∀ a, (k0_off370 v2221) a + S1x1024.size a ≤ S2048x1024.size a)
theorem k0_off370_inb : ∀ (v2221 : BitVec 32) (k0_hw370 : k0_chk370 v2221), ∀ a, (k0_off370 v2221) a + S1x1024.size a ≤ S2048x1024.size a := fun v2221 k0_hw370 => k0_hw370

def k0_off371 (v2227 : BitVec 32) : Fin 2 → Nat :=
  let v2228 : Index := Scalar.indexCast v2227
  let c0_1482 : Index := 0#32
  ![v2228.toNat, 0]

def k0_chk371 (v2227 : BitVec 32) : Prop :=
  (∀ a, (k0_off371 v2227) a + S1x1024.size a ≤ S2048x1024.size a)
theorem k0_off371_inb : ∀ (v2227 : BitVec 32) (k0_hw371 : k0_chk371 v2227), ∀ a, (k0_off371 v2227) a + S1x1024.size a ≤ S2048x1024.size a := fun v2227 k0_hw371 => k0_hw371

def k0_off372 (v2233 : BitVec 32) : Fin 2 → Nat :=
  let v2234 : Index := Scalar.indexCast v2233
  let c0_1486 : Index := 0#32
  ![v2234.toNat, 0]

def k0_chk372 (v2233 : BitVec 32) : Prop :=
  (∀ a, (k0_off372 v2233) a + S1x1024.size a ≤ S2048x1024.size a)
theorem k0_off372_inb : ∀ (v2233 : BitVec 32) (k0_hw372 : k0_chk372 v2233), ∀ a, (k0_off372 v2233) a + S1x1024.size a ≤ S2048x1024.size a := fun v2233 k0_hw372 => k0_hw372

def k0_off373 (v2239 : BitVec 32) : Fin 2 → Nat :=
  let v2240 : Index := Scalar.indexCast v2239
  let c0_1490 : Index := 0#32
  ![v2240.toNat, 0]

def k0_chk373 (v2239 : BitVec 32) : Prop :=
  (∀ a, (k0_off373 v2239) a + S1x1024.size a ≤ S2048x1024.size a)
theorem k0_off373_inb : ∀ (v2239 : BitVec 32) (k0_hw373 : k0_chk373 v2239), ∀ a, (k0_off373 v2239) a + S1x1024.size a ≤ S2048x1024.size a := fun v2239 k0_hw373 => k0_hw373

def k0_off374 (v2245 : BitVec 32) : Fin 2 → Nat :=
  let v2246 : Index := Scalar.indexCast v2245
  let c0_1494 : Index := 0#32
  ![v2246.toNat, 0]

def k0_chk374 (v2245 : BitVec 32) : Prop :=
  (∀ a, (k0_off374 v2245) a + S1x1024.size a ≤ S2048x1024.size a)
theorem k0_off374_inb : ∀ (v2245 : BitVec 32) (k0_hw374 : k0_chk374 v2245), ∀ a, (k0_off374 v2245) a + S1x1024.size a ≤ S2048x1024.size a := fun v2245 k0_hw374 => k0_hw374

def k0_off375 (v2251 : BitVec 32) : Fin 2 → Nat :=
  let v2252 : Index := Scalar.indexCast v2251
  let c0_1498 : Index := 0#32
  ![v2252.toNat, 0]

def k0_chk375 (v2251 : BitVec 32) : Prop :=
  (∀ a, (k0_off375 v2251) a + S1x1024.size a ≤ S2048x1024.size a)
theorem k0_off375_inb : ∀ (v2251 : BitVec 32) (k0_hw375 : k0_chk375 v2251), ∀ a, (k0_off375 v2251) a + S1x1024.size a ≤ S2048x1024.size a := fun v2251 k0_hw375 => k0_hw375

def k0_off376 (v2257 : BitVec 32) : Fin 2 → Nat :=
  let v2258 : Index := Scalar.indexCast v2257
  let c0_1502 : Index := 0#32
  ![v2258.toNat, 0]

def k0_chk376 (v2257 : BitVec 32) : Prop :=
  (∀ a, (k0_off376 v2257) a + S1x1024.size a ≤ S2048x1024.size a)
theorem k0_off376_inb : ∀ (v2257 : BitVec 32) (k0_hw376 : k0_chk376 v2257), ∀ a, (k0_off376 v2257) a + S1x1024.size a ≤ S2048x1024.size a := fun v2257 k0_hw376 => k0_hw376

def k0_off377 (v2263 : BitVec 32) : Fin 2 → Nat :=
  let v2264 : Index := Scalar.indexCast v2263
  let c0_1506 : Index := 0#32
  ![v2264.toNat, 0]

def k0_chk377 (v2263 : BitVec 32) : Prop :=
  (∀ a, (k0_off377 v2263) a + S1x1024.size a ≤ S2048x1024.size a)
theorem k0_off377_inb : ∀ (v2263 : BitVec 32) (k0_hw377 : k0_chk377 v2263), ∀ a, (k0_off377 v2263) a + S1x1024.size a ≤ S2048x1024.size a := fun v2263 k0_hw377 => k0_hw377

def k0_off378 (v2269 : BitVec 32) : Fin 2 → Nat :=
  let v2270 : Index := Scalar.indexCast v2269
  let c0_1510 : Index := 0#32
  ![v2270.toNat, 0]

def k0_chk378 (v2269 : BitVec 32) : Prop :=
  (∀ a, (k0_off378 v2269) a + S1x1024.size a ≤ S2048x1024.size a)
theorem k0_off378_inb : ∀ (v2269 : BitVec 32) (k0_hw378 : k0_chk378 v2269), ∀ a, (k0_off378 v2269) a + S1x1024.size a ≤ S2048x1024.size a := fun v2269 k0_hw378 => k0_hw378

def k0_off379 (v2275 : BitVec 32) : Fin 2 → Nat :=
  let v2276 : Index := Scalar.indexCast v2275
  let c0_1514 : Index := 0#32
  ![v2276.toNat, 0]

def k0_chk379 (v2275 : BitVec 32) : Prop :=
  (∀ a, (k0_off379 v2275) a + S1x1024.size a ≤ S2048x1024.size a)
theorem k0_off379_inb : ∀ (v2275 : BitVec 32) (k0_hw379 : k0_chk379 v2275), ∀ a, (k0_off379 v2275) a + S1x1024.size a ≤ S2048x1024.size a := fun v2275 k0_hw379 => k0_hw379

def k0_off380 (v2281 : BitVec 32) : Fin 2 → Nat :=
  let v2282 : Index := Scalar.indexCast v2281
  let c0_1518 : Index := 0#32
  ![v2282.toNat, 0]

def k0_chk380 (v2281 : BitVec 32) : Prop :=
  (∀ a, (k0_off380 v2281) a + S1x1024.size a ≤ S2048x1024.size a)
theorem k0_off380_inb : ∀ (v2281 : BitVec 32) (k0_hw380 : k0_chk380 v2281), ∀ a, (k0_off380 v2281) a + S1x1024.size a ≤ S2048x1024.size a := fun v2281 k0_hw380 => k0_hw380

def k0_off381 (v2287 : BitVec 32) : Fin 2 → Nat :=
  let v2288 : Index := Scalar.indexCast v2287
  let c0_1522 : Index := 0#32
  ![v2288.toNat, 0]

def k0_chk381 (v2287 : BitVec 32) : Prop :=
  (∀ a, (k0_off381 v2287) a + S1x1024.size a ≤ S2048x1024.size a)
theorem k0_off381_inb : ∀ (v2287 : BitVec 32) (k0_hw381 : k0_chk381 v2287), ∀ a, (k0_off381 v2287) a + S1x1024.size a ≤ S2048x1024.size a := fun v2287 k0_hw381 => k0_hw381

def k0_off382 (v2293 : BitVec 32) : Fin 2 → Nat :=
  let v2294 : Index := Scalar.indexCast v2293
  let c0_1526 : Index := 0#32
  ![v2294.toNat, 0]

def k0_chk382 (v2293 : BitVec 32) : Prop :=
  (∀ a, (k0_off382 v2293) a + S1x1024.size a ≤ S2048x1024.size a)
theorem k0_off382_inb : ∀ (v2293 : BitVec 32) (k0_hw382 : k0_chk382 v2293), ∀ a, (k0_off382 v2293) a + S1x1024.size a ≤ S2048x1024.size a := fun v2293 k0_hw382 => k0_hw382

def k0_off383 (v2299 : BitVec 32) : Fin 2 → Nat :=
  let v2300 : Index := Scalar.indexCast v2299
  let c0_1530 : Index := 0#32
  ![v2300.toNat, 0]

def k0_chk383 (v2299 : BitVec 32) : Prop :=
  (∀ a, (k0_off383 v2299) a + S1x1024.size a ≤ S2048x1024.size a)
theorem k0_off383_inb : ∀ (v2299 : BitVec 32) (k0_hw383 : k0_chk383 v2299), ∀ a, (k0_off383 v2299) a + S1x1024.size a ≤ S2048x1024.size a := fun v2299 k0_hw383 => k0_hw383

def k0_off384 (v2305 : BitVec 32) : Fin 2 → Nat :=
  let v2306 : Index := Scalar.indexCast v2305
  let c0_1534 : Index := 0#32
  ![v2306.toNat, 0]

def k0_chk384 (v2305 : BitVec 32) : Prop :=
  (∀ a, (k0_off384 v2305) a + S1x1024.size a ≤ S2048x1024.size a)
theorem k0_off384_inb : ∀ (v2305 : BitVec 32) (k0_hw384 : k0_chk384 v2305), ∀ a, (k0_off384 v2305) a + S1x1024.size a ≤ S2048x1024.size a := fun v2305 k0_hw384 => k0_hw384

def k0_off385 (v2311 : BitVec 32) : Fin 2 → Nat :=
  let v2312 : Index := Scalar.indexCast v2311
  let c0_1538 : Index := 0#32
  ![v2312.toNat, 0]

def k0_chk385 (v2311 : BitVec 32) : Prop :=
  (∀ a, (k0_off385 v2311) a + S1x1024.size a ≤ S2048x1024.size a)
theorem k0_off385_inb : ∀ (v2311 : BitVec 32) (k0_hw385 : k0_chk385 v2311), ∀ a, (k0_off385 v2311) a + S1x1024.size a ≤ S2048x1024.size a := fun v2311 k0_hw385 => k0_hw385

def k0_off386 (v2317 : BitVec 32) : Fin 2 → Nat :=
  let v2318 : Index := Scalar.indexCast v2317
  let c0_1542 : Index := 0#32
  ![v2318.toNat, 0]

def k0_chk386 (v2317 : BitVec 32) : Prop :=
  (∀ a, (k0_off386 v2317) a + S1x1024.size a ≤ S2048x1024.size a)
theorem k0_off386_inb : ∀ (v2317 : BitVec 32) (k0_hw386 : k0_chk386 v2317), ∀ a, (k0_off386 v2317) a + S1x1024.size a ≤ S2048x1024.size a := fun v2317 k0_hw386 => k0_hw386

def k0_off387 (v2323 : BitVec 32) : Fin 2 → Nat :=
  let v2324 : Index := Scalar.indexCast v2323
  let c0_1546 : Index := 0#32
  ![v2324.toNat, 0]

def k0_chk387 (v2323 : BitVec 32) : Prop :=
  (∀ a, (k0_off387 v2323) a + S1x1024.size a ≤ S2048x1024.size a)
theorem k0_off387_inb : ∀ (v2323 : BitVec 32) (k0_hw387 : k0_chk387 v2323), ∀ a, (k0_off387 v2323) a + S1x1024.size a ≤ S2048x1024.size a := fun v2323 k0_hw387 => k0_hw387

def k0_off388 (v2329 : BitVec 32) : Fin 2 → Nat :=
  let v2330 : Index := Scalar.indexCast v2329
  let c0_1550 : Index := 0#32
  ![v2330.toNat, 0]

def k0_chk388 (v2329 : BitVec 32) : Prop :=
  (∀ a, (k0_off388 v2329) a + S1x1024.size a ≤ S2048x1024.size a)
theorem k0_off388_inb : ∀ (v2329 : BitVec 32) (k0_hw388 : k0_chk388 v2329), ∀ a, (k0_off388 v2329) a + S1x1024.size a ≤ S2048x1024.size a := fun v2329 k0_hw388 => k0_hw388

def k0_off389 (v2335 : BitVec 32) : Fin 2 → Nat :=
  let v2336 : Index := Scalar.indexCast v2335
  let c0_1554 : Index := 0#32
  ![v2336.toNat, 0]

def k0_chk389 (v2335 : BitVec 32) : Prop :=
  (∀ a, (k0_off389 v2335) a + S1x1024.size a ≤ S2048x1024.size a)
theorem k0_off389_inb : ∀ (v2335 : BitVec 32) (k0_hw389 : k0_chk389 v2335), ∀ a, (k0_off389 v2335) a + S1x1024.size a ≤ S2048x1024.size a := fun v2335 k0_hw389 => k0_hw389

def k0_off390 (v2341 : BitVec 32) : Fin 2 → Nat :=
  let v2342 : Index := Scalar.indexCast v2341
  let c0_1558 : Index := 0#32
  ![v2342.toNat, 0]

def k0_chk390 (v2341 : BitVec 32) : Prop :=
  (∀ a, (k0_off390 v2341) a + S1x1024.size a ≤ S2048x1024.size a)
theorem k0_off390_inb : ∀ (v2341 : BitVec 32) (k0_hw390 : k0_chk390 v2341), ∀ a, (k0_off390 v2341) a + S1x1024.size a ≤ S2048x1024.size a := fun v2341 k0_hw390 => k0_hw390

def k0_off391 (v2347 : BitVec 32) : Fin 2 → Nat :=
  let v2348 : Index := Scalar.indexCast v2347
  let c0_1562 : Index := 0#32
  ![v2348.toNat, 0]

def k0_chk391 (v2347 : BitVec 32) : Prop :=
  (∀ a, (k0_off391 v2347) a + S1x1024.size a ≤ S2048x1024.size a)
theorem k0_off391_inb : ∀ (v2347 : BitVec 32) (k0_hw391 : k0_chk391 v2347), ∀ a, (k0_off391 v2347) a + S1x1024.size a ≤ S2048x1024.size a := fun v2347 k0_hw391 => k0_hw391

def k0_off392 (v2353 : BitVec 32) : Fin 2 → Nat :=
  let v2354 : Index := Scalar.indexCast v2353
  let c0_1566 : Index := 0#32
  ![v2354.toNat, 0]

def k0_chk392 (v2353 : BitVec 32) : Prop :=
  (∀ a, (k0_off392 v2353) a + S1x1024.size a ≤ S2048x1024.size a)
theorem k0_off392_inb : ∀ (v2353 : BitVec 32) (k0_hw392 : k0_chk392 v2353), ∀ a, (k0_off392 v2353) a + S1x1024.size a ≤ S2048x1024.size a := fun v2353 k0_hw392 => k0_hw392

def k0_off393 (v2359 : BitVec 32) : Fin 2 → Nat :=
  let v2360 : Index := Scalar.indexCast v2359
  let c0_1570 : Index := 0#32
  ![v2360.toNat, 0]

def k0_chk393 (v2359 : BitVec 32) : Prop :=
  (∀ a, (k0_off393 v2359) a + S1x1024.size a ≤ S2048x1024.size a)
theorem k0_off393_inb : ∀ (v2359 : BitVec 32) (k0_hw393 : k0_chk393 v2359), ∀ a, (k0_off393 v2359) a + S1x1024.size a ≤ S2048x1024.size a := fun v2359 k0_hw393 => k0_hw393

def k0_off394 (v2365 : BitVec 32) : Fin 2 → Nat :=
  let v2366 : Index := Scalar.indexCast v2365
  let c0_1574 : Index := 0#32
  ![v2366.toNat, 0]

def k0_chk394 (v2365 : BitVec 32) : Prop :=
  (∀ a, (k0_off394 v2365) a + S1x1024.size a ≤ S2048x1024.size a)
theorem k0_off394_inb : ∀ (v2365 : BitVec 32) (k0_hw394 : k0_chk394 v2365), ∀ a, (k0_off394 v2365) a + S1x1024.size a ≤ S2048x1024.size a := fun v2365 k0_hw394 => k0_hw394

def k0_off395 (v2371 : BitVec 32) : Fin 2 → Nat :=
  let v2372 : Index := Scalar.indexCast v2371
  let c0_1578 : Index := 0#32
  ![v2372.toNat, 0]

def k0_chk395 (v2371 : BitVec 32) : Prop :=
  (∀ a, (k0_off395 v2371) a + S1x1024.size a ≤ S2048x1024.size a)
theorem k0_off395_inb : ∀ (v2371 : BitVec 32) (k0_hw395 : k0_chk395 v2371), ∀ a, (k0_off395 v2371) a + S1x1024.size a ≤ S2048x1024.size a := fun v2371 k0_hw395 => k0_hw395

def k0_off396 (v2377 : BitVec 32) : Fin 2 → Nat :=
  let v2378 : Index := Scalar.indexCast v2377
  let c0_1582 : Index := 0#32
  ![v2378.toNat, 0]

def k0_chk396 (v2377 : BitVec 32) : Prop :=
  (∀ a, (k0_off396 v2377) a + S1x1024.size a ≤ S2048x1024.size a)
theorem k0_off396_inb : ∀ (v2377 : BitVec 32) (k0_hw396 : k0_chk396 v2377), ∀ a, (k0_off396 v2377) a + S1x1024.size a ≤ S2048x1024.size a := fun v2377 k0_hw396 => k0_hw396

def k0_off397 (v2383 : BitVec 32) : Fin 2 → Nat :=
  let v2384 : Index := Scalar.indexCast v2383
  let c0_1586 : Index := 0#32
  ![v2384.toNat, 0]

def k0_chk397 (v2383 : BitVec 32) : Prop :=
  (∀ a, (k0_off397 v2383) a + S1x1024.size a ≤ S2048x1024.size a)
theorem k0_off397_inb : ∀ (v2383 : BitVec 32) (k0_hw397 : k0_chk397 v2383), ∀ a, (k0_off397 v2383) a + S1x1024.size a ≤ S2048x1024.size a := fun v2383 k0_hw397 => k0_hw397

def k0_off398 (v2389 : BitVec 32) : Fin 2 → Nat :=
  let v2390 : Index := Scalar.indexCast v2389
  let c0_1590 : Index := 0#32
  ![v2390.toNat, 0]

def k0_chk398 (v2389 : BitVec 32) : Prop :=
  (∀ a, (k0_off398 v2389) a + S1x1024.size a ≤ S2048x1024.size a)
theorem k0_off398_inb : ∀ (v2389 : BitVec 32) (k0_hw398 : k0_chk398 v2389), ∀ a, (k0_off398 v2389) a + S1x1024.size a ≤ S2048x1024.size a := fun v2389 k0_hw398 => k0_hw398

def k0_off399 (v2395 : BitVec 32) : Fin 2 → Nat :=
  let v2396 : Index := Scalar.indexCast v2395
  let c0_1594 : Index := 0#32
  ![v2396.toNat, 0]

def k0_chk399 (v2395 : BitVec 32) : Prop :=
  (∀ a, (k0_off399 v2395) a + S1x1024.size a ≤ S2048x1024.size a)
theorem k0_off399_inb : ∀ (v2395 : BitVec 32) (k0_hw399 : k0_chk399 v2395), ∀ a, (k0_off399 v2395) a + S1x1024.size a ≤ S2048x1024.size a := fun v2395 k0_hw399 => k0_hw399

def k0_off400 (v2401 : BitVec 32) : Fin 2 → Nat :=
  let v2402 : Index := Scalar.indexCast v2401
  let c0_1598 : Index := 0#32
  ![v2402.toNat, 0]

def k0_chk400 (v2401 : BitVec 32) : Prop :=
  (∀ a, (k0_off400 v2401) a + S1x1024.size a ≤ S2048x1024.size a)
theorem k0_off400_inb : ∀ (v2401 : BitVec 32) (k0_hw400 : k0_chk400 v2401), ∀ a, (k0_off400 v2401) a + S1x1024.size a ≤ S2048x1024.size a := fun v2401 k0_hw400 => k0_hw400

def k0_off401 (v2407 : BitVec 32) : Fin 2 → Nat :=
  let v2408 : Index := Scalar.indexCast v2407
  let c0_1602 : Index := 0#32
  ![v2408.toNat, 0]

def k0_chk401 (v2407 : BitVec 32) : Prop :=
  (∀ a, (k0_off401 v2407) a + S1x1024.size a ≤ S2048x1024.size a)
theorem k0_off401_inb : ∀ (v2407 : BitVec 32) (k0_hw401 : k0_chk401 v2407), ∀ a, (k0_off401 v2407) a + S1x1024.size a ≤ S2048x1024.size a := fun v2407 k0_hw401 => k0_hw401

def k0_off402 (v2413 : BitVec 32) : Fin 2 → Nat :=
  let v2414 : Index := Scalar.indexCast v2413
  let c0_1606 : Index := 0#32
  ![v2414.toNat, 0]

def k0_chk402 (v2413 : BitVec 32) : Prop :=
  (∀ a, (k0_off402 v2413) a + S1x1024.size a ≤ S2048x1024.size a)
theorem k0_off402_inb : ∀ (v2413 : BitVec 32) (k0_hw402 : k0_chk402 v2413), ∀ a, (k0_off402 v2413) a + S1x1024.size a ≤ S2048x1024.size a := fun v2413 k0_hw402 => k0_hw402

def k0_off403 (v2419 : BitVec 32) : Fin 2 → Nat :=
  let v2420 : Index := Scalar.indexCast v2419
  let c0_1610 : Index := 0#32
  ![v2420.toNat, 0]

def k0_chk403 (v2419 : BitVec 32) : Prop :=
  (∀ a, (k0_off403 v2419) a + S1x1024.size a ≤ S2048x1024.size a)
theorem k0_off403_inb : ∀ (v2419 : BitVec 32) (k0_hw403 : k0_chk403 v2419), ∀ a, (k0_off403 v2419) a + S1x1024.size a ≤ S2048x1024.size a := fun v2419 k0_hw403 => k0_hw403

def k0_off404 (v2425 : BitVec 32) : Fin 2 → Nat :=
  let v2426 : Index := Scalar.indexCast v2425
  let c0_1614 : Index := 0#32
  ![v2426.toNat, 0]

def k0_chk404 (v2425 : BitVec 32) : Prop :=
  (∀ a, (k0_off404 v2425) a + S1x1024.size a ≤ S2048x1024.size a)
theorem k0_off404_inb : ∀ (v2425 : BitVec 32) (k0_hw404 : k0_chk404 v2425), ∀ a, (k0_off404 v2425) a + S1x1024.size a ≤ S2048x1024.size a := fun v2425 k0_hw404 => k0_hw404

def k0_off405 (v2431 : BitVec 32) : Fin 2 → Nat :=
  let v2432 : Index := Scalar.indexCast v2431
  let c0_1618 : Index := 0#32
  ![v2432.toNat, 0]

def k0_chk405 (v2431 : BitVec 32) : Prop :=
  (∀ a, (k0_off405 v2431) a + S1x1024.size a ≤ S2048x1024.size a)
theorem k0_off405_inb : ∀ (v2431 : BitVec 32) (k0_hw405 : k0_chk405 v2431), ∀ a, (k0_off405 v2431) a + S1x1024.size a ≤ S2048x1024.size a := fun v2431 k0_hw405 => k0_hw405

def k0_off406 (v2437 : BitVec 32) : Fin 2 → Nat :=
  let v2438 : Index := Scalar.indexCast v2437
  let c0_1622 : Index := 0#32
  ![v2438.toNat, 0]

def k0_chk406 (v2437 : BitVec 32) : Prop :=
  (∀ a, (k0_off406 v2437) a + S1x1024.size a ≤ S2048x1024.size a)
theorem k0_off406_inb : ∀ (v2437 : BitVec 32) (k0_hw406 : k0_chk406 v2437), ∀ a, (k0_off406 v2437) a + S1x1024.size a ≤ S2048x1024.size a := fun v2437 k0_hw406 => k0_hw406

def k0_off407 (v2443 : BitVec 32) : Fin 2 → Nat :=
  let v2444 : Index := Scalar.indexCast v2443
  let c0_1626 : Index := 0#32
  ![v2444.toNat, 0]

def k0_chk407 (v2443 : BitVec 32) : Prop :=
  (∀ a, (k0_off407 v2443) a + S1x1024.size a ≤ S2048x1024.size a)
theorem k0_off407_inb : ∀ (v2443 : BitVec 32) (k0_hw407 : k0_chk407 v2443), ∀ a, (k0_off407 v2443) a + S1x1024.size a ≤ S2048x1024.size a := fun v2443 k0_hw407 => k0_hw407

def k0_off408 (v2449 : BitVec 32) : Fin 2 → Nat :=
  let v2450 : Index := Scalar.indexCast v2449
  let c0_1630 : Index := 0#32
  ![v2450.toNat, 0]

def k0_chk408 (v2449 : BitVec 32) : Prop :=
  (∀ a, (k0_off408 v2449) a + S1x1024.size a ≤ S2048x1024.size a)
theorem k0_off408_inb : ∀ (v2449 : BitVec 32) (k0_hw408 : k0_chk408 v2449), ∀ a, (k0_off408 v2449) a + S1x1024.size a ≤ S2048x1024.size a := fun v2449 k0_hw408 => k0_hw408

def k0_off409 (v2455 : BitVec 32) : Fin 2 → Nat :=
  let v2456 : Index := Scalar.indexCast v2455
  let c0_1634 : Index := 0#32
  ![v2456.toNat, 0]

def k0_chk409 (v2455 : BitVec 32) : Prop :=
  (∀ a, (k0_off409 v2455) a + S1x1024.size a ≤ S2048x1024.size a)
theorem k0_off409_inb : ∀ (v2455 : BitVec 32) (k0_hw409 : k0_chk409 v2455), ∀ a, (k0_off409 v2455) a + S1x1024.size a ≤ S2048x1024.size a := fun v2455 k0_hw409 => k0_hw409

def k0_off410 (v2461 : BitVec 32) : Fin 2 → Nat :=
  let v2462 : Index := Scalar.indexCast v2461
  let c0_1638 : Index := 0#32
  ![v2462.toNat, 0]

def k0_chk410 (v2461 : BitVec 32) : Prop :=
  (∀ a, (k0_off410 v2461) a + S1x1024.size a ≤ S2048x1024.size a)
theorem k0_off410_inb : ∀ (v2461 : BitVec 32) (k0_hw410 : k0_chk410 v2461), ∀ a, (k0_off410 v2461) a + S1x1024.size a ≤ S2048x1024.size a := fun v2461 k0_hw410 => k0_hw410

def k0_off411 (v2467 : BitVec 32) : Fin 2 → Nat :=
  let v2468 : Index := Scalar.indexCast v2467
  let c0_1642 : Index := 0#32
  ![v2468.toNat, 0]

def k0_chk411 (v2467 : BitVec 32) : Prop :=
  (∀ a, (k0_off411 v2467) a + S1x1024.size a ≤ S2048x1024.size a)
theorem k0_off411_inb : ∀ (v2467 : BitVec 32) (k0_hw411 : k0_chk411 v2467), ∀ a, (k0_off411 v2467) a + S1x1024.size a ≤ S2048x1024.size a := fun v2467 k0_hw411 => k0_hw411

def k0_off412 (v2473 : BitVec 32) : Fin 2 → Nat :=
  let v2474 : Index := Scalar.indexCast v2473
  let c0_1646 : Index := 0#32
  ![v2474.toNat, 0]

def k0_chk412 (v2473 : BitVec 32) : Prop :=
  (∀ a, (k0_off412 v2473) a + S1x1024.size a ≤ S2048x1024.size a)
theorem k0_off412_inb : ∀ (v2473 : BitVec 32) (k0_hw412 : k0_chk412 v2473), ∀ a, (k0_off412 v2473) a + S1x1024.size a ≤ S2048x1024.size a := fun v2473 k0_hw412 => k0_hw412

def k0_off413 (v2479 : BitVec 32) : Fin 2 → Nat :=
  let v2480 : Index := Scalar.indexCast v2479
  let c0_1650 : Index := 0#32
  ![v2480.toNat, 0]

def k0_chk413 (v2479 : BitVec 32) : Prop :=
  (∀ a, (k0_off413 v2479) a + S1x1024.size a ≤ S2048x1024.size a)
theorem k0_off413_inb : ∀ (v2479 : BitVec 32) (k0_hw413 : k0_chk413 v2479), ∀ a, (k0_off413 v2479) a + S1x1024.size a ≤ S2048x1024.size a := fun v2479 k0_hw413 => k0_hw413

def k0_off414 (v2485 : BitVec 32) : Fin 2 → Nat :=
  let v2486 : Index := Scalar.indexCast v2485
  let c0_1654 : Index := 0#32
  ![v2486.toNat, 0]

def k0_chk414 (v2485 : BitVec 32) : Prop :=
  (∀ a, (k0_off414 v2485) a + S1x1024.size a ≤ S2048x1024.size a)
theorem k0_off414_inb : ∀ (v2485 : BitVec 32) (k0_hw414 : k0_chk414 v2485), ∀ a, (k0_off414 v2485) a + S1x1024.size a ≤ S2048x1024.size a := fun v2485 k0_hw414 => k0_hw414

def k0_off415 (v2491 : BitVec 32) : Fin 2 → Nat :=
  let v2492 : Index := Scalar.indexCast v2491
  let c0_1658 : Index := 0#32
  ![v2492.toNat, 0]

def k0_chk415 (v2491 : BitVec 32) : Prop :=
  (∀ a, (k0_off415 v2491) a + S1x1024.size a ≤ S2048x1024.size a)
theorem k0_off415_inb : ∀ (v2491 : BitVec 32) (k0_hw415 : k0_chk415 v2491), ∀ a, (k0_off415 v2491) a + S1x1024.size a ≤ S2048x1024.size a := fun v2491 k0_hw415 => k0_hw415

def k0_off416 (v2497 : BitVec 32) : Fin 2 → Nat :=
  let v2498 : Index := Scalar.indexCast v2497
  let c0_1662 : Index := 0#32
  ![v2498.toNat, 0]

def k0_chk416 (v2497 : BitVec 32) : Prop :=
  (∀ a, (k0_off416 v2497) a + S1x1024.size a ≤ S2048x1024.size a)
theorem k0_off416_inb : ∀ (v2497 : BitVec 32) (k0_hw416 : k0_chk416 v2497), ∀ a, (k0_off416 v2497) a + S1x1024.size a ≤ S2048x1024.size a := fun v2497 k0_hw416 => k0_hw416

def k0_off417 (v2503 : BitVec 32) : Fin 2 → Nat :=
  let v2504 : Index := Scalar.indexCast v2503
  let c0_1666 : Index := 0#32
  ![v2504.toNat, 0]

def k0_chk417 (v2503 : BitVec 32) : Prop :=
  (∀ a, (k0_off417 v2503) a + S1x1024.size a ≤ S2048x1024.size a)
theorem k0_off417_inb : ∀ (v2503 : BitVec 32) (k0_hw417 : k0_chk417 v2503), ∀ a, (k0_off417 v2503) a + S1x1024.size a ≤ S2048x1024.size a := fun v2503 k0_hw417 => k0_hw417

def k0_off418 (v2509 : BitVec 32) : Fin 2 → Nat :=
  let v2510 : Index := Scalar.indexCast v2509
  let c0_1670 : Index := 0#32
  ![v2510.toNat, 0]

def k0_chk418 (v2509 : BitVec 32) : Prop :=
  (∀ a, (k0_off418 v2509) a + S1x1024.size a ≤ S2048x1024.size a)
theorem k0_off418_inb : ∀ (v2509 : BitVec 32) (k0_hw418 : k0_chk418 v2509), ∀ a, (k0_off418 v2509) a + S1x1024.size a ≤ S2048x1024.size a := fun v2509 k0_hw418 => k0_hw418

def k0_off419 (v2515 : BitVec 32) : Fin 2 → Nat :=
  let v2516 : Index := Scalar.indexCast v2515
  let c0_1674 : Index := 0#32
  ![v2516.toNat, 0]

def k0_chk419 (v2515 : BitVec 32) : Prop :=
  (∀ a, (k0_off419 v2515) a + S1x1024.size a ≤ S2048x1024.size a)
theorem k0_off419_inb : ∀ (v2515 : BitVec 32) (k0_hw419 : k0_chk419 v2515), ∀ a, (k0_off419 v2515) a + S1x1024.size a ≤ S2048x1024.size a := fun v2515 k0_hw419 => k0_hw419

def k0_off420 (v2521 : BitVec 32) : Fin 2 → Nat :=
  let v2522 : Index := Scalar.indexCast v2521
  let c0_1678 : Index := 0#32
  ![v2522.toNat, 0]

def k0_chk420 (v2521 : BitVec 32) : Prop :=
  (∀ a, (k0_off420 v2521) a + S1x1024.size a ≤ S2048x1024.size a)
theorem k0_off420_inb : ∀ (v2521 : BitVec 32) (k0_hw420 : k0_chk420 v2521), ∀ a, (k0_off420 v2521) a + S1x1024.size a ≤ S2048x1024.size a := fun v2521 k0_hw420 => k0_hw420

def k0_off421 (v2527 : BitVec 32) : Fin 2 → Nat :=
  let v2528 : Index := Scalar.indexCast v2527
  let c0_1682 : Index := 0#32
  ![v2528.toNat, 0]

def k0_chk421 (v2527 : BitVec 32) : Prop :=
  (∀ a, (k0_off421 v2527) a + S1x1024.size a ≤ S2048x1024.size a)
theorem k0_off421_inb : ∀ (v2527 : BitVec 32) (k0_hw421 : k0_chk421 v2527), ∀ a, (k0_off421 v2527) a + S1x1024.size a ≤ S2048x1024.size a := fun v2527 k0_hw421 => k0_hw421

def k0_off422 (v2533 : BitVec 32) : Fin 2 → Nat :=
  let v2534 : Index := Scalar.indexCast v2533
  let c0_1686 : Index := 0#32
  ![v2534.toNat, 0]

def k0_chk422 (v2533 : BitVec 32) : Prop :=
  (∀ a, (k0_off422 v2533) a + S1x1024.size a ≤ S2048x1024.size a)
theorem k0_off422_inb : ∀ (v2533 : BitVec 32) (k0_hw422 : k0_chk422 v2533), ∀ a, (k0_off422 v2533) a + S1x1024.size a ≤ S2048x1024.size a := fun v2533 k0_hw422 => k0_hw422

def k0_off423 (v2539 : BitVec 32) : Fin 2 → Nat :=
  let v2540 : Index := Scalar.indexCast v2539
  let c0_1690 : Index := 0#32
  ![v2540.toNat, 0]

def k0_chk423 (v2539 : BitVec 32) : Prop :=
  (∀ a, (k0_off423 v2539) a + S1x1024.size a ≤ S2048x1024.size a)
theorem k0_off423_inb : ∀ (v2539 : BitVec 32) (k0_hw423 : k0_chk423 v2539), ∀ a, (k0_off423 v2539) a + S1x1024.size a ≤ S2048x1024.size a := fun v2539 k0_hw423 => k0_hw423

def k0_off424 (v2545 : BitVec 32) : Fin 2 → Nat :=
  let v2546 : Index := Scalar.indexCast v2545
  let c0_1694 : Index := 0#32
  ![v2546.toNat, 0]

def k0_chk424 (v2545 : BitVec 32) : Prop :=
  (∀ a, (k0_off424 v2545) a + S1x1024.size a ≤ S2048x1024.size a)
theorem k0_off424_inb : ∀ (v2545 : BitVec 32) (k0_hw424 : k0_chk424 v2545), ∀ a, (k0_off424 v2545) a + S1x1024.size a ≤ S2048x1024.size a := fun v2545 k0_hw424 => k0_hw424

def k0_off425 (v2551 : BitVec 32) : Fin 2 → Nat :=
  let v2552 : Index := Scalar.indexCast v2551
  let c0_1698 : Index := 0#32
  ![v2552.toNat, 0]

def k0_chk425 (v2551 : BitVec 32) : Prop :=
  (∀ a, (k0_off425 v2551) a + S1x1024.size a ≤ S2048x1024.size a)
theorem k0_off425_inb : ∀ (v2551 : BitVec 32) (k0_hw425 : k0_chk425 v2551), ∀ a, (k0_off425 v2551) a + S1x1024.size a ≤ S2048x1024.size a := fun v2551 k0_hw425 => k0_hw425

def k0_off426 (v2557 : BitVec 32) : Fin 2 → Nat :=
  let v2558 : Index := Scalar.indexCast v2557
  let c0_1702 : Index := 0#32
  ![v2558.toNat, 0]

def k0_chk426 (v2557 : BitVec 32) : Prop :=
  (∀ a, (k0_off426 v2557) a + S1x1024.size a ≤ S2048x1024.size a)
theorem k0_off426_inb : ∀ (v2557 : BitVec 32) (k0_hw426 : k0_chk426 v2557), ∀ a, (k0_off426 v2557) a + S1x1024.size a ≤ S2048x1024.size a := fun v2557 k0_hw426 => k0_hw426

def k0_off427 (v2563 : BitVec 32) : Fin 2 → Nat :=
  let v2564 : Index := Scalar.indexCast v2563
  let c0_1706 : Index := 0#32
  ![v2564.toNat, 0]

def k0_chk427 (v2563 : BitVec 32) : Prop :=
  (∀ a, (k0_off427 v2563) a + S1x1024.size a ≤ S2048x1024.size a)
theorem k0_off427_inb : ∀ (v2563 : BitVec 32) (k0_hw427 : k0_chk427 v2563), ∀ a, (k0_off427 v2563) a + S1x1024.size a ≤ S2048x1024.size a := fun v2563 k0_hw427 => k0_hw427

def k0_off428 (v2569 : BitVec 32) : Fin 2 → Nat :=
  let v2570 : Index := Scalar.indexCast v2569
  let c0_1710 : Index := 0#32
  ![v2570.toNat, 0]

def k0_chk428 (v2569 : BitVec 32) : Prop :=
  (∀ a, (k0_off428 v2569) a + S1x1024.size a ≤ S2048x1024.size a)
theorem k0_off428_inb : ∀ (v2569 : BitVec 32) (k0_hw428 : k0_chk428 v2569), ∀ a, (k0_off428 v2569) a + S1x1024.size a ≤ S2048x1024.size a := fun v2569 k0_hw428 => k0_hw428

def k0_off429 (v2575 : BitVec 32) : Fin 2 → Nat :=
  let v2576 : Index := Scalar.indexCast v2575
  let c0_1714 : Index := 0#32
  ![v2576.toNat, 0]

def k0_chk429 (v2575 : BitVec 32) : Prop :=
  (∀ a, (k0_off429 v2575) a + S1x1024.size a ≤ S2048x1024.size a)
theorem k0_off429_inb : ∀ (v2575 : BitVec 32) (k0_hw429 : k0_chk429 v2575), ∀ a, (k0_off429 v2575) a + S1x1024.size a ≤ S2048x1024.size a := fun v2575 k0_hw429 => k0_hw429

def k0_off430 (v2581 : BitVec 32) : Fin 2 → Nat :=
  let v2582 : Index := Scalar.indexCast v2581
  let c0_1718 : Index := 0#32
  ![v2582.toNat, 0]

def k0_chk430 (v2581 : BitVec 32) : Prop :=
  (∀ a, (k0_off430 v2581) a + S1x1024.size a ≤ S2048x1024.size a)
theorem k0_off430_inb : ∀ (v2581 : BitVec 32) (k0_hw430 : k0_chk430 v2581), ∀ a, (k0_off430 v2581) a + S1x1024.size a ≤ S2048x1024.size a := fun v2581 k0_hw430 => k0_hw430

def k0_off431 (v2587 : BitVec 32) : Fin 2 → Nat :=
  let v2588 : Index := Scalar.indexCast v2587
  let c0_1722 : Index := 0#32
  ![v2588.toNat, 0]

def k0_chk431 (v2587 : BitVec 32) : Prop :=
  (∀ a, (k0_off431 v2587) a + S1x1024.size a ≤ S2048x1024.size a)
theorem k0_off431_inb : ∀ (v2587 : BitVec 32) (k0_hw431 : k0_chk431 v2587), ∀ a, (k0_off431 v2587) a + S1x1024.size a ≤ S2048x1024.size a := fun v2587 k0_hw431 => k0_hw431

def k0_off432 (v2593 : BitVec 32) : Fin 2 → Nat :=
  let v2594 : Index := Scalar.indexCast v2593
  let c0_1726 : Index := 0#32
  ![v2594.toNat, 0]

def k0_chk432 (v2593 : BitVec 32) : Prop :=
  (∀ a, (k0_off432 v2593) a + S1x1024.size a ≤ S2048x1024.size a)
theorem k0_off432_inb : ∀ (v2593 : BitVec 32) (k0_hw432 : k0_chk432 v2593), ∀ a, (k0_off432 v2593) a + S1x1024.size a ≤ S2048x1024.size a := fun v2593 k0_hw432 => k0_hw432

def k0_off433 (v2599 : BitVec 32) : Fin 2 → Nat :=
  let v2600 : Index := Scalar.indexCast v2599
  let c0_1730 : Index := 0#32
  ![v2600.toNat, 0]

def k0_chk433 (v2599 : BitVec 32) : Prop :=
  (∀ a, (k0_off433 v2599) a + S1x1024.size a ≤ S2048x1024.size a)
theorem k0_off433_inb : ∀ (v2599 : BitVec 32) (k0_hw433 : k0_chk433 v2599), ∀ a, (k0_off433 v2599) a + S1x1024.size a ≤ S2048x1024.size a := fun v2599 k0_hw433 => k0_hw433

def k0_off434 (v2605 : BitVec 32) : Fin 2 → Nat :=
  let v2606 : Index := Scalar.indexCast v2605
  let c0_1734 : Index := 0#32
  ![v2606.toNat, 0]

def k0_chk434 (v2605 : BitVec 32) : Prop :=
  (∀ a, (k0_off434 v2605) a + S1x1024.size a ≤ S2048x1024.size a)
theorem k0_off434_inb : ∀ (v2605 : BitVec 32) (k0_hw434 : k0_chk434 v2605), ∀ a, (k0_off434 v2605) a + S1x1024.size a ≤ S2048x1024.size a := fun v2605 k0_hw434 => k0_hw434

def k0_off435 (v2611 : BitVec 32) : Fin 2 → Nat :=
  let v2612 : Index := Scalar.indexCast v2611
  let c0_1738 : Index := 0#32
  ![v2612.toNat, 0]

def k0_chk435 (v2611 : BitVec 32) : Prop :=
  (∀ a, (k0_off435 v2611) a + S1x1024.size a ≤ S2048x1024.size a)
theorem k0_off435_inb : ∀ (v2611 : BitVec 32) (k0_hw435 : k0_chk435 v2611), ∀ a, (k0_off435 v2611) a + S1x1024.size a ≤ S2048x1024.size a := fun v2611 k0_hw435 => k0_hw435

def k0_off436 (v2617 : BitVec 32) : Fin 2 → Nat :=
  let v2618 : Index := Scalar.indexCast v2617
  let c0_1742 : Index := 0#32
  ![v2618.toNat, 0]

def k0_chk436 (v2617 : BitVec 32) : Prop :=
  (∀ a, (k0_off436 v2617) a + S1x1024.size a ≤ S2048x1024.size a)
theorem k0_off436_inb : ∀ (v2617 : BitVec 32) (k0_hw436 : k0_chk436 v2617), ∀ a, (k0_off436 v2617) a + S1x1024.size a ≤ S2048x1024.size a := fun v2617 k0_hw436 => k0_hw436

def k0_off437 (v2623 : BitVec 32) : Fin 2 → Nat :=
  let v2624 : Index := Scalar.indexCast v2623
  let c0_1746 : Index := 0#32
  ![v2624.toNat, 0]

def k0_chk437 (v2623 : BitVec 32) : Prop :=
  (∀ a, (k0_off437 v2623) a + S1x1024.size a ≤ S2048x1024.size a)
theorem k0_off437_inb : ∀ (v2623 : BitVec 32) (k0_hw437 : k0_chk437 v2623), ∀ a, (k0_off437 v2623) a + S1x1024.size a ≤ S2048x1024.size a := fun v2623 k0_hw437 => k0_hw437

def k0_off438 (v2629 : BitVec 32) : Fin 2 → Nat :=
  let v2630 : Index := Scalar.indexCast v2629
  let c0_1750 : Index := 0#32
  ![v2630.toNat, 0]

def k0_chk438 (v2629 : BitVec 32) : Prop :=
  (∀ a, (k0_off438 v2629) a + S1x1024.size a ≤ S2048x1024.size a)
theorem k0_off438_inb : ∀ (v2629 : BitVec 32) (k0_hw438 : k0_chk438 v2629), ∀ a, (k0_off438 v2629) a + S1x1024.size a ≤ S2048x1024.size a := fun v2629 k0_hw438 => k0_hw438

def k0_off439 (v2635 : BitVec 32) : Fin 2 → Nat :=
  let v2636 : Index := Scalar.indexCast v2635
  let c0_1754 : Index := 0#32
  ![v2636.toNat, 0]

def k0_chk439 (v2635 : BitVec 32) : Prop :=
  (∀ a, (k0_off439 v2635) a + S1x1024.size a ≤ S2048x1024.size a)
theorem k0_off439_inb : ∀ (v2635 : BitVec 32) (k0_hw439 : k0_chk439 v2635), ∀ a, (k0_off439 v2635) a + S1x1024.size a ≤ S2048x1024.size a := fun v2635 k0_hw439 => k0_hw439

def k0_off440 (v2641 : BitVec 32) : Fin 2 → Nat :=
  let v2642 : Index := Scalar.indexCast v2641
  let c0_1758 : Index := 0#32
  ![v2642.toNat, 0]

def k0_chk440 (v2641 : BitVec 32) : Prop :=
  (∀ a, (k0_off440 v2641) a + S1x1024.size a ≤ S2048x1024.size a)
theorem k0_off440_inb : ∀ (v2641 : BitVec 32) (k0_hw440 : k0_chk440 v2641), ∀ a, (k0_off440 v2641) a + S1x1024.size a ≤ S2048x1024.size a := fun v2641 k0_hw440 => k0_hw440

def k0_off441 (v2647 : BitVec 32) : Fin 2 → Nat :=
  let v2648 : Index := Scalar.indexCast v2647
  let c0_1762 : Index := 0#32
  ![v2648.toNat, 0]

def k0_chk441 (v2647 : BitVec 32) : Prop :=
  (∀ a, (k0_off441 v2647) a + S1x1024.size a ≤ S2048x1024.size a)
theorem k0_off441_inb : ∀ (v2647 : BitVec 32) (k0_hw441 : k0_chk441 v2647), ∀ a, (k0_off441 v2647) a + S1x1024.size a ≤ S2048x1024.size a := fun v2647 k0_hw441 => k0_hw441

def k0_off442 (v2653 : BitVec 32) : Fin 2 → Nat :=
  let v2654 : Index := Scalar.indexCast v2653
  let c0_1766 : Index := 0#32
  ![v2654.toNat, 0]

def k0_chk442 (v2653 : BitVec 32) : Prop :=
  (∀ a, (k0_off442 v2653) a + S1x1024.size a ≤ S2048x1024.size a)
theorem k0_off442_inb : ∀ (v2653 : BitVec 32) (k0_hw442 : k0_chk442 v2653), ∀ a, (k0_off442 v2653) a + S1x1024.size a ≤ S2048x1024.size a := fun v2653 k0_hw442 => k0_hw442

def k0_off443 (v2659 : BitVec 32) : Fin 2 → Nat :=
  let v2660 : Index := Scalar.indexCast v2659
  let c0_1770 : Index := 0#32
  ![v2660.toNat, 0]

def k0_chk443 (v2659 : BitVec 32) : Prop :=
  (∀ a, (k0_off443 v2659) a + S1x1024.size a ≤ S2048x1024.size a)
theorem k0_off443_inb : ∀ (v2659 : BitVec 32) (k0_hw443 : k0_chk443 v2659), ∀ a, (k0_off443 v2659) a + S1x1024.size a ≤ S2048x1024.size a := fun v2659 k0_hw443 => k0_hw443

def k0_off444 (v2665 : BitVec 32) : Fin 2 → Nat :=
  let v2666 : Index := Scalar.indexCast v2665
  let c0_1774 : Index := 0#32
  ![v2666.toNat, 0]

def k0_chk444 (v2665 : BitVec 32) : Prop :=
  (∀ a, (k0_off444 v2665) a + S1x1024.size a ≤ S2048x1024.size a)
theorem k0_off444_inb : ∀ (v2665 : BitVec 32) (k0_hw444 : k0_chk444 v2665), ∀ a, (k0_off444 v2665) a + S1x1024.size a ≤ S2048x1024.size a := fun v2665 k0_hw444 => k0_hw444

def k0_off445 (v2671 : BitVec 32) : Fin 2 → Nat :=
  let v2672 : Index := Scalar.indexCast v2671
  let c0_1778 : Index := 0#32
  ![v2672.toNat, 0]

def k0_chk445 (v2671 : BitVec 32) : Prop :=
  (∀ a, (k0_off445 v2671) a + S1x1024.size a ≤ S2048x1024.size a)
theorem k0_off445_inb : ∀ (v2671 : BitVec 32) (k0_hw445 : k0_chk445 v2671), ∀ a, (k0_off445 v2671) a + S1x1024.size a ≤ S2048x1024.size a := fun v2671 k0_hw445 => k0_hw445

def k0_off446 (v2677 : BitVec 32) : Fin 2 → Nat :=
  let v2678 : Index := Scalar.indexCast v2677
  let c0_1782 : Index := 0#32
  ![v2678.toNat, 0]

def k0_chk446 (v2677 : BitVec 32) : Prop :=
  (∀ a, (k0_off446 v2677) a + S1x1024.size a ≤ S2048x1024.size a)
theorem k0_off446_inb : ∀ (v2677 : BitVec 32) (k0_hw446 : k0_chk446 v2677), ∀ a, (k0_off446 v2677) a + S1x1024.size a ≤ S2048x1024.size a := fun v2677 k0_hw446 => k0_hw446

def k0_off447 (v2683 : BitVec 32) : Fin 2 → Nat :=
  let v2684 : Index := Scalar.indexCast v2683
  let c0_1786 : Index := 0#32
  ![v2684.toNat, 0]

def k0_chk447 (v2683 : BitVec 32) : Prop :=
  (∀ a, (k0_off447 v2683) a + S1x1024.size a ≤ S2048x1024.size a)
theorem k0_off447_inb : ∀ (v2683 : BitVec 32) (k0_hw447 : k0_chk447 v2683), ∀ a, (k0_off447 v2683) a + S1x1024.size a ≤ S2048x1024.size a := fun v2683 k0_hw447 => k0_hw447

def k0_off448 (v2689 : BitVec 32) : Fin 2 → Nat :=
  let v2690 : Index := Scalar.indexCast v2689
  let c0_1790 : Index := 0#32
  ![v2690.toNat, 0]

def k0_chk448 (v2689 : BitVec 32) : Prop :=
  (∀ a, (k0_off448 v2689) a + S1x1024.size a ≤ S2048x1024.size a)
theorem k0_off448_inb : ∀ (v2689 : BitVec 32) (k0_hw448 : k0_chk448 v2689), ∀ a, (k0_off448 v2689) a + S1x1024.size a ≤ S2048x1024.size a := fun v2689 k0_hw448 => k0_hw448

def k0_off449 (v2695 : BitVec 32) : Fin 2 → Nat :=
  let v2696 : Index := Scalar.indexCast v2695
  let c0_1794 : Index := 0#32
  ![v2696.toNat, 0]

def k0_chk449 (v2695 : BitVec 32) : Prop :=
  (∀ a, (k0_off449 v2695) a + S1x1024.size a ≤ S2048x1024.size a)
theorem k0_off449_inb : ∀ (v2695 : BitVec 32) (k0_hw449 : k0_chk449 v2695), ∀ a, (k0_off449 v2695) a + S1x1024.size a ≤ S2048x1024.size a := fun v2695 k0_hw449 => k0_hw449

def k0_off450 (v2701 : BitVec 32) : Fin 2 → Nat :=
  let v2702 : Index := Scalar.indexCast v2701
  let c0_1798 : Index := 0#32
  ![v2702.toNat, 0]

def k0_chk450 (v2701 : BitVec 32) : Prop :=
  (∀ a, (k0_off450 v2701) a + S1x1024.size a ≤ S2048x1024.size a)
theorem k0_off450_inb : ∀ (v2701 : BitVec 32) (k0_hw450 : k0_chk450 v2701), ∀ a, (k0_off450 v2701) a + S1x1024.size a ≤ S2048x1024.size a := fun v2701 k0_hw450 => k0_hw450

def k0_off451 (v2707 : BitVec 32) : Fin 2 → Nat :=
  let v2708 : Index := Scalar.indexCast v2707
  let c0_1802 : Index := 0#32
  ![v2708.toNat, 0]

def k0_chk451 (v2707 : BitVec 32) : Prop :=
  (∀ a, (k0_off451 v2707) a + S1x1024.size a ≤ S2048x1024.size a)
theorem k0_off451_inb : ∀ (v2707 : BitVec 32) (k0_hw451 : k0_chk451 v2707), ∀ a, (k0_off451 v2707) a + S1x1024.size a ≤ S2048x1024.size a := fun v2707 k0_hw451 => k0_hw451

def k0_off452 (v2713 : BitVec 32) : Fin 2 → Nat :=
  let v2714 : Index := Scalar.indexCast v2713
  let c0_1806 : Index := 0#32
  ![v2714.toNat, 0]

def k0_chk452 (v2713 : BitVec 32) : Prop :=
  (∀ a, (k0_off452 v2713) a + S1x1024.size a ≤ S2048x1024.size a)
theorem k0_off452_inb : ∀ (v2713 : BitVec 32) (k0_hw452 : k0_chk452 v2713), ∀ a, (k0_off452 v2713) a + S1x1024.size a ≤ S2048x1024.size a := fun v2713 k0_hw452 => k0_hw452

def k0_off453 (v2719 : BitVec 32) : Fin 2 → Nat :=
  let v2720 : Index := Scalar.indexCast v2719
  let c0_1810 : Index := 0#32
  ![v2720.toNat, 0]

def k0_chk453 (v2719 : BitVec 32) : Prop :=
  (∀ a, (k0_off453 v2719) a + S1x1024.size a ≤ S2048x1024.size a)
theorem k0_off453_inb : ∀ (v2719 : BitVec 32) (k0_hw453 : k0_chk453 v2719), ∀ a, (k0_off453 v2719) a + S1x1024.size a ≤ S2048x1024.size a := fun v2719 k0_hw453 => k0_hw453

def k0_off454 (v2725 : BitVec 32) : Fin 2 → Nat :=
  let v2726 : Index := Scalar.indexCast v2725
  let c0_1814 : Index := 0#32
  ![v2726.toNat, 0]

def k0_chk454 (v2725 : BitVec 32) : Prop :=
  (∀ a, (k0_off454 v2725) a + S1x1024.size a ≤ S2048x1024.size a)
theorem k0_off454_inb : ∀ (v2725 : BitVec 32) (k0_hw454 : k0_chk454 v2725), ∀ a, (k0_off454 v2725) a + S1x1024.size a ≤ S2048x1024.size a := fun v2725 k0_hw454 => k0_hw454

def k0_off455 (v2731 : BitVec 32) : Fin 2 → Nat :=
  let v2732 : Index := Scalar.indexCast v2731
  let c0_1818 : Index := 0#32
  ![v2732.toNat, 0]

def k0_chk455 (v2731 : BitVec 32) : Prop :=
  (∀ a, (k0_off455 v2731) a + S1x1024.size a ≤ S2048x1024.size a)
theorem k0_off455_inb : ∀ (v2731 : BitVec 32) (k0_hw455 : k0_chk455 v2731), ∀ a, (k0_off455 v2731) a + S1x1024.size a ≤ S2048x1024.size a := fun v2731 k0_hw455 => k0_hw455

def k0_off456 (v2737 : BitVec 32) : Fin 2 → Nat :=
  let v2738 : Index := Scalar.indexCast v2737
  let c0_1822 : Index := 0#32
  ![v2738.toNat, 0]

def k0_chk456 (v2737 : BitVec 32) : Prop :=
  (∀ a, (k0_off456 v2737) a + S1x1024.size a ≤ S2048x1024.size a)
theorem k0_off456_inb : ∀ (v2737 : BitVec 32) (k0_hw456 : k0_chk456 v2737), ∀ a, (k0_off456 v2737) a + S1x1024.size a ≤ S2048x1024.size a := fun v2737 k0_hw456 => k0_hw456

def k0_off457 (v2743 : BitVec 32) : Fin 2 → Nat :=
  let v2744 : Index := Scalar.indexCast v2743
  let c0_1826 : Index := 0#32
  ![v2744.toNat, 0]

def k0_chk457 (v2743 : BitVec 32) : Prop :=
  (∀ a, (k0_off457 v2743) a + S1x1024.size a ≤ S2048x1024.size a)
theorem k0_off457_inb : ∀ (v2743 : BitVec 32) (k0_hw457 : k0_chk457 v2743), ∀ a, (k0_off457 v2743) a + S1x1024.size a ≤ S2048x1024.size a := fun v2743 k0_hw457 => k0_hw457

def k0_off458 (v2749 : BitVec 32) : Fin 2 → Nat :=
  let v2750 : Index := Scalar.indexCast v2749
  let c0_1830 : Index := 0#32
  ![v2750.toNat, 0]

def k0_chk458 (v2749 : BitVec 32) : Prop :=
  (∀ a, (k0_off458 v2749) a + S1x1024.size a ≤ S2048x1024.size a)
theorem k0_off458_inb : ∀ (v2749 : BitVec 32) (k0_hw458 : k0_chk458 v2749), ∀ a, (k0_off458 v2749) a + S1x1024.size a ≤ S2048x1024.size a := fun v2749 k0_hw458 => k0_hw458

def k0_off459 (v2755 : BitVec 32) : Fin 2 → Nat :=
  let v2756 : Index := Scalar.indexCast v2755
  let c0_1834 : Index := 0#32
  ![v2756.toNat, 0]

def k0_chk459 (v2755 : BitVec 32) : Prop :=
  (∀ a, (k0_off459 v2755) a + S1x1024.size a ≤ S2048x1024.size a)
theorem k0_off459_inb : ∀ (v2755 : BitVec 32) (k0_hw459 : k0_chk459 v2755), ∀ a, (k0_off459 v2755) a + S1x1024.size a ≤ S2048x1024.size a := fun v2755 k0_hw459 => k0_hw459

def k0_off460 (v2761 : BitVec 32) : Fin 2 → Nat :=
  let v2762 : Index := Scalar.indexCast v2761
  let c0_1838 : Index := 0#32
  ![v2762.toNat, 0]

def k0_chk460 (v2761 : BitVec 32) : Prop :=
  (∀ a, (k0_off460 v2761) a + S1x1024.size a ≤ S2048x1024.size a)
theorem k0_off460_inb : ∀ (v2761 : BitVec 32) (k0_hw460 : k0_chk460 v2761), ∀ a, (k0_off460 v2761) a + S1x1024.size a ≤ S2048x1024.size a := fun v2761 k0_hw460 => k0_hw460

def k0_off461 (v2767 : BitVec 32) : Fin 2 → Nat :=
  let v2768 : Index := Scalar.indexCast v2767
  let c0_1842 : Index := 0#32
  ![v2768.toNat, 0]

def k0_chk461 (v2767 : BitVec 32) : Prop :=
  (∀ a, (k0_off461 v2767) a + S1x1024.size a ≤ S2048x1024.size a)
theorem k0_off461_inb : ∀ (v2767 : BitVec 32) (k0_hw461 : k0_chk461 v2767), ∀ a, (k0_off461 v2767) a + S1x1024.size a ≤ S2048x1024.size a := fun v2767 k0_hw461 => k0_hw461

def k0_off462 (v2773 : BitVec 32) : Fin 2 → Nat :=
  let v2774 : Index := Scalar.indexCast v2773
  let c0_1846 : Index := 0#32
  ![v2774.toNat, 0]

def k0_chk462 (v2773 : BitVec 32) : Prop :=
  (∀ a, (k0_off462 v2773) a + S1x1024.size a ≤ S2048x1024.size a)
theorem k0_off462_inb : ∀ (v2773 : BitVec 32) (k0_hw462 : k0_chk462 v2773), ∀ a, (k0_off462 v2773) a + S1x1024.size a ≤ S2048x1024.size a := fun v2773 k0_hw462 => k0_hw462

def k0_off463 (v2779 : BitVec 32) : Fin 2 → Nat :=
  let v2780 : Index := Scalar.indexCast v2779
  let c0_1850 : Index := 0#32
  ![v2780.toNat, 0]

def k0_chk463 (v2779 : BitVec 32) : Prop :=
  (∀ a, (k0_off463 v2779) a + S1x1024.size a ≤ S2048x1024.size a)
theorem k0_off463_inb : ∀ (v2779 : BitVec 32) (k0_hw463 : k0_chk463 v2779), ∀ a, (k0_off463 v2779) a + S1x1024.size a ≤ S2048x1024.size a := fun v2779 k0_hw463 => k0_hw463

def k0_off464 (v2785 : BitVec 32) : Fin 2 → Nat :=
  let v2786 : Index := Scalar.indexCast v2785
  let c0_1854 : Index := 0#32
  ![v2786.toNat, 0]

def k0_chk464 (v2785 : BitVec 32) : Prop :=
  (∀ a, (k0_off464 v2785) a + S1x1024.size a ≤ S2048x1024.size a)
theorem k0_off464_inb : ∀ (v2785 : BitVec 32) (k0_hw464 : k0_chk464 v2785), ∀ a, (k0_off464 v2785) a + S1x1024.size a ≤ S2048x1024.size a := fun v2785 k0_hw464 => k0_hw464

def k0_off465 (v2791 : BitVec 32) : Fin 2 → Nat :=
  let v2792 : Index := Scalar.indexCast v2791
  let c0_1858 : Index := 0#32
  ![v2792.toNat, 0]

def k0_chk465 (v2791 : BitVec 32) : Prop :=
  (∀ a, (k0_off465 v2791) a + S1x1024.size a ≤ S2048x1024.size a)
theorem k0_off465_inb : ∀ (v2791 : BitVec 32) (k0_hw465 : k0_chk465 v2791), ∀ a, (k0_off465 v2791) a + S1x1024.size a ≤ S2048x1024.size a := fun v2791 k0_hw465 => k0_hw465

def k0_off466 (v2797 : BitVec 32) : Fin 2 → Nat :=
  let v2798 : Index := Scalar.indexCast v2797
  let c0_1862 : Index := 0#32
  ![v2798.toNat, 0]

def k0_chk466 (v2797 : BitVec 32) : Prop :=
  (∀ a, (k0_off466 v2797) a + S1x1024.size a ≤ S2048x1024.size a)
theorem k0_off466_inb : ∀ (v2797 : BitVec 32) (k0_hw466 : k0_chk466 v2797), ∀ a, (k0_off466 v2797) a + S1x1024.size a ≤ S2048x1024.size a := fun v2797 k0_hw466 => k0_hw466

def k0_off467 (v2803 : BitVec 32) : Fin 2 → Nat :=
  let v2804 : Index := Scalar.indexCast v2803
  let c0_1866 : Index := 0#32
  ![v2804.toNat, 0]

def k0_chk467 (v2803 : BitVec 32) : Prop :=
  (∀ a, (k0_off467 v2803) a + S1x1024.size a ≤ S2048x1024.size a)
theorem k0_off467_inb : ∀ (v2803 : BitVec 32) (k0_hw467 : k0_chk467 v2803), ∀ a, (k0_off467 v2803) a + S1x1024.size a ≤ S2048x1024.size a := fun v2803 k0_hw467 => k0_hw467

def k0_off468 (v2809 : BitVec 32) : Fin 2 → Nat :=
  let v2810 : Index := Scalar.indexCast v2809
  let c0_1870 : Index := 0#32
  ![v2810.toNat, 0]

def k0_chk468 (v2809 : BitVec 32) : Prop :=
  (∀ a, (k0_off468 v2809) a + S1x1024.size a ≤ S2048x1024.size a)
theorem k0_off468_inb : ∀ (v2809 : BitVec 32) (k0_hw468 : k0_chk468 v2809), ∀ a, (k0_off468 v2809) a + S1x1024.size a ≤ S2048x1024.size a := fun v2809 k0_hw468 => k0_hw468

def k0_off469 (v2815 : BitVec 32) : Fin 2 → Nat :=
  let v2816 : Index := Scalar.indexCast v2815
  let c0_1874 : Index := 0#32
  ![v2816.toNat, 0]

def k0_chk469 (v2815 : BitVec 32) : Prop :=
  (∀ a, (k0_off469 v2815) a + S1x1024.size a ≤ S2048x1024.size a)
theorem k0_off469_inb : ∀ (v2815 : BitVec 32) (k0_hw469 : k0_chk469 v2815), ∀ a, (k0_off469 v2815) a + S1x1024.size a ≤ S2048x1024.size a := fun v2815 k0_hw469 => k0_hw469

def k0_off470 (v2821 : BitVec 32) : Fin 2 → Nat :=
  let v2822 : Index := Scalar.indexCast v2821
  let c0_1878 : Index := 0#32
  ![v2822.toNat, 0]

def k0_chk470 (v2821 : BitVec 32) : Prop :=
  (∀ a, (k0_off470 v2821) a + S1x1024.size a ≤ S2048x1024.size a)
theorem k0_off470_inb : ∀ (v2821 : BitVec 32) (k0_hw470 : k0_chk470 v2821), ∀ a, (k0_off470 v2821) a + S1x1024.size a ≤ S2048x1024.size a := fun v2821 k0_hw470 => k0_hw470

def k0_off471 (v2827 : BitVec 32) : Fin 2 → Nat :=
  let v2828 : Index := Scalar.indexCast v2827
  let c0_1882 : Index := 0#32
  ![v2828.toNat, 0]

def k0_chk471 (v2827 : BitVec 32) : Prop :=
  (∀ a, (k0_off471 v2827) a + S1x1024.size a ≤ S2048x1024.size a)
theorem k0_off471_inb : ∀ (v2827 : BitVec 32) (k0_hw471 : k0_chk471 v2827), ∀ a, (k0_off471 v2827) a + S1x1024.size a ≤ S2048x1024.size a := fun v2827 k0_hw471 => k0_hw471

def k0_off472 (v2833 : BitVec 32) : Fin 2 → Nat :=
  let v2834 : Index := Scalar.indexCast v2833
  let c0_1886 : Index := 0#32
  ![v2834.toNat, 0]

def k0_chk472 (v2833 : BitVec 32) : Prop :=
  (∀ a, (k0_off472 v2833) a + S1x1024.size a ≤ S2048x1024.size a)
theorem k0_off472_inb : ∀ (v2833 : BitVec 32) (k0_hw472 : k0_chk472 v2833), ∀ a, (k0_off472 v2833) a + S1x1024.size a ≤ S2048x1024.size a := fun v2833 k0_hw472 => k0_hw472

def k0_off473 (v2839 : BitVec 32) : Fin 2 → Nat :=
  let v2840 : Index := Scalar.indexCast v2839
  let c0_1890 : Index := 0#32
  ![v2840.toNat, 0]

def k0_chk473 (v2839 : BitVec 32) : Prop :=
  (∀ a, (k0_off473 v2839) a + S1x1024.size a ≤ S2048x1024.size a)
theorem k0_off473_inb : ∀ (v2839 : BitVec 32) (k0_hw473 : k0_chk473 v2839), ∀ a, (k0_off473 v2839) a + S1x1024.size a ≤ S2048x1024.size a := fun v2839 k0_hw473 => k0_hw473

def k0_off474 (v2845 : BitVec 32) : Fin 2 → Nat :=
  let v2846 : Index := Scalar.indexCast v2845
  let c0_1894 : Index := 0#32
  ![v2846.toNat, 0]

def k0_chk474 (v2845 : BitVec 32) : Prop :=
  (∀ a, (k0_off474 v2845) a + S1x1024.size a ≤ S2048x1024.size a)
theorem k0_off474_inb : ∀ (v2845 : BitVec 32) (k0_hw474 : k0_chk474 v2845), ∀ a, (k0_off474 v2845) a + S1x1024.size a ≤ S2048x1024.size a := fun v2845 k0_hw474 => k0_hw474

def k0_off475 (v2851 : BitVec 32) : Fin 2 → Nat :=
  let v2852 : Index := Scalar.indexCast v2851
  let c0_1898 : Index := 0#32
  ![v2852.toNat, 0]

def k0_chk475 (v2851 : BitVec 32) : Prop :=
  (∀ a, (k0_off475 v2851) a + S1x1024.size a ≤ S2048x1024.size a)
theorem k0_off475_inb : ∀ (v2851 : BitVec 32) (k0_hw475 : k0_chk475 v2851), ∀ a, (k0_off475 v2851) a + S1x1024.size a ≤ S2048x1024.size a := fun v2851 k0_hw475 => k0_hw475

def k0_off476 (v2857 : BitVec 32) : Fin 2 → Nat :=
  let v2858 : Index := Scalar.indexCast v2857
  let c0_1902 : Index := 0#32
  ![v2858.toNat, 0]

def k0_chk476 (v2857 : BitVec 32) : Prop :=
  (∀ a, (k0_off476 v2857) a + S1x1024.size a ≤ S2048x1024.size a)
theorem k0_off476_inb : ∀ (v2857 : BitVec 32) (k0_hw476 : k0_chk476 v2857), ∀ a, (k0_off476 v2857) a + S1x1024.size a ≤ S2048x1024.size a := fun v2857 k0_hw476 => k0_hw476

def k0_off477 (v2863 : BitVec 32) : Fin 2 → Nat :=
  let v2864 : Index := Scalar.indexCast v2863
  let c0_1906 : Index := 0#32
  ![v2864.toNat, 0]

def k0_chk477 (v2863 : BitVec 32) : Prop :=
  (∀ a, (k0_off477 v2863) a + S1x1024.size a ≤ S2048x1024.size a)
theorem k0_off477_inb : ∀ (v2863 : BitVec 32) (k0_hw477 : k0_chk477 v2863), ∀ a, (k0_off477 v2863) a + S1x1024.size a ≤ S2048x1024.size a := fun v2863 k0_hw477 => k0_hw477

def k0_off478 (v2869 : BitVec 32) : Fin 2 → Nat :=
  let v2870 : Index := Scalar.indexCast v2869
  let c0_1910 : Index := 0#32
  ![v2870.toNat, 0]

def k0_chk478 (v2869 : BitVec 32) : Prop :=
  (∀ a, (k0_off478 v2869) a + S1x1024.size a ≤ S2048x1024.size a)
theorem k0_off478_inb : ∀ (v2869 : BitVec 32) (k0_hw478 : k0_chk478 v2869), ∀ a, (k0_off478 v2869) a + S1x1024.size a ≤ S2048x1024.size a := fun v2869 k0_hw478 => k0_hw478

def k0_off479 (v2875 : BitVec 32) : Fin 2 → Nat :=
  let v2876 : Index := Scalar.indexCast v2875
  let c0_1914 : Index := 0#32
  ![v2876.toNat, 0]

def k0_chk479 (v2875 : BitVec 32) : Prop :=
  (∀ a, (k0_off479 v2875) a + S1x1024.size a ≤ S2048x1024.size a)
theorem k0_off479_inb : ∀ (v2875 : BitVec 32) (k0_hw479 : k0_chk479 v2875), ∀ a, (k0_off479 v2875) a + S1x1024.size a ≤ S2048x1024.size a := fun v2875 k0_hw479 => k0_hw479

def k0_off480 (v2881 : BitVec 32) : Fin 2 → Nat :=
  let v2882 : Index := Scalar.indexCast v2881
  let c0_1918 : Index := 0#32
  ![v2882.toNat, 0]

def k0_chk480 (v2881 : BitVec 32) : Prop :=
  (∀ a, (k0_off480 v2881) a + S1x1024.size a ≤ S2048x1024.size a)
theorem k0_off480_inb : ∀ (v2881 : BitVec 32) (k0_hw480 : k0_chk480 v2881), ∀ a, (k0_off480 v2881) a + S1x1024.size a ≤ S2048x1024.size a := fun v2881 k0_hw480 => k0_hw480

def k0_off481 (v2887 : BitVec 32) : Fin 2 → Nat :=
  let v2888 : Index := Scalar.indexCast v2887
  let c0_1922 : Index := 0#32
  ![v2888.toNat, 0]

def k0_chk481 (v2887 : BitVec 32) : Prop :=
  (∀ a, (k0_off481 v2887) a + S1x1024.size a ≤ S2048x1024.size a)
theorem k0_off481_inb : ∀ (v2887 : BitVec 32) (k0_hw481 : k0_chk481 v2887), ∀ a, (k0_off481 v2887) a + S1x1024.size a ≤ S2048x1024.size a := fun v2887 k0_hw481 => k0_hw481

def k0_off482 (v2893 : BitVec 32) : Fin 2 → Nat :=
  let v2894 : Index := Scalar.indexCast v2893
  let c0_1926 : Index := 0#32
  ![v2894.toNat, 0]

def k0_chk482 (v2893 : BitVec 32) : Prop :=
  (∀ a, (k0_off482 v2893) a + S1x1024.size a ≤ S2048x1024.size a)
theorem k0_off482_inb : ∀ (v2893 : BitVec 32) (k0_hw482 : k0_chk482 v2893), ∀ a, (k0_off482 v2893) a + S1x1024.size a ≤ S2048x1024.size a := fun v2893 k0_hw482 => k0_hw482

def k0_off483 (v2899 : BitVec 32) : Fin 2 → Nat :=
  let v2900 : Index := Scalar.indexCast v2899
  let c0_1930 : Index := 0#32
  ![v2900.toNat, 0]

def k0_chk483 (v2899 : BitVec 32) : Prop :=
  (∀ a, (k0_off483 v2899) a + S1x1024.size a ≤ S2048x1024.size a)
theorem k0_off483_inb : ∀ (v2899 : BitVec 32) (k0_hw483 : k0_chk483 v2899), ∀ a, (k0_off483 v2899) a + S1x1024.size a ≤ S2048x1024.size a := fun v2899 k0_hw483 => k0_hw483

def k0_off484 (v2905 : BitVec 32) : Fin 2 → Nat :=
  let v2906 : Index := Scalar.indexCast v2905
  let c0_1934 : Index := 0#32
  ![v2906.toNat, 0]

def k0_chk484 (v2905 : BitVec 32) : Prop :=
  (∀ a, (k0_off484 v2905) a + S1x1024.size a ≤ S2048x1024.size a)
theorem k0_off484_inb : ∀ (v2905 : BitVec 32) (k0_hw484 : k0_chk484 v2905), ∀ a, (k0_off484 v2905) a + S1x1024.size a ≤ S2048x1024.size a := fun v2905 k0_hw484 => k0_hw484

def k0_off485 (v2911 : BitVec 32) : Fin 2 → Nat :=
  let v2912 : Index := Scalar.indexCast v2911
  let c0_1938 : Index := 0#32
  ![v2912.toNat, 0]

def k0_chk485 (v2911 : BitVec 32) : Prop :=
  (∀ a, (k0_off485 v2911) a + S1x1024.size a ≤ S2048x1024.size a)
theorem k0_off485_inb : ∀ (v2911 : BitVec 32) (k0_hw485 : k0_chk485 v2911), ∀ a, (k0_off485 v2911) a + S1x1024.size a ≤ S2048x1024.size a := fun v2911 k0_hw485 => k0_hw485

def k0_off486 (v2917 : BitVec 32) : Fin 2 → Nat :=
  let v2918 : Index := Scalar.indexCast v2917
  let c0_1942 : Index := 0#32
  ![v2918.toNat, 0]

def k0_chk486 (v2917 : BitVec 32) : Prop :=
  (∀ a, (k0_off486 v2917) a + S1x1024.size a ≤ S2048x1024.size a)
theorem k0_off486_inb : ∀ (v2917 : BitVec 32) (k0_hw486 : k0_chk486 v2917), ∀ a, (k0_off486 v2917) a + S1x1024.size a ≤ S2048x1024.size a := fun v2917 k0_hw486 => k0_hw486

def k0_off487 (v2923 : BitVec 32) : Fin 2 → Nat :=
  let v2924 : Index := Scalar.indexCast v2923
  let c0_1946 : Index := 0#32
  ![v2924.toNat, 0]

def k0_chk487 (v2923 : BitVec 32) : Prop :=
  (∀ a, (k0_off487 v2923) a + S1x1024.size a ≤ S2048x1024.size a)
theorem k0_off487_inb : ∀ (v2923 : BitVec 32) (k0_hw487 : k0_chk487 v2923), ∀ a, (k0_off487 v2923) a + S1x1024.size a ≤ S2048x1024.size a := fun v2923 k0_hw487 => k0_hw487

def k0_off488 (v2929 : BitVec 32) : Fin 2 → Nat :=
  let v2930 : Index := Scalar.indexCast v2929
  let c0_1950 : Index := 0#32
  ![v2930.toNat, 0]

def k0_chk488 (v2929 : BitVec 32) : Prop :=
  (∀ a, (k0_off488 v2929) a + S1x1024.size a ≤ S2048x1024.size a)
theorem k0_off488_inb : ∀ (v2929 : BitVec 32) (k0_hw488 : k0_chk488 v2929), ∀ a, (k0_off488 v2929) a + S1x1024.size a ≤ S2048x1024.size a := fun v2929 k0_hw488 => k0_hw488

def k0_off489 (v2935 : BitVec 32) : Fin 2 → Nat :=
  let v2936 : Index := Scalar.indexCast v2935
  let c0_1954 : Index := 0#32
  ![v2936.toNat, 0]

def k0_chk489 (v2935 : BitVec 32) : Prop :=
  (∀ a, (k0_off489 v2935) a + S1x1024.size a ≤ S2048x1024.size a)
theorem k0_off489_inb : ∀ (v2935 : BitVec 32) (k0_hw489 : k0_chk489 v2935), ∀ a, (k0_off489 v2935) a + S1x1024.size a ≤ S2048x1024.size a := fun v2935 k0_hw489 => k0_hw489

def k0_off490 (v2941 : BitVec 32) : Fin 2 → Nat :=
  let v2942 : Index := Scalar.indexCast v2941
  let c0_1958 : Index := 0#32
  ![v2942.toNat, 0]

def k0_chk490 (v2941 : BitVec 32) : Prop :=
  (∀ a, (k0_off490 v2941) a + S1x1024.size a ≤ S2048x1024.size a)
theorem k0_off490_inb : ∀ (v2941 : BitVec 32) (k0_hw490 : k0_chk490 v2941), ∀ a, (k0_off490 v2941) a + S1x1024.size a ≤ S2048x1024.size a := fun v2941 k0_hw490 => k0_hw490

def k0_off491 (v2947 : BitVec 32) : Fin 2 → Nat :=
  let v2948 : Index := Scalar.indexCast v2947
  let c0_1962 : Index := 0#32
  ![v2948.toNat, 0]

def k0_chk491 (v2947 : BitVec 32) : Prop :=
  (∀ a, (k0_off491 v2947) a + S1x1024.size a ≤ S2048x1024.size a)
theorem k0_off491_inb : ∀ (v2947 : BitVec 32) (k0_hw491 : k0_chk491 v2947), ∀ a, (k0_off491 v2947) a + S1x1024.size a ≤ S2048x1024.size a := fun v2947 k0_hw491 => k0_hw491

def k0_off492 (v2953 : BitVec 32) : Fin 2 → Nat :=
  let v2954 : Index := Scalar.indexCast v2953
  let c0_1966 : Index := 0#32
  ![v2954.toNat, 0]

def k0_chk492 (v2953 : BitVec 32) : Prop :=
  (∀ a, (k0_off492 v2953) a + S1x1024.size a ≤ S2048x1024.size a)
theorem k0_off492_inb : ∀ (v2953 : BitVec 32) (k0_hw492 : k0_chk492 v2953), ∀ a, (k0_off492 v2953) a + S1x1024.size a ≤ S2048x1024.size a := fun v2953 k0_hw492 => k0_hw492

def k0_off493 (v2959 : BitVec 32) : Fin 2 → Nat :=
  let v2960 : Index := Scalar.indexCast v2959
  let c0_1970 : Index := 0#32
  ![v2960.toNat, 0]

def k0_chk493 (v2959 : BitVec 32) : Prop :=
  (∀ a, (k0_off493 v2959) a + S1x1024.size a ≤ S2048x1024.size a)
theorem k0_off493_inb : ∀ (v2959 : BitVec 32) (k0_hw493 : k0_chk493 v2959), ∀ a, (k0_off493 v2959) a + S1x1024.size a ≤ S2048x1024.size a := fun v2959 k0_hw493 => k0_hw493

def k0_off494 (v2965 : BitVec 32) : Fin 2 → Nat :=
  let v2966 : Index := Scalar.indexCast v2965
  let c0_1974 : Index := 0#32
  ![v2966.toNat, 0]

def k0_chk494 (v2965 : BitVec 32) : Prop :=
  (∀ a, (k0_off494 v2965) a + S1x1024.size a ≤ S2048x1024.size a)
theorem k0_off494_inb : ∀ (v2965 : BitVec 32) (k0_hw494 : k0_chk494 v2965), ∀ a, (k0_off494 v2965) a + S1x1024.size a ≤ S2048x1024.size a := fun v2965 k0_hw494 => k0_hw494

def k0_off495 (v2971 : BitVec 32) : Fin 2 → Nat :=
  let v2972 : Index := Scalar.indexCast v2971
  let c0_1978 : Index := 0#32
  ![v2972.toNat, 0]

def k0_chk495 (v2971 : BitVec 32) : Prop :=
  (∀ a, (k0_off495 v2971) a + S1x1024.size a ≤ S2048x1024.size a)
theorem k0_off495_inb : ∀ (v2971 : BitVec 32) (k0_hw495 : k0_chk495 v2971), ∀ a, (k0_off495 v2971) a + S1x1024.size a ≤ S2048x1024.size a := fun v2971 k0_hw495 => k0_hw495

def k0_off496 (v2977 : BitVec 32) : Fin 2 → Nat :=
  let v2978 : Index := Scalar.indexCast v2977
  let c0_1982 : Index := 0#32
  ![v2978.toNat, 0]

def k0_chk496 (v2977 : BitVec 32) : Prop :=
  (∀ a, (k0_off496 v2977) a + S1x1024.size a ≤ S2048x1024.size a)
theorem k0_off496_inb : ∀ (v2977 : BitVec 32) (k0_hw496 : k0_chk496 v2977), ∀ a, (k0_off496 v2977) a + S1x1024.size a ≤ S2048x1024.size a := fun v2977 k0_hw496 => k0_hw496

def k0_off497 (v2983 : BitVec 32) : Fin 2 → Nat :=
  let v2984 : Index := Scalar.indexCast v2983
  let c0_1986 : Index := 0#32
  ![v2984.toNat, 0]

def k0_chk497 (v2983 : BitVec 32) : Prop :=
  (∀ a, (k0_off497 v2983) a + S1x1024.size a ≤ S2048x1024.size a)
theorem k0_off497_inb : ∀ (v2983 : BitVec 32) (k0_hw497 : k0_chk497 v2983), ∀ a, (k0_off497 v2983) a + S1x1024.size a ≤ S2048x1024.size a := fun v2983 k0_hw497 => k0_hw497

def k0_off498 (v2989 : BitVec 32) : Fin 2 → Nat :=
  let v2990 : Index := Scalar.indexCast v2989
  let c0_1990 : Index := 0#32
  ![v2990.toNat, 0]

def k0_chk498 (v2989 : BitVec 32) : Prop :=
  (∀ a, (k0_off498 v2989) a + S1x1024.size a ≤ S2048x1024.size a)
theorem k0_off498_inb : ∀ (v2989 : BitVec 32) (k0_hw498 : k0_chk498 v2989), ∀ a, (k0_off498 v2989) a + S1x1024.size a ≤ S2048x1024.size a := fun v2989 k0_hw498 => k0_hw498

def k0_off499 (v2995 : BitVec 32) : Fin 2 → Nat :=
  let v2996 : Index := Scalar.indexCast v2995
  let c0_1994 : Index := 0#32
  ![v2996.toNat, 0]

def k0_chk499 (v2995 : BitVec 32) : Prop :=
  (∀ a, (k0_off499 v2995) a + S1x1024.size a ≤ S2048x1024.size a)
theorem k0_off499_inb : ∀ (v2995 : BitVec 32) (k0_hw499 : k0_chk499 v2995), ∀ a, (k0_off499 v2995) a + S1x1024.size a ≤ S2048x1024.size a := fun v2995 k0_hw499 => k0_hw499

def k0_off500 (v3001 : BitVec 32) : Fin 2 → Nat :=
  let v3002 : Index := Scalar.indexCast v3001
  let c0_1998 : Index := 0#32
  ![v3002.toNat, 0]

def k0_chk500 (v3001 : BitVec 32) : Prop :=
  (∀ a, (k0_off500 v3001) a + S1x1024.size a ≤ S2048x1024.size a)
theorem k0_off500_inb : ∀ (v3001 : BitVec 32) (k0_hw500 : k0_chk500 v3001), ∀ a, (k0_off500 v3001) a + S1x1024.size a ≤ S2048x1024.size a := fun v3001 k0_hw500 => k0_hw500

def k0_off501 (v3007 : BitVec 32) : Fin 2 → Nat :=
  let v3008 : Index := Scalar.indexCast v3007
  let c0_2002 : Index := 0#32
  ![v3008.toNat, 0]

def k0_chk501 (v3007 : BitVec 32) : Prop :=
  (∀ a, (k0_off501 v3007) a + S1x1024.size a ≤ S2048x1024.size a)
theorem k0_off501_inb : ∀ (v3007 : BitVec 32) (k0_hw501 : k0_chk501 v3007), ∀ a, (k0_off501 v3007) a + S1x1024.size a ≤ S2048x1024.size a := fun v3007 k0_hw501 => k0_hw501

def k0_off502 (v3013 : BitVec 32) : Fin 2 → Nat :=
  let v3014 : Index := Scalar.indexCast v3013
  let c0_2006 : Index := 0#32
  ![v3014.toNat, 0]

def k0_chk502 (v3013 : BitVec 32) : Prop :=
  (∀ a, (k0_off502 v3013) a + S1x1024.size a ≤ S2048x1024.size a)
theorem k0_off502_inb : ∀ (v3013 : BitVec 32) (k0_hw502 : k0_chk502 v3013), ∀ a, (k0_off502 v3013) a + S1x1024.size a ≤ S2048x1024.size a := fun v3013 k0_hw502 => k0_hw502

def k0_off503 (v3019 : BitVec 32) : Fin 2 → Nat :=
  let v3020 : Index := Scalar.indexCast v3019
  let c0_2010 : Index := 0#32
  ![v3020.toNat, 0]

def k0_chk503 (v3019 : BitVec 32) : Prop :=
  (∀ a, (k0_off503 v3019) a + S1x1024.size a ≤ S2048x1024.size a)
theorem k0_off503_inb : ∀ (v3019 : BitVec 32) (k0_hw503 : k0_chk503 v3019), ∀ a, (k0_off503 v3019) a + S1x1024.size a ≤ S2048x1024.size a := fun v3019 k0_hw503 => k0_hw503

def k0_off504 (v3025 : BitVec 32) : Fin 2 → Nat :=
  let v3026 : Index := Scalar.indexCast v3025
  let c0_2014 : Index := 0#32
  ![v3026.toNat, 0]

def k0_chk504 (v3025 : BitVec 32) : Prop :=
  (∀ a, (k0_off504 v3025) a + S1x1024.size a ≤ S2048x1024.size a)
theorem k0_off504_inb : ∀ (v3025 : BitVec 32) (k0_hw504 : k0_chk504 v3025), ∀ a, (k0_off504 v3025) a + S1x1024.size a ≤ S2048x1024.size a := fun v3025 k0_hw504 => k0_hw504

def k0_off505 (v3031 : BitVec 32) : Fin 2 → Nat :=
  let v3032 : Index := Scalar.indexCast v3031
  let c0_2018 : Index := 0#32
  ![v3032.toNat, 0]

def k0_chk505 (v3031 : BitVec 32) : Prop :=
  (∀ a, (k0_off505 v3031) a + S1x1024.size a ≤ S2048x1024.size a)
theorem k0_off505_inb : ∀ (v3031 : BitVec 32) (k0_hw505 : k0_chk505 v3031), ∀ a, (k0_off505 v3031) a + S1x1024.size a ≤ S2048x1024.size a := fun v3031 k0_hw505 => k0_hw505

def k0_off506 (v3037 : BitVec 32) : Fin 2 → Nat :=
  let v3038 : Index := Scalar.indexCast v3037
  let c0_2022 : Index := 0#32
  ![v3038.toNat, 0]

def k0_chk506 (v3037 : BitVec 32) : Prop :=
  (∀ a, (k0_off506 v3037) a + S1x1024.size a ≤ S2048x1024.size a)
theorem k0_off506_inb : ∀ (v3037 : BitVec 32) (k0_hw506 : k0_chk506 v3037), ∀ a, (k0_off506 v3037) a + S1x1024.size a ≤ S2048x1024.size a := fun v3037 k0_hw506 => k0_hw506

def k0_off507 (v3043 : BitVec 32) : Fin 2 → Nat :=
  let v3044 : Index := Scalar.indexCast v3043
  let c0_2026 : Index := 0#32
  ![v3044.toNat, 0]

def k0_chk507 (v3043 : BitVec 32) : Prop :=
  (∀ a, (k0_off507 v3043) a + S1x1024.size a ≤ S2048x1024.size a)
theorem k0_off507_inb : ∀ (v3043 : BitVec 32) (k0_hw507 : k0_chk507 v3043), ∀ a, (k0_off507 v3043) a + S1x1024.size a ≤ S2048x1024.size a := fun v3043 k0_hw507 => k0_hw507

def k0_off508 (v3049 : BitVec 32) : Fin 2 → Nat :=
  let v3050 : Index := Scalar.indexCast v3049
  let c0_2030 : Index := 0#32
  ![v3050.toNat, 0]

def k0_chk508 (v3049 : BitVec 32) : Prop :=
  (∀ a, (k0_off508 v3049) a + S1x1024.size a ≤ S2048x1024.size a)
theorem k0_off508_inb : ∀ (v3049 : BitVec 32) (k0_hw508 : k0_chk508 v3049), ∀ a, (k0_off508 v3049) a + S1x1024.size a ≤ S2048x1024.size a := fun v3049 k0_hw508 => k0_hw508

def k0_off509 (v3055 : BitVec 32) : Fin 2 → Nat :=
  let v3056 : Index := Scalar.indexCast v3055
  let c0_2034 : Index := 0#32
  ![v3056.toNat, 0]

def k0_chk509 (v3055 : BitVec 32) : Prop :=
  (∀ a, (k0_off509 v3055) a + S1x1024.size a ≤ S2048x1024.size a)
theorem k0_off509_inb : ∀ (v3055 : BitVec 32) (k0_hw509 : k0_chk509 v3055), ∀ a, (k0_off509 v3055) a + S1x1024.size a ≤ S2048x1024.size a := fun v3055 k0_hw509 => k0_hw509

def k0_off510 (v3061 : BitVec 32) : Fin 2 → Nat :=
  let v3062 : Index := Scalar.indexCast v3061
  let c0_2038 : Index := 0#32
  ![v3062.toNat, 0]

def k0_chk510 (v3061 : BitVec 32) : Prop :=
  (∀ a, (k0_off510 v3061) a + S1x1024.size a ≤ S2048x1024.size a)
theorem k0_off510_inb : ∀ (v3061 : BitVec 32) (k0_hw510 : k0_chk510 v3061), ∀ a, (k0_off510 v3061) a + S1x1024.size a ≤ S2048x1024.size a := fun v3061 k0_hw510 => k0_hw510

def k0_off511 (v3067 : BitVec 32) : Fin 2 → Nat :=
  let v3068 : Index := Scalar.indexCast v3067
  let c0_2042 : Index := 0#32
  ![v3068.toNat, 0]

def k0_chk511 (v3067 : BitVec 32) : Prop :=
  (∀ a, (k0_off511 v3067) a + S1x1024.size a ≤ S2048x1024.size a)
theorem k0_off511_inb : ∀ (v3067 : BitVec 32) (k0_hw511 : k0_chk511 v3067), ∀ a, (k0_off511 v3067) a + S1x1024.size a ≤ S2048x1024.size a := fun v3067 k0_hw511 => k0_hw511

def k0_off512 (v3073 : BitVec 32) : Fin 2 → Nat :=
  let v3074 : Index := Scalar.indexCast v3073
  let c0_2046 : Index := 0#32
  ![v3074.toNat, 0]

def k0_chk512 (v3073 : BitVec 32) : Prop :=
  (∀ a, (k0_off512 v3073) a + S1x1024.size a ≤ S2048x1024.size a)
theorem k0_off512_inb : ∀ (v3073 : BitVec 32) (k0_hw512 : k0_chk512 v3073), ∀ a, (k0_off512 v3073) a + S1x1024.size a ≤ S2048x1024.size a := fun v3073 k0_hw512 => k0_hw512

def k0_off513 (v3079 : BitVec 32) : Fin 2 → Nat :=
  let v3080 : Index := Scalar.indexCast v3079
  let c0_2050 : Index := 0#32
  ![v3080.toNat, 0]

def k0_chk513 (v3079 : BitVec 32) : Prop :=
  (∀ a, (k0_off513 v3079) a + S1x1024.size a ≤ S2048x1024.size a)
theorem k0_off513_inb : ∀ (v3079 : BitVec 32) (k0_hw513 : k0_chk513 v3079), ∀ a, (k0_off513 v3079) a + S1x1024.size a ≤ S2048x1024.size a := fun v3079 k0_hw513 => k0_hw513

def k0_off514 (v3085 : BitVec 32) : Fin 2 → Nat :=
  let v3086 : Index := Scalar.indexCast v3085
  let c0_2054 : Index := 0#32
  ![v3086.toNat, 0]

def k0_chk514 (v3085 : BitVec 32) : Prop :=
  (∀ a, (k0_off514 v3085) a + S1x1024.size a ≤ S2048x1024.size a)
theorem k0_off514_inb : ∀ (v3085 : BitVec 32) (k0_hw514 : k0_chk514 v3085), ∀ a, (k0_off514 v3085) a + S1x1024.size a ≤ S2048x1024.size a := fun v3085 k0_hw514 => k0_hw514

def k0_off515 (v3091 : BitVec 32) : Fin 2 → Nat :=
  let v3092 : Index := Scalar.indexCast v3091
  let c0_2058 : Index := 0#32
  ![v3092.toNat, 0]

def k0_chk515 (v3091 : BitVec 32) : Prop :=
  (∀ a, (k0_off515 v3091) a + S1x1024.size a ≤ S2048x1024.size a)
theorem k0_off515_inb : ∀ (v3091 : BitVec 32) (k0_hw515 : k0_chk515 v3091), ∀ a, (k0_off515 v3091) a + S1x1024.size a ≤ S2048x1024.size a := fun v3091 k0_hw515 => k0_hw515

def k0_off516 (v3097 : BitVec 32) : Fin 2 → Nat :=
  let v3098 : Index := Scalar.indexCast v3097
  let c0_2062 : Index := 0#32
  ![v3098.toNat, 0]

def k0_chk516 (v3097 : BitVec 32) : Prop :=
  (∀ a, (k0_off516 v3097) a + S1x1024.size a ≤ S2048x1024.size a)
theorem k0_off516_inb : ∀ (v3097 : BitVec 32) (k0_hw516 : k0_chk516 v3097), ∀ a, (k0_off516 v3097) a + S1x1024.size a ≤ S2048x1024.size a := fun v3097 k0_hw516 => k0_hw516

def k0_off517 (v3103 : BitVec 32) : Fin 2 → Nat :=
  let v3104 : Index := Scalar.indexCast v3103
  let c0_2066 : Index := 0#32
  ![v3104.toNat, 0]

def k0_chk517 (v3103 : BitVec 32) : Prop :=
  (∀ a, (k0_off517 v3103) a + S1x1024.size a ≤ S2048x1024.size a)
theorem k0_off517_inb : ∀ (v3103 : BitVec 32) (k0_hw517 : k0_chk517 v3103), ∀ a, (k0_off517 v3103) a + S1x1024.size a ≤ S2048x1024.size a := fun v3103 k0_hw517 => k0_hw517

def k0_off518 (v3109 : BitVec 32) : Fin 2 → Nat :=
  let v3110 : Index := Scalar.indexCast v3109
  let c0_2070 : Index := 0#32
  ![v3110.toNat, 0]

def k0_chk518 (v3109 : BitVec 32) : Prop :=
  (∀ a, (k0_off518 v3109) a + S1x1024.size a ≤ S2048x1024.size a)
theorem k0_off518_inb : ∀ (v3109 : BitVec 32) (k0_hw518 : k0_chk518 v3109), ∀ a, (k0_off518 v3109) a + S1x1024.size a ≤ S2048x1024.size a := fun v3109 k0_hw518 => k0_hw518

def k0_off519 (v3115 : BitVec 32) : Fin 2 → Nat :=
  let v3116 : Index := Scalar.indexCast v3115
  let c0_2074 : Index := 0#32
  ![v3116.toNat, 0]

def k0_chk519 (v3115 : BitVec 32) : Prop :=
  (∀ a, (k0_off519 v3115) a + S1x1024.size a ≤ S2048x1024.size a)
theorem k0_off519_inb : ∀ (v3115 : BitVec 32) (k0_hw519 : k0_chk519 v3115), ∀ a, (k0_off519 v3115) a + S1x1024.size a ≤ S2048x1024.size a := fun v3115 k0_hw519 => k0_hw519

def k0_off520 (v3121 : BitVec 32) : Fin 2 → Nat :=
  let v3122 : Index := Scalar.indexCast v3121
  let c0_2078 : Index := 0#32
  ![v3122.toNat, 0]

def k0_chk520 (v3121 : BitVec 32) : Prop :=
  (∀ a, (k0_off520 v3121) a + S1x1024.size a ≤ S2048x1024.size a)
theorem k0_off520_inb : ∀ (v3121 : BitVec 32) (k0_hw520 : k0_chk520 v3121), ∀ a, (k0_off520 v3121) a + S1x1024.size a ≤ S2048x1024.size a := fun v3121 k0_hw520 => k0_hw520

def k0_off521 (v3127 : BitVec 32) : Fin 2 → Nat :=
  let v3128 : Index := Scalar.indexCast v3127
  let c0_2082 : Index := 0#32
  ![v3128.toNat, 0]

def k0_chk521 (v3127 : BitVec 32) : Prop :=
  (∀ a, (k0_off521 v3127) a + S1x1024.size a ≤ S2048x1024.size a)
theorem k0_off521_inb : ∀ (v3127 : BitVec 32) (k0_hw521 : k0_chk521 v3127), ∀ a, (k0_off521 v3127) a + S1x1024.size a ≤ S2048x1024.size a := fun v3127 k0_hw521 => k0_hw521

def k0_off522 (v3133 : BitVec 32) : Fin 2 → Nat :=
  let v3134 : Index := Scalar.indexCast v3133
  let c0_2086 : Index := 0#32
  ![v3134.toNat, 0]

def k0_chk522 (v3133 : BitVec 32) : Prop :=
  (∀ a, (k0_off522 v3133) a + S1x1024.size a ≤ S2048x1024.size a)
theorem k0_off522_inb : ∀ (v3133 : BitVec 32) (k0_hw522 : k0_chk522 v3133), ∀ a, (k0_off522 v3133) a + S1x1024.size a ≤ S2048x1024.size a := fun v3133 k0_hw522 => k0_hw522

def k0_off523 (v3139 : BitVec 32) : Fin 2 → Nat :=
  let v3140 : Index := Scalar.indexCast v3139
  let c0_2090 : Index := 0#32
  ![v3140.toNat, 0]

def k0_chk523 (v3139 : BitVec 32) : Prop :=
  (∀ a, (k0_off523 v3139) a + S1x1024.size a ≤ S2048x1024.size a)
theorem k0_off523_inb : ∀ (v3139 : BitVec 32) (k0_hw523 : k0_chk523 v3139), ∀ a, (k0_off523 v3139) a + S1x1024.size a ≤ S2048x1024.size a := fun v3139 k0_hw523 => k0_hw523

def k0_off524 (v3145 : BitVec 32) : Fin 2 → Nat :=
  let v3146 : Index := Scalar.indexCast v3145
  let c0_2094 : Index := 0#32
  ![v3146.toNat, 0]

def k0_chk524 (v3145 : BitVec 32) : Prop :=
  (∀ a, (k0_off524 v3145) a + S1x1024.size a ≤ S2048x1024.size a)
theorem k0_off524_inb : ∀ (v3145 : BitVec 32) (k0_hw524 : k0_chk524 v3145), ∀ a, (k0_off524 v3145) a + S1x1024.size a ≤ S2048x1024.size a := fun v3145 k0_hw524 => k0_hw524

def k0_off525 (v3151 : BitVec 32) : Fin 2 → Nat :=
  let v3152 : Index := Scalar.indexCast v3151
  let c0_2098 : Index := 0#32
  ![v3152.toNat, 0]

def k0_chk525 (v3151 : BitVec 32) : Prop :=
  (∀ a, (k0_off525 v3151) a + S1x1024.size a ≤ S2048x1024.size a)
theorem k0_off525_inb : ∀ (v3151 : BitVec 32) (k0_hw525 : k0_chk525 v3151), ∀ a, (k0_off525 v3151) a + S1x1024.size a ≤ S2048x1024.size a := fun v3151 k0_hw525 => k0_hw525

def k0_off526 (v3157 : BitVec 32) : Fin 2 → Nat :=
  let v3158 : Index := Scalar.indexCast v3157
  let c0_2102 : Index := 0#32
  ![v3158.toNat, 0]

def k0_chk526 (v3157 : BitVec 32) : Prop :=
  (∀ a, (k0_off526 v3157) a + S1x1024.size a ≤ S2048x1024.size a)
theorem k0_off526_inb : ∀ (v3157 : BitVec 32) (k0_hw526 : k0_chk526 v3157), ∀ a, (k0_off526 v3157) a + S1x1024.size a ≤ S2048x1024.size a := fun v3157 k0_hw526 => k0_hw526

def k0_off527 (v3163 : BitVec 32) : Fin 2 → Nat :=
  let v3164 : Index := Scalar.indexCast v3163
  let c0_2106 : Index := 0#32
  ![v3164.toNat, 0]

def k0_chk527 (v3163 : BitVec 32) : Prop :=
  (∀ a, (k0_off527 v3163) a + S1x1024.size a ≤ S2048x1024.size a)
theorem k0_off527_inb : ∀ (v3163 : BitVec 32) (k0_hw527 : k0_chk527 v3163), ∀ a, (k0_off527 v3163) a + S1x1024.size a ≤ S2048x1024.size a := fun v3163 k0_hw527 => k0_hw527

def k0_off528 (v3169 : BitVec 32) : Fin 2 → Nat :=
  let v3170 : Index := Scalar.indexCast v3169
  let c0_2110 : Index := 0#32
  ![v3170.toNat, 0]

def k0_chk528 (v3169 : BitVec 32) : Prop :=
  (∀ a, (k0_off528 v3169) a + S1x1024.size a ≤ S2048x1024.size a)
theorem k0_off528_inb : ∀ (v3169 : BitVec 32) (k0_hw528 : k0_chk528 v3169), ∀ a, (k0_off528 v3169) a + S1x1024.size a ≤ S2048x1024.size a := fun v3169 k0_hw528 => k0_hw528

def k0_off529 (v3175 : BitVec 32) : Fin 2 → Nat :=
  let v3176 : Index := Scalar.indexCast v3175
  let c0_2114 : Index := 0#32
  ![v3176.toNat, 0]

def k0_chk529 (v3175 : BitVec 32) : Prop :=
  (∀ a, (k0_off529 v3175) a + S1x1024.size a ≤ S2048x1024.size a)
theorem k0_off529_inb : ∀ (v3175 : BitVec 32) (k0_hw529 : k0_chk529 v3175), ∀ a, (k0_off529 v3175) a + S1x1024.size a ≤ S2048x1024.size a := fun v3175 k0_hw529 => k0_hw529

def k0_off530 (v3181 : BitVec 32) : Fin 2 → Nat :=
  let v3182 : Index := Scalar.indexCast v3181
  let c0_2118 : Index := 0#32
  ![v3182.toNat, 0]

def k0_chk530 (v3181 : BitVec 32) : Prop :=
  (∀ a, (k0_off530 v3181) a + S1x1024.size a ≤ S2048x1024.size a)
theorem k0_off530_inb : ∀ (v3181 : BitVec 32) (k0_hw530 : k0_chk530 v3181), ∀ a, (k0_off530 v3181) a + S1x1024.size a ≤ S2048x1024.size a := fun v3181 k0_hw530 => k0_hw530

def k0_off531 (v3187 : BitVec 32) : Fin 2 → Nat :=
  let v3188 : Index := Scalar.indexCast v3187
  let c0_2122 : Index := 0#32
  ![v3188.toNat, 0]

def k0_chk531 (v3187 : BitVec 32) : Prop :=
  (∀ a, (k0_off531 v3187) a + S1x1024.size a ≤ S2048x1024.size a)
theorem k0_off531_inb : ∀ (v3187 : BitVec 32) (k0_hw531 : k0_chk531 v3187), ∀ a, (k0_off531 v3187) a + S1x1024.size a ≤ S2048x1024.size a := fun v3187 k0_hw531 => k0_hw531

def k0_off532 (v3193 : BitVec 32) : Fin 2 → Nat :=
  let v3194 : Index := Scalar.indexCast v3193
  let c0_2126 : Index := 0#32
  ![v3194.toNat, 0]

def k0_chk532 (v3193 : BitVec 32) : Prop :=
  (∀ a, (k0_off532 v3193) a + S1x1024.size a ≤ S2048x1024.size a)
theorem k0_off532_inb : ∀ (v3193 : BitVec 32) (k0_hw532 : k0_chk532 v3193), ∀ a, (k0_off532 v3193) a + S1x1024.size a ≤ S2048x1024.size a := fun v3193 k0_hw532 => k0_hw532

def k0_off533 (v3199 : BitVec 32) : Fin 2 → Nat :=
  let v3200 : Index := Scalar.indexCast v3199
  let c0_2130 : Index := 0#32
  ![v3200.toNat, 0]

def k0_chk533 (v3199 : BitVec 32) : Prop :=
  (∀ a, (k0_off533 v3199) a + S1x1024.size a ≤ S2048x1024.size a)
theorem k0_off533_inb : ∀ (v3199 : BitVec 32) (k0_hw533 : k0_chk533 v3199), ∀ a, (k0_off533 v3199) a + S1x1024.size a ≤ S2048x1024.size a := fun v3199 k0_hw533 => k0_hw533

def k0_off534 (v3205 : BitVec 32) : Fin 2 → Nat :=
  let v3206 : Index := Scalar.indexCast v3205
  let c0_2134 : Index := 0#32
  ![v3206.toNat, 0]

def k0_chk534 (v3205 : BitVec 32) : Prop :=
  (∀ a, (k0_off534 v3205) a + S1x1024.size a ≤ S2048x1024.size a)
theorem k0_off534_inb : ∀ (v3205 : BitVec 32) (k0_hw534 : k0_chk534 v3205), ∀ a, (k0_off534 v3205) a + S1x1024.size a ≤ S2048x1024.size a := fun v3205 k0_hw534 => k0_hw534

def k0_off535 (v3211 : BitVec 32) : Fin 2 → Nat :=
  let v3212 : Index := Scalar.indexCast v3211
  let c0_2138 : Index := 0#32
  ![v3212.toNat, 0]

def k0_chk535 (v3211 : BitVec 32) : Prop :=
  (∀ a, (k0_off535 v3211) a + S1x1024.size a ≤ S2048x1024.size a)
theorem k0_off535_inb : ∀ (v3211 : BitVec 32) (k0_hw535 : k0_chk535 v3211), ∀ a, (k0_off535 v3211) a + S1x1024.size a ≤ S2048x1024.size a := fun v3211 k0_hw535 => k0_hw535

def k0_off536 (v3217 : BitVec 32) : Fin 2 → Nat :=
  let v3218 : Index := Scalar.indexCast v3217
  let c0_2142 : Index := 0#32
  ![v3218.toNat, 0]

def k0_chk536 (v3217 : BitVec 32) : Prop :=
  (∀ a, (k0_off536 v3217) a + S1x1024.size a ≤ S2048x1024.size a)
theorem k0_off536_inb : ∀ (v3217 : BitVec 32) (k0_hw536 : k0_chk536 v3217), ∀ a, (k0_off536 v3217) a + S1x1024.size a ≤ S2048x1024.size a := fun v3217 k0_hw536 => k0_hw536

def k0_off537 (v3223 : BitVec 32) : Fin 2 → Nat :=
  let v3224 : Index := Scalar.indexCast v3223
  let c0_2146 : Index := 0#32
  ![v3224.toNat, 0]

def k0_chk537 (v3223 : BitVec 32) : Prop :=
  (∀ a, (k0_off537 v3223) a + S1x1024.size a ≤ S2048x1024.size a)
theorem k0_off537_inb : ∀ (v3223 : BitVec 32) (k0_hw537 : k0_chk537 v3223), ∀ a, (k0_off537 v3223) a + S1x1024.size a ≤ S2048x1024.size a := fun v3223 k0_hw537 => k0_hw537

def k0_off538 (v3229 : BitVec 32) : Fin 2 → Nat :=
  let v3230 : Index := Scalar.indexCast v3229
  let c0_2150 : Index := 0#32
  ![v3230.toNat, 0]

def k0_chk538 (v3229 : BitVec 32) : Prop :=
  (∀ a, (k0_off538 v3229) a + S1x1024.size a ≤ S2048x1024.size a)
theorem k0_off538_inb : ∀ (v3229 : BitVec 32) (k0_hw538 : k0_chk538 v3229), ∀ a, (k0_off538 v3229) a + S1x1024.size a ≤ S2048x1024.size a := fun v3229 k0_hw538 => k0_hw538

def k0_off539 (v3235 : BitVec 32) : Fin 2 → Nat :=
  let v3236 : Index := Scalar.indexCast v3235
  let c0_2154 : Index := 0#32
  ![v3236.toNat, 0]

def k0_chk539 (v3235 : BitVec 32) : Prop :=
  (∀ a, (k0_off539 v3235) a + S1x1024.size a ≤ S2048x1024.size a)
theorem k0_off539_inb : ∀ (v3235 : BitVec 32) (k0_hw539 : k0_chk539 v3235), ∀ a, (k0_off539 v3235) a + S1x1024.size a ≤ S2048x1024.size a := fun v3235 k0_hw539 => k0_hw539

def k0_off540 (v3241 : BitVec 32) : Fin 2 → Nat :=
  let v3242 : Index := Scalar.indexCast v3241
  let c0_2158 : Index := 0#32
  ![v3242.toNat, 0]

def k0_chk540 (v3241 : BitVec 32) : Prop :=
  (∀ a, (k0_off540 v3241) a + S1x1024.size a ≤ S2048x1024.size a)
theorem k0_off540_inb : ∀ (v3241 : BitVec 32) (k0_hw540 : k0_chk540 v3241), ∀ a, (k0_off540 v3241) a + S1x1024.size a ≤ S2048x1024.size a := fun v3241 k0_hw540 => k0_hw540

def k0_off541 (v3247 : BitVec 32) : Fin 2 → Nat :=
  let v3248 : Index := Scalar.indexCast v3247
  let c0_2162 : Index := 0#32
  ![v3248.toNat, 0]

def k0_chk541 (v3247 : BitVec 32) : Prop :=
  (∀ a, (k0_off541 v3247) a + S1x1024.size a ≤ S2048x1024.size a)
theorem k0_off541_inb : ∀ (v3247 : BitVec 32) (k0_hw541 : k0_chk541 v3247), ∀ a, (k0_off541 v3247) a + S1x1024.size a ≤ S2048x1024.size a := fun v3247 k0_hw541 => k0_hw541

def k0_off542 (v3253 : BitVec 32) : Fin 2 → Nat :=
  let v3254 : Index := Scalar.indexCast v3253
  let c0_2166 : Index := 0#32
  ![v3254.toNat, 0]

def k0_chk542 (v3253 : BitVec 32) : Prop :=
  (∀ a, (k0_off542 v3253) a + S1x1024.size a ≤ S2048x1024.size a)
theorem k0_off542_inb : ∀ (v3253 : BitVec 32) (k0_hw542 : k0_chk542 v3253), ∀ a, (k0_off542 v3253) a + S1x1024.size a ≤ S2048x1024.size a := fun v3253 k0_hw542 => k0_hw542

def k0_off543 (v3259 : BitVec 32) : Fin 2 → Nat :=
  let v3260 : Index := Scalar.indexCast v3259
  let c0_2170 : Index := 0#32
  ![v3260.toNat, 0]

def k0_chk543 (v3259 : BitVec 32) : Prop :=
  (∀ a, (k0_off543 v3259) a + S1x1024.size a ≤ S2048x1024.size a)
theorem k0_off543_inb : ∀ (v3259 : BitVec 32) (k0_hw543 : k0_chk543 v3259), ∀ a, (k0_off543 v3259) a + S1x1024.size a ≤ S2048x1024.size a := fun v3259 k0_hw543 => k0_hw543

def k0_off544 (v3265 : BitVec 32) : Fin 2 → Nat :=
  let v3266 : Index := Scalar.indexCast v3265
  let c0_2174 : Index := 0#32
  ![v3266.toNat, 0]

def k0_chk544 (v3265 : BitVec 32) : Prop :=
  (∀ a, (k0_off544 v3265) a + S1x1024.size a ≤ S2048x1024.size a)
theorem k0_off544_inb : ∀ (v3265 : BitVec 32) (k0_hw544 : k0_chk544 v3265), ∀ a, (k0_off544 v3265) a + S1x1024.size a ≤ S2048x1024.size a := fun v3265 k0_hw544 => k0_hw544

def k0_off545 (v3271 : BitVec 32) : Fin 2 → Nat :=
  let v3272 : Index := Scalar.indexCast v3271
  let c0_2178 : Index := 0#32
  ![v3272.toNat, 0]

def k0_chk545 (v3271 : BitVec 32) : Prop :=
  (∀ a, (k0_off545 v3271) a + S1x1024.size a ≤ S2048x1024.size a)
theorem k0_off545_inb : ∀ (v3271 : BitVec 32) (k0_hw545 : k0_chk545 v3271), ∀ a, (k0_off545 v3271) a + S1x1024.size a ≤ S2048x1024.size a := fun v3271 k0_hw545 => k0_hw545

def k0_off546 (v3277 : BitVec 32) : Fin 2 → Nat :=
  let v3278 : Index := Scalar.indexCast v3277
  let c0_2182 : Index := 0#32
  ![v3278.toNat, 0]

def k0_chk546 (v3277 : BitVec 32) : Prop :=
  (∀ a, (k0_off546 v3277) a + S1x1024.size a ≤ S2048x1024.size a)
theorem k0_off546_inb : ∀ (v3277 : BitVec 32) (k0_hw546 : k0_chk546 v3277), ∀ a, (k0_off546 v3277) a + S1x1024.size a ≤ S2048x1024.size a := fun v3277 k0_hw546 => k0_hw546

def k0_off547 (v3283 : BitVec 32) : Fin 2 → Nat :=
  let v3284 : Index := Scalar.indexCast v3283
  let c0_2186 : Index := 0#32
  ![v3284.toNat, 0]

def k0_chk547 (v3283 : BitVec 32) : Prop :=
  (∀ a, (k0_off547 v3283) a + S1x1024.size a ≤ S2048x1024.size a)
theorem k0_off547_inb : ∀ (v3283 : BitVec 32) (k0_hw547 : k0_chk547 v3283), ∀ a, (k0_off547 v3283) a + S1x1024.size a ≤ S2048x1024.size a := fun v3283 k0_hw547 => k0_hw547

def k0_off548 (v3289 : BitVec 32) : Fin 2 → Nat :=
  let v3290 : Index := Scalar.indexCast v3289
  let c0_2190 : Index := 0#32
  ![v3290.toNat, 0]

def k0_chk548 (v3289 : BitVec 32) : Prop :=
  (∀ a, (k0_off548 v3289) a + S1x1024.size a ≤ S2048x1024.size a)
theorem k0_off548_inb : ∀ (v3289 : BitVec 32) (k0_hw548 : k0_chk548 v3289), ∀ a, (k0_off548 v3289) a + S1x1024.size a ≤ S2048x1024.size a := fun v3289 k0_hw548 => k0_hw548

def k0_off549 (v3295 : BitVec 32) : Fin 2 → Nat :=
  let v3296 : Index := Scalar.indexCast v3295
  let c0_2194 : Index := 0#32
  ![v3296.toNat, 0]

def k0_chk549 (v3295 : BitVec 32) : Prop :=
  (∀ a, (k0_off549 v3295) a + S1x1024.size a ≤ S2048x1024.size a)
theorem k0_off549_inb : ∀ (v3295 : BitVec 32) (k0_hw549 : k0_chk549 v3295), ∀ a, (k0_off549 v3295) a + S1x1024.size a ≤ S2048x1024.size a := fun v3295 k0_hw549 => k0_hw549

def k0_off550 (v3301 : BitVec 32) : Fin 2 → Nat :=
  let v3302 : Index := Scalar.indexCast v3301
  let c0_2198 : Index := 0#32
  ![v3302.toNat, 0]

def k0_chk550 (v3301 : BitVec 32) : Prop :=
  (∀ a, (k0_off550 v3301) a + S1x1024.size a ≤ S2048x1024.size a)
theorem k0_off550_inb : ∀ (v3301 : BitVec 32) (k0_hw550 : k0_chk550 v3301), ∀ a, (k0_off550 v3301) a + S1x1024.size a ≤ S2048x1024.size a := fun v3301 k0_hw550 => k0_hw550

def k0_off551 (v3307 : BitVec 32) : Fin 2 → Nat :=
  let v3308 : Index := Scalar.indexCast v3307
  let c0_2202 : Index := 0#32
  ![v3308.toNat, 0]

def k0_chk551 (v3307 : BitVec 32) : Prop :=
  (∀ a, (k0_off551 v3307) a + S1x1024.size a ≤ S2048x1024.size a)
theorem k0_off551_inb : ∀ (v3307 : BitVec 32) (k0_hw551 : k0_chk551 v3307), ∀ a, (k0_off551 v3307) a + S1x1024.size a ≤ S2048x1024.size a := fun v3307 k0_hw551 => k0_hw551

def k0_off552 (v3313 : BitVec 32) : Fin 2 → Nat :=
  let v3314 : Index := Scalar.indexCast v3313
  let c0_2206 : Index := 0#32
  ![v3314.toNat, 0]

def k0_chk552 (v3313 : BitVec 32) : Prop :=
  (∀ a, (k0_off552 v3313) a + S1x1024.size a ≤ S2048x1024.size a)
theorem k0_off552_inb : ∀ (v3313 : BitVec 32) (k0_hw552 : k0_chk552 v3313), ∀ a, (k0_off552 v3313) a + S1x1024.size a ≤ S2048x1024.size a := fun v3313 k0_hw552 => k0_hw552

def k0_off553 (v3319 : BitVec 32) : Fin 2 → Nat :=
  let v3320 : Index := Scalar.indexCast v3319
  let c0_2210 : Index := 0#32
  ![v3320.toNat, 0]

def k0_chk553 (v3319 : BitVec 32) : Prop :=
  (∀ a, (k0_off553 v3319) a + S1x1024.size a ≤ S2048x1024.size a)
theorem k0_off553_inb : ∀ (v3319 : BitVec 32) (k0_hw553 : k0_chk553 v3319), ∀ a, (k0_off553 v3319) a + S1x1024.size a ≤ S2048x1024.size a := fun v3319 k0_hw553 => k0_hw553

def k0_off554 (v3325 : BitVec 32) : Fin 2 → Nat :=
  let v3326 : Index := Scalar.indexCast v3325
  let c0_2214 : Index := 0#32
  ![v3326.toNat, 0]

def k0_chk554 (v3325 : BitVec 32) : Prop :=
  (∀ a, (k0_off554 v3325) a + S1x1024.size a ≤ S2048x1024.size a)
theorem k0_off554_inb : ∀ (v3325 : BitVec 32) (k0_hw554 : k0_chk554 v3325), ∀ a, (k0_off554 v3325) a + S1x1024.size a ≤ S2048x1024.size a := fun v3325 k0_hw554 => k0_hw554

def k0_off555 (v3331 : BitVec 32) : Fin 2 → Nat :=
  let v3332 : Index := Scalar.indexCast v3331
  let c0_2218 : Index := 0#32
  ![v3332.toNat, 0]

def k0_chk555 (v3331 : BitVec 32) : Prop :=
  (∀ a, (k0_off555 v3331) a + S1x1024.size a ≤ S2048x1024.size a)
theorem k0_off555_inb : ∀ (v3331 : BitVec 32) (k0_hw555 : k0_chk555 v3331), ∀ a, (k0_off555 v3331) a + S1x1024.size a ≤ S2048x1024.size a := fun v3331 k0_hw555 => k0_hw555

def k0_off556 (v3337 : BitVec 32) : Fin 2 → Nat :=
  let v3338 : Index := Scalar.indexCast v3337
  let c0_2222 : Index := 0#32
  ![v3338.toNat, 0]

def k0_chk556 (v3337 : BitVec 32) : Prop :=
  (∀ a, (k0_off556 v3337) a + S1x1024.size a ≤ S2048x1024.size a)
theorem k0_off556_inb : ∀ (v3337 : BitVec 32) (k0_hw556 : k0_chk556 v3337), ∀ a, (k0_off556 v3337) a + S1x1024.size a ≤ S2048x1024.size a := fun v3337 k0_hw556 => k0_hw556

def k0_off557 (v3343 : BitVec 32) : Fin 2 → Nat :=
  let v3344 : Index := Scalar.indexCast v3343
  let c0_2226 : Index := 0#32
  ![v3344.toNat, 0]

def k0_chk557 (v3343 : BitVec 32) : Prop :=
  (∀ a, (k0_off557 v3343) a + S1x1024.size a ≤ S2048x1024.size a)
theorem k0_off557_inb : ∀ (v3343 : BitVec 32) (k0_hw557 : k0_chk557 v3343), ∀ a, (k0_off557 v3343) a + S1x1024.size a ≤ S2048x1024.size a := fun v3343 k0_hw557 => k0_hw557

def k0_off558 (v3349 : BitVec 32) : Fin 2 → Nat :=
  let v3350 : Index := Scalar.indexCast v3349
  let c0_2230 : Index := 0#32
  ![v3350.toNat, 0]

def k0_chk558 (v3349 : BitVec 32) : Prop :=
  (∀ a, (k0_off558 v3349) a + S1x1024.size a ≤ S2048x1024.size a)
theorem k0_off558_inb : ∀ (v3349 : BitVec 32) (k0_hw558 : k0_chk558 v3349), ∀ a, (k0_off558 v3349) a + S1x1024.size a ≤ S2048x1024.size a := fun v3349 k0_hw558 => k0_hw558

def k0_off559 (v3355 : BitVec 32) : Fin 2 → Nat :=
  let v3356 : Index := Scalar.indexCast v3355
  let c0_2234 : Index := 0#32
  ![v3356.toNat, 0]

def k0_chk559 (v3355 : BitVec 32) : Prop :=
  (∀ a, (k0_off559 v3355) a + S1x1024.size a ≤ S2048x1024.size a)
theorem k0_off559_inb : ∀ (v3355 : BitVec 32) (k0_hw559 : k0_chk559 v3355), ∀ a, (k0_off559 v3355) a + S1x1024.size a ≤ S2048x1024.size a := fun v3355 k0_hw559 => k0_hw559

def k0_off560 (v3361 : BitVec 32) : Fin 2 → Nat :=
  let v3362 : Index := Scalar.indexCast v3361
  let c0_2238 : Index := 0#32
  ![v3362.toNat, 0]

def k0_chk560 (v3361 : BitVec 32) : Prop :=
  (∀ a, (k0_off560 v3361) a + S1x1024.size a ≤ S2048x1024.size a)
theorem k0_off560_inb : ∀ (v3361 : BitVec 32) (k0_hw560 : k0_chk560 v3361), ∀ a, (k0_off560 v3361) a + S1x1024.size a ≤ S2048x1024.size a := fun v3361 k0_hw560 => k0_hw560

def k0_off561 (v3367 : BitVec 32) : Fin 2 → Nat :=
  let v3368 : Index := Scalar.indexCast v3367
  let c0_2242 : Index := 0#32
  ![v3368.toNat, 0]

def k0_chk561 (v3367 : BitVec 32) : Prop :=
  (∀ a, (k0_off561 v3367) a + S1x1024.size a ≤ S2048x1024.size a)
theorem k0_off561_inb : ∀ (v3367 : BitVec 32) (k0_hw561 : k0_chk561 v3367), ∀ a, (k0_off561 v3367) a + S1x1024.size a ≤ S2048x1024.size a := fun v3367 k0_hw561 => k0_hw561

def k0_off562 (v3373 : BitVec 32) : Fin 2 → Nat :=
  let v3374 : Index := Scalar.indexCast v3373
  let c0_2246 : Index := 0#32
  ![v3374.toNat, 0]

def k0_chk562 (v3373 : BitVec 32) : Prop :=
  (∀ a, (k0_off562 v3373) a + S1x1024.size a ≤ S2048x1024.size a)
theorem k0_off562_inb : ∀ (v3373 : BitVec 32) (k0_hw562 : k0_chk562 v3373), ∀ a, (k0_off562 v3373) a + S1x1024.size a ≤ S2048x1024.size a := fun v3373 k0_hw562 => k0_hw562

def k0_off563 (v3379 : BitVec 32) : Fin 2 → Nat :=
  let v3380 : Index := Scalar.indexCast v3379
  let c0_2250 : Index := 0#32
  ![v3380.toNat, 0]

def k0_chk563 (v3379 : BitVec 32) : Prop :=
  (∀ a, (k0_off563 v3379) a + S1x1024.size a ≤ S2048x1024.size a)
theorem k0_off563_inb : ∀ (v3379 : BitVec 32) (k0_hw563 : k0_chk563 v3379), ∀ a, (k0_off563 v3379) a + S1x1024.size a ≤ S2048x1024.size a := fun v3379 k0_hw563 => k0_hw563

def k0_off564 (v3385 : BitVec 32) : Fin 2 → Nat :=
  let v3386 : Index := Scalar.indexCast v3385
  let c0_2254 : Index := 0#32
  ![v3386.toNat, 0]

def k0_chk564 (v3385 : BitVec 32) : Prop :=
  (∀ a, (k0_off564 v3385) a + S1x1024.size a ≤ S2048x1024.size a)
theorem k0_off564_inb : ∀ (v3385 : BitVec 32) (k0_hw564 : k0_chk564 v3385), ∀ a, (k0_off564 v3385) a + S1x1024.size a ≤ S2048x1024.size a := fun v3385 k0_hw564 => k0_hw564

def k0_off565 (v3391 : BitVec 32) : Fin 2 → Nat :=
  let v3392 : Index := Scalar.indexCast v3391
  let c0_2258 : Index := 0#32
  ![v3392.toNat, 0]

def k0_chk565 (v3391 : BitVec 32) : Prop :=
  (∀ a, (k0_off565 v3391) a + S1x1024.size a ≤ S2048x1024.size a)
theorem k0_off565_inb : ∀ (v3391 : BitVec 32) (k0_hw565 : k0_chk565 v3391), ∀ a, (k0_off565 v3391) a + S1x1024.size a ≤ S2048x1024.size a := fun v3391 k0_hw565 => k0_hw565

def k0_off566 (v3397 : BitVec 32) : Fin 2 → Nat :=
  let v3398 : Index := Scalar.indexCast v3397
  let c0_2262 : Index := 0#32
  ![v3398.toNat, 0]

def k0_chk566 (v3397 : BitVec 32) : Prop :=
  (∀ a, (k0_off566 v3397) a + S1x1024.size a ≤ S2048x1024.size a)
theorem k0_off566_inb : ∀ (v3397 : BitVec 32) (k0_hw566 : k0_chk566 v3397), ∀ a, (k0_off566 v3397) a + S1x1024.size a ≤ S2048x1024.size a := fun v3397 k0_hw566 => k0_hw566

def k0_off567 (v3403 : BitVec 32) : Fin 2 → Nat :=
  let v3404 : Index := Scalar.indexCast v3403
  let c0_2266 : Index := 0#32
  ![v3404.toNat, 0]

def k0_chk567 (v3403 : BitVec 32) : Prop :=
  (∀ a, (k0_off567 v3403) a + S1x1024.size a ≤ S2048x1024.size a)
theorem k0_off567_inb : ∀ (v3403 : BitVec 32) (k0_hw567 : k0_chk567 v3403), ∀ a, (k0_off567 v3403) a + S1x1024.size a ≤ S2048x1024.size a := fun v3403 k0_hw567 => k0_hw567

def k0_off568 (v3409 : BitVec 32) : Fin 2 → Nat :=
  let v3410 : Index := Scalar.indexCast v3409
  let c0_2270 : Index := 0#32
  ![v3410.toNat, 0]

def k0_chk568 (v3409 : BitVec 32) : Prop :=
  (∀ a, (k0_off568 v3409) a + S1x1024.size a ≤ S2048x1024.size a)
theorem k0_off568_inb : ∀ (v3409 : BitVec 32) (k0_hw568 : k0_chk568 v3409), ∀ a, (k0_off568 v3409) a + S1x1024.size a ≤ S2048x1024.size a := fun v3409 k0_hw568 => k0_hw568

def k0_off569 (v3415 : BitVec 32) : Fin 2 → Nat :=
  let v3416 : Index := Scalar.indexCast v3415
  let c0_2274 : Index := 0#32
  ![v3416.toNat, 0]

def k0_chk569 (v3415 : BitVec 32) : Prop :=
  (∀ a, (k0_off569 v3415) a + S1x1024.size a ≤ S2048x1024.size a)
theorem k0_off569_inb : ∀ (v3415 : BitVec 32) (k0_hw569 : k0_chk569 v3415), ∀ a, (k0_off569 v3415) a + S1x1024.size a ≤ S2048x1024.size a := fun v3415 k0_hw569 => k0_hw569

def k0_off570 (v3421 : BitVec 32) : Fin 2 → Nat :=
  let v3422 : Index := Scalar.indexCast v3421
  let c0_2278 : Index := 0#32
  ![v3422.toNat, 0]

def k0_chk570 (v3421 : BitVec 32) : Prop :=
  (∀ a, (k0_off570 v3421) a + S1x1024.size a ≤ S2048x1024.size a)
theorem k0_off570_inb : ∀ (v3421 : BitVec 32) (k0_hw570 : k0_chk570 v3421), ∀ a, (k0_off570 v3421) a + S1x1024.size a ≤ S2048x1024.size a := fun v3421 k0_hw570 => k0_hw570

def k0_off571 (v3427 : BitVec 32) : Fin 2 → Nat :=
  let v3428 : Index := Scalar.indexCast v3427
  let c0_2282 : Index := 0#32
  ![v3428.toNat, 0]

def k0_chk571 (v3427 : BitVec 32) : Prop :=
  (∀ a, (k0_off571 v3427) a + S1x1024.size a ≤ S2048x1024.size a)
theorem k0_off571_inb : ∀ (v3427 : BitVec 32) (k0_hw571 : k0_chk571 v3427), ∀ a, (k0_off571 v3427) a + S1x1024.size a ≤ S2048x1024.size a := fun v3427 k0_hw571 => k0_hw571

def k0_off572 (v3433 : BitVec 32) : Fin 2 → Nat :=
  let v3434 : Index := Scalar.indexCast v3433
  let c0_2286 : Index := 0#32
  ![v3434.toNat, 0]

def k0_chk572 (v3433 : BitVec 32) : Prop :=
  (∀ a, (k0_off572 v3433) a + S1x1024.size a ≤ S2048x1024.size a)
theorem k0_off572_inb : ∀ (v3433 : BitVec 32) (k0_hw572 : k0_chk572 v3433), ∀ a, (k0_off572 v3433) a + S1x1024.size a ≤ S2048x1024.size a := fun v3433 k0_hw572 => k0_hw572

def k0_off573 (v3439 : BitVec 32) : Fin 2 → Nat :=
  let v3440 : Index := Scalar.indexCast v3439
  let c0_2290 : Index := 0#32
  ![v3440.toNat, 0]

def k0_chk573 (v3439 : BitVec 32) : Prop :=
  (∀ a, (k0_off573 v3439) a + S1x1024.size a ≤ S2048x1024.size a)
theorem k0_off573_inb : ∀ (v3439 : BitVec 32) (k0_hw573 : k0_chk573 v3439), ∀ a, (k0_off573 v3439) a + S1x1024.size a ≤ S2048x1024.size a := fun v3439 k0_hw573 => k0_hw573

def k0_off574 (v3445 : BitVec 32) : Fin 2 → Nat :=
  let v3446 : Index := Scalar.indexCast v3445
  let c0_2294 : Index := 0#32
  ![v3446.toNat, 0]

def k0_chk574 (v3445 : BitVec 32) : Prop :=
  (∀ a, (k0_off574 v3445) a + S1x1024.size a ≤ S2048x1024.size a)
theorem k0_off574_inb : ∀ (v3445 : BitVec 32) (k0_hw574 : k0_chk574 v3445), ∀ a, (k0_off574 v3445) a + S1x1024.size a ≤ S2048x1024.size a := fun v3445 k0_hw574 => k0_hw574

def k0_off575 (v3451 : BitVec 32) : Fin 2 → Nat :=
  let v3452 : Index := Scalar.indexCast v3451
  let c0_2298 : Index := 0#32
  ![v3452.toNat, 0]

def k0_chk575 (v3451 : BitVec 32) : Prop :=
  (∀ a, (k0_off575 v3451) a + S1x1024.size a ≤ S2048x1024.size a)
theorem k0_off575_inb : ∀ (v3451 : BitVec 32) (k0_hw575 : k0_chk575 v3451), ∀ a, (k0_off575 v3451) a + S1x1024.size a ≤ S2048x1024.size a := fun v3451 k0_hw575 => k0_hw575

def k0_off576 (v3457 : BitVec 32) : Fin 2 → Nat :=
  let v3458 : Index := Scalar.indexCast v3457
  let c0_2302 : Index := 0#32
  ![v3458.toNat, 0]

def k0_chk576 (v3457 : BitVec 32) : Prop :=
  (∀ a, (k0_off576 v3457) a + S1x1024.size a ≤ S2048x1024.size a)
theorem k0_off576_inb : ∀ (v3457 : BitVec 32) (k0_hw576 : k0_chk576 v3457), ∀ a, (k0_off576 v3457) a + S1x1024.size a ≤ S2048x1024.size a := fun v3457 k0_hw576 => k0_hw576

def k0_off577 (v3463 : BitVec 32) : Fin 2 → Nat :=
  let v3464 : Index := Scalar.indexCast v3463
  let c0_2306 : Index := 0#32
  ![v3464.toNat, 0]

def k0_chk577 (v3463 : BitVec 32) : Prop :=
  (∀ a, (k0_off577 v3463) a + S1x1024.size a ≤ S2048x1024.size a)
theorem k0_off577_inb : ∀ (v3463 : BitVec 32) (k0_hw577 : k0_chk577 v3463), ∀ a, (k0_off577 v3463) a + S1x1024.size a ≤ S2048x1024.size a := fun v3463 k0_hw577 => k0_hw577

def k0_off578 (v3469 : BitVec 32) : Fin 2 → Nat :=
  let v3470 : Index := Scalar.indexCast v3469
  let c0_2310 : Index := 0#32
  ![v3470.toNat, 0]

def k0_chk578 (v3469 : BitVec 32) : Prop :=
  (∀ a, (k0_off578 v3469) a + S1x1024.size a ≤ S2048x1024.size a)
theorem k0_off578_inb : ∀ (v3469 : BitVec 32) (k0_hw578 : k0_chk578 v3469), ∀ a, (k0_off578 v3469) a + S1x1024.size a ≤ S2048x1024.size a := fun v3469 k0_hw578 => k0_hw578

def k0_off579 (v3475 : BitVec 32) : Fin 2 → Nat :=
  let v3476 : Index := Scalar.indexCast v3475
  let c0_2314 : Index := 0#32
  ![v3476.toNat, 0]

def k0_chk579 (v3475 : BitVec 32) : Prop :=
  (∀ a, (k0_off579 v3475) a + S1x1024.size a ≤ S2048x1024.size a)
theorem k0_off579_inb : ∀ (v3475 : BitVec 32) (k0_hw579 : k0_chk579 v3475), ∀ a, (k0_off579 v3475) a + S1x1024.size a ≤ S2048x1024.size a := fun v3475 k0_hw579 => k0_hw579

def k0_off580 (v3481 : BitVec 32) : Fin 2 → Nat :=
  let v3482 : Index := Scalar.indexCast v3481
  let c0_2318 : Index := 0#32
  ![v3482.toNat, 0]

def k0_chk580 (v3481 : BitVec 32) : Prop :=
  (∀ a, (k0_off580 v3481) a + S1x1024.size a ≤ S2048x1024.size a)
theorem k0_off580_inb : ∀ (v3481 : BitVec 32) (k0_hw580 : k0_chk580 v3481), ∀ a, (k0_off580 v3481) a + S1x1024.size a ≤ S2048x1024.size a := fun v3481 k0_hw580 => k0_hw580

def k0_off581 (v3487 : BitVec 32) : Fin 2 → Nat :=
  let v3488 : Index := Scalar.indexCast v3487
  let c0_2322 : Index := 0#32
  ![v3488.toNat, 0]

def k0_chk581 (v3487 : BitVec 32) : Prop :=
  (∀ a, (k0_off581 v3487) a + S1x1024.size a ≤ S2048x1024.size a)
theorem k0_off581_inb : ∀ (v3487 : BitVec 32) (k0_hw581 : k0_chk581 v3487), ∀ a, (k0_off581 v3487) a + S1x1024.size a ≤ S2048x1024.size a := fun v3487 k0_hw581 => k0_hw581

def k0_off582 (v3493 : BitVec 32) : Fin 2 → Nat :=
  let v3494 : Index := Scalar.indexCast v3493
  let c0_2326 : Index := 0#32
  ![v3494.toNat, 0]

def k0_chk582 (v3493 : BitVec 32) : Prop :=
  (∀ a, (k0_off582 v3493) a + S1x1024.size a ≤ S2048x1024.size a)
theorem k0_off582_inb : ∀ (v3493 : BitVec 32) (k0_hw582 : k0_chk582 v3493), ∀ a, (k0_off582 v3493) a + S1x1024.size a ≤ S2048x1024.size a := fun v3493 k0_hw582 => k0_hw582

def k0_off583 (v3499 : BitVec 32) : Fin 2 → Nat :=
  let v3500 : Index := Scalar.indexCast v3499
  let c0_2330 : Index := 0#32
  ![v3500.toNat, 0]

def k0_chk583 (v3499 : BitVec 32) : Prop :=
  (∀ a, (k0_off583 v3499) a + S1x1024.size a ≤ S2048x1024.size a)
theorem k0_off583_inb : ∀ (v3499 : BitVec 32) (k0_hw583 : k0_chk583 v3499), ∀ a, (k0_off583 v3499) a + S1x1024.size a ≤ S2048x1024.size a := fun v3499 k0_hw583 => k0_hw583

def k0_off584 (v3505 : BitVec 32) : Fin 2 → Nat :=
  let v3506 : Index := Scalar.indexCast v3505
  let c0_2334 : Index := 0#32
  ![v3506.toNat, 0]

def k0_chk584 (v3505 : BitVec 32) : Prop :=
  (∀ a, (k0_off584 v3505) a + S1x1024.size a ≤ S2048x1024.size a)
theorem k0_off584_inb : ∀ (v3505 : BitVec 32) (k0_hw584 : k0_chk584 v3505), ∀ a, (k0_off584 v3505) a + S1x1024.size a ≤ S2048x1024.size a := fun v3505 k0_hw584 => k0_hw584

def k0_off585 (v3511 : BitVec 32) : Fin 2 → Nat :=
  let v3512 : Index := Scalar.indexCast v3511
  let c0_2338 : Index := 0#32
  ![v3512.toNat, 0]

def k0_chk585 (v3511 : BitVec 32) : Prop :=
  (∀ a, (k0_off585 v3511) a + S1x1024.size a ≤ S2048x1024.size a)
theorem k0_off585_inb : ∀ (v3511 : BitVec 32) (k0_hw585 : k0_chk585 v3511), ∀ a, (k0_off585 v3511) a + S1x1024.size a ≤ S2048x1024.size a := fun v3511 k0_hw585 => k0_hw585

def k0_off586 (v3517 : BitVec 32) : Fin 2 → Nat :=
  let v3518 : Index := Scalar.indexCast v3517
  let c0_2342 : Index := 0#32
  ![v3518.toNat, 0]

def k0_chk586 (v3517 : BitVec 32) : Prop :=
  (∀ a, (k0_off586 v3517) a + S1x1024.size a ≤ S2048x1024.size a)
theorem k0_off586_inb : ∀ (v3517 : BitVec 32) (k0_hw586 : k0_chk586 v3517), ∀ a, (k0_off586 v3517) a + S1x1024.size a ≤ S2048x1024.size a := fun v3517 k0_hw586 => k0_hw586

def k0_off587 (v3523 : BitVec 32) : Fin 2 → Nat :=
  let v3524 : Index := Scalar.indexCast v3523
  let c0_2346 : Index := 0#32
  ![v3524.toNat, 0]

def k0_chk587 (v3523 : BitVec 32) : Prop :=
  (∀ a, (k0_off587 v3523) a + S1x1024.size a ≤ S2048x1024.size a)
theorem k0_off587_inb : ∀ (v3523 : BitVec 32) (k0_hw587 : k0_chk587 v3523), ∀ a, (k0_off587 v3523) a + S1x1024.size a ≤ S2048x1024.size a := fun v3523 k0_hw587 => k0_hw587

def k0_off588 (v3529 : BitVec 32) : Fin 2 → Nat :=
  let v3530 : Index := Scalar.indexCast v3529
  let c0_2350 : Index := 0#32
  ![v3530.toNat, 0]

def k0_chk588 (v3529 : BitVec 32) : Prop :=
  (∀ a, (k0_off588 v3529) a + S1x1024.size a ≤ S2048x1024.size a)
theorem k0_off588_inb : ∀ (v3529 : BitVec 32) (k0_hw588 : k0_chk588 v3529), ∀ a, (k0_off588 v3529) a + S1x1024.size a ≤ S2048x1024.size a := fun v3529 k0_hw588 => k0_hw588

def k0_off589 (v3535 : BitVec 32) : Fin 2 → Nat :=
  let v3536 : Index := Scalar.indexCast v3535
  let c0_2354 : Index := 0#32
  ![v3536.toNat, 0]

def k0_chk589 (v3535 : BitVec 32) : Prop :=
  (∀ a, (k0_off589 v3535) a + S1x1024.size a ≤ S2048x1024.size a)
theorem k0_off589_inb : ∀ (v3535 : BitVec 32) (k0_hw589 : k0_chk589 v3535), ∀ a, (k0_off589 v3535) a + S1x1024.size a ≤ S2048x1024.size a := fun v3535 k0_hw589 => k0_hw589

def k0_off590 (v3541 : BitVec 32) : Fin 2 → Nat :=
  let v3542 : Index := Scalar.indexCast v3541
  let c0_2358 : Index := 0#32
  ![v3542.toNat, 0]

def k0_chk590 (v3541 : BitVec 32) : Prop :=
  (∀ a, (k0_off590 v3541) a + S1x1024.size a ≤ S2048x1024.size a)
theorem k0_off590_inb : ∀ (v3541 : BitVec 32) (k0_hw590 : k0_chk590 v3541), ∀ a, (k0_off590 v3541) a + S1x1024.size a ≤ S2048x1024.size a := fun v3541 k0_hw590 => k0_hw590

def k0_off591 (v3547 : BitVec 32) : Fin 2 → Nat :=
  let v3548 : Index := Scalar.indexCast v3547
  let c0_2362 : Index := 0#32
  ![v3548.toNat, 0]

def k0_chk591 (v3547 : BitVec 32) : Prop :=
  (∀ a, (k0_off591 v3547) a + S1x1024.size a ≤ S2048x1024.size a)
theorem k0_off591_inb : ∀ (v3547 : BitVec 32) (k0_hw591 : k0_chk591 v3547), ∀ a, (k0_off591 v3547) a + S1x1024.size a ≤ S2048x1024.size a := fun v3547 k0_hw591 => k0_hw591

def k0_off592 (v3553 : BitVec 32) : Fin 2 → Nat :=
  let v3554 : Index := Scalar.indexCast v3553
  let c0_2366 : Index := 0#32
  ![v3554.toNat, 0]

def k0_chk592 (v3553 : BitVec 32) : Prop :=
  (∀ a, (k0_off592 v3553) a + S1x1024.size a ≤ S2048x1024.size a)
theorem k0_off592_inb : ∀ (v3553 : BitVec 32) (k0_hw592 : k0_chk592 v3553), ∀ a, (k0_off592 v3553) a + S1x1024.size a ≤ S2048x1024.size a := fun v3553 k0_hw592 => k0_hw592

def k0_off593 (v3559 : BitVec 32) : Fin 2 → Nat :=
  let v3560 : Index := Scalar.indexCast v3559
  let c0_2370 : Index := 0#32
  ![v3560.toNat, 0]

def k0_chk593 (v3559 : BitVec 32) : Prop :=
  (∀ a, (k0_off593 v3559) a + S1x1024.size a ≤ S2048x1024.size a)
theorem k0_off593_inb : ∀ (v3559 : BitVec 32) (k0_hw593 : k0_chk593 v3559), ∀ a, (k0_off593 v3559) a + S1x1024.size a ≤ S2048x1024.size a := fun v3559 k0_hw593 => k0_hw593

def k0_off594 (v3565 : BitVec 32) : Fin 2 → Nat :=
  let v3566 : Index := Scalar.indexCast v3565
  let c0_2374 : Index := 0#32
  ![v3566.toNat, 0]

def k0_chk594 (v3565 : BitVec 32) : Prop :=
  (∀ a, (k0_off594 v3565) a + S1x1024.size a ≤ S2048x1024.size a)
theorem k0_off594_inb : ∀ (v3565 : BitVec 32) (k0_hw594 : k0_chk594 v3565), ∀ a, (k0_off594 v3565) a + S1x1024.size a ≤ S2048x1024.size a := fun v3565 k0_hw594 => k0_hw594

def k0_off595 (v3571 : BitVec 32) : Fin 2 → Nat :=
  let v3572 : Index := Scalar.indexCast v3571
  let c0_2378 : Index := 0#32
  ![v3572.toNat, 0]

def k0_chk595 (v3571 : BitVec 32) : Prop :=
  (∀ a, (k0_off595 v3571) a + S1x1024.size a ≤ S2048x1024.size a)
theorem k0_off595_inb : ∀ (v3571 : BitVec 32) (k0_hw595 : k0_chk595 v3571), ∀ a, (k0_off595 v3571) a + S1x1024.size a ≤ S2048x1024.size a := fun v3571 k0_hw595 => k0_hw595

def k0_off596 (v3577 : BitVec 32) : Fin 2 → Nat :=
  let v3578 : Index := Scalar.indexCast v3577
  let c0_2382 : Index := 0#32
  ![v3578.toNat, 0]

def k0_chk596 (v3577 : BitVec 32) : Prop :=
  (∀ a, (k0_off596 v3577) a + S1x1024.size a ≤ S2048x1024.size a)
theorem k0_off596_inb : ∀ (v3577 : BitVec 32) (k0_hw596 : k0_chk596 v3577), ∀ a, (k0_off596 v3577) a + S1x1024.size a ≤ S2048x1024.size a := fun v3577 k0_hw596 => k0_hw596

def k0_off597 (v3583 : BitVec 32) : Fin 2 → Nat :=
  let v3584 : Index := Scalar.indexCast v3583
  let c0_2386 : Index := 0#32
  ![v3584.toNat, 0]

def k0_chk597 (v3583 : BitVec 32) : Prop :=
  (∀ a, (k0_off597 v3583) a + S1x1024.size a ≤ S2048x1024.size a)
theorem k0_off597_inb : ∀ (v3583 : BitVec 32) (k0_hw597 : k0_chk597 v3583), ∀ a, (k0_off597 v3583) a + S1x1024.size a ≤ S2048x1024.size a := fun v3583 k0_hw597 => k0_hw597

def k0_off598 (v3589 : BitVec 32) : Fin 2 → Nat :=
  let v3590 : Index := Scalar.indexCast v3589
  let c0_2390 : Index := 0#32
  ![v3590.toNat, 0]

def k0_chk598 (v3589 : BitVec 32) : Prop :=
  (∀ a, (k0_off598 v3589) a + S1x1024.size a ≤ S2048x1024.size a)
theorem k0_off598_inb : ∀ (v3589 : BitVec 32) (k0_hw598 : k0_chk598 v3589), ∀ a, (k0_off598 v3589) a + S1x1024.size a ≤ S2048x1024.size a := fun v3589 k0_hw598 => k0_hw598

def k0_off599 (v3595 : BitVec 32) : Fin 2 → Nat :=
  let v3596 : Index := Scalar.indexCast v3595
  let c0_2394 : Index := 0#32
  ![v3596.toNat, 0]

def k0_chk599 (v3595 : BitVec 32) : Prop :=
  (∀ a, (k0_off599 v3595) a + S1x1024.size a ≤ S2048x1024.size a)
theorem k0_off599_inb : ∀ (v3595 : BitVec 32) (k0_hw599 : k0_chk599 v3595), ∀ a, (k0_off599 v3595) a + S1x1024.size a ≤ S2048x1024.size a := fun v3595 k0_hw599 => k0_hw599

def k0_off600 (v3601 : BitVec 32) : Fin 2 → Nat :=
  let v3602 : Index := Scalar.indexCast v3601
  let c0_2398 : Index := 0#32
  ![v3602.toNat, 0]

def k0_chk600 (v3601 : BitVec 32) : Prop :=
  (∀ a, (k0_off600 v3601) a + S1x1024.size a ≤ S2048x1024.size a)
theorem k0_off600_inb : ∀ (v3601 : BitVec 32) (k0_hw600 : k0_chk600 v3601), ∀ a, (k0_off600 v3601) a + S1x1024.size a ≤ S2048x1024.size a := fun v3601 k0_hw600 => k0_hw600

def k0_off601 (v3607 : BitVec 32) : Fin 2 → Nat :=
  let v3608 : Index := Scalar.indexCast v3607
  let c0_2402 : Index := 0#32
  ![v3608.toNat, 0]

def k0_chk601 (v3607 : BitVec 32) : Prop :=
  (∀ a, (k0_off601 v3607) a + S1x1024.size a ≤ S2048x1024.size a)
theorem k0_off601_inb : ∀ (v3607 : BitVec 32) (k0_hw601 : k0_chk601 v3607), ∀ a, (k0_off601 v3607) a + S1x1024.size a ≤ S2048x1024.size a := fun v3607 k0_hw601 => k0_hw601

def k0_off602 (v3613 : BitVec 32) : Fin 2 → Nat :=
  let v3614 : Index := Scalar.indexCast v3613
  let c0_2406 : Index := 0#32
  ![v3614.toNat, 0]

def k0_chk602 (v3613 : BitVec 32) : Prop :=
  (∀ a, (k0_off602 v3613) a + S1x1024.size a ≤ S2048x1024.size a)
theorem k0_off602_inb : ∀ (v3613 : BitVec 32) (k0_hw602 : k0_chk602 v3613), ∀ a, (k0_off602 v3613) a + S1x1024.size a ≤ S2048x1024.size a := fun v3613 k0_hw602 => k0_hw602

def k0_off603 (v3619 : BitVec 32) : Fin 2 → Nat :=
  let v3620 : Index := Scalar.indexCast v3619
  let c0_2410 : Index := 0#32
  ![v3620.toNat, 0]

def k0_chk603 (v3619 : BitVec 32) : Prop :=
  (∀ a, (k0_off603 v3619) a + S1x1024.size a ≤ S2048x1024.size a)
theorem k0_off603_inb : ∀ (v3619 : BitVec 32) (k0_hw603 : k0_chk603 v3619), ∀ a, (k0_off603 v3619) a + S1x1024.size a ≤ S2048x1024.size a := fun v3619 k0_hw603 => k0_hw603

def k0_off604 (v3625 : BitVec 32) : Fin 2 → Nat :=
  let v3626 : Index := Scalar.indexCast v3625
  let c0_2414 : Index := 0#32
  ![v3626.toNat, 0]

def k0_chk604 (v3625 : BitVec 32) : Prop :=
  (∀ a, (k0_off604 v3625) a + S1x1024.size a ≤ S2048x1024.size a)
theorem k0_off604_inb : ∀ (v3625 : BitVec 32) (k0_hw604 : k0_chk604 v3625), ∀ a, (k0_off604 v3625) a + S1x1024.size a ≤ S2048x1024.size a := fun v3625 k0_hw604 => k0_hw604

def k0_off605 (v3631 : BitVec 32) : Fin 2 → Nat :=
  let v3632 : Index := Scalar.indexCast v3631
  let c0_2418 : Index := 0#32
  ![v3632.toNat, 0]

def k0_chk605 (v3631 : BitVec 32) : Prop :=
  (∀ a, (k0_off605 v3631) a + S1x1024.size a ≤ S2048x1024.size a)
theorem k0_off605_inb : ∀ (v3631 : BitVec 32) (k0_hw605 : k0_chk605 v3631), ∀ a, (k0_off605 v3631) a + S1x1024.size a ≤ S2048x1024.size a := fun v3631 k0_hw605 => k0_hw605

def k0_off606 (v3637 : BitVec 32) : Fin 2 → Nat :=
  let v3638 : Index := Scalar.indexCast v3637
  let c0_2422 : Index := 0#32
  ![v3638.toNat, 0]

def k0_chk606 (v3637 : BitVec 32) : Prop :=
  (∀ a, (k0_off606 v3637) a + S1x1024.size a ≤ S2048x1024.size a)
theorem k0_off606_inb : ∀ (v3637 : BitVec 32) (k0_hw606 : k0_chk606 v3637), ∀ a, (k0_off606 v3637) a + S1x1024.size a ≤ S2048x1024.size a := fun v3637 k0_hw606 => k0_hw606

def k0_off607 (v3643 : BitVec 32) : Fin 2 → Nat :=
  let v3644 : Index := Scalar.indexCast v3643
  let c0_2426 : Index := 0#32
  ![v3644.toNat, 0]

def k0_chk607 (v3643 : BitVec 32) : Prop :=
  (∀ a, (k0_off607 v3643) a + S1x1024.size a ≤ S2048x1024.size a)
theorem k0_off607_inb : ∀ (v3643 : BitVec 32) (k0_hw607 : k0_chk607 v3643), ∀ a, (k0_off607 v3643) a + S1x1024.size a ≤ S2048x1024.size a := fun v3643 k0_hw607 => k0_hw607

def k0_off608 (v3649 : BitVec 32) : Fin 2 → Nat :=
  let v3650 : Index := Scalar.indexCast v3649
  let c0_2430 : Index := 0#32
  ![v3650.toNat, 0]

def k0_chk608 (v3649 : BitVec 32) : Prop :=
  (∀ a, (k0_off608 v3649) a + S1x1024.size a ≤ S2048x1024.size a)
theorem k0_off608_inb : ∀ (v3649 : BitVec 32) (k0_hw608 : k0_chk608 v3649), ∀ a, (k0_off608 v3649) a + S1x1024.size a ≤ S2048x1024.size a := fun v3649 k0_hw608 => k0_hw608

def k0_off609 (v3655 : BitVec 32) : Fin 2 → Nat :=
  let v3656 : Index := Scalar.indexCast v3655
  let c0_2434 : Index := 0#32
  ![v3656.toNat, 0]

def k0_chk609 (v3655 : BitVec 32) : Prop :=
  (∀ a, (k0_off609 v3655) a + S1x1024.size a ≤ S2048x1024.size a)
theorem k0_off609_inb : ∀ (v3655 : BitVec 32) (k0_hw609 : k0_chk609 v3655), ∀ a, (k0_off609 v3655) a + S1x1024.size a ≤ S2048x1024.size a := fun v3655 k0_hw609 => k0_hw609

def k0_off610 (v3661 : BitVec 32) : Fin 2 → Nat :=
  let v3662 : Index := Scalar.indexCast v3661
  let c0_2438 : Index := 0#32
  ![v3662.toNat, 0]

def k0_chk610 (v3661 : BitVec 32) : Prop :=
  (∀ a, (k0_off610 v3661) a + S1x1024.size a ≤ S2048x1024.size a)
theorem k0_off610_inb : ∀ (v3661 : BitVec 32) (k0_hw610 : k0_chk610 v3661), ∀ a, (k0_off610 v3661) a + S1x1024.size a ≤ S2048x1024.size a := fun v3661 k0_hw610 => k0_hw610

def k0_off611 (v3667 : BitVec 32) : Fin 2 → Nat :=
  let v3668 : Index := Scalar.indexCast v3667
  let c0_2442 : Index := 0#32
  ![v3668.toNat, 0]

def k0_chk611 (v3667 : BitVec 32) : Prop :=
  (∀ a, (k0_off611 v3667) a + S1x1024.size a ≤ S2048x1024.size a)
theorem k0_off611_inb : ∀ (v3667 : BitVec 32) (k0_hw611 : k0_chk611 v3667), ∀ a, (k0_off611 v3667) a + S1x1024.size a ≤ S2048x1024.size a := fun v3667 k0_hw611 => k0_hw611

def k0_off612 (v3673 : BitVec 32) : Fin 2 → Nat :=
  let v3674 : Index := Scalar.indexCast v3673
  let c0_2446 : Index := 0#32
  ![v3674.toNat, 0]

def k0_chk612 (v3673 : BitVec 32) : Prop :=
  (∀ a, (k0_off612 v3673) a + S1x1024.size a ≤ S2048x1024.size a)
theorem k0_off612_inb : ∀ (v3673 : BitVec 32) (k0_hw612 : k0_chk612 v3673), ∀ a, (k0_off612 v3673) a + S1x1024.size a ≤ S2048x1024.size a := fun v3673 k0_hw612 => k0_hw612

def k0_off613 (v3679 : BitVec 32) : Fin 2 → Nat :=
  let v3680 : Index := Scalar.indexCast v3679
  let c0_2450 : Index := 0#32
  ![v3680.toNat, 0]

def k0_chk613 (v3679 : BitVec 32) : Prop :=
  (∀ a, (k0_off613 v3679) a + S1x1024.size a ≤ S2048x1024.size a)
theorem k0_off613_inb : ∀ (v3679 : BitVec 32) (k0_hw613 : k0_chk613 v3679), ∀ a, (k0_off613 v3679) a + S1x1024.size a ≤ S2048x1024.size a := fun v3679 k0_hw613 => k0_hw613

def k0_off614 (v3685 : BitVec 32) : Fin 2 → Nat :=
  let v3686 : Index := Scalar.indexCast v3685
  let c0_2454 : Index := 0#32
  ![v3686.toNat, 0]

def k0_chk614 (v3685 : BitVec 32) : Prop :=
  (∀ a, (k0_off614 v3685) a + S1x1024.size a ≤ S2048x1024.size a)
theorem k0_off614_inb : ∀ (v3685 : BitVec 32) (k0_hw614 : k0_chk614 v3685), ∀ a, (k0_off614 v3685) a + S1x1024.size a ≤ S2048x1024.size a := fun v3685 k0_hw614 => k0_hw614

def k0_off615 (v3691 : BitVec 32) : Fin 2 → Nat :=
  let v3692 : Index := Scalar.indexCast v3691
  let c0_2458 : Index := 0#32
  ![v3692.toNat, 0]

def k0_chk615 (v3691 : BitVec 32) : Prop :=
  (∀ a, (k0_off615 v3691) a + S1x1024.size a ≤ S2048x1024.size a)
theorem k0_off615_inb : ∀ (v3691 : BitVec 32) (k0_hw615 : k0_chk615 v3691), ∀ a, (k0_off615 v3691) a + S1x1024.size a ≤ S2048x1024.size a := fun v3691 k0_hw615 => k0_hw615

def k0_off616 (v3697 : BitVec 32) : Fin 2 → Nat :=
  let v3698 : Index := Scalar.indexCast v3697
  let c0_2462 : Index := 0#32
  ![v3698.toNat, 0]

def k0_chk616 (v3697 : BitVec 32) : Prop :=
  (∀ a, (k0_off616 v3697) a + S1x1024.size a ≤ S2048x1024.size a)
theorem k0_off616_inb : ∀ (v3697 : BitVec 32) (k0_hw616 : k0_chk616 v3697), ∀ a, (k0_off616 v3697) a + S1x1024.size a ≤ S2048x1024.size a := fun v3697 k0_hw616 => k0_hw616

def k0_off617 (v3703 : BitVec 32) : Fin 2 → Nat :=
  let v3704 : Index := Scalar.indexCast v3703
  let c0_2466 : Index := 0#32
  ![v3704.toNat, 0]

def k0_chk617 (v3703 : BitVec 32) : Prop :=
  (∀ a, (k0_off617 v3703) a + S1x1024.size a ≤ S2048x1024.size a)
theorem k0_off617_inb : ∀ (v3703 : BitVec 32) (k0_hw617 : k0_chk617 v3703), ∀ a, (k0_off617 v3703) a + S1x1024.size a ≤ S2048x1024.size a := fun v3703 k0_hw617 => k0_hw617

def k0_off618 (v3709 : BitVec 32) : Fin 2 → Nat :=
  let v3710 : Index := Scalar.indexCast v3709
  let c0_2470 : Index := 0#32
  ![v3710.toNat, 0]

def k0_chk618 (v3709 : BitVec 32) : Prop :=
  (∀ a, (k0_off618 v3709) a + S1x1024.size a ≤ S2048x1024.size a)
theorem k0_off618_inb : ∀ (v3709 : BitVec 32) (k0_hw618 : k0_chk618 v3709), ∀ a, (k0_off618 v3709) a + S1x1024.size a ≤ S2048x1024.size a := fun v3709 k0_hw618 => k0_hw618

def k0_off619 (v3715 : BitVec 32) : Fin 2 → Nat :=
  let v3716 : Index := Scalar.indexCast v3715
  let c0_2474 : Index := 0#32
  ![v3716.toNat, 0]

def k0_chk619 (v3715 : BitVec 32) : Prop :=
  (∀ a, (k0_off619 v3715) a + S1x1024.size a ≤ S2048x1024.size a)
theorem k0_off619_inb : ∀ (v3715 : BitVec 32) (k0_hw619 : k0_chk619 v3715), ∀ a, (k0_off619 v3715) a + S1x1024.size a ≤ S2048x1024.size a := fun v3715 k0_hw619 => k0_hw619

def k0_off620 (v3721 : BitVec 32) : Fin 2 → Nat :=
  let v3722 : Index := Scalar.indexCast v3721
  let c0_2478 : Index := 0#32
  ![v3722.toNat, 0]

def k0_chk620 (v3721 : BitVec 32) : Prop :=
  (∀ a, (k0_off620 v3721) a + S1x1024.size a ≤ S2048x1024.size a)
theorem k0_off620_inb : ∀ (v3721 : BitVec 32) (k0_hw620 : k0_chk620 v3721), ∀ a, (k0_off620 v3721) a + S1x1024.size a ≤ S2048x1024.size a := fun v3721 k0_hw620 => k0_hw620

def k0_off621 (v3727 : BitVec 32) : Fin 2 → Nat :=
  let v3728 : Index := Scalar.indexCast v3727
  let c0_2482 : Index := 0#32
  ![v3728.toNat, 0]

def k0_chk621 (v3727 : BitVec 32) : Prop :=
  (∀ a, (k0_off621 v3727) a + S1x1024.size a ≤ S2048x1024.size a)
theorem k0_off621_inb : ∀ (v3727 : BitVec 32) (k0_hw621 : k0_chk621 v3727), ∀ a, (k0_off621 v3727) a + S1x1024.size a ≤ S2048x1024.size a := fun v3727 k0_hw621 => k0_hw621

def k0_off622 (v3733 : BitVec 32) : Fin 2 → Nat :=
  let v3734 : Index := Scalar.indexCast v3733
  let c0_2486 : Index := 0#32
  ![v3734.toNat, 0]

def k0_chk622 (v3733 : BitVec 32) : Prop :=
  (∀ a, (k0_off622 v3733) a + S1x1024.size a ≤ S2048x1024.size a)
theorem k0_off622_inb : ∀ (v3733 : BitVec 32) (k0_hw622 : k0_chk622 v3733), ∀ a, (k0_off622 v3733) a + S1x1024.size a ≤ S2048x1024.size a := fun v3733 k0_hw622 => k0_hw622

def k0_off623 (v3739 : BitVec 32) : Fin 2 → Nat :=
  let v3740 : Index := Scalar.indexCast v3739
  let c0_2490 : Index := 0#32
  ![v3740.toNat, 0]

def k0_chk623 (v3739 : BitVec 32) : Prop :=
  (∀ a, (k0_off623 v3739) a + S1x1024.size a ≤ S2048x1024.size a)
theorem k0_off623_inb : ∀ (v3739 : BitVec 32) (k0_hw623 : k0_chk623 v3739), ∀ a, (k0_off623 v3739) a + S1x1024.size a ≤ S2048x1024.size a := fun v3739 k0_hw623 => k0_hw623

def k0_off624 (v3745 : BitVec 32) : Fin 2 → Nat :=
  let v3746 : Index := Scalar.indexCast v3745
  let c0_2494 : Index := 0#32
  ![v3746.toNat, 0]

def k0_chk624 (v3745 : BitVec 32) : Prop :=
  (∀ a, (k0_off624 v3745) a + S1x1024.size a ≤ S2048x1024.size a)
theorem k0_off624_inb : ∀ (v3745 : BitVec 32) (k0_hw624 : k0_chk624 v3745), ∀ a, (k0_off624 v3745) a + S1x1024.size a ≤ S2048x1024.size a := fun v3745 k0_hw624 => k0_hw624

def k0_off625 (v3751 : BitVec 32) : Fin 2 → Nat :=
  let v3752 : Index := Scalar.indexCast v3751
  let c0_2498 : Index := 0#32
  ![v3752.toNat, 0]

def k0_chk625 (v3751 : BitVec 32) : Prop :=
  (∀ a, (k0_off625 v3751) a + S1x1024.size a ≤ S2048x1024.size a)
theorem k0_off625_inb : ∀ (v3751 : BitVec 32) (k0_hw625 : k0_chk625 v3751), ∀ a, (k0_off625 v3751) a + S1x1024.size a ≤ S2048x1024.size a := fun v3751 k0_hw625 => k0_hw625

def k0_off626 (v3757 : BitVec 32) : Fin 2 → Nat :=
  let v3758 : Index := Scalar.indexCast v3757
  let c0_2502 : Index := 0#32
  ![v3758.toNat, 0]

def k0_chk626 (v3757 : BitVec 32) : Prop :=
  (∀ a, (k0_off626 v3757) a + S1x1024.size a ≤ S2048x1024.size a)
theorem k0_off626_inb : ∀ (v3757 : BitVec 32) (k0_hw626 : k0_chk626 v3757), ∀ a, (k0_off626 v3757) a + S1x1024.size a ≤ S2048x1024.size a := fun v3757 k0_hw626 => k0_hw626

def k0_off627 (v3763 : BitVec 32) : Fin 2 → Nat :=
  let v3764 : Index := Scalar.indexCast v3763
  let c0_2506 : Index := 0#32
  ![v3764.toNat, 0]

def k0_chk627 (v3763 : BitVec 32) : Prop :=
  (∀ a, (k0_off627 v3763) a + S1x1024.size a ≤ S2048x1024.size a)
theorem k0_off627_inb : ∀ (v3763 : BitVec 32) (k0_hw627 : k0_chk627 v3763), ∀ a, (k0_off627 v3763) a + S1x1024.size a ≤ S2048x1024.size a := fun v3763 k0_hw627 => k0_hw627

def k0_off628 (v3769 : BitVec 32) : Fin 2 → Nat :=
  let v3770 : Index := Scalar.indexCast v3769
  let c0_2510 : Index := 0#32
  ![v3770.toNat, 0]

def k0_chk628 (v3769 : BitVec 32) : Prop :=
  (∀ a, (k0_off628 v3769) a + S1x1024.size a ≤ S2048x1024.size a)
theorem k0_off628_inb : ∀ (v3769 : BitVec 32) (k0_hw628 : k0_chk628 v3769), ∀ a, (k0_off628 v3769) a + S1x1024.size a ≤ S2048x1024.size a := fun v3769 k0_hw628 => k0_hw628

def k0_off629 (v3775 : BitVec 32) : Fin 2 → Nat :=
  let v3776 : Index := Scalar.indexCast v3775
  let c0_2514 : Index := 0#32
  ![v3776.toNat, 0]

def k0_chk629 (v3775 : BitVec 32) : Prop :=
  (∀ a, (k0_off629 v3775) a + S1x1024.size a ≤ S2048x1024.size a)
theorem k0_off629_inb : ∀ (v3775 : BitVec 32) (k0_hw629 : k0_chk629 v3775), ∀ a, (k0_off629 v3775) a + S1x1024.size a ≤ S2048x1024.size a := fun v3775 k0_hw629 => k0_hw629

def k0_off630 (v3781 : BitVec 32) : Fin 2 → Nat :=
  let v3782 : Index := Scalar.indexCast v3781
  let c0_2518 : Index := 0#32
  ![v3782.toNat, 0]

def k0_chk630 (v3781 : BitVec 32) : Prop :=
  (∀ a, (k0_off630 v3781) a + S1x1024.size a ≤ S2048x1024.size a)
theorem k0_off630_inb : ∀ (v3781 : BitVec 32) (k0_hw630 : k0_chk630 v3781), ∀ a, (k0_off630 v3781) a + S1x1024.size a ≤ S2048x1024.size a := fun v3781 k0_hw630 => k0_hw630

def k0_off631 (v3787 : BitVec 32) : Fin 2 → Nat :=
  let v3788 : Index := Scalar.indexCast v3787
  let c0_2522 : Index := 0#32
  ![v3788.toNat, 0]

def k0_chk631 (v3787 : BitVec 32) : Prop :=
  (∀ a, (k0_off631 v3787) a + S1x1024.size a ≤ S2048x1024.size a)
theorem k0_off631_inb : ∀ (v3787 : BitVec 32) (k0_hw631 : k0_chk631 v3787), ∀ a, (k0_off631 v3787) a + S1x1024.size a ≤ S2048x1024.size a := fun v3787 k0_hw631 => k0_hw631

def k0_off632 (v3793 : BitVec 32) : Fin 2 → Nat :=
  let v3794 : Index := Scalar.indexCast v3793
  let c0_2526 : Index := 0#32
  ![v3794.toNat, 0]

def k0_chk632 (v3793 : BitVec 32) : Prop :=
  (∀ a, (k0_off632 v3793) a + S1x1024.size a ≤ S2048x1024.size a)
theorem k0_off632_inb : ∀ (v3793 : BitVec 32) (k0_hw632 : k0_chk632 v3793), ∀ a, (k0_off632 v3793) a + S1x1024.size a ≤ S2048x1024.size a := fun v3793 k0_hw632 => k0_hw632

def k0_off633 (v3799 : BitVec 32) : Fin 2 → Nat :=
  let v3800 : Index := Scalar.indexCast v3799
  let c0_2530 : Index := 0#32
  ![v3800.toNat, 0]

def k0_chk633 (v3799 : BitVec 32) : Prop :=
  (∀ a, (k0_off633 v3799) a + S1x1024.size a ≤ S2048x1024.size a)
theorem k0_off633_inb : ∀ (v3799 : BitVec 32) (k0_hw633 : k0_chk633 v3799), ∀ a, (k0_off633 v3799) a + S1x1024.size a ≤ S2048x1024.size a := fun v3799 k0_hw633 => k0_hw633

def k0_off634 (v3805 : BitVec 32) : Fin 2 → Nat :=
  let v3806 : Index := Scalar.indexCast v3805
  let c0_2534 : Index := 0#32
  ![v3806.toNat, 0]

def k0_chk634 (v3805 : BitVec 32) : Prop :=
  (∀ a, (k0_off634 v3805) a + S1x1024.size a ≤ S2048x1024.size a)
theorem k0_off634_inb : ∀ (v3805 : BitVec 32) (k0_hw634 : k0_chk634 v3805), ∀ a, (k0_off634 v3805) a + S1x1024.size a ≤ S2048x1024.size a := fun v3805 k0_hw634 => k0_hw634

def k0_off635 (v3811 : BitVec 32) : Fin 2 → Nat :=
  let v3812 : Index := Scalar.indexCast v3811
  let c0_2538 : Index := 0#32
  ![v3812.toNat, 0]

def k0_chk635 (v3811 : BitVec 32) : Prop :=
  (∀ a, (k0_off635 v3811) a + S1x1024.size a ≤ S2048x1024.size a)
theorem k0_off635_inb : ∀ (v3811 : BitVec 32) (k0_hw635 : k0_chk635 v3811), ∀ a, (k0_off635 v3811) a + S1x1024.size a ≤ S2048x1024.size a := fun v3811 k0_hw635 => k0_hw635

def k0_off636 (v3817 : BitVec 32) : Fin 2 → Nat :=
  let v3818 : Index := Scalar.indexCast v3817
  let c0_2542 : Index := 0#32
  ![v3818.toNat, 0]

def k0_chk636 (v3817 : BitVec 32) : Prop :=
  (∀ a, (k0_off636 v3817) a + S1x1024.size a ≤ S2048x1024.size a)
theorem k0_off636_inb : ∀ (v3817 : BitVec 32) (k0_hw636 : k0_chk636 v3817), ∀ a, (k0_off636 v3817) a + S1x1024.size a ≤ S2048x1024.size a := fun v3817 k0_hw636 => k0_hw636

def k0_off637 (v3823 : BitVec 32) : Fin 2 → Nat :=
  let v3824 : Index := Scalar.indexCast v3823
  let c0_2546 : Index := 0#32
  ![v3824.toNat, 0]

def k0_chk637 (v3823 : BitVec 32) : Prop :=
  (∀ a, (k0_off637 v3823) a + S1x1024.size a ≤ S2048x1024.size a)
theorem k0_off637_inb : ∀ (v3823 : BitVec 32) (k0_hw637 : k0_chk637 v3823), ∀ a, (k0_off637 v3823) a + S1x1024.size a ≤ S2048x1024.size a := fun v3823 k0_hw637 => k0_hw637

def k0_off638 (v3829 : BitVec 32) : Fin 2 → Nat :=
  let v3830 : Index := Scalar.indexCast v3829
  let c0_2550 : Index := 0#32
  ![v3830.toNat, 0]

def k0_chk638 (v3829 : BitVec 32) : Prop :=
  (∀ a, (k0_off638 v3829) a + S1x1024.size a ≤ S2048x1024.size a)
theorem k0_off638_inb : ∀ (v3829 : BitVec 32) (k0_hw638 : k0_chk638 v3829), ∀ a, (k0_off638 v3829) a + S1x1024.size a ≤ S2048x1024.size a := fun v3829 k0_hw638 => k0_hw638

def k0_off639 (v3835 : BitVec 32) : Fin 2 → Nat :=
  let v3836 : Index := Scalar.indexCast v3835
  let c0_2554 : Index := 0#32
  ![v3836.toNat, 0]

def k0_chk639 (v3835 : BitVec 32) : Prop :=
  (∀ a, (k0_off639 v3835) a + S1x1024.size a ≤ S2048x1024.size a)
theorem k0_off639_inb : ∀ (v3835 : BitVec 32) (k0_hw639 : k0_chk639 v3835), ∀ a, (k0_off639 v3835) a + S1x1024.size a ≤ S2048x1024.size a := fun v3835 k0_hw639 => k0_hw639

def k0_off640 (v3841 : BitVec 32) : Fin 2 → Nat :=
  let v3842 : Index := Scalar.indexCast v3841
  let c0_2558 : Index := 0#32
  ![v3842.toNat, 0]

def k0_chk640 (v3841 : BitVec 32) : Prop :=
  (∀ a, (k0_off640 v3841) a + S1x1024.size a ≤ S2048x1024.size a)
theorem k0_off640_inb : ∀ (v3841 : BitVec 32) (k0_hw640 : k0_chk640 v3841), ∀ a, (k0_off640 v3841) a + S1x1024.size a ≤ S2048x1024.size a := fun v3841 k0_hw640 => k0_hw640

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16x40 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x40 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x40x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S2048x1024 : Shape := ⟨2, ![2048, 1024]⟩
abbrev S1024x1024 : Shape := ⟨2, ![1024, 1024]⟩
abbrev S16x64 : Shape := ⟨2, ![16, 64]⟩
abbrev S16x40 : Shape := ⟨2, ![16, 40]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S_ : Shape := ⟨0, ![]⟩
abbrev S2048x2048 : Shape := ⟨2, ![2048, 2048]⟩
abbrev S1x2048x2048 : Shape := ⟨3, ![1, 2048, 2048]⟩
abbrev S16x40x1 : Shape := ⟨3, ![16, 40, 1]⟩
abbrev S1 : Shape := ⟨1, ![1]⟩
abbrev S1x1x1 : Shape := ⟨3, ![1, 1, 1]⟩
abbrev S16x40x2048 : Shape := ⟨3, ![16, 40, 2048]⟩
abbrev S16x40x64 : Shape := ⟨3, ![16, 40, 64]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x40, .i32⟩
  | .hbm, ⟨8, _⟩ => ⟨S1024x1024, .f32⟩
  | .hbm, ⟨9, _⟩ => ⟨S2048x1024, .f32⟩
  | .hbm, ⟨10, _⟩ => ⟨S1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x16x64, .f32⟩
  | .hbm, ⟨15, _⟩ => ⟨S16x2048x64, .f32⟩
  | .hbm, ⟨16, _⟩ => ⟨S1024x1024, .f32⟩
  | .hbm, ⟨17, _⟩ => ⟨S2048x1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x16x64, .f32⟩
  | .hbm, ⟨23, _⟩ => ⟨S16x2048x64, .f32⟩
  | .hbm, ⟨24, _⟩ => ⟨S1024x1024, .f32⟩
  | .hbm, ⟨25, _⟩ => ⟨S2048x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x16x64, .f32⟩
  | .hbm, ⟨31, _⟩ => ⟨S16x2048x64, .f32⟩
  | .hbm, ⟨32, _⟩ => ⟨S16x64x2048, .f32⟩
  | .hbm, ⟨33, _⟩ => ⟨S16x2048x2048, .f32⟩
  | .hbm, ⟨34, _⟩ => ⟨S_, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S2048x2048, .f32⟩
  | .hbm, ⟨39, _⟩ => ⟨S2048x2048, .i32⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S1x2048x2048, .f32⟩
  | .hbm, ⟨49, _⟩ => ⟨S_, .f32⟩
  | .hbm, ⟨50, _⟩ => ⟨S1x2048x2048, .f32⟩
  | .hbm, ⟨51, _⟩ => ⟨S1x2048x2048, .i1⟩
  | .hbm, ⟨52, _⟩ => ⟨S_, .f32⟩
  | .hbm, ⟨53, _⟩ => ⟨S_, .f32⟩
  | .hbm, ⟨54, _⟩ => ⟨S16x2048x2048, .i1⟩
  | .hbm, ⟨55, _⟩ => ⟨S16x2048x2048, .f32⟩
  | .hbm, ⟨56, _⟩ => ⟨S16x2048x2048, .f32⟩
  | .hbm, ⟨57, _⟩ => ⟨S16x40x1, .i32⟩
  | .hbm, ⟨58, _⟩ => ⟨S_, .i32⟩
  | .hbm, ⟨59, _⟩ => ⟨S16x40x1, .i32⟩
  | .hbm, ⟨60, _⟩ => ⟨S16x40x1, .i1⟩
  | .hbm, ⟨61, _⟩ => ⟨S_, .i32⟩
  | .hbm, ⟨62, _⟩ => ⟨S16x40x1, .i32⟩
  | .hbm, ⟨63, _⟩ => ⟨S16x40x1, .i32⟩
  | .hbm, ⟨64, _⟩ => ⟨S16x40x1, .i32⟩
  | .hbm, ⟨65, _⟩ => ⟨S1, .i32⟩
  | .hbm, ⟨66, _⟩ => ⟨S_, .i32⟩
  | .hbm, ⟨67, _⟩ => ⟨S16x40x1, .i32⟩
  | .hbm, ⟨68, _⟩ => ⟨S16x40x1, .i1⟩
  | .hbm, ⟨69, _⟩ => ⟨S1x1x1, .i32⟩
  | .hbm, ⟨70, _⟩ => ⟨S16x40x1, .i32⟩
  | .hbm, ⟨71, _⟩ => ⟨S16x40x1, .i1⟩
  | .hbm, ⟨72, _⟩ => ⟨S16x40x1, .i1⟩
  | .hbm, ⟨73, _⟩ => ⟨S_, .i1⟩
  | .hbm, ⟨74, _⟩ => ⟨S16x40, .i1⟩
  | .hbm, ⟨75, _⟩ => ⟨S16x40x2048, .f32⟩
  | .hbm, ⟨76, _⟩ => ⟨S16x40x2048, .i1⟩
  | .hbm, ⟨77, _⟩ => ⟨S_, .f32⟩
  | .hbm, ⟨78, _⟩ => ⟨S16x40x2048, .f32⟩
  | .hbm, ⟨79, _⟩ => ⟨S16x40x2048, .f32⟩
  | .hbm, ⟨80, _⟩ => ⟨S_, .f32⟩
  | .hbm, ⟨81, _⟩ => ⟨S16x40, .f32⟩
  | .hbm, ⟨82, _⟩ => ⟨S_, .f32⟩
  | .hbm, ⟨83, _⟩ => ⟨S16x40, .f32⟩
  | .hbm, ⟨84, _⟩ => ⟨S16x40, .f32⟩
  | .hbm, ⟨85, _⟩ => ⟨S16x40x1, .f32⟩
  | .hbm, ⟨86, _⟩ => ⟨S16x40x2048, .f32⟩
  | .hbm, ⟨87, _⟩ => ⟨S16x40x2048, .f32⟩
  | .hbm, ⟨88, _⟩ => ⟨S16x40x2048, .f32⟩
  | .hbm, ⟨89, _⟩ => ⟨S_, .f32⟩
  | .hbm, ⟨90, _⟩ => ⟨S16x40, .f32⟩
  | .hbm, ⟨91, _⟩ => ⟨S16x40x1, .f32⟩
  | .hbm, ⟨92, _⟩ => ⟨S16x40x2048, .f32⟩
  | .hbm, ⟨93, _⟩ => ⟨S16x40x2048, .f32⟩
  | .hbm, ⟨94, _⟩ => ⟨S16x40x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_cst : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v33 : Ref sig .tc := ⟨.hbm, 56, rfl⟩
abbrev main_v34 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_c_2 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_c_3 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v35 : Ref sig .tc := ⟨.hbm, 79, rfl⟩
abbrev main_cst_3 : Ref sig .tc := ⟨.hbm, 80, rfl⟩
abbrev main_v36 : Ref sig .tc := ⟨.hbm, 81, rfl⟩
abbrev main_cst_4 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_5 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]
-- ==== OutC.lean ====
abbrev S16x40 : Shape := ⟨2, ![16, 40]⟩
abbrev S16x40x64 : Shape := ⟨3, ![16, 40, 64]⟩
abbrev S1024x1024 : Shape := ⟨2, ![1024, 1024]⟩
abbrev S1024 : Shape := ⟨1, ![1024]⟩
abbrev S1x1024 : Shape := ⟨2, ![1, 1024]⟩
abbrev S1x640 : Shape := ⟨2, ![1, 640]⟩
abbrev S640x64 : Shape := ⟨2, ![640, 64]⟩
abbrev S2048x1024 : Shape := ⟨2, ![2048, 1024]⟩
abbrev S256x1024 : Shape := ⟨2, ![256, 1024]⟩
abbrev S640x1024 : Shape := ⟨2, ![640, 1024]⟩
abbrev S40x64 : Shape := ⟨2, ![40, 64]⟩
abbrev S64x1024 : Shape := ⟨2, ![64, 1024]⟩
abbrev S40x1024 : Shape := ⟨2, ![40, 1024]⟩
abbrev S256x640 : Shape := ⟨2, ![256, 640]⟩

abbrev nBuf : Space → Nat
  | .hbm => 9
  | .vmem => 7
  | .smem => 0
  | _ => 0

abbrev bufTy : (tb : Table) → Fin (tcTables nBuf tb) → BufTy
  | .hbm, ⟨0, _⟩ => ⟨S16x40, .i32⟩
  | .hbm, ⟨1, _⟩ => ⟨S16x40x64, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1x640, .i32⟩
  | .hbm, ⟨7, _⟩ => ⟨S640x64, .f32⟩
  | .hbm, ⟨8, _⟩ => ⟨S2048x1024, .f32⟩
  | .local _ .vmem, ⟨0, _⟩ => ⟨S1x640, .i32⟩
  | .local _ .vmem, ⟨1, _⟩ => ⟨S640x64, .f32⟩
  | .local _ .vmem, ⟨2, _⟩ => ⟨S1024x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S640x1024, .f32⟩
  | _, _ => ⟨S16x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16x40 : Shape := ⟨2, ![16, 40]⟩
abbrev S16x40x64 : Shape := ⟨3, ![16, 40, 64]⟩
abbrev S1024x1024 : Shape := ⟨2, ![1024, 1024]⟩
abbrev S1024 : Shape := ⟨1, ![1024]⟩
abbrev S16x38 : Shape := ⟨2, ![16, 38]⟩
abbrev S1x16x38 : Shape := ⟨3, ![1, 16, 38]⟩
abbrev S16x38x64 : Shape := ⟨3, ![16, 38, 64]⟩
abbrev S1x16x38x64 : Shape := ⟨4, ![1, 16, 38, 64]⟩
abbrev S_ : Shape := ⟨0, ![]⟩
abbrev S1x16x2048x64 : Shape := ⟨4, ![1, 16, 2048, 64]⟩
abbrev S1 : Shape := ⟨1, ![1]⟩
abbrev S1x1x1 : Shape := ⟨3, ![1, 1, 1]⟩
abbrev S16 : Shape := ⟨1, ![16]⟩
abbrev S1x16x1 : Shape := ⟨3, ![1, 16, 1]⟩
abbrev S1x16x38x1 : Shape := ⟨4, ![1, 16, 38, 1]⟩
abbrev S1x16x38x3 : Shape := ⟨4, ![1, 16, 38, 3]⟩
abbrev S1x2048x16x64 : Shape := ⟨4, ![1, 2048, 16, 64]⟩
abbrev S1x2048x1024 : Shape := ⟨3, ![1, 2048, 1024]⟩
abbrev S1x1x1024 : Shape := ⟨3, ![1, 1, 1024]⟩
abbrev S2048x1024 : Shape := ⟨2, ![2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x40, .i32⟩
  | .hbm, ⟨1, _⟩ => ⟨S16x40x64, .f32⟩
  | .hbm, ⟨2, _⟩ => ⟨S1024x1024, .f32⟩
  | .hbm, ⟨3, _⟩ => ⟨S1024, .f32⟩
  | .hbm, ⟨4, _⟩ => ⟨S16x38, .i32⟩
  | .hbm, ⟨5, _⟩ => ⟨S1x16x38, .i32⟩
  | .hbm, ⟨6, _⟩ => ⟨S16x38x64, .f32⟩
  | .hbm, ⟨7, _⟩ => ⟨S1x16x38x64, .f32⟩
  | .hbm, ⟨8, _⟩ => ⟨S_, .f32⟩
  | .hbm, ⟨9, _⟩ => ⟨S1x16x2048x64, .f32⟩
  | .hbm, ⟨10, _⟩ => ⟨S1, .i32⟩
  | .hbm, ⟨11, _⟩ => ⟨S1x1x1, .i32⟩
  | .hbm, ⟨12, _⟩ => ⟨S16, .i32⟩
  | .hbm, ⟨13, _⟩ => ⟨S1x16x1, .i32⟩
  | .hbm, ⟨14, _⟩ => ⟨S_, .i32⟩
  | .hbm, ⟨15, _⟩ => ⟨S1x1x1, .i32⟩
  | .hbm, ⟨16, _⟩ => ⟨S1x1x1, .i1⟩
  | .hbm, ⟨17, _⟩ => ⟨S_, .i32⟩
  | .hbm, ⟨18, _⟩ => ⟨S1x1x1, .i32⟩
  | .hbm, ⟨19, _⟩ => ⟨S1x1x1, .i32⟩
  | .hbm, ⟨20, _⟩ => ⟨S1x1x1, .i32⟩
  | .hbm, ⟨21, _⟩ => ⟨S_, .i32⟩
  | .hbm, ⟨22, _⟩ => ⟨S1x16x1, .i32⟩
  | .hbm, ⟨23, _⟩ => ⟨S1x16x1, .i1⟩
  | .hbm, ⟨24, _⟩ => ⟨S_, .i32⟩
  | .hbm, ⟨25, _⟩ => ⟨S1x16x1, .i32⟩
  | .hbm, ⟨26, _⟩ => ⟨S1x16x1, .i32⟩
  | .hbm, ⟨27, _⟩ => ⟨S1x16x1, .i32⟩
  | .hbm, ⟨28, _⟩ => ⟨S_, .i32⟩
  | .hbm, ⟨29, _⟩ => ⟨S1x16x38, .i32⟩
  | .hbm, ⟨30, _⟩ => ⟨S1x16x38, .i1⟩
  | .hbm, ⟨31, _⟩ => ⟨S_, .i32⟩
  | .hbm, ⟨32, _⟩ => ⟨S1x16x38, .i32⟩
  | .hbm, ⟨33, _⟩ => ⟨S1x16x38, .i32⟩
  | .hbm, ⟨34, _⟩ => ⟨S1x16x38, .i32⟩
  | .hbm, ⟨35, _⟩ => ⟨S1x16x38, .i32⟩
  | .hbm, ⟨36, _⟩ => ⟨S1x16x38, .i32⟩
  | .hbm, ⟨37, _⟩ => ⟨S1x16x38x1, .i32⟩
  | .hbm, ⟨38, _⟩ => ⟨S1x16x38x1, .i32⟩
  | .hbm, ⟨39, _⟩ => ⟨S1x16x38x1, .i32⟩
  | .hbm, ⟨40, _⟩ => ⟨S1x16x38x3, .i32⟩
  | .hbm, ⟨41, _⟩ => ⟨S1x16x2048x64, .f32⟩
  | .hbm, ⟨42, _⟩ => ⟨S1x2048x16x64, .f32⟩
  | .hbm, ⟨43, _⟩ => ⟨S1x2048x1024, .f32⟩
  | .hbm, ⟨44, _⟩ => ⟨S1024x1024, .f32⟩
  | .hbm, ⟨45, _⟩ => ⟨S1x2048x1024, .f32⟩
  | .hbm, ⟨46, _⟩ => ⟨S1x1x1024, .f32⟩
  | .hbm, ⟨47, _⟩ => ⟨S1x2048x1024, .f32⟩
  | .hbm, ⟨48, _⟩ => ⟨S1x2048x1024, .f32⟩
  | .hbm, ⟨49, _⟩ => ⟨S2048x1024, .f32⟩
  | _, _ => ⟨S16x40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== TopK.lean ====
abbrev S2048x1024 : Shape := ⟨2, ![2048, 1024]⟩
abbrev S1024x1024 : Shape := ⟨2, ![1024, 1024]⟩
abbrev S1x1024 : Shape := ⟨2, ![1, 1024]⟩
abbrev S16x40 : Shape := ⟨2, ![16, 40]⟩
abbrev S2048x16 : Shape := ⟨2, ![2048, 16]⟩
abbrev S256x128 : Shape := ⟨2, ![256, 128]⟩
abbrev S256x1024 : Shape := ⟨2, ![256, 1024]⟩
abbrev S256x16x64 : Shape := ⟨3, ![256, 16, 64]⟩
abbrev S256x16x32 : Shape := ⟨3, ![256, 16, 32]⟩
abbrev S256x16x16 : Shape := ⟨3, ![256, 16, 16]⟩
abbrev S256x16x8 : Shape := ⟨3, ![256, 16, 8]⟩
abbrev S256x16x4 : Shape := ⟨3, ![256, 16, 4]⟩
abbrev S256x16x2 : Shape := ⟨3, ![256, 16, 2]⟩
abbrev S256x16x1 : Shape := ⟨3, ![256, 16, 1]⟩
abbrev S256x16 : Shape := ⟨2, ![256, 16]⟩
abbrev S40x128 : Shape := ⟨2, ![40, 128]⟩
abbrev S128 : Shape := ⟨1, ![128]⟩
abbrev S1x128 : Shape := ⟨2, ![1, 128]⟩
abbrev S40x16 : Shape := ⟨2, ![40, 16]⟩
abbrev S320x16 : Shape := ⟨2, ![320, 16]⟩
abbrev S16 : Shape := ⟨1, ![16]⟩
abbrev S1x16 : Shape := ⟨2, ![1, 16]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1x1024, .f32⟩
  | .hbm, ⟨3, _⟩ => ⟨S16x40, .i32⟩
  | .local _ .vmem, ⟨0, _⟩ => ⟨S2048x1024, .f32⟩
  | .local _ .vmem, ⟨1, _⟩ => ⟨S1024x1024, .f32⟩
  | .local _ .vmem, ⟨2, _⟩ => ⟨S1x1024, .f32⟩
  | .local _ .vmem, ⟨3, _⟩ => ⟨S16x40, .i32⟩
  | .local _ .vmem, ⟨4, _⟩ => ⟨S2048x16, .f32⟩
  | .local _ .vmem, ⟨5, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v6 : BitVec 32 := Scalar.muli arg0 c256_i32
  let v7 : Index := Scalar.indexCast v6
  let c0 : Index := 0#32
  ![v7.toNat, 0]
def k0_off2 (i : grid0.Coords) : Fin 2 → Nat :=
  let arg0 : BitVec 32 := BitVec.ofNat 32 (i 0).val
  let c256_i32_6 : BitVec 32 := 256#32
  let v35 : BitVec 32 := Scalar.muli arg0 c256_i32_6
  let v36 : Index := Scalar.indexCast v35
  let c0_7 : Index := 0#32
  ![v36.toNat, 0]
def k0_cond2 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_18 : BitVec 32 := 0#32
  let c38_i32 : BitVec 32 := 38#32
  let v49 : BitVec 32 := Scalar.addi c0_i32_18 c38_i32
  let c1_i32_19 : BitVec 32 := 1#32
  ⟨c0_i32_18, v49, c1_i32_19⟩
@[reducible] def k0_t2_loop : Scf.Loop 32 :=
  let c0_i32_22 : BitVec 32 := 0#32
  let c38_i32_23 : BitVec 32 := 38#32
  let v73 : BitVec 32 := Scalar.addi c0_i32_22 c38_i32_23
  let c1_i32_24 : BitVec 32 := 1#32
  ⟨c0_i32_22, v73, c1_i32_24⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x40 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== TopKRefIdeal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S2048x16x64 : Shape := ⟨3, ![2048, 16, 64]⟩
abbrev S16x2048x64 : Shape := ⟨3, ![16, 2048, 64]⟩
abbrev S_ : Shape := ⟨0, ![]⟩
abbrev S16x2048 : Shape := ⟨2, ![16, 2048]⟩
abbrev S16x38 : Shape := ⟨2, ![16, 38]⟩
abbrev S16x40 : Shape := ⟨2, ![16, 40]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1x1024, .f32⟩
  | .hbm, ⟨3, _⟩ => ⟨S1024x1024, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x16x64, .f32⟩
  | .hbm, ⟨10, _⟩ => ⟨S16x2048x64, .f32⟩
  | .hbm, ⟨11, _⟩ => ⟨S16x2048x64, .f32⟩
  | .hbm, ⟨12, _⟩ => ⟨S_, .f32⟩
  | .hbm, ⟨13, _⟩ => ⟨S16x2048, .f32⟩
  | .hbm, ⟨14, _⟩ => ⟨S16x38, .f32⟩
  | .hbm, ⟨15, _⟩ => ⟨S16x38, .i32⟩
  | .hbm, ⟨16, _⟩ => ⟨S_, .i32⟩
  | .hbm, ⟨17, _⟩ => ⟨S_, .i32⟩
  | .hbm, ⟨18, _⟩ => ⟨S16x40, .i32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.AttnIdealRun.lean ====
/-
  The attention body run once, at any grid coordinate and on any whole staging memrefs: from the nine inputs held at
  their contents, with every entry of the index table naming a row of `x`, the body ends with the inputs as they were
  and the result's memref holding the stores the run lists.
-/
module

public import proofs.«01_k».proof.Proof.Gen.AttnIdeal.Frame
public import proofs.«01_k».proof.Proof.Gen.AttnIdeal.Skeleton

@[expose] public section

set_option maxRecDepth 16384

noncomputable section

namespace Cert.AttnIdealRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A table entry below 2048 names a row of `x`. -/
theorem row_inside (v : BitVec 32) (h : v.toNat < 2048) :
    ∀ a : Fin 2, (![(Scalar.indexCast v).toNat, 0] : Fin 2 → Nat) a + S1x1024.size a ≤ S2048x1024.size a := by
  intro a
  fin_cases a
  · show v.toNat + 1 ≤ 2048
    omega
  · show 0 + 1024 ≤ 1024
    omega

set_option maxHeartbeats 4000000 in
/-- What the body stores into the result, with the run that ends there. -/
noncomputable def kernelRun (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .smem S16x40 .i32) (harg8 : arg8.IsWhole) (arg9 : Memref sig .tc .vmem S16x40 .i32) (harg9 : arg9.IsWhole) (arg10 : Memref sig .tc .vmem S16x40x64 .f32) (harg10 : arg10.IsWhole) (arg11 : Memref sig .tc .vmem S640x1024 .f32) (harg11 : arg11.IsWhole) (arg12 : Memref sig .tc .vmem S640x1024 .f32) (harg12 : arg12.IsWhole) (arg13 : Memref sig .tc .vmem S640x2048 .f32) (harg13 : arg13.IsWhole) (arg14 : Memref sig .tc .vmem S640x1024 .f32) (harg14 : arg14.IsWhole)
    (x0 : Vec F S2048x1024 .f32) (x1 : Vec F S1024x1024 .f32) (x2 : Vec F S1024x1024 .f32) (x3 : Vec F S1024x1024 .f32) (x4 : Vec F S16x64 .f32) (x5 : Vec F S16x64 .f32) (x6 : Vec F S16x64 .f32) (x7 : Vec F S16x40 .i32) (x8 : Vec F S16x40 .i32)
    (hx : ∀ (r : Rect S16x40) (y : r.shape.Idx), (View.readAt (Elt F) arg8.view r.toLoadRect (harg8.unread x7) y : BitVec 32).toNat < 2048) :
    { L : List (View.Piece (Elt F) S16x40x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__attn_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__attn_body_eq_skeleton]; unfold cc0__attn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec_parts (disch := exact row_inside _ (hx _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

end Cert.AttnIdealRun

end
-- ==== Proof.AttnIdealFrame.lean ====
/-
  The attention call's frame: the pipeline's proof data over the body's run, the body's obligation, the launch, and the
  argument arrays unchanged with every counter at zero. Stated of a memory whose index table names rows of `x`.
-/
module

public import proofs.«01_k».proof.Proof.AttnIdealRun
public import Idealize.ShloMosaic.Lib.Claim

@[expose] public section

set_option maxRecDepth 16384

noncomputable section

namespace Cert.AttnIdealRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every entry of the index table is below 2048. -/
def Rows : Prop := ∀ (c : Dev nD) (y : S16x40.Idx), (m ((c : Thread nD τ).loc main_arg7) y : BitVec 32).toNat < 2048

/-- The result's memref is covered by the sixteen heads' stores. -/
theorem out_cover (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .smem S16x40 .i32) (harg8 : arg8.IsWhole) (arg9 : Memref sig .tc .vmem S16x40 .i32) (harg9 : arg9.IsWhole) (arg10 : Memref sig .tc .vmem S16x40x64 .f32) (harg10 : arg10.IsWhole) (arg11 : Memref sig .tc .vmem S640x1024 .f32) (harg11 : arg11.IsWhole) (arg12 : Memref sig .tc .vmem S640x1024 .f32) (harg12 : arg12.IsWhole) (arg13 : Memref sig .tc .vmem S640x2048 .f32) (harg13 : arg13.IsWhole) (arg14 : Memref sig .tc .vmem S640x1024 .f32) (harg14 : arg14.IsWhole)
    (x0 : Vec F S2048x1024 .f32) (x1 : Vec F S1024x1024 .f32) (x2 : Vec F S1024x1024 .f32) (x3 : Vec F S1024x1024 .f32) (x4 : Vec F S16x64 .f32) (x5 : Vec F S16x64 .f32) (x6 : Vec F S16x64 .f32) (x7 : Vec F S16x40 .i32) (x8 : Vec F S16x40 .i32)
    (hx : ∀ (r : Rect S16x40) (y : r.shape.Idx), (View.readAt (Elt F) arg8.view r.toLoadRect (harg8.unread x7) y : BitVec 32).toNat < 2048) (y : S16x40x64.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hx).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hx).1 S1x40x64.size (by sl_kernel_rfl) y

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .smem S16x40 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x40 .i32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x40x64 .f32 := win0_9.stage (cfg0.slots t 9)
abbrev hs9 (t : Fin cfg0.N) : (ms9 t).IsWhole := hstage0_9 ((cfg0.slots t 9).cast nbuf0_9)
abbrev sm0 : Memref sig .tc .vmem S640x1024 .f32 := Memref.whole cc0_scratch0
abbrev sm1 : Memref sig .tc .vmem S640x1024 .f32 := Memref.whole cc0_scratch1
abbrev sm2 : Memref sig .tc .vmem S640x2048 .f32 := Memref.whole cc0_scratch2
abbrev sm3 : Memref sig .tc .vmem S640x1024 .f32 := Memref.whole cc0_scratch3
abbrev outView : View sig .tc .vmem S16x40x64 .f32 := (Memref.whole cc0_stg9_0 : Memref sig .tc .vmem S16x40x64 .f32).view

/-- The words of the staged table are the table's. -/
theorem words_inside (hrow : Rows m) (c : Dev nD) (t : Fin cfg0.N) (r : Rect S16x40) (y : r.shape.Idx) :
    (View.readAt (Elt F) (ms7 t).view r.toLoadRect ((hs7 t).unread (iblk m c 7 t)) y : BitVec 32).toNat < 2048 := by
  simp only [View.readAt_apply, Memref.IsWhole.read_unread]
  unfold iblk
  rw [View.read_apply, cast_eq]
  exact hrow c _

/-- The stores into the result at a point. -/
def pieces (hrow : Rows m) (c : Dev nD) (t : Fin cfg0.N) : List (View.Piece (Elt F) S16x40x64 .f32) :=
  (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) (iblk m c 0 t) (iblk m c 1 t) (iblk m c 2 t) (iblk m c 3 t) (iblk m c 4 t) (iblk m c 5 t) (iblk m c 6 t) (iblk m c 7 t) (iblk m c 8 t) (words_inside m hrow c t)).1

/-- What the body leaves in the result's memref. -/
def outAt (hrow : Rows m) (c : Dev nD) (t : Fin cfg0.N) : Vec F S16x40x64 .f32 :=
  outView.read (Elt F) (outView.writes (Elt F) outView.junk (pieces m hrow c t))

theorem scratch_eq (c : Dev nD) :
    (Pipeline.ΦA spec0 c : sProp 𝕄)
      = iprop(iprop((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d)) ∗ (∃ r, prngReg c r)) := by
  unfold Pipeline.ΦA; rw [scopedRest0_eq]; simp only [sm0, sm1, sm2, sm3, owns_whole]; try rfl

/-- The proof data: each input's buffer keeps its block, the result's ends at `outAt`, the scratch is forgotten. -/
def dats (hrow : Rows m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m hrow c t
  Φ _ := Pipeline.ΦA spec0 c
  q w := Pipeline.shareOf spec0 w
  owed _ := 0

theorem A_eq (hrow : Rows m) (c : Dev nD) (w : Fin cfg0.W) : (dats m hrow 0 c).A w = V m c (Pipeline.arrRef spec0 w) := by
  dsimp only [dats]
theorem after_0 (hrow : Rows m) (c : Dev nD) (t : Fin cfg0.N) : (dats m hrow 0 c).after 0 t = iblk m c 0 t := by dsimp only [dats]
theorem after_1 (hrow : Rows m) (c : Dev nD) (t : Fin cfg0.N) : (dats m hrow 0 c).after 1 t = iblk m c 1 t := by dsimp only [dats]
theorem after_2 (hrow : Rows m) (c : Dev nD) (t : Fin cfg0.N) : (dats m hrow 0 c).after 2 t = iblk m c 2 t := by dsimp only [dats]
theorem after_3 (hrow : Rows m) (c : Dev nD) (t : Fin cfg0.N) : (dats m hrow 0 c).after 3 t = iblk m c 3 t := by dsimp only [dats]
theorem after_4 (hrow : Rows m) (c : Dev nD) (t : Fin cfg0.N) : (dats m hrow 0 c).after 4 t = iblk m c 4 t := by dsimp only [dats]
theorem after_5 (hrow : Rows m) (c : Dev nD) (t : Fin cfg0.N) : (dats m hrow 0 c).after 5 t = iblk m c 5 t := by dsimp only [dats]
theorem after_6 (hrow : Rows m) (c : Dev nD) (t : Fin cfg0.N) : (dats m hrow 0 c).after 6 t = iblk m c 6 t := by dsimp only [dats]
theorem after_7 (hrow : Rows m) (c : Dev nD) (t : Fin cfg0.N) : (dats m hrow 0 c).after 7 t = iblk m c 7 t := by dsimp only [dats]
theorem after_8 (hrow : Rows m) (c : Dev nD) (t : Fin cfg0.N) : (dats m hrow 0 c).after 8 t = iblk m c 8 t := by dsimp only [dats]
theorem after_9 (hrow : Rows m) (c : Dev nD) (t : Fin cfg0.N) : (dats m hrow 0 c).after 9 t = outAt m hrow c t := by dsimp only [dats]
theorem before_0 (hrow : Rows m) (c : Dev nD) (t : Fin cfg0.N) (d) : (dats m hrow 0 c).before 0 t d = iblk m c 0 t :=
  before0_0_of m (dats m hrow 0 c) (A_eq m hrow c 0) (after_0 m hrow c) t d
theorem before_1 (hrow : Rows m) (c : Dev nD) (t : Fin cfg0.N) (d) : (dats m hrow 0 c).before 1 t d = iblk m c 1 t :=
  before0_1_of m (dats m hrow 0 c) (A_eq m hrow c 1) (after_1 m hrow c) t d
theorem before_2 (hrow : Rows m) (c : Dev nD) (t : Fin cfg0.N) (d) : (dats m hrow 0 c).before 2 t d = iblk m c 2 t :=
  before0_2_of m (dats m hrow 0 c) (A_eq m hrow c 2) (after_2 m hrow c) t d
theorem before_3 (hrow : Rows m) (c : Dev nD) (t : Fin cfg0.N) (d) : (dats m hrow 0 c).before 3 t d = iblk m c 3 t :=
  before0_3_of m (dats m hrow 0 c) (A_eq m hrow c 3) (after_3 m hrow c) t d
theorem before_4 (hrow : Rows m) (c : Dev nD) (t : Fin cfg0.N) (d) : (dats m hrow 0 c).before 4 t d = iblk m c 4 t :=
  before0_4_of m (dats m hrow 0 c) (A_eq m hrow c 4) (after_4 m hrow c) t d
theorem before_5 (hrow : Rows m) (c : Dev nD) (t : Fin cfg0.N) (d) : (dats m hrow 0 c).before 5 t d = iblk m c 5 t :=
  before0_5_of m (dats m hrow 0 c) (A_eq m hrow c 5) (after_5 m hrow c) t d
theorem before_6 (hrow : Rows m) (c : Dev nD) (t : Fin cfg0.N) (d) : (dats m hrow 0 c).before 6 t d = iblk m c 6 t :=
  before0_6_of m (dats m hrow 0 c) (A_eq m hrow c 6) (after_6 m hrow c) t d
theorem before_7 (hrow : Rows m) (c : Dev nD) (t : Fin cfg0.N) (d) : (dats m hrow 0 c).before 7 t d = iblk m c 7 t :=
  before0_7_of m (dats m hrow 0 c) (A_eq m hrow c 7) (after_7 m hrow c) t d
theorem before_8 (hrow : Rows m) (c : Dev nD) (t : Fin cfg0.N) (d) : (dats m hrow 0 c).before 8 t d = iblk m c 8 t :=
  before0_8_of m (dats m hrow 0 c) (A_eq m hrow c 8) (after_8 m hrow c) t d

/-- What the body is called with, -/
def bodyPre (hrow : Rows m) (c : Dev nD) (t : Fin cfg0.N) : sProp 𝕄 :=
  iprop((dats m hrow 0 c).Φ t.castSucc ∗ (dats m hrow 0 c).owesAt () t.castSucc
    ∗ (∃ d, owns (c : Thread nD τ) (ms0 t) fullShare ((dats m hrow 0 c).before 0 t d))
    ∗ (∃ d, owns (c : Thread nD τ) (ms1 t) fullShare ((dats m hrow 0 c).before 1 t d))
    ∗ (∃ d, owns (c : Thread nD τ) (ms2 t) fullShare ((dats m hrow 0 c).before 2 t d))
    ∗ (∃ d, owns (c : Thread nD τ) (ms3 t) fullShare ((dats m hrow 0 c).before 3 t d))
    ∗ (∃ d, owns (c : Thread nD τ) (ms4 t) fullShare ((dats m hrow 0 c).before 4 t d))
    ∗ (∃ d, owns (c : Thread nD τ) (ms5 t) fullShare ((dats m hrow 0 c).before 5 t d))
    ∗ (∃ d, owns (c : Thread nD τ) (ms6 t) fullShare ((dats m hrow 0 c).before 6 t d))
    ∗ (∃ d, owns (c : Thread nD τ) (ms7 t) fullShare ((dats m hrow 0 c).before 7 t d))
    ∗ (∃ d, owns (c : Thread nD τ) (ms8 t) fullShare ((dats m hrow 0 c).before 8 t d))
    ∗ (∃ d, owns (c : Thread nD τ) (ms9 t) fullShare ((dats m hrow 0 c).before 9 t d)))

/-- and what it returns. -/
def bodyPost (hrow : Rows m) (c : Dev nD) (t : Fin cfg0.N) : sProp 𝕄 :=
  iprop((dats m hrow 0 c).Φ t.succ ∗ (dats m hrow 0 c).owesAt () t.succ
    ∗ owns (c : Thread nD τ) (ms0 t) fullShare ((dats m hrow 0 c).after 0 t)
    ∗ owns (c : Thread nD τ) (ms1 t) fullShare ((dats m hrow 0 c).after 1 t)
    ∗ owns (c : Thread nD τ) (ms2 t) fullShare ((dats m hrow 0 c).after 2 t)
    ∗ owns (c : Thread nD τ) (ms3 t) fullShare ((dats m hrow 0 c).after 3 t)
    ∗ owns (c : Thread nD τ) (ms4 t) fullShare ((dats m hrow 0 c).after 4 t)
    ∗ owns (c : Thread nD τ) (ms5 t) fullShare ((dats m hrow 0 c).after 5 t)
    ∗ owns (c : Thread nD τ) (ms6 t) fullShare ((dats m hrow 0 c).after 6 t)
    ∗ owns (c : Thread nD τ) (ms7 t) fullShare ((dats m hrow 0 c).after 7 t)
    ∗ owns (c : Thread nD τ) (ms8 t) fullShare ((dats m hrow 0 c).after 8 t)
    ∗ owns (c : Thread nD τ) (ms9 t) fullShare ((dats m hrow 0 c).after 9 t))

set_option maxHeartbeats 3200000 in
theorem sound_body (hrow : Rows m) (c : Dev nD) (t : Fin cfg0.N) :
    bodyPre m hrow c t ⊢ wp frame (wpE (defs₀ (F := F)) Variants.none c none) Set.univ (bodyAt0 t) (fun _ => bodyPost m hrow c t) := by
  unfold bodyPre bodyPost bodyAt0
  simp only [before_0, before_1, before_2, before_3, before_4, before_5, before_6, before_7, before_8]
  rw [show (dats m hrow 0 c).owesAt () t.succ = (dats m hrow 0 c).owesAt () t.castSucc from rfl,
    after_0, after_1, after_2, after_3, after_4, after_5, after_6, after_7, after_8, after_9]
  rw [show (dats m hrow 0 c).Φ t.succ = Pipeline.ΦA spec0 c from rfl,
    show (dats m hrow 0 c).Φ t.castSucc = Pipeline.ΦA spec0 c from rfl, scratch_eq]
  unfold outAt pieces
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) (iblk m c 0 t) (iblk m c 1 t) (iblk m c 2 t) (iblk m c 3 t) (iblk m c 4 t) (iblk m c 5 t) (iblk m c 6 t) (iblk m c 7 t) (iblk m c 8 t) (words_inside m hrow c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, ⟨%s0, HS0⟩, ⟨%s1, HS1⟩, ⟨%s2, HS2⟩, ⟨%s3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (out_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) (iblk m c 0 t) (iblk m c 1 t) (iblk m c 2 t) (iblk m c 3 t) (iblk m c 4 t) (iblk m c 5 t) (iblk m c 6 t) (iblk m c 7 t) (iblk m c 8 t) (words_inside m hrow c t))

theorem defs₀_row (t : Fin cfg0.N) :
    defs₀ (F := F) .tc cfg0.body (cfg0.bodyArgs t (cfg0.slots t)) = bodyAt0 t := by
  unfold defs₀; rw [Defs.onTc_tc]

theorem body_obligation (hrow : Rows m) (c : Dev nD) : BodyObligation (dats (F := F) m hrow 0 c) (defs₀ (F := F)) Variants.none () Set.univ := fun t => by
  rw [bigSep_W0, bigSep_W0, defs₀_row]
  exact triple_restated (sound_body m hrow c t) rfl .rfl fun _ => .rfl

theorem hin (hrow : Rows m) (c : Dev nD) : Pipeline.ΦA spec0 c ⊢ (dats m hrow 0 c).Φ 0 := Idealize.SL.BI.Entails.refl _
theorem hout (hrow : Rows m) (c : Dev nD) : (dats m hrow 0 c).Φ (Fin.last cfg0.N) ⊢ Pipeline.ΦA spec0 c := Idealize.SL.BI.Entails.refl _

set_option backward.isDefEq.respectTransparency.types false in
/-- The launch: every array at what the proof data says, every counter at zero. -/
theorem run_quiescent (hrow : Rows m) : θ_run defs (onTc (τ := τ) (main (F := F))) (s₀ m ρ) (fun r => (Pipeline.FramePost cfgs (dats m hrow) 0 (V m)) r ∧ r.2.sem = fun _ => 0) :=
  Pipeline.θ_run_frame_track_shared (Q' := _) cfgs (dats m hrow) (0 : Fin 1) launch₀0 defs₀ Variants.none m ρ main
    (hbody := fun c => (body_obligation m hrow c).loose) (hq := fun _ _ _ => rfl)
    (howed := fun _ _ => rfl) (V := V m) (hmain := hmain m Variants.none) (hA := A_eq m hrow) (hin := hin m hrow) (hout := hout m hrow)

theorem run_main (hrow : Rows m) : θ_run defs (onTc (τ := τ) (main (F := F))) (s₀ m ρ) (Pipeline.FramePost cfgs (dats m hrow) 0 (V m)) :=
  (θ_run defs _ _).mono (fun _ h => h.1) (run_quiescent m ρ hrow)

/-- The arguments end unchanged and every counter at zero. -/
theorem frame (hrow : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m hrow) (A_eq m hrow) (run_main m ρ hrow)) ((θ_run defs _ _).mono (fun _ h => h.2) (run_quiescent m ρ hrow))

end Cert.AttnIdealRun

end
-- ==== Proof.AttnFill.lean ====
/-
  Arrays filled by stores of blocks of rows, first rows first: what is known of the rows already stored, and of the
  rows that still hold the earlier contents.
-/
module

public import Idealize.ShloMosaic.Lib.WholeRead
public import Idealize.ShloMosaic.Lib.VecWindow
public import Idealize.ShloMosaic.Lib.Pipeline.ValueKit
public import Idealize.ShloMosaic.Lib.Pointwise

@[expose] public section

noncomputable section

namespace Cert.AttnFill

open Idealize.ShloMosaic

variable {Val : EltTy → Type} [∀ e, Nonempty (Val e)] {r c : ℕ} {e : EltTy}

/-- Rows below `n`, in the columns below `w`, hold `G`. -/
def Below (w n : ℕ) (G : (⟨2, ![r, c]⟩ : Shape).Idx → Val e) (L : List (View.Piece Val ⟨2, ![r, c]⟩ e)) : Prop :=
  ∀ y : (⟨2, ![r, c]⟩ : Shape).Idx, (y 0).val < n → (y 1).val < w → View.canon L y = G y

/-- Rows from `n` on hold `S`. -/
def From (n : ℕ) (S : (⟨2, ![r, c]⟩ : Shape).Idx → Val e) (L : List (View.Piece Val ⟨2, ![r, c]⟩ e)) : Prop :=
  ∀ y : (⟨2, ![r, c]⟩ : Shape).Idx, n ≤ (y 0).val → View.canon L y = S y

theorem below_zero (w : ℕ) (G : (⟨2, ![r, c]⟩ : Shape).Idx → Val e) (L : List (View.Piece Val ⟨2, ![r, c]⟩ e)) : Below w 0 G L :=
  fun y h => absurd h (Nat.not_lt_zero _)

/-- A store of the next rows. -/
theorem below_cons {w n m : ℕ} {G : (⟨2, ![r, c]⟩ : Shape).Idx → Val e} {L : List (View.Piece Val ⟨2, ![r, c]⟩ e)}
    {sz : Fin 2 → ℕ} {inb : ∀ a, (![n, 0] : Fin 2 → ℕ) a + sz a ≤ (⟨2, ![r, c]⟩ : Shape).size a}
    {p : (Rect.unit (s := ⟨2, ![r, c]⟩) ![n, 0] sz inb).shape.Idx → Val e}
    (hp : ∀ x, p x = G ((Rect.unit (s := ⟨2, ![r, c]⟩) ![n, 0] sz inb).emb x))
    (hm : m = n + sz 0) (hw : w ≤ sz 1) (h : Below w n G L) :
    Below w m G ((⟨Rect.unit ![n, 0] sz inb, p⟩ : View.Piece Val ⟨2, ![r, c]⟩ e) :: L) := by
  intro y h0 h1
  by_cases hy : y ∈ (Rect.unit (s := ⟨2, ![r, c]⟩) ![n, 0] sz inb).set
  · obtain ⟨x, rfl⟩ := (Rect.unit (s := ⟨2, ![r, c]⟩) ![n, 0] sz inb).exists_idx_of_mem hy
    rw [show (Rect.unit (s := ⟨2, ![r, c]⟩) ![n, 0] sz inb).idx x = (Rect.unit (s := ⟨2, ![r, c]⟩) ![n, 0] sz inb).emb x from rfl,
      View.canon_cons_emb]
    exact hp x
  · rw [View.canon_cons_of_not_mem _ _ hy]
    refine h y ?_ h1
    by_contra hn
    refine hy (Rect.mem_set_unit.2 fun a => ?_)
    match a with
    | ⟨0, _⟩ => exact ⟨not_lt.1 hn, hm ▸ h0⟩
    | ⟨1, _⟩ => exact ⟨Nat.zero_le _, lt_of_lt_of_le (lt_of_lt_of_le h1 hw) (Nat.le_add_left _ _)⟩

/-- The rows after a store of the next rows. -/
theorem from_cons {n m : ℕ} {S : (⟨2, ![r, c]⟩ : Shape).Idx → Val e} {L : List (View.Piece Val ⟨2, ![r, c]⟩ e)}
    {sz : Fin 2 → ℕ} {inb : ∀ a, (![n, 0] : Fin 2 → ℕ) a + sz a ≤ (⟨2, ![r, c]⟩ : Shape).size a}
    {p : (Rect.unit (s := ⟨2, ![r, c]⟩) ![n, 0] sz inb).shape.Idx → Val e}
    (hm : m = n + sz 0) (h : From n S L) :
    From m S ((⟨Rect.unit ![n, 0] sz inb, p⟩ : View.Piece Val ⟨2, ![r, c]⟩ e) :: L) := by
  intro y h0
  have hy : y ∉ (Rect.unit (s := ⟨2, ![r, c]⟩) ![n, 0] sz inb).set := fun hy => by
    have q : (y 0).val < n + sz 0 := (Rect.mem_set_unit.1 hy 0).2
    omega
  rw [View.canon_cons_of_not_mem _ _ hy]
  exact h y (by omega)

/-- A unit-stride block of whole-width rows places its entry at the rows it starts from. -/
theorem emb_rows {n w : ℕ} (o : ℕ) (inb : ∀ a, (![o, 0] : Fin 2 → ℕ) a + (⟨2, ![n, w]⟩ : Shape).size a ≤ (⟨2, ![r, c]⟩ : Shape).size a)
    (a : Fin n) (b : Fin w) (ha : o + a.val < r) (hb : b.val < c) :
    (Rect.unit (s := ⟨2, ![r, c]⟩) ![o, 0] (⟨2, ![n, w]⟩ : Shape).size inb).emb (ix2 a b) = ix2 (⟨o + a.val, ha⟩ : Fin r) (⟨b.val, hb⟩ : Fin c) := by
  funext k
  refine Fin.ext ?_
  match k with
  | ⟨0, _⟩ => exact congrArg (o + ·) (Nat.one_mul _)
  | ⟨1, _⟩ => exact (Nat.zero_add _).trans (Nat.one_mul _)

variable {sig : RefSig} {κ : Kind} {sp : Space}

/-- A load of whole-width rows of an input. -/
theorem load_rows {n w : ℕ} {M : Memref sig κ sp ⟨2, ![r, c]⟩ e} (hM : M.IsWhole) (X : (⟨2, ![r, c]⟩ : Shape).Idx → Val e) (o : ℕ)
    (inb : ∀ a, (![o, 0] : Fin 2 → ℕ) a + (⟨2, ![n, w]⟩ : Shape).size a ≤ (⟨2, ![r, c]⟩ : Shape).size a)
    (a : Fin n) (b : Fin w) (ha : o + a.val < r) (hb : b.val < c) :
    View.readAt Val M.view (Rect.unit (s := ⟨2, ![r, c]⟩) ![o, 0] (⟨2, ![n, w]⟩ : Shape).size inb).toLoadRect (hM.unread X) (ix2 a b)
      = X (ix2 (⟨o + a.val, ha⟩ : Fin r) (⟨b.val, hb⟩ : Fin c)) := by
  rw [hM.readAt_unread]
  exact congrArg X (emb_rows o inb a b ha hb)

/-- A load of rows of an array filled that far. -/
theorem load_below {n w m w' : ℕ} (V : View sig κ sp ⟨2, ![r, c]⟩ e) {G : (⟨2, ![r, c]⟩ : Shape).Idx → Val e}
    {L : List (View.Piece Val ⟨2, ![r, c]⟩ e)} (hL : Below w' m G L) (o : ℕ)
    (inb : ∀ a, (![o, 0] : Fin 2 → ℕ) a + (⟨2, ![n, w]⟩ : Shape).size a ≤ (⟨2, ![r, c]⟩ : Shape).size a)
    (a : Fin n) (b : Fin w) (ha : o + a.val < r) (hb : b.val < c) (hm : o + a.val < m) (hw : b.val < w') :
    View.readCov V L (Rect.unit (s := ⟨2, ![r, c]⟩) ![o, 0] (⟨2, ![n, w]⟩ : Shape).size inb).toLoadRect (ix2 a b)
      = G (ix2 (⟨o + a.val, ha⟩ : Fin r) (⟨b.val, hb⟩ : Fin c)) := by
  rw [View.readCov_eq_canon']
  show View.canon L ((Rect.unit (s := ⟨2, ![r, c]⟩) ![o, 0] (⟨2, ![n, w]⟩ : Shape).size inb).emb (ix2 a b)) = _
  rw [emb_rows o inb a b ha hb]
  exact hL _ hm hw

/-- A load of rows not stored since. -/
theorem load_from {n w m : ℕ} (V : View sig κ sp ⟨2, ![r, c]⟩ e) {G : (⟨2, ![r, c]⟩ : Shape).Idx → Val e}
    {L : List (View.Piece Val ⟨2, ![r, c]⟩ e)} (hL : From m G L) (o : ℕ)
    (inb : ∀ a, (![o, 0] : Fin 2 → ℕ) a + (⟨2, ![n, w]⟩ : Shape).size a ≤ (⟨2, ![r, c]⟩ : Shape).size a)
    (a : Fin n) (b : Fin w) (ha : o + a.val < r) (hb : b.val < c) (hm : m ≤ o) :
    View.readCov V L (Rect.unit (s := ⟨2, ![r, c]⟩) ![o, 0] (⟨2, ![n, w]⟩ : Shape).size inb).toLoadRect (ix2 a b)
      = G (ix2 (⟨o + a.val, ha⟩ : Fin r) (⟨b.val, hb⟩ : Fin c)) := by
  rw [View.readCov_eq_canon']
  show View.canon L ((Rect.unit (s := ⟨2, ![r, c]⟩) ![o, 0] (⟨2, ![n, w]⟩ : Shape).size inb).emb (ix2 a b)) = _
  rw [emb_rows o inb a b ha hb]
  exact hL _ (hm.trans (Nat.le_add_right _ _))

/-- An array stored whole holds the last store. -/
theorem whole_at {L : List (View.Piece Val ⟨2, ![r, c]⟩ e)}
    {inb : ∀ a, (![0, 0] : Fin 2 → ℕ) a + (⟨2, ![r, c]⟩ : Shape).size a ≤ (⟨2, ![r, c]⟩ : Shape).size a}
    (p : (⟨2, ![r, c]⟩ : Shape).Idx → Val e) (y : (⟨2, ![r, c]⟩ : Shape).Idx) :
    View.canon ((⟨Rect.unit (s := ⟨2, ![r, c]⟩) ![0, 0] (⟨2, ![r, c]⟩ : Shape).size inb, p⟩ : View.Piece Val ⟨2, ![r, c]⟩ e) :: L) y = p y := by
  have h := View.canon_cons_emb (Rect.unit (s := ⟨2, ![r, c]⟩) ![0, 0] (⟨2, ![r, c]⟩ : Shape).size inb) p L y
  rwa [Rect.emb_unit_full] at h

end Cert.AttnFill

end
-- ==== Proof.AttnMath.lean ====
/- The two forms of attention for one selected row, over the extended reals. -/
module

public import Idealize.ShloMosaic.PureOps.Ideal
public import Mathlib.Data.EReal.Operations
public import Mathlib.Algebra.BigOperators.Fin
public import Mathlib.Algebra.BigOperators.Group.Finset.Basic
public import Mathlib.Algebra.Order.BigOperators.Group.Finset

@[expose] public section

noncomputable section

namespace Cert.AttnMath

open Idealize.ShloMosaic
open scoped BigOperators

variable {ι κ δ : Type} [Fintype ι] [Fintype κ] [Fintype δ]

theorem coe_sum (f : ι → ℝ) : ((∑ i, f i : ℝ) : EReal) = ∑ i, (f i : EReal) :=
  map_sum (⟨⟨fun r : ℝ => (r : EReal), EReal.coe_zero⟩, EReal.coe_add⟩ : ℝ →+ EReal) f Finset.univ

/-- A finite extended real is a real. -/
theorem lift {α : Type} (f : α → EReal) (h : ∀ a, f a ≠ ⊤ ∧ f a ≠ ⊥) : ∃ g : α → ℝ, f = fun a => (g a : EReal) :=
  ⟨fun a => (f a).toReal, funext fun a => (EReal.coe_toReal (h a).1 (h a).2).symm⟩

/-- A row of the key projection folded into the query, against the key projected first. -/
theorem score (q : κ → ℝ) (w : κ → δ → ℝ) (b : κ → ℝ) (x : δ → ℝ) :
    (∑ d, (∑ e, (q e : EReal) * (w e d : EReal)) * (x d : EReal)) + ∑ e, (q e : EReal) * (b e : EReal)
      = ∑ e, (q e : EReal) * ((∑ d, (x d : EReal) * (w e d : EReal)) + (b e : EReal)) := by
  simp only [← EReal.coe_mul, ← coe_sum, ← EReal.coe_add]
  refine congrArg _ ?_
  simp only [Finset.sum_mul, mul_add, Finset.sum_add_distrib, Finset.mul_sum]
  rw [Finset.sum_comm]
  refine congrArg (· + _) (Finset.sum_congr rfl fun e _ => Finset.sum_congr rfl fun d _ => ?_)
  ring

/-- The weights of one row: the exponential of each score less the greatest, over their sum. -/
def weight (s : ι → EReal) (j : ι) : EReal :=
  Ideal.div (Ideal.exp (s j - Finset.univ.fold max ⊥ s)) (∑ k, Ideal.exp (s k - Finset.univ.fold max ⊥ s))

theorem fold_max (s : ι → EReal) : Finset.univ.fold max ⊥ s = Finset.univ.sup s := rfl

/-- The weights are reals that sum to one, when every score is a real or `⊥` and one is a real. -/
theorem weight_real (s : ι → EReal) (hs : ∀ j, s j ≠ ⊤) (j₀ : ι) (h₀ : s j₀ ≠ ⊥) :
    ∃ p : ι → ℝ, (∀ j, weight s j = (p j : EReal)) ∧ ∑ j, p j = 1 := by
  have hne : (Finset.univ : Finset ι).Nonempty := ⟨j₀, Finset.mem_univ _⟩
  obtain ⟨j₁, -, h₁⟩ := Finset.exists_mem_eq_sup Finset.univ hne s
  have hb : s j₁ ≠ ⊥ := fun c => h₀ (le_bot_iff.mp (by rw [← c, ← h₁]; exact Finset.le_sup (Finset.mem_univ _)))
  obtain ⟨M, hM⟩ : ∃ M : ℝ, Finset.univ.fold max ⊥ s = (M : EReal) :=
    ⟨(s j₁).toReal, by rw [fold_max, h₁, EReal.coe_toReal (hs j₁) hb]⟩
  have hu : ∀ j, ∃ u : ℝ, Ideal.exp (s j - (M : EReal)) = (u : EReal) ∧ 0 ≤ u ∧ (s j ≠ ⊥ → 0 < u) := by
    intro j
    by_cases hj : s j = ⊥
    · refine ⟨0, ?_, le_refl _, fun c => absurd hj c⟩
      rw [hj, EReal.bot_sub, Ideal.exp_bot, EReal.coe_zero]
    · refine ⟨Real.exp ((s j).toReal - M), ?_, (Real.exp_pos _).le, fun _ => Real.exp_pos _⟩
      rw [← Ideal.exp_coe, EReal.coe_sub, EReal.coe_toReal (hs j) hj]
  choose u hu₁ hu₂ hu₃ using hu
  have hS : 0 < ∑ k, u k :=
    Finset.sum_pos' (fun k _ => hu₂ k) ⟨j₀, Finset.mem_univ _, hu₃ j₀ h₀⟩
  refine ⟨fun j => u j * (1 / ∑ k, u k), fun j => ?_, ?_⟩
  · unfold weight
    simp only [hM, hu₁]
    rw [← coe_sum, Ideal.div_coe hS.ne', ← EReal.coe_mul]
  · rw [← Finset.sum_mul, mul_one_div, div_self hS.ne']

/-- Weights that sum to one, put on the rows before the value projection or after it. -/
theorem attend (p : ι → ℝ) (hp : ∑ j, p j = 1) (x : ι → δ → ℝ) (w : δ → ℝ) (b : ℝ) :
    (∑ d, (∑ j, (p j : EReal) * (x j d : EReal)) * (w d : EReal)) + (b : EReal)
      = ∑ j, (p j : EReal) * ((∑ d, (x j d : EReal) * (w d : EReal)) + (b : EReal)) := by
  simp only [← EReal.coe_mul, ← coe_sum, ← EReal.coe_add]
  refine congrArg _ ?_
  simp only [Finset.sum_mul, mul_add, Finset.sum_add_distrib, Finset.mul_sum]
  rw [Finset.sum_comm, ← Finset.sum_mul, hp, one_mul]
  refine congrArg (· + _) (Finset.sum_congr rfl fun e _ => Finset.sum_congr rfl fun d _ => ?_)
  ring

end Cert.AttnMath

end
-- ==== Proof.AttnSpec.lean ====
/-
  What the attention body's scratch arrays hold, head by head, over its nine inputs: the copied rows, the queries, the
  query-key products, the scores, the weights, the weighted rows and the result.
-/
module

public import proofs.«01_k».proof.Proof.AttnFill
public import proofs.«01_k».proof.Proof.AttnMath
public import proofs.«01_k».proof.Proof.Gen.AttnIdeal

@[expose] public section

noncomputable section

namespace Cert.AttnSpec

open Cert.AttnIdeal Idealize.ShloMosaic
open scoped BigOperators

/-- The row of `x` a table word names. -/
def rowOf (w : BitVec 32) : Fin 2048 := ⟨w.toNat % 2048, Nat.mod_lt _ (by decide)⟩

/-- The head of a selected row, -/
def hd (k : Fin 640) : Fin 16 := ⟨k.val / 40, by omega⟩
/-- and its place in the head. -/
def ps (k : Fin 640) : Fin 40 := ⟨k.val % 40, by omega⟩
/-- A head's column of the weights. -/
def col (h : Fin 16) (e : Fin 64) : Fin 1024 := ⟨h.val * 64 + e.val, by omega⟩

theorem hd_mk (h : Fin 16) (i : Fin 40) (o : ℕ) (ho : o = 40 * h.val) (p) : hd ⟨o + i.val, p⟩ = h := Fin.ext (by show (o + i.val) / 40 = h.val; omega)
theorem ps_mk (h : Fin 16) (i : Fin 40) (o : ℕ) (ho : o = 40 * h.val) (p) : ps ⟨o + i.val, p⟩ = i := Fin.ext (by show (o + i.val) % 40 = i.val; omega)

variable (x0 : Vec Ideal S2048x1024 .f32) (x1 x2 x3 : Vec Ideal S1024x1024 .f32) (x4 x5 x6 : Vec Ideal S16x64 .f32) (x7 x8 : Vec Ideal S16x40 .i32)

/-- The copied rows. -/
def xs (h : Fin 16) (i : Fin 40) (d : Fin 1024) : EReal := x0 (ix2 (rowOf (x7 (ix2 h i))) d)
/-- The queries. -/
def qs (h : Fin 16) (i : Fin 40) (e : Fin 64) : EReal :=
  (∑ d : Fin 1024, xs x0 x7 h i d * (show EReal from x1 (ix2 (col h e) d))) + (show EReal from x4 (ix2 h e))
/-- The queries through the key weights, -/
def qk (h : Fin 16) (i : Fin 40) (d : Fin 1024) : EReal :=
  ∑ e : Fin 64, qs x0 x1 x4 x7 h i e * (show EReal from x2 (ix2 (col h e) d))
/-- and through the key bias. -/
def sb (h : Fin 16) (i : Fin 40) : EReal :=
  ∑ e : Fin 64, qs x0 x1 x4 x7 h i e * (show EReal from x5 (ix2 h e))
/-- The scores. -/
def sc (h : Fin 16) (i : Fin 40) (j : Fin 2048) : EReal :=
  ((∑ d : Fin 1024, qk x0 x1 x2 x4 x7 h i d * (show EReal from x0 (ix2 j d))) + sb x0 x1 x4 x5 x7 h i) * Ideal.ofBits .f32 0x3E000000#32
/-- The scores of the rows up to the selected one. -/
def ms (h : Fin 16) (i : Fin 40) (j : Fin 2048) : EReal :=
  if j.val ≤ (x8 (ix2 h i) : BitVec 32).toNat then sc x0 x1 x2 x4 x5 x7 h i j else ⊥
/-- The weights. -/
def pr (h : Fin 16) (i : Fin 40) (j : Fin 2048) : EReal := AttnMath.weight (ms x0 x1 x2 x4 x5 x7 x8 h i) j
/-- The weighted rows. -/
def av (h : Fin 16) (i : Fin 40) (d : Fin 1024) : EReal :=
  ∑ j : Fin 2048, pr x0 x1 x2 x4 x5 x7 x8 h i j * (show EReal from x0 (ix2 j d))
/-- The result. -/
def ou (h : Fin 16) (i : Fin 40) (e : Fin 64) : EReal :=
  (∑ d : Fin 1024, av x0 x1 x2 x4 x5 x7 x8 h i d * (show EReal from x3 (ix2 (col h e) d))) + (show EReal from x6 (ix2 h e))

/-- The scratch arrays, head after head. -/
def XS (y : S640x1024.Idx) : Elt Ideal .f32 := xs x0 x7 (hd (y 0)) (ps (y 0)) (y 1)
def QK (y : S640x1024.Idx) : Elt Ideal .f32 := qk x0 x1 x2 x4 x7 (hd (y 0)) (ps (y 0)) (y 1)
def SB (y : S640x2048.Idx) : Elt Ideal .f32 := sb x0 x1 x4 x5 x7 (hd (y 0)) (ps (y 0))
def SC (y : S640x2048.Idx) : Elt Ideal .f32 := sc x0 x1 x2 x4 x5 x7 (hd (y 0)) (ps (y 0)) (y 1)
def PR (y : S640x2048.Idx) : Elt Ideal .f32 := pr x0 x1 x2 x4 x5 x7 x8 (hd (y 0)) (ps (y 0)) (y 1)
def AV (y : S640x1024.Idx) : Elt Ideal .f32 := av x0 x1 x2 x4 x5 x7 x8 (hd (y 0)) (ps (y 0)) (y 1)
def OU (y : S16x40x64.Idx) : Elt Ideal .f32 := ou x0 x1 x2 x3 x4 x5 x6 x7 x8 (y 0) (y 1) (y 2)

theorem XS_at (h : Fin 16) (i : Fin 40) (o : ℕ) (ho : o = 40 * h.val) (p) (d : Fin 1024) :
    XS x0 x7 (ix2 (⟨o + i.val, p⟩ : Fin 640) d) = xs x0 x7 h i d := by
  show xs x0 x7 (hd ⟨o + i.val, p⟩) (ps ⟨o + i.val, p⟩) d = _
  rw [hd_mk h i o ho, ps_mk h i o ho]
theorem QK_at (h : Fin 16) (i : Fin 40) (o : ℕ) (ho : o = 40 * h.val) (p) (d : Fin 1024) :
    QK x0 x1 x2 x4 x7 (ix2 (⟨o + i.val, p⟩ : Fin 640) d) = qk x0 x1 x2 x4 x7 h i d := by
  show qk x0 x1 x2 x4 x7 (hd ⟨o + i.val, p⟩) (ps ⟨o + i.val, p⟩) d = _
  rw [hd_mk h i o ho, ps_mk h i o ho]
theorem SB_at (h : Fin 16) (i : Fin 40) (o : ℕ) (ho : o = 40 * h.val) (p) (d : Fin 2048) :
    SB x0 x1 x4 x5 x7 (ix2 (⟨o + i.val, p⟩ : Fin 640) d) = sb x0 x1 x4 x5 x7 h i := by
  show sb x0 x1 x4 x5 x7 (hd ⟨o + i.val, p⟩) (ps ⟨o + i.val, p⟩) = _
  rw [hd_mk h i o ho, ps_mk h i o ho]
theorem SC_at (h : Fin 16) (i : Fin 40) (o : ℕ) (ho : o = 40 * h.val) (p) (d : Fin 2048) :
    SC x0 x1 x2 x4 x5 x7 (ix2 (⟨o + i.val, p⟩ : Fin 640) d) = sc x0 x1 x2 x4 x5 x7 h i d := by
  show sc x0 x1 x2 x4 x5 x7 (hd ⟨o + i.val, p⟩) (ps ⟨o + i.val, p⟩) d = _
  rw [hd_mk h i o ho, ps_mk h i o ho]
theorem PR_at (h : Fin 16) (i : Fin 40) (o : ℕ) (ho : o = 40 * h.val) (p) (d : Fin 2048) :
    PR x0 x1 x2 x4 x5 x7 x8 (ix2 (⟨o + i.val, p⟩ : Fin 640) d) = pr x0 x1 x2 x4 x5 x7 x8 h i d := by
  show pr x0 x1 x2 x4 x5 x7 x8 (hd ⟨o + i.val, p⟩) (ps ⟨o + i.val, p⟩) d = _
  rw [hd_mk h i o ho, ps_mk h i o ho]
theorem AV_at (h : Fin 16) (i : Fin 40) (o : ℕ) (ho : o = 40 * h.val) (p) (d : Fin 1024) :
    AV x0 x1 x2 x4 x5 x7 x8 (ix2 (⟨o + i.val, p⟩ : Fin 640) d) = av x0 x1 x2 x4 x5 x7 x8 h i d := by
  show av x0 x1 x2 x4 x5 x7 x8 (hd ⟨o + i.val, p⟩) (ps ⟨o + i.val, p⟩) d = _
  rw [hd_mk h i o ho, ps_mk h i o ho]

end Cert.AttnSpec

end
-- ==== Proof.AttnRows.lean ====
/- The selected rows copied one by one: the scratch of copied rows after the 640 copies. -/
module

public import proofs.«01_k».proof.Proof.AttnSpec
public import proofs.«01_k».proof.Proof.AttnIdealRun

@[expose] public section

set_option maxRecDepth 65536

noncomputable section

namespace Cert.AttnRows

open Cert.AttnIdeal Cert.AttnIdeal.Gen Cert.AttnIdealRun Cert.AttnSpec Cert.AttnFill Idealize.ShloMosaic Idealize.ShloMosaic.TcCoe

variable (c : Dev nD) {arg1 : Memref sig .tc .vmem S2048x1024 .f32} (harg1 : arg1.IsWhole) {arg8 : Memref sig .tc .smem S16x40 .i32} (harg8 : arg8.IsWhole)
  (x0 : Vec Ideal S2048x1024 .f32) (x7 : Vec Ideal S16x40 .i32)

/-- One row copied: the table's word at head `h`, place `i`, names the row. -/
theorem row_piece {h i k : ℕ}
    {ia : ∀ a, (![h, i] : Fin 2 → ℕ) a + S1x1.size a ≤ S16x40.size a} {hf}
    {ib : ∀ a, (![(Scalar.indexCast (View.readAt (Elt Ideal) arg8.view (Rect.unit (s := S16x40) ![h, i] S1x1.size ia).toLoadRect (harg8.unread x7) (Shape.Idx.first hf) : BitVec 32)).toNat, 0] : Fin 2 → ℕ) a + S1x1024.size a ≤ S2048x1024.size a}
    {ic : ∀ a, (![k, 0] : Fin 2 → ℕ) a + S1x1024.size a ≤ S640x1024.size a}
    (hx : ∀ (r : Rect S16x40) (y : r.shape.Idx), (View.readAt (Elt Ideal) arg8.view r.toLoadRect (harg8.unread x7) y : BitVec 32).toNat < 2048)
    (hk : k = 40 * h + i) (x : S1x1024.Idx) :
    (shapeCast S1x1024 (View.readAt (Elt Ideal) arg1.view (Rect.unit (s := S2048x1024) ![(Scalar.indexCast (View.readAt (Elt Ideal) arg8.view (Rect.unit (s := S16x40) ![h, i] S1x1.size ia).toLoadRect (harg8.unread x7) (Shape.Idx.first hf) : BitVec 32)).toNat, 0] S1x1024.size ib).toLoadRect (harg1.unread x0)) shapeCasts_S1x1024_S1x1024 : FVec Ideal S1x1024 .f32) x
      = XS x0 x7 ((Rect.unit (s := S640x1024) ![k, 0] S1x1024.size ic).emb x) := by
  obtain ⟨a, b, rfl⟩ : ∃ (a : Fin 1) (b : Fin 1024), x = ix2 a b := ⟨x 0, x 1, by funext k; match k with | ⟨0, _⟩ => rfl | ⟨1, _⟩ => rfl⟩
  have hh : h < 16 := by have q : h + 1 ≤ 16 := ia 0; omega
  have hi : i < 40 := by have q : i + 1 ≤ 40 := ia 1; omega
  have ew : View.readAt (Elt Ideal) arg8.view (Rect.unit (s := S16x40) ![h, i] S1x1.size ia).toLoadRect (harg8.unread x7) (Shape.Idx.first hf)
      = x7 (ix2 (⟨h, hh⟩ : Fin 16) (⟨i, hi⟩ : Fin 40)) := by
    rw [harg8.readAt_unread]
    refine congrArg x7 (funext fun k => Fin.ext ?_)
    match k with
    | ⟨0, _⟩ => rfl
    | ⟨1, _⟩ => rfl
  have hw := hx (Rect.unit (s := S16x40) ![h, i] S1x1.size ia) (Shape.Idx.first hf)
  refine (congrFun (shapeCast_self _ _) _).trans ?_
  refine (load_rows harg1 x0 _ ib a b (by rw [show a.val = 0 by omega]; exact hw) b.isLt).trans ?_
  have a0 : a.val = 0 := by omega
  subst hk
  rw [emb_rows (40 * h + i) ic a b (by omega) b.isLt]
  unfold XS xs
  refine congrArg x0 ?_
  have e1 : hd (⟨40 * h + i + a.val, by omega⟩ : Fin 640) = ⟨h, hh⟩ := Fin.ext (by show (40 * h + i + a.val) / 40 = h; omega)
  have e2 : ps (⟨40 * h + i + a.val, by omega⟩ : Fin 640) = ⟨i, hi⟩ := Fin.ext (by show (40 * h + i + a.val) % 40 = i; omega)
  show _ = ix2 (rowOf (x7 (ix2 (hd (⟨40 * h + i + a.val, by omega⟩ : Fin 640)) (ps (⟨40 * h + i + a.val, by omega⟩ : Fin 640))))) b
  rw [e1, e2, ← ew]
  refine congrArg (fun r : Fin 2048 => ix2 r b) (Fin.ext ?_)
  show (View.readAt (Elt Ideal) arg8.view _ _ _ : BitVec 32).toNat + a.val = (View.readAt (Elt Ideal) arg8.view _ _ _ : BitVec 32).toNat % 2048
  rw [Nat.mod_eq_of_lt hw, a0, Nat.add_zero]

set_option maxHeartbeats 4000000 in
/-- The copied rows. -/
theorem rows_below (hx : ∀ (r : Rect S16x40) (y : r.shape.Idx), (View.readAt (Elt Ideal) arg8.view r.toLoadRect (harg8.unread x7) y : BitVec 32).toNat < 2048) :
    Below 1024 640 (XS x0 x7) (kernelRun.sl.H10_640 (F := Ideal) c arg1 harg1 arg8 harg8 x0 x7 hx) := by
  iterate 640 refine below_cons (row_piece harg1 harg8 x0 x7 hx rfl) rfl (le_refl 1024) ?_
  exact below_zero _ _ _

end Cert.AttnRows

end
-- ==== Proof.AttnBlocks.lean ====
/- The blocks the attention body computes for one head, entry by entry. -/
module

public import proofs.«01_k».proof.Proof.AttnSpec
public import proofs.«01_k».proof.Proof.Gen.AttnIdeal.Frame

@[expose] public section

noncomputable section

namespace Cert.AttnBlocks

open Cert.AttnIdeal Cert.AttnIdeal.Gen Cert.AttnSpec Cert.AttnFill Idealize.ShloMosaic Idealize.ShloMosaic.TcCoe
open scoped BigOperators

/-- Forty rows through a head's weights, with its bias. -/
def linear (x : FVec Ideal S40x1024 .f32) (w : FVec Ideal S64x1024 .f32) (b : FVec Ideal S1x64 .f32) : FVec Ideal S40x64 .f32 :=
  addf (matmul dot_S40x1024_S64x1024_S40x64_1_1_0_0_n_n none x w (constant S40x64 .f32 0x00000000#32)) (broadcastTo S40x64 b broadcasts_S1x64_S40x64)

/-- Forty queries through a head's key weights, -/
def keyed (q : FVec Ideal S40x64 .f32) (w : FVec Ideal S64x1024 .f32) : FVec Ideal S40x1024 .f32 :=
  shapeCast S40x1024 (matmul dot_S40x64_S64x1024_S40x1024_1_0_0_1_n_n none q w (constant S40x1024 .f32 0x00000000#32)) shapeCasts_S40x1024_S40x1024

/-- and through its key bias. -/
def biased (q : FVec Ideal S40x64 .f32) (b : FVec Ideal S1x64 .f32) : FVec Ideal S40x1 .f32 :=
  shapeCast S40x1 (matmul dot_S40x64_S1x64_S40x1_1_1_0_0_n_n none q b (constant S40x1 .f32 0x00000000#32)) shapeCasts_S40x1_S40x1

/-- A head's rows of the result. -/
def headed (l : FVec Ideal S40x64 .f32) : FVec Ideal S1x40x64 .f32 := shapeCast S1x40x64 l shapeCasts_S40x64_S1x40x64

/-- Every score of the selected rows. -/
def scores (b : FVec Ideal S640x1 .f32) (q : FVec Ideal S640x1024 .f32) (x : FVec Ideal S2048x1024 .f32) : FVec Ideal S640x2048 .f32 :=
  shapeCast S640x2048 (mulf (addf (matmul dot_S640x1024_S2048x1024_S640x2048_1_1_0_0_n_n none q x (constant S640x2048 .f32 0x00000000#32)) (broadcastTo S640x2048 b broadcasts_S640x1_S640x2048)) (broadcast S640x2048 (Scalar.ofBits .f32 0x3E000000#32))) shapeCasts_S640x2048_S640x2048

/-- Every weighted row. -/
def mixed (p : FVec Ideal S640x2048 .f32) (x : FVec Ideal S2048x1024 .f32) : FVec Ideal S640x1024 .f32 :=
  shapeCast S640x1024 (matmul dot_S640x2048_S2048x1024_S640x1024_1_0_0_1_n_n none p x (constant S640x1024 .f32 0x00000000#32)) shapeCasts_S640x1024_S640x1024

theorem linear_at (x : FVec Ideal S40x1024 .f32) (w : FVec Ideal S64x1024 .f32) (b : FVec Ideal S1x64 .f32) (i : Fin 40) (e : Fin 64) :
    linear x w b (ix2 i e) = (∑ d : Fin 1024, (show EReal from x (ix2 i d)) * (show EReal from w (ix2 e d))) + (show EReal from b (ix2 0 e)) := by
  pointwise [linear]

theorem keyed_at (q : FVec Ideal S40x64 .f32) (w : FVec Ideal S64x1024 .f32) (i : Fin 40) (d : Fin 1024) :
    keyed q w (ix2 i d) = ∑ e : Fin 64, (show EReal from q (ix2 i e)) * (show EReal from w (ix2 e d)) := by
  pointwise [keyed]

theorem biased_at (q : FVec Ideal S40x64 .f32) (b : FVec Ideal S1x64 .f32) (i : Fin 40) (z : Fin 1) :
    biased q b (ix2 i z) = ∑ e : Fin 64, (show EReal from q (ix2 i e)) * (show EReal from b (ix2 0 e)) := by
  obtain rfl : z = 0 := Subsingleton.elim _ _
  pointwise [biased]

theorem headed_at (l : FVec Ideal S40x64 .f32) (z : Fin 1) (i : Fin 40) (e : Fin 64) : headed l (ix3 z i e) = l (ix2 i e) := by
  pointwise [headed]

theorem scores_at (b : FVec Ideal S640x1 .f32) (q : FVec Ideal S640x1024 .f32) (x : FVec Ideal S2048x1024 .f32) (k : Fin 640) (j : Fin 2048) :
    scores b q x (ix2 k j) = ((∑ d : Fin 1024, (show EReal from q (ix2 k d)) * (show EReal from x (ix2 j d))) + (show EReal from b (ix2 k 0))) * Ideal.ofBits .f32 0x3E000000#32 := by
  pointwise [scores]

theorem mixed_at (p : FVec Ideal S640x2048 .f32) (x : FVec Ideal S2048x1024 .f32) (k : Fin 640) (d : Fin 1024) :
    mixed p x (ix2 k d) = ∑ j : Fin 2048, (show EReal from p (ix2 k j)) * (show EReal from x (ix2 j d)) := by
  pointwise [mixed]

/-- A column of the selected rows' numbers: the table's row of words, turned by a product with the identity. -/
def turned (w : IVec S1x40 32) : FVec Ideal S40x1 .f32 :=
  matmul dot_S40x40_S1x40_S40x1_1_1_0_0_n_n (some .fp32) (sitofp (F := Ideal) .f32 (extui 32 (cmpi .eq (iota .tc S40x40 32 [0] iota_S40x40_d0_w32) (iota .tc S40x40 32 [1] iota_S40x40_d1_w32)) natLt_1_32)) (sitofp .f32 w) (constant S40x1 .f32 0x00000000#32)

/-- The scores of the rows up to the selected one, −∞ after it. -/
def upto (s : FVec Ideal S40x2048 .f32) (w : IVec S1x40 32) : FVec Ideal S40x2048 .f32 :=
  select (cmpf .ole (sitofp (F := Ideal) .f32 (iota .tc S40x2048 32 [1] iota_S40x2048_d1_w32)) (broadcastTo S40x2048 (turned w) broadcasts_S40x1_S40x2048)) s (broadcast S40x2048 (Scalar.ofBits .f32 0xFF800000#32))

theorem same_place (i k : Fin 40) : IntOp.cmpi .eq (BitVec.ofNat 32 i.val) (BitVec.ofNat 32 k.val) = if i = k then 1#1 else 0#1 := by
  revert i k; decide +kernel

theorem eye (i k : Fin 40) : (FloatOps.sitofp (F := Ideal) .f32 (BitVec.setWidth 32 (IntOp.cmpi .eq (BitVec.ofNat 32 i.val) (BitVec.ofNat 32 k.val))) : EReal)
    = if i = k then 1 else 0 := by
  have e : (FloatOps.sitofp (F := Ideal) .f32 (BitVec.setWidth 32 (IntOp.cmpi .eq (BitVec.ofNat 32 i.val) (BitVec.ofNat 32 k.val))) : EReal)
      = (((BitVec.setWidth 32 (IntOp.cmpi .eq (BitVec.ofNat 32 i.val) (BitVec.ofNat 32 k.val))).toInt : ℝ) : EReal) := rfl
  rw [e, same_place]
  split
  · have : (BitVec.setWidth 32 (1#1)).toInt = 1 := by decide
    rw [this]; norm_num
  · have : (BitVec.setWidth 32 (0#1)).toInt = 0 := by decide
    rw [this]; norm_num

theorem turned_at (w : IVec S1x40 32) (i : Fin 40) (z : Fin 1) :
    turned w (ix2 i z) = (((w (ix2 0 i) : BitVec 32).toInt : ℝ) : EReal) := by
  obtain rfl : z = 0 := Subsingleton.elim _ _
  pointwise [turned]
  refine (Finset.sum_eq_single i (fun k _ hk => ?_) (fun h => absurd (Finset.mem_univ i) h)).trans ?_
  · rw [eye, if_neg (Ne.symm hk), zero_mul]
  · rw [eye, if_pos rfl, one_mul]; rfl

theorem ninf : Ideal.ofBits .f32 0xFF800000#32 = (⊥ : EReal) := by
  simp [Ideal.ofBits, Ideal.ieee, -EReal.coe_mul]

theorem upto_at (s : FVec Ideal S40x2048 .f32) (w : IVec S1x40 32) (i : Fin 40) (j : Fin 2048) (hw : (w (ix2 0 i) : BitVec 32).toNat < 2048) :
    upto s w (ix2 i j) = if j.val ≤ (w (ix2 0 i) : BitVec 32).toNat then s (ix2 i j) else (⊥ : EReal) := by
  have e : (FloatOps.sitofp (F := Ideal) .f32 (BitVec.ofNat 32 j.val) ≤ turned w (ix2 i 0)) ↔ j.val ≤ (w (ix2 0 i) : BitVec 32).toNat := by
    rw [turned_at]
    show ((((BitVec.ofNat 32 j.val).toInt : ℝ) : EReal) ≤ _) ↔ _
    rw [EReal.coe_le_coe_iff, Int.cast_le]
    have hj : (BitVec.ofNat 32 j.val).toInt = j.val := by
      have := j.isLt
      rw [BitVec.toInt_eq_toNat_cond, BitVec.toNat_ofNat]; split <;> omega
    have hi : (w (ix2 0 i) : BitVec 32).toInt = (w (ix2 0 i) : BitVec 32).toNat := by
      rw [BitVec.toInt_eq_toNat_cond]; split <;> omega
    rw [hj, hi, Int.ofNat_le]
  pointwise [upto]
  simp only [e, ninf]

/-- The exponentials of the rows less their maximum. -/
def expo (p : FVec Ideal S40x2048 .f32) : FVec Ideal S40x2048 .f32 :=
  exp (subf p (broadcastTo S40x2048 (shapeCast S40x1 (multiReduction .maximumf [1] S40 p 0xFF800000#32 reduces_S40x2048_S40 (.inl rfl) rfl) shapeCasts_S40_S40x1) broadcasts_S40x1_S40x2048))

/-- A head's weights. -/
def soft (p : FVec Ideal S40x2048 .f32) : FVec Ideal S40x2048 .f32 :=
  shapeCast S40x2048 (divf (expo p) (broadcastTo S40x2048 (shapeCast S40x1 (multiReduction .add [1] S40 (expo p) 0x00000000#32 reduces_S40x2048_S40 (.inl rfl) rfl) shapeCasts_S40_S40x1) broadcasts_S40x1_S40x2048)) shapeCasts_S40x2048_S40x2048

theorem expo_at (p : FVec Ideal S40x2048 .f32) (i : Fin 40) (j : Fin 2048) :
    expo p (ix2 i j) = Ideal.exp ((show EReal from p (ix2 i j)) - Finset.univ.fold max (⊥ : EReal) fun k : Fin 2048 => (show EReal from p (ix2 i k))) := by
  pointwise [expo]
  try simp only [ninf]
  try rfl

theorem soft_at (p : FVec Ideal S40x2048 .f32) (i : Fin 40) (j : Fin 2048) :
    soft p (ix2 i j) = AttnMath.weight (fun k : Fin 2048 => (show EReal from p (ix2 i k))) j := by
  pointwise [soft]
  simp only [expo_at]
  try rfl

end Cert.AttnBlocks

end
-- ==== Proof.AttnQuery.lean ====
/- The query-key products of the sixteen heads and the bias products beside them. -/
module

public import proofs.«01_k».proof.Proof.AttnRows
public import proofs.«01_k».proof.Proof.AttnBlocks

@[expose] public section

set_option maxRecDepth 16384

noncomputable section

namespace Cert.AttnQuery

open Cert.AttnIdeal Cert.AttnIdeal.Gen Cert.AttnIdealRun Cert.AttnSpec Cert.AttnFill Cert.AttnBlocks Idealize.ShloMosaic Idealize.ShloMosaic.TcCoe
open scoped BigOperators

variable (c : Dev nD) {arg1 : Memref sig .tc .vmem S2048x1024 .f32} (harg1 : arg1.IsWhole) {arg2 : Memref sig .tc .vmem S1024x1024 .f32} (harg2 : arg2.IsWhole) {arg3 : Memref sig .tc .vmem S1024x1024 .f32} (harg3 : arg3.IsWhole) {arg4 : Memref sig .tc .vmem S1024x1024 .f32} (harg4 : arg4.IsWhole) {arg5 : Memref sig .tc .vmem S16x64 .f32} (harg5 : arg5.IsWhole) {arg6 : Memref sig .tc .vmem S16x64 .f32} (harg6 : arg6.IsWhole) {arg7 : Memref sig .tc .vmem S16x64 .f32} (harg7 : arg7.IsWhole) {arg8 : Memref sig .tc .smem S16x40 .i32} (harg8 : arg8.IsWhole) {arg9 : Memref sig .tc .vmem S16x40 .i32} (harg9 : arg9.IsWhole)
  (arg11 : Memref sig .tc .vmem S640x1024 .f32) (arg12 : Memref sig .tc .vmem S640x1024 .f32) (arg13 : Memref sig .tc .vmem S640x2048 .f32) (arg14 : Memref sig .tc .vmem S640x1024 .f32)
  (x0 : Vec Ideal S2048x1024 .f32) (x1 : Vec Ideal S1024x1024 .f32) (x2 : Vec Ideal S1024x1024 .f32) (x3 : Vec Ideal S1024x1024 .f32) (x4 : Vec Ideal S16x64 .f32) (x5 : Vec Ideal S16x64 .f32) (x6 : Vec Ideal S16x64 .f32) (x7 : Vec Ideal S16x40 .i32) (x8 : Vec Ideal S16x40 .i32)

/-- A head's queries. -/
theorem query_at {LX : List (View.Piece (Elt Ideal) S640x1024 .f32)} (hX : Below 1024 640 (XS x0 x7) LX) {o u h : ℕ} (hh : h < 16) (ho : o = 40 * h) (hu : u = 64 * h)
    {ia : ∀ a, (![o, 0] : Fin 2 → ℕ) a + S40x1024.size a ≤ S640x1024.size a}
    {ib : ∀ a, (![u, 0] : Fin 2 → ℕ) a + S64x1024.size a ≤ S1024x1024.size a}
    {ic : ∀ a, (![h, 0] : Fin 2 → ℕ) a + S1x64.size a ≤ S16x64.size a}
    (i : Fin 40) (e : Fin 64) :
    (linear (View.readCov arg11.view LX (Rect.unit (s := S640x1024) ![o, 0] S40x1024.size ia).toLoadRect) (View.readAt (Elt Ideal) arg2.view (Rect.unit (s := S1024x1024) ![u, 0] S64x1024.size ib).toLoadRect (harg2.unread x1)) (View.readAt (Elt Ideal) arg5.view (Rect.unit (s := S16x64) ![h, 0] S1x64.size ic).toLoadRect (harg5.unread x4))) (ix2 i e) = qs x0 x1 x4 x7 ⟨h, hh⟩ i e := by
  rw [linear_at]
  have e0 : (⟨h + (0 : Fin 1).val, by show h + 0 < 16; omega⟩ : Fin 16) = ⟨h, hh⟩ := rfl
  have e1 : (⟨u + e.val, by omega⟩ : Fin 1024) = col ⟨h, hh⟩ e := Fin.ext (by show u + e.val = h * 64 + e.val; omega)
  refine congrArg₂ (· + ·) (Finset.sum_congr rfl fun d _ => congrArg₂ (· * ·) ?_ ?_) ?_
  · refine (load_below arg11.view hX o ia i d (by omega) d.isLt (by omega) d.isLt).trans ?_
    exact XS_at x0 x7 ⟨h, hh⟩ i o ho _ d
  · refine (load_rows harg2 x1 u ib e d (by omega) d.isLt).trans ?_
    rw [e1]
  · exact load_rows harg5 x4 h ic 0 e (by show h + 0 < 16; omega) e.isLt

theorem keyed_piece {LX : List (View.Piece (Elt Ideal) S640x1024 .f32)} (hX : Below 1024 640 (XS x0 x7) LX) {o u h : ℕ} (hh : h < 16) (ho : o = 40 * h) (hu : u = 64 * h)
    {ia : ∀ a, (![o, 0] : Fin 2 → ℕ) a + S40x1024.size a ≤ S640x1024.size a}
    {ib : ∀ a, (![u, 0] : Fin 2 → ℕ) a + S64x1024.size a ≤ S1024x1024.size a}
    {ic : ∀ a, (![h, 0] : Fin 2 → ℕ) a + S1x64.size a ≤ S16x64.size a}
    (x : S40x1024.Idx) :
    keyed (linear (View.readCov arg11.view LX (Rect.unit (s := S640x1024) ![o, 0] S40x1024.size ia).toLoadRect) (View.readAt (Elt Ideal) arg2.view (Rect.unit (s := S1024x1024) ![u, 0] S64x1024.size ib).toLoadRect (harg2.unread x1)) (View.readAt (Elt Ideal) arg5.view (Rect.unit (s := S16x64) ![h, 0] S1x64.size ic).toLoadRect (harg5.unread x4))) (View.readAt (Elt Ideal) arg3.view (Rect.unit (s := S1024x1024) ![u, 0] S64x1024.size ib).toLoadRect (harg3.unread x2)) x
      = QK x0 x1 x2 x4 x7 ((Rect.unit (s := S640x1024) ![o, 0] S40x1024.size ia).emb x) := by
  obtain ⟨i, d, rfl⟩ : ∃ (a : Fin 40) (b : Fin 1024), x = ix2 a b := ⟨x 0, x 1, by funext k; match k with | ⟨0, _⟩ => rfl | ⟨1, _⟩ => rfl⟩
  rw [keyed_at, emb_rows o ia i d (by omega) d.isLt]
  refine Eq.trans ?_ (QK_at x0 x1 x2 x4 x7 ⟨h, hh⟩ i o ho _ d).symm
  refine Finset.sum_congr rfl fun e _ => congrArg₂ (· * ·) ?_ ?_
  · exact query_at harg2 harg5 arg11 x0 x1 x4 x7 hX hh ho hu i e
  · have e1 : (⟨u + e.val, by omega⟩ : Fin 1024) = col ⟨h, hh⟩ e := Fin.ext (by show u + e.val = h * 64 + e.val; omega)
    refine (load_rows harg3 x2 u ib e d (by omega) d.isLt).trans ?_
    rw [e1]

theorem biased_piece {LX : List (View.Piece (Elt Ideal) S640x1024 .f32)} (hX : Below 1024 640 (XS x0 x7) LX) {o u h : ℕ} (hh : h < 16) (ho : o = 40 * h) (hu : u = 64 * h)
    {ia : ∀ a, (![o, 0] : Fin 2 → ℕ) a + S40x1024.size a ≤ S640x1024.size a}
    {ib : ∀ a, (![u, 0] : Fin 2 → ℕ) a + S64x1024.size a ≤ S1024x1024.size a}
    {ic : ∀ a, (![h, 0] : Fin 2 → ℕ) a + S1x64.size a ≤ S16x64.size a}
    {id' : ∀ a, (![o, 0] : Fin 2 → ℕ) a + S40x1.size a ≤ S640x2048.size a}
    (x : S40x1.Idx) :
    biased (linear (View.readCov arg11.view LX (Rect.unit (s := S640x1024) ![o, 0] S40x1024.size ia).toLoadRect) (View.readAt (Elt Ideal) arg2.view (Rect.unit (s := S1024x1024) ![u, 0] S64x1024.size ib).toLoadRect (harg2.unread x1)) (View.readAt (Elt Ideal) arg5.view (Rect.unit (s := S16x64) ![h, 0] S1x64.size ic).toLoadRect (harg5.unread x4))) (View.readAt (Elt Ideal) arg6.view (Rect.unit (s := S16x64) ![h, 0] S1x64.size ic).toLoadRect (harg6.unread x5)) x
      = SB x0 x1 x4 x5 x7 ((Rect.unit (s := S640x2048) ![o, 0] S40x1.size id').emb x) := by
  obtain ⟨i, z, rfl⟩ : ∃ (a : Fin 40) (b : Fin 1), x = ix2 a b := ⟨x 0, x 1, by funext k; match k with | ⟨0, _⟩ => rfl | ⟨1, _⟩ => rfl⟩
  rw [biased_at, emb_rows o id' i z (by omega) (by omega)]
  refine Eq.trans ?_ (SB_at x0 x1 x4 x5 x7 ⟨h, hh⟩ i o ho _ _).symm
  refine Finset.sum_congr rfl fun e _ => congrArg₂ (· * ·) ?_ ?_
  · exact query_at harg2 harg5 arg11 x0 x1 x4 x7 hX hh ho hu i e
  · exact load_rows harg6 x5 h ic 0 e (by show h + 0 < 16; omega) e.isLt

set_option maxHeartbeats 4000000 in
/-- The query-key products of all heads. -/
theorem keyed_below (hx : ∀ (r : Rect S16x40) (y : r.shape.Idx), (View.readAt (Elt Ideal) arg8.view r.toLoadRect (harg8.unread x7) y : BitVec 32).toNat < 2048) :
    Below 1024 640 (QK x0 x1 x2 x4 x7) (kernelRun.sl.H11_16 (F := Ideal) c arg1 harg1 arg2 harg2 arg3 harg3 arg5 harg5 arg8 harg8 arg11 x0 x1 x2 x4 x7 hx) := by
  have hX := AttnRows.rows_below c harg1 harg8 x0 x7 hx
  iterate 16 refine below_cons (keyed_piece harg2 harg3 harg5 arg11 x0 x1 x2 x4 x7 hX (by decide) (by rfl) (by rfl)) (by rfl) (le_refl 1024) ?_
  exact below_zero _ _ _

set_option maxHeartbeats 4000000 in
/-- The bias products of all heads. -/
theorem biased_below (hx : ∀ (r : Rect S16x40) (y : r.shape.Idx), (View.readAt (Elt Ideal) arg8.view r.toLoadRect (harg8.unread x7) y : BitVec 32).toNat < 2048) :
    Below 1 640 (SB x0 x1 x4 x5 x7) (kernelRun.sl.H12_16 (F := Ideal) c arg1 harg1 arg2 harg2 arg5 harg5 arg6 harg6 arg8 harg8 arg11 x0 x1 x4 x5 x7 hx) := by
  have hX := AttnRows.rows_below c harg1 harg8 x0 x7 hx
  iterate 16 refine below_cons (biased_piece harg2 harg5 harg6 arg11 x0 x1 x4 x5 x7 hX (by decide) (by rfl) (by rfl)) (by rfl) (le_refl 1) ?_
  exact below_zero _ _ _

end Cert.AttnQuery

end
-- ==== Proof.AttnWeights.lean ====
/- The scores of the selected rows, and the weights that replace them head after head. -/
module

public import proofs.«01_k».proof.Proof.AttnQuery

@[expose] public section

set_option maxRecDepth 16384

noncomputable section

namespace Cert.AttnWeights

open Cert.AttnIdeal Cert.AttnIdeal.Gen Cert.AttnIdealRun Cert.AttnSpec Cert.AttnFill Cert.AttnBlocks Idealize.ShloMosaic Idealize.ShloMosaic.TcCoe
open scoped BigOperators

variable (c : Dev nD) {arg1 : Memref sig .tc .vmem S2048x1024 .f32} (harg1 : arg1.IsWhole) {arg2 : Memref sig .tc .vmem S1024x1024 .f32} (harg2 : arg2.IsWhole) {arg3 : Memref sig .tc .vmem S1024x1024 .f32} (harg3 : arg3.IsWhole) {arg4 : Memref sig .tc .vmem S1024x1024 .f32} (harg4 : arg4.IsWhole) {arg5 : Memref sig .tc .vmem S16x64 .f32} (harg5 : arg5.IsWhole) {arg6 : Memref sig .tc .vmem S16x64 .f32} (harg6 : arg6.IsWhole) {arg7 : Memref sig .tc .vmem S16x64 .f32} (harg7 : arg7.IsWhole) {arg8 : Memref sig .tc .smem S16x40 .i32} (harg8 : arg8.IsWhole) {arg9 : Memref sig .tc .vmem S16x40 .i32} (harg9 : arg9.IsWhole)
  (arg11 : Memref sig .tc .vmem S640x1024 .f32) (arg12 : Memref sig .tc .vmem S640x1024 .f32) (arg13 : Memref sig .tc .vmem S640x2048 .f32) (arg14 : Memref sig .tc .vmem S640x1024 .f32)
  (x0 : Vec Ideal S2048x1024 .f32) (x1 : Vec Ideal S1024x1024 .f32) (x2 : Vec Ideal S1024x1024 .f32) (x3 : Vec Ideal S1024x1024 .f32) (x4 : Vec Ideal S16x64 .f32) (x5 : Vec Ideal S16x64 .f32) (x6 : Vec Ideal S16x64 .f32) (x7 : Vec Ideal S16x40 .i32) (x8 : Vec Ideal S16x40 .i32)

/-- The scores, all at once. -/
theorem scores_all (hx : ∀ (r : Rect S16x40) (y : r.shape.Idx), (View.readAt (Elt Ideal) arg8.view r.toLoadRect (harg8.unread x7) y : BitVec 32).toNat < 2048) (y : S640x2048.Idx) :
    View.canon (kernelRun.sl.H12_17 (F := Ideal) c arg1 harg1 arg2 harg2 arg3 harg3 arg5 harg5 arg6 harg6 arg8 harg8 arg11 arg12 arg13 x0 x1 x2 x4 x5 x7 hx) y = SC x0 x1 x2 x4 x5 x7 y := by
  have hK := AttnQuery.keyed_below c harg1 harg2 harg3 harg5 harg8 arg11 x0 x1 x2 x4 x7 hx
  have hB := AttnQuery.biased_below c harg1 harg2 harg5 harg6 harg8 arg11 x0 x1 x4 x5 x7 hx
  refine (whole_at (inb := inb_S640x2048_S640x2048_0_0) (L := kernelRun.sl.H12_16 (F := Ideal) c arg1 harg1 arg2 harg2 arg5 harg5 arg6 harg6 arg8 harg8 arg11 x0 x1 x4 x5 x7 hx)
    (scores (View.readCov arg13.view (kernelRun.sl.H12_16 (F := Ideal) c arg1 harg1 arg2 harg2 arg5 harg5 arg6 harg6 arg8 harg8 arg11 x0 x1 x4 x5 x7 hx) (Rect.unit (s := S640x2048) ![0, 0] S640x1.size inb_S640x2048_S640x1_0_0).toLoadRect)
      (View.readCov arg12.view (kernelRun.sl.H11_16 (F := Ideal) c arg1 harg1 arg2 harg2 arg3 harg3 arg5 harg5 arg8 harg8 arg11 x0 x1 x2 x4 x7 hx) (Rect.unit (s := S640x1024) ![0, 0] S640x1024.size inb_S640x1024_S640x1024_0_0).toLoadRect)
      (View.readAt (Elt Ideal) arg1.view (Rect.unit (s := S2048x1024) ![0, 0] S2048x1024.size inb_S2048x1024_S2048x1024_0_0).toLoadRect (harg1.unread x0))) y).trans ?_
  obtain ⟨k, j, rfl⟩ : ∃ (a : Fin 640) (b : Fin 2048), y = ix2 a b := ⟨y 0, y 1, by funext k; match k with | ⟨0, _⟩ => rfl | ⟨1, _⟩ => rfl⟩
  have e0 : ∀ p, (⟨0 + k.val, p⟩ : Fin 640) = k := fun p => Fin.ext (Nat.zero_add _)
  have e1 : ∀ p, (⟨0 + j.val, p⟩ : Fin 2048) = j := fun p => Fin.ext (Nat.zero_add _)
  rw [scores_at]
  show _ = ((∑ d : Fin 1024, qk x0 x1 x2 x4 x7 (hd k) (ps k) d * _) + sb x0 x1 x4 x5 x7 (hd k) (ps k)) * _
  refine congrArg (· * _) (congrArg₂ (· + ·) (Finset.sum_congr rfl fun d _ => congrArg₂ (· * ·) ?_ ?_) ?_)
  · refine (load_below arg12.view hK 0 _ k d (by omega) d.isLt (by omega) d.isLt).trans ?_
    rw [e0]; rfl
  · refine (load_rows harg1 x0 0 _ j d (by omega) d.isLt).trans ?_
    rw [e1]; rfl
  · refine (load_below arg13.view hB 0 _ k 0 (by omega) (by decide) (by omega) (by decide)).trans ?_
    rw [e0]; rfl

/-- A head's weights from the scores not yet replaced. -/
theorem weight_piece (h8 : ∀ (h : Fin 16) (i : Fin 40), (x8 (ix2 h i) : BitVec 32).toNat < 2048) {LS : List (View.Piece (Elt Ideal) S640x2048 .f32)} {n o h : ℕ} (hS : From n (SC x0 x1 x2 x4 x5 x7) LS) (hn : n = o)
    (hh : h < 16) (ho : o = 40 * h)
    {ia : ∀ a, (![o, 0] : Fin 2 → ℕ) a + S40x2048.size a ≤ S640x2048.size a}
    {ib : ∀ a, (![h, 0] : Fin 2 → ℕ) a + S1x40.size a ≤ S16x40.size a}
    (x : S40x2048.Idx) :
    (soft (upto (View.readCov arg13.view LS (Rect.unit (s := S640x2048) ![o, 0] S40x2048.size ia).toLoadRect) (View.readAt (Elt Ideal) arg9.view (Rect.unit (s := S16x40) ![h, 0] S1x40.size ib).toLoadRect (harg9.unread x8)))) x = PR x0 x1 x2 x4 x5 x7 x8 ((Rect.unit (s := S640x2048) ![o, 0] S40x2048.size ia).emb x) := by
  obtain ⟨i, j, rfl⟩ : ∃ (a : Fin 40) (b : Fin 2048), x = ix2 a b := ⟨x 0, x 1, by funext k; match k with | ⟨0, _⟩ => rfl | ⟨1, _⟩ => rfl⟩
  rw [soft_at, emb_rows o ia i j (by omega) j.isLt]
  refine Eq.trans ?_ (PR_at x0 x1 x2 x4 x5 x7 x8 ⟨h, hh⟩ i o ho _ j).symm
  unfold pr
  refine congrArg (fun s => AttnMath.weight s j) (funext fun k => ?_)
  have ew : View.readAt (Elt Ideal) arg9.view (Rect.unit (s := S16x40) ![h, 0] S1x40.size ib).toLoadRect (harg9.unread x8) (ix2 0 i) = x8 (ix2 (⟨h, hh⟩ : Fin 16) i) :=
    load_rows harg9 x8 h ib 0 i (by show h + 0 < 16; omega) i.isLt
  refine (upto_at _ _ i k (by rw [ew]; exact h8 _ _)).trans ?_
  rw [ew]
  unfold ms
  refine congrArg (fun t : EReal => if k.val ≤ (x8 (ix2 (⟨h, hh⟩ : Fin 16) i) : BitVec 32).toNat then t else ⊥) ?_
  refine (load_from arg13.view hS o ia i k (by omega) k.isLt (le_of_eq hn)).trans ?_
  exact SC_at x0 x1 x2 x4 x5 x7 ⟨h, hh⟩ i o ho _ k

/-- What one more head's store keeps: the weights so far, and the scores after them. -/
theorem weight_step (h8 : ∀ (h : Fin 16) (i : Fin 40), (x8 (ix2 h i) : BitVec 32).toNat < 2048) {LS : List (View.Piece (Elt Ideal) S640x2048 .f32)} {n h m : ℕ}
    {ia : ∀ a, (![n, 0] : Fin 2 → ℕ) a + S40x2048.size a ≤ S640x2048.size a}
    {ib : ∀ a, (![h, 0] : Fin 2 → ℕ) a + S1x40.size a ≤ S16x40.size a}
    (hS : Below 2048 n (PR x0 x1 x2 x4 x5 x7 x8) LS ∧ From n (SC x0 x1 x2 x4 x5 x7) LS) (hh : h < 16) (ho : n = 40 * h) (hm : m = n + 40) :
    Below 2048 m (PR x0 x1 x2 x4 x5 x7 x8) ((⟨(Rect.unit (s := S640x2048) ![n, 0] S40x2048.size ia), (soft (upto (View.readCov arg13.view LS (Rect.unit (s := S640x2048) ![n, 0] S40x2048.size ia).toLoadRect) (View.readAt (Elt Ideal) arg9.view (Rect.unit (s := S16x40) ![h, 0] S1x40.size ib).toLoadRect (harg9.unread x8))))⟩ : View.Piece (Elt Ideal) S640x2048 .f32) :: LS)
      ∧ From m (SC x0 x1 x2 x4 x5 x7) ((⟨(Rect.unit (s := S640x2048) ![n, 0] S40x2048.size ia), (soft (upto (View.readCov arg13.view LS (Rect.unit (s := S640x2048) ![n, 0] S40x2048.size ia).toLoadRect) (View.readAt (Elt Ideal) arg9.view (Rect.unit (s := S16x40) ![h, 0] S1x40.size ib).toLoadRect (harg9.unread x8))))⟩ : View.Piece (Elt Ideal) S640x2048 .f32) :: LS) :=
  ⟨below_cons (weight_piece harg9 arg13 x0 x1 x2 x4 x5 x7 x8 h8 hS.2 rfl hh ho) hm (le_refl 2048) hS.1, from_cons hm hS.2⟩

set_option maxHeartbeats 4000000 in
/-- The weights of all heads. -/
theorem weights_below (hx : ∀ (r : Rect S16x40) (y : r.shape.Idx), (View.readAt (Elt Ideal) arg8.view r.toLoadRect (harg8.unread x7) y : BitVec 32).toNat < 2048) (h8 : ∀ (h : Fin 16) (i : Fin 40), (x8 (ix2 h i) : BitVec 32).toNat < 2048) :
    Below 2048 640 (PR x0 x1 x2 x4 x5 x7 x8) (kernelRun.sl.H12_33 (F := Ideal) c arg1 harg1 arg2 harg2 arg3 harg3 arg5 harg5 arg6 harg6 arg8 harg8 arg9 harg9 arg11 arg12 arg13 x0 x1 x2 x4 x5 x7 x8 hx) := by
  have h0 : Below 2048 0 (PR x0 x1 x2 x4 x5 x7 x8) (kernelRun.sl.H12_17 (F := Ideal) c arg1 harg1 arg2 harg2 arg3 harg3 arg5 harg5 arg6 harg6 arg8 harg8 arg11 arg12 arg13 x0 x1 x2 x4 x5 x7 hx) ∧ From 0 (SC x0 x1 x2 x4 x5 x7) (kernelRun.sl.H12_17 (F := Ideal) c arg1 harg1 arg2 harg2 arg3 harg3 arg5 harg5 arg6 harg6 arg8 harg8 arg11 arg12 arg13 x0 x1 x2 x4 x5 x7 hx) :=
    ⟨below_zero _ _ _, fun y _ => scores_all c harg1 harg2 harg3 harg5 harg6 harg8 arg11 arg12 arg13 x0 x1 x2 x4 x5 x7 hx y⟩
  refine And.left (b := From 640 (SC x0 x1 x2 x4 x5 x7) (kernelRun.sl.H12_33 (F := Ideal) c arg1 harg1 arg2 harg2 arg3 harg3 arg5 harg5 arg6 harg6 arg8 harg8 arg9 harg9 arg11 arg12 arg13 x0 x1 x2 x4 x5 x7 x8 hx)) ?_
  iterate 16 refine weight_step harg9 arg13 x0 x1 x2 x4 x5 x7 x8 h8 ?_ (by decide) (by rfl) (by rfl)
  exact h0

end Cert.AttnWeights

end
-- ==== Proof.AttnOut.lean ====
/- The weighted rows, and the result's stores head after head. -/
module

public import proofs.«01_k».proof.Proof.AttnWeights
public import Idealize.ShloMosaic.Lib.Pipeline.ReadBack

@[expose] public section

set_option maxRecDepth 16384

noncomputable section

namespace Cert.AttnOut

open Cert.AttnIdeal Cert.AttnIdeal.Gen Cert.AttnIdealRun Cert.AttnSpec Cert.AttnFill Cert.AttnBlocks Idealize.ShloMosaic Idealize.ShloMosaic.TcCoe
open scoped BigOperators

variable (c : Dev nD) {arg1 : Memref sig .tc .vmem S2048x1024 .f32} (harg1 : arg1.IsWhole) {arg2 : Memref sig .tc .vmem S1024x1024 .f32} (harg2 : arg2.IsWhole) {arg3 : Memref sig .tc .vmem S1024x1024 .f32} (harg3 : arg3.IsWhole) {arg4 : Memref sig .tc .vmem S1024x1024 .f32} (harg4 : arg4.IsWhole) {arg5 : Memref sig .tc .vmem S16x64 .f32} (harg5 : arg5.IsWhole) {arg6 : Memref sig .tc .vmem S16x64 .f32} (harg6 : arg6.IsWhole) {arg7 : Memref sig .tc .vmem S16x64 .f32} (harg7 : arg7.IsWhole) {arg8 : Memref sig .tc .smem S16x40 .i32} (harg8 : arg8.IsWhole) {arg9 : Memref sig .tc .vmem S16x40 .i32} (harg9 : arg9.IsWhole)
  (arg11 : Memref sig .tc .vmem S640x1024 .f32) (arg12 : Memref sig .tc .vmem S640x1024 .f32) (arg13 : Memref sig .tc .vmem S640x2048 .f32) (arg14 : Memref sig .tc .vmem S640x1024 .f32)
  (x0 : Vec Ideal S2048x1024 .f32) (x1 : Vec Ideal S1024x1024 .f32) (x2 : Vec Ideal S1024x1024 .f32) (x3 : Vec Ideal S1024x1024 .f32) (x4 : Vec Ideal S16x64 .f32) (x5 : Vec Ideal S16x64 .f32) (x6 : Vec Ideal S16x64 .f32) (x7 : Vec Ideal S16x40 .i32) (x8 : Vec Ideal S16x40 .i32)

/-- The weighted rows, all at once. -/
theorem mixed_below (hx : ∀ (r : Rect S16x40) (y : r.shape.Idx), (View.readAt (Elt Ideal) arg8.view r.toLoadRect (harg8.unread x7) y : BitVec 32).toNat < 2048) (h8 : ∀ (h : Fin 16) (i : Fin 40), (x8 (ix2 h i) : BitVec 32).toNat < 2048) :
    Below 1024 640 (AV x0 x1 x2 x4 x5 x7 x8) (kernelRun.sl.H13_1 (F := Ideal) c arg1 harg1 arg2 harg2 arg3 harg3 arg5 harg5 arg6 harg6 arg8 harg8 arg9 harg9 arg11 arg12 arg13 x0 x1 x2 x4 x5 x7 x8 hx) := by
  have hP := AttnWeights.weights_below c harg1 harg2 harg3 harg5 harg6 harg8 harg9 arg11 arg12 arg13 x0 x1 x2 x4 x5 x7 x8 hx h8
  intro y _ _
  refine (whole_at (Val := Elt Ideal) (e := .f32) (inb := inb_S640x1024_S640x1024_0_0) (L := [])
    (mixed (View.readCov arg13.view (kernelRun.sl.H12_33 (F := Ideal) c arg1 harg1 arg2 harg2 arg3 harg3 arg5 harg5 arg6 harg6 arg8 harg8 arg9 harg9 arg11 arg12 arg13 x0 x1 x2 x4 x5 x7 x8 hx) (Rect.unit (s := S640x2048) ![0, 0] S640x2048.size inb_S640x2048_S640x2048_0_0).toLoadRect)
      (View.readAt (Elt Ideal) arg1.view (Rect.unit (s := S2048x1024) ![0, 0] S2048x1024.size inb_S2048x1024_S2048x1024_0_0).toLoadRect (harg1.unread x0))) y).trans ?_
  obtain ⟨k, d, rfl⟩ : ∃ (a : Fin 640) (b : Fin 1024), y = ix2 a b := ⟨y 0, y 1, by funext k; match k with | ⟨0, _⟩ => rfl | ⟨1, _⟩ => rfl⟩
  have e0 : ∀ p, (⟨0 + k.val, p⟩ : Fin 640) = k := fun p => Fin.ext (Nat.zero_add _)
  rw [mixed_at]
  have e2 : AV x0 x1 x2 x4 x5 x7 x8 (ix2 k d) = ∑ j : Fin 2048, pr x0 x1 x2 x4 x5 x7 x8 (hd k) (ps k) j * (show EReal from x0 (ix2 j d)) := rfl
  rw [e2]
  refine Finset.sum_congr rfl fun j _ => congrArg₂ (· * ·) ?_ ?_
  · refine (load_below arg13.view hP 0 _ k j (by omega) j.isLt (by omega) j.isLt).trans ?_
    rw [e0]; rfl
  · have e1 : ∀ p, (⟨0 + j.val, p⟩ : Fin 2048) = j := fun p => Fin.ext (Nat.zero_add _)
    refine (load_rows harg1 x0 0 _ j d (by omega) d.isLt).trans ?_
    rw [e1]

/-- A head's rows of the result. -/
theorem out_piece {LA : List (View.Piece (Elt Ideal) S640x1024 .f32)} (hA : Below 1024 640 (AV x0 x1 x2 x4 x5 x7 x8) LA) {o u h : ℕ}
    (hh : h < 16) (ho : o = 40 * h) (hu : u = 64 * h)
    {ia : ∀ a, (![o, 0] : Fin 2 → ℕ) a + S40x1024.size a ≤ S640x1024.size a}
    {ib : ∀ a, (![u, 0] : Fin 2 → ℕ) a + S64x1024.size a ≤ S1024x1024.size a}
    {ic : ∀ a, (![h, 0] : Fin 2 → ℕ) a + S1x64.size a ≤ S16x64.size a}
    {id' : ∀ a, (![h, 0, 0] : Fin 3 → ℕ) a + S1x40x64.size a ≤ S16x40x64.size a}
    (x : S1x40x64.Idx) :
    headed (linear (View.readCov arg14.view LA (Rect.unit (s := S640x1024) ![o, 0] S40x1024.size ia).toLoadRect) (View.readAt (Elt Ideal) arg4.view (Rect.unit (s := S1024x1024) ![u, 0] S64x1024.size ib).toLoadRect (harg4.unread x3)) (View.readAt (Elt Ideal) arg7.view (Rect.unit (s := S16x64) ![h, 0] S1x64.size ic).toLoadRect (harg7.unread x6))) x = OU x0 x1 x2 x3 x4 x5 x6 x7 x8 ((Rect.unit (s := S16x40x64) ![h, 0, 0] S1x40x64.size id').emb x) := by
  obtain ⟨z, i, e, rfl⟩ : ∃ (a : Fin 1) (b : Fin 40) (g : Fin 64), x = ix3 a b g := ⟨x 0, x 1, x 2, by funext k; match k with | ⟨0, _⟩ => rfl | ⟨1, _⟩ => rfl | ⟨2, _⟩ => rfl⟩
  obtain rfl : z = 0 := Subsingleton.elim _ _
  have ee : (Rect.unit (s := S16x40x64) ![h, 0, 0] S1x40x64.size id').emb (ix3 (0 : Fin 1) i e) = ix3 (⟨h, hh⟩ : Fin 16) i e := by
    funext k
    refine Fin.ext ?_
    match k with
    | ⟨0, _⟩ => rfl
    | ⟨1, _⟩ => exact (Nat.zero_add _).trans (Nat.one_mul _)
    | ⟨2, _⟩ => exact (Nat.zero_add _).trans (Nat.one_mul _)
  rw [headed_at, linear_at, ee]
  show _ = (∑ d : Fin 1024, av x0 x1 x2 x4 x5 x7 x8 ⟨h, hh⟩ i d * _) + _
  have e1 : (⟨u + e.val, by omega⟩ : Fin 1024) = col ⟨h, hh⟩ e := Fin.ext (by show u + e.val = h * 64 + e.val; omega)
  refine congrArg₂ (· + ·) (Finset.sum_congr rfl fun d _ => congrArg₂ (· * ·) ?_ ?_) ?_
  · refine (load_below arg14.view hA o ia i d (by omega) d.isLt (by omega) d.isLt).trans ?_
    exact AV_at x0 x1 x2 x4 x5 x7 x8 ⟨h, hh⟩ i o ho _ d
  · refine (load_rows harg4 x3 u ib e d (by omega) d.isLt).trans ?_
    rw [e1]; rfl
  · exact load_rows harg7 x6 h ic 0 e (by show h + 0 < 16; omega) e.isLt

/-- One more store that is a block of the result. -/
theorem pieces_cons {G : S16x40x64.Idx → Elt Ideal .f32} {h : ℕ} {sz : Fin 3 → ℕ}
    {inb : ∀ a, (![h, 0, 0] : Fin 3 → ℕ) a + sz a ≤ S16x40x64.size a}
    {p : (Rect.unit (s := S16x40x64) ![h, 0, 0] sz inb).shape.Idx → Elt Ideal .f32} {L : List (View.Piece (Elt Ideal) S16x40x64 .f32)}
    (hp : ∀ x, p x = G ((Rect.unit (s := S16x40x64) ![h, 0, 0] sz inb).emb x)) (hL : View.PiecesOf G L) :
    View.PiecesOf G ((⟨Rect.unit ![h, 0, 0] sz inb, p⟩ : View.Piece (Elt Ideal) S16x40x64 .f32) :: L) := ⟨hp, hL⟩

theorem pieces_nil {G : S16x40x64.Idx → Elt Ideal .f32} : View.PiecesOf (Val := Elt Ideal) G [] := True.intro

set_option maxHeartbeats 4000000 in
/-- Every store into the result is a block of it. -/
theorem out_pieces (hx : ∀ (r : Rect S16x40) (y : r.shape.Idx), (View.readAt (Elt Ideal) arg8.view r.toLoadRect (harg8.unread x7) y : BitVec 32).toNat < 2048) (h8 : ∀ (h : Fin 16) (i : Fin 40), (x8 (ix2 h i) : BitVec 32).toNat < 2048) (i : grid0.Coords) (arg10 : Memref sig .tc .vmem S16x40x64 .f32) (harg10 : arg10.IsWhole)
    (harg11 : arg11.IsWhole) (harg12 : arg12.IsWhole) (harg13 : arg13.IsWhole) (harg14 : arg14.IsWhole) :
    View.PiecesOf (OU x0 x1 x2 x3 x4 x5 x6 x7 x8) (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hx).1 := by
  have hA := mixed_below c harg1 harg2 harg3 harg5 harg6 harg8 harg9 arg11 arg12 arg13 x0 x1 x2 x4 x5 x7 x8 hx h8
  iterate 16 refine pieces_cons (out_piece harg4 harg7 arg14 x0 x1 x2 x3 x4 x5 x6 x7 x8 hA (by decide) (by rfl) (by rfl)) ?_
  exact pieces_nil

end Cert.AttnOut

end
-- ==== Proof.AttnRef.lean ====
/- The reference of the attention call as one term of its arguments, and what it holds at an index. -/
module

public import proofs.«01_k».proof.Proof.Gen.AttnRefIdeal
public import proofs.«01_k».proof.Proof.AttnMath
public import Idealize.ShloMosaic.Lib.Pointwise
public import Idealize.ShloMosaic.Lib.Routing.OpsSet
public import Idealize.ShloMosaic.Lib.Pipeline.ValueKit

@[expose] public section

set_option maxRecDepth 16384

noncomputable section

namespace Cert.AttnRefIdeal.Read

open Cert.AttnRefIdeal Cert.AttnRefIdeal.Gen Idealize.ShloMosaic Idealize.ShloMosaic.TcCoe
open scoped BigOperators

/-- A linear layer of the rows, split by heads: head, row, column. -/
def heads (x : FVec Ideal S2048x1024 .f32) (w : FVec Ideal S1024x1024 .f32) (b : FVec Ideal S16x64 .f32) : FVec Ideal S16x2048x64 .f32 :=
  transpose S16x2048x64 [1, 0, 2] (shapeCast _ (addf (Host.dotGeneral dot_S2048x1024_S1024x1024_S2048x1024_1_0_0_1_n_n none x (transpose S1024x1024 [1, 0] w transposes_S1024x1024_S1024x1024_1_0)) (broadcastInDim S2048x1024 ![0, 1] bcast_S1x1024_S2048x1024_0_1 (broadcastInDim S1x1024 ![1] bcast_S1024_S1x1024_1 (shapeCast _ b shapeCasts_S16x64_S1024)))) shapeCasts_S2048x1024_S2048x16x64) transposes_S2048x16x64_S16x2048x64_1_0_2

/-- Every score of a query row against a key row, −∞ where the key comes later. -/
def masked (q k : FVec Ideal S16x2048x64 .f32) : FVec Ideal S16x2048x2048 .f32 :=
  select (broadcastInDim S16x2048x2048 ![0, 1, 2] bcast_S1x2048x2048_S16x2048x2048_0_1_2 (cmpf (F := Ideal) (φ := .f32) .oeq (broadcastInDim S1x2048x2048 ![1, 2] bcast_S2048x2048_S1x2048x2048_1_2 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constant S_ .f32 0x3F800000#32)) (broadcastInDim S2048x2048 ![] bcast_S_S2048x2048 (constant S_ .f32 0x00000000#32))) : FVec Ideal S1x2048x2048 .f32) (broadcastInDim S1x2048x2048 ![] bcast_S_S1x2048x2048 (constant S_ .f32 0x00000000#32)))) (broadcastInDim S16x2048x2048 ![] bcast_S_S16x2048x2048 (id (constant S_ .f32 0xFF800000#32))) (mulf (Host.dotGeneral dot_S16x2048x64_S16x64x2048_S16x2048x2048_2_1_1_2_0_0 none q (transpose S16x64x2048 [0, 2, 1] k transposes_S16x2048x64_S16x64x2048_0_2_1)) (broadcastInDim S16x2048x2048 ![] bcast_S_S16x2048x2048 (constant S_ .f32 0x3E000000#32)))

/-- The selected rows' numbers, a negative one counted from the end. -/
def places (idx : IVec S16x40 32) : IVec S16x40x1 32 :=
  select (cmpi .slt (broadcastInDim S16x40x1 ![0, 1] bcast_S16x40_S16x40x1_0_1 idx) (broadcastInDim S16x40x1 ![] bcast_S_S16x40x1 (constantI S_ 32 0#32))) (addi (broadcastInDim S16x40x1 ![0, 1] bcast_S16x40_S16x40x1_0_1 idx) (broadcastInDim S16x40x1 ![] bcast_S_S16x40x1 (constantI S_ 32 2048#32))) (broadcastInDim S16x40x1 ![0, 1] bcast_S16x40_S16x40x1_0_1 idx)

/-- Which of them are row numbers. -/
def inside (p : IVec S16x40x1 32) : IVec S16x40 1 :=
  Host.reduce IntOp.andi (andi (cmpi .sge p (broadcastInDim S16x40x1 ![] bcast_S_S16x40x1 (constantI S_ 32 0#32))) (cmpi .sle p (broadcastInDim S16x40x1 ![0, 1, 2] bcast_S1x1x1_S16x40x1_0_1_2 (broadcastInDim S1x1x1 ![2] bcast_S1_S1x1x1_2 (constantI S1 32 2047#32))))) (constantI S_ 1 1#1) reducesTo_S16x40x1_S16x40_d2 h_S_

/-- The selected rows of the scores. -/
def picked (s : FVec Ideal S16x2048x2048 .f32) (idx : IVec S16x40 32) : FVec Ideal S16x40x2048 .f32 :=
  select (broadcastInDim S16x40x2048 ![0, 1] bcast_S16x40_S16x40x2048_0_1 (inside (places idx))) (Host.gather gather_S16x2048x2048_S16x40x1_S16x40x2048_2_1_0_0_1_2_112048 s (places idx)) (broadcastInDim S16x40x2048 ![] bcast_S_S16x40x2048 (constant S_ .f32 0x7FC00000#32))

/-- The exponentials of the selected rows less their maximum. -/
def expo (p : FVec Ideal S16x40x2048 .f32) : FVec Ideal S16x40x2048 .f32 :=
  Host.exp (subf p (broadcastInDim S16x40x2048 ![0, 1, 2] bcast_S16x40x1_S16x40x2048_0_1_2 (broadcastInDim S16x40x1 ![0, 1] bcast_S16x40_S16x40x1_0_1 (maximumf (broadcastInDim S16x40 ![] bcast_S_S16x40 (constant S_ .f32 0xFF800000#32)) (Host.reduce FloatOps.maximumf p (constant S_ .f32 0xFF800000#32) reducesTo_S16x40x2048_S16x40_d2 h_S_)))))

/-- The weights of the selected rows. -/
def soft (p : FVec Ideal S16x40x2048 .f32) : FVec Ideal S16x40x2048 .f32 :=
  Host.divf (expo p) (broadcastInDim S16x40x2048 ![0, 1, 2] bcast_S16x40x1_S16x40x2048_0_1_2 (broadcastInDim S16x40x1 ![0, 1] bcast_S16x40_S16x40x1_0_1 (Host.reduceAdd (expo p) (constant S_ .f32 0x00000000#32) reducesTo_S16x40x2048_S16x40_d2 h_S_)))

/-- The reference's result over its arguments. -/
def REF (x : FVec Ideal S2048x1024 .f32) (wq wk wv : FVec Ideal S1024x1024 .f32) (bq bk bv : FVec Ideal S16x64 .f32)
    (idx : IVec S16x40 32) : FVec Ideal S16x40x64 .f32 :=
  Host.dotGeneral dot_S16x40x2048_S16x2048x64_S16x40x64_2_1_1_2_0_0 none (soft (picked (masked (heads x wq bq) (heads x wk bk)) idx)) (heads x wv bv)

theorem heads_at (x : FVec Ideal S2048x1024 .f32) (w : FVec Ideal S1024x1024 .f32) (b : FVec Ideal S16x64 .f32)
    (h : Fin 16) (r : Fin 2048) (e : Fin 64) :
    heads x w b (ix3 h r e) = (∑ d : Fin 1024, (show EReal from x (ix2 r d)) * (show EReal from w (ix2 (⟨h.val * 64 + e.val, by omega⟩ : Fin 1024) d)))
      + (show EReal from b (ix2 h e)) := by
  pointwise [heads]

theorem ninf : Ideal.ofBits .f32 0xFF800000#32 = (⊥ : EReal) := by
  simp [Ideal.ofBits, Ideal.ieee, -EReal.coe_mul]

theorem word_le (j r : Fin 2048) : IntOp.cmpi .sge (IntOp.addi (BitVec.ofNat 32 r.val) 0#32) (BitVec.ofNat 32 j.val)
    = if j.val ≤ r.val then 1#1 else 0#1 := by
  have h0 : IntOp.addi (BitVec.ofNat 32 r.val) 0#32 = BitVec.ofNat 32 r.val := BitVec.add_zero _
  have hr : (BitVec.ofNat 32 r.val).toInt = r.val := by
    have := r.isLt
    rw [BitVec.toInt_eq_toNat_cond, BitVec.toNat_ofNat]; split <;> omega
  have hj : (BitVec.ofNat 32 j.val).toInt = j.val := by
    have := j.isLt
    rw [BitVec.toInt_eq_toNat_cond, BitVec.toNat_ofNat]; split <;> omega
  rw [h0]
  split
  · rename_i h
    refine IntOp.cmpi_sge.2 ?_
    rw [hr, hj]; exact_mod_cast h
  · rename_i h
    have z : ∀ b : BitVec 1, b ≠ 1#1 → b = 0#1 := by decide
    refine z _ fun q => h ?_
    have := IntOp.cmpi_sge.1 q
    rw [hr, hj] at this; exact_mod_cast this

theorem masked_at (q k : FVec Ideal S16x2048x64 .f32) (h : Fin 16) (r j : Fin 2048) :
    masked q k (ix3 h r j) = if j.val ≤ r.val then (∑ e : Fin 64, (show EReal from q (ix3 h r e)) * (show EReal from k (ix3 h j e))) * Ideal.ofBits .f32 0x3E000000#32
      else (⊥ : EReal) := by
  pointwise [masked]
  rw [word_le]
  by_cases hj : j.val ≤ r.val
  · have e : (Scalar.select (1#1 : BitVec 1) (1 : EReal) 0) = 1 := rfl
    rw [if_pos hj, if_pos hj, e, if_neg one_ne_zero]
  · have e : (Scalar.select (0#1 : BitVec 1) (1 : EReal) 0) = 0 := rfl
    rw [if_neg hj, if_neg hj, e, if_pos rfl]
    exact ninf

theorem places_at (idx : IVec S16x40 32) (h : Fin 16) (i : Fin 40) (hr : (idx (ix2 h i)).toNat < 2048) (z : Fin 1) :
    places idx (ix3 h i z) = idx (ix2 h i) := by
  pointwise [places]
  exact Routing.wrap_of_lt _ _ (by omega)

theorem gather_at (s : FVec Ideal S16x2048x2048 .f32) (p : IVec S16x40x1 32) (h : Fin 16) (i : Fin 40) (j r : Fin 2048)
    (hp : (p (ix3 h i 0)).toInt = r.val) :
    Host.gather gather_S16x2048x2048_S16x40x1_S16x40x2048_2_1_0_0_1_2_112048 s p (ix3 h i j) = s (ix3 h r j) := by
  unfold Host.gather
  refine congrArg s (funext fun a => Fin.ext ?_)
  match a with
  | ⟨0, _⟩ => exact Nat.zero_add _
  | ⟨1, _⟩ =>
    have e : (gather_S16x2048x2048_S16x40x1_S16x40x2048_2_1_0_0_1_2_112048.siIdx (ix3 h i j) ⟨0, Nat.one_pos⟩) = ix3 h i 0 := by
      funext b; fin_cases b <;> rfl
    show min (p (gather_S16x2048x2048_S16x40x1_S16x40x2048_2_1_0_0_1_2_112048.siIdx (ix3 h i j) ⟨0, Nat.one_pos⟩)).toInt.toNat 2047 + 0 + 0 = r.val
    rw [e, hp]
    have := r.isLt
    omega
  | ⟨2, _⟩ => exact (Nat.zero_add _)

theorem inside_at (p : IVec S16x40x1 32) (h : Fin 16) (i : Fin 40) (hp : (p (ix3 h i 0)).toNat < 2048) :
    inside p (ix2 h i) = 1#1 := by
  pointwise [inside]
  have z : (p (ix3 h i 0)).toInt = (p (ix3 h i 0)).toNat := by
    rw [BitVec.toInt_eq_toNat_cond]; split <;> omega
  have e1 : IntOp.cmpi CmpIPredicate.sge (p (ix3 h i 0)) 0#32 = 1#1 :=
    IntOp.cmpi_sge.2 (by rw [z]; show (0 : ℤ) ≤ _; omega)
  have e2 : IntOp.cmpi CmpIPredicate.sle (p (ix3 h i 0)) 2047#32 = 1#1 :=
    IntOp.cmpi_sle.2 (by rw [z]; show _ ≤ (2047 : ℤ); omega)
  have e : (Finset.univ : Finset (Fin 1)) = {0} := rfl
  rw [e, Finset.fold_singleton, e1, e2]
  rfl

theorem expo_at (p : FVec Ideal S16x40x2048 .f32) (h : Fin 16) (i : Fin 40) (j : Fin 2048) :
    expo p (ix3 h i j) = Ideal.exp ((show EReal from p (ix3 h i j)) - Finset.univ.fold max (⊥ : EReal) fun k : Fin 2048 => (show EReal from p (ix3 h i k))) := by
  pointwise [expo]
  rw [ninf, bot_sup_eq]

theorem soft_at (p : FVec Ideal S16x40x2048 .f32) (h : Fin 16) (i : Fin 40) (j : Fin 2048) :
    soft p (ix3 h i j) = AttnMath.weight (fun k : Fin 2048 => (show EReal from p (ix3 h i k))) j := by
  pointwise [soft]
  simp only [expo_at]
  rfl

/-- A selected row of the scores. -/
theorem picked_at (s : FVec Ideal S16x2048x2048 .f32) (idx : IVec S16x40 32) (h : Fin 16) (i : Fin 40) (j r : Fin 2048)
    (hr : (idx (ix2 h i)).toNat = r.val) : picked s idx (ix3 h i j) = s (ix3 h r j) := by
  have hp : ∀ z, places idx (ix3 h i z) = idx (ix2 h i) := fun z => places_at idx h i (hr ▸ r.isLt) z
  have hi : (idx (ix2 h i)).toInt = r.val := by
    have := r.isLt
    rw [BitVec.toInt_eq_toNat_cond, hr]; split <;> omega
  have hin : inside (places idx) (ix2 h i) = 1#1 := inside_at _ h i (by rw [hp, hr]; exact r.isLt)
  have hg := gather_at s (places idx) h i j r (by rw [hp]; exact hi)
  pointwise [picked]
  rw [hin, hg]
  rfl

/-- The reference's result at a head, a selected row and a column. -/
theorem REF_at (x : FVec Ideal S2048x1024 .f32) (wq wk wv : FVec Ideal S1024x1024 .f32) (bq bk bv : FVec Ideal S16x64 .f32)
    (idx : IVec S16x40 32) (h : Fin 16) (i : Fin 40) (e : Fin 64) :
    REF x wq wk wv bq bk bv idx (ix3 h i e)
      = ∑ j : Fin 2048, AttnMath.weight (fun k : Fin 2048 => (show EReal from picked (masked (heads x wq bq) (heads x wk bk)) idx (ix3 h i k))) j
          * (show EReal from heads x wv bv (ix3 h j e)) := by
  pointwise [REF]
  simp only [soft_at]

end Cert.AttnRefIdeal.Read

end
-- ==== Proof.AttnEq.lean ====
/- The attention body's result is the reference's, for finite arrays and a table of row numbers. -/
module

public import proofs.«01_k».proof.Proof.AttnSpec
public import proofs.«01_k».proof.Proof.AttnRef

@[expose] public section

set_option maxRecDepth 16384

noncomputable section

namespace Cert.AttnEq

open Cert.AttnRefIdeal.Read Cert.AttnSpec Idealize.ShloMosaic Idealize.ShloMosaic.TcCoe
open scoped BigOperators

abbrev M : Shape := ⟨2, ![2048, 1024]⟩
abbrev W : Shape := ⟨2, ![1024, 1024]⟩
abbrev B : Shape := ⟨2, ![16, 64]⟩
abbrev T : Shape := ⟨2, ![16, 40]⟩

/-- Every entry is a real. -/
def Finite {s : Shape} (f : FVec Ideal s .f32) : Prop := ∀ y, (show EReal from f y) ≠ ⊤ ∧ (show EReal from f y) ≠ ⊥

/-- An array of finite entries as an array of reals. -/
theorem reals {s : Shape} (f : FVec Ideal s .f32) (h : Finite f) : ∃ g : s.Idx → ℝ, ∀ y, (show EReal from f y) = (g y : EReal) := by
  obtain ⟨g, e⟩ := AttnMath.lift (fun y => (show EReal from f y)) h
  exact ⟨g, fun y => congrFun e y⟩

/-- The scale of the scores is an eighth. -/
theorem eighth : Ideal.ofBits .f32 0x3E000000#32 = ((1 / 8 : ℝ) : EReal) := by
  simp [Ideal.ofBits, Ideal.ieee, -EReal.coe_mul]
  norm_num

/-- A real matrix's row through a real weight row, with its bias, is a real. -/
theorem linear_real {δ : Type} [Fintype δ] (x w : δ → ℝ) (b : ℝ) :
    (∑ d, (x d : EReal) * (w d : EReal)) + (b : EReal) = (((∑ d, x d * w d) + b : ℝ) : EReal) := by
  simp only [← EReal.coe_mul, ← AttnMath.coe_sum, ← EReal.coe_add]

variable (x : FVec Ideal M .f32) (wq wk wv : FVec Ideal W .f32) (bq bk bv : FVec Ideal B .f32) (idx : IVec T 32)

/-- The body's queries are the reference's at the selected rows. -/
theorem query (h : Fin 16) (i : Fin 40) (e : Fin 64) :
    qs x wq bq idx h i e = heads x wq bq (ix3 h (rowOf (idx (ix2 h i))) e) := (heads_at x wq bq h _ e).symm

/-- The body's masked scores are the selected row of the reference's. -/
theorem scores (hx : Finite x) (hq : Finite wq) (hk : Finite wk) (gq : Finite bq) (gk : Finite bk)
    (hr : ∀ (h : Fin 16) (i : Fin 40), (idx (ix2 h i)).toNat < 2048) (h : Fin 16) (i : Fin 40) (j : Fin 2048) :
    ms x wq wk bq bk idx idx h i j = picked (masked (heads x wq bq) (heads x wk bk)) idx (ix3 h i j) := by
  have hv : (idx (ix2 h i)).toNat = (rowOf (idx (ix2 h i))).val := (Nat.mod_eq_of_lt (hr h i)).symm
  rw [picked_at _ idx h i j (rowOf (idx (ix2 h i))) hv, masked_at]
  unfold ms
  rw [hv]
  refine if_congr Iff.rfl ?_ rfl
  unfold sc
  refine congrArg (· * _) ?_
  obtain ⟨X, eX⟩ := reals x hx
  obtain ⟨Q, eQ⟩ := reals wq hq
  obtain ⟨K, eK⟩ := reals wk hk
  obtain ⟨A, eA⟩ := reals bq gq
  obtain ⟨C, eC⟩ := reals bk gk
  obtain ⟨q, eq⟩ : ∃ q : Fin 64 → ℝ, ∀ e, qs x wq bq idx h i e = (q e : EReal) := by
    refine ⟨fun e => (∑ d : Fin 1024, X (ix2 (rowOf (idx (ix2 h i))) d) * Q (ix2 (col h e) d)) + A (ix2 h e), fun e => ?_⟩
    rw [← linear_real]
    unfold qs xs
    exact congrArg₂ (· + ·) (Finset.sum_congr rfl fun d _ => congrArg₂ (· * ·) (eX _) (eQ _)) (eA _)
  have key := AttnMath.score q (fun e (d : Fin 1024) => K (ix2 (col h e) d)) (fun e => C (ix2 h e)) (fun d => X (ix2 j d))
  refine Eq.trans ?_ (key.trans ?_)
  · unfold sb
    refine congrArg₂ (· + ·) (Finset.sum_congr rfl fun d _ => congrArg₂ (· * ·) ?_ (eX _)) (Finset.sum_congr rfl fun e _ => congrArg₂ (· * ·) (eq e) (eC _))
    unfold qk
    exact Finset.sum_congr rfl fun e _ => congrArg₂ (· * ·) (eq e) (eK _)
  · refine Finset.sum_congr rfl fun e _ => congrArg₂ (· * ·) ((eq e).symm.trans (query x wq bq idx h i e)) ?_
    refine Eq.trans ?_ (heads_at x wk bk h j e).symm
    exact congrArg₂ (· + ·) (Finset.sum_congr rfl fun d _ => congrArg₂ (· * ·) (eX _).symm (eK _).symm) (eC _).symm

/-- A score is a real. -/
theorem score_real (hx : Finite x) (hq : Finite wq) (hk : Finite wk) (gq : Finite bq) (gk : Finite bk)
    (h : Fin 16) (r j : Fin 2048) :
    ∃ v : ℝ, (∑ e : Fin 64, (show EReal from heads x wq bq (ix3 h r e)) * (show EReal from heads x wk bk (ix3 h j e))) * Ideal.ofBits .f32 0x3E000000#32 = (v : EReal) := by
  obtain ⟨X, eX⟩ := reals x hx
  obtain ⟨Q, eQ⟩ := reals wq hq
  obtain ⟨K, eK⟩ := reals wk hk
  obtain ⟨A, eA⟩ := reals bq gq
  obtain ⟨C, eC⟩ := reals bk gk
  have e1 : ∀ e, (show EReal from heads x wq bq (ix3 h r e)) = (((∑ d : Fin 1024, X (ix2 r d) * Q (ix2 (col h e) d)) + A (ix2 h e) : ℝ) : EReal) := fun e => by
    rw [← linear_real]
    exact (heads_at x wq bq h r e).trans (congrArg₂ (· + ·) (Finset.sum_congr rfl fun d _ => congrArg₂ (· * ·) (eX _) (eQ _)) (eA _))
  have e2 : ∀ e, (show EReal from heads x wk bk (ix3 h j e)) = (((∑ d : Fin 1024, X (ix2 j d) * K (ix2 (col h e) d)) + C (ix2 h e) : ℝ) : EReal) := fun e => by
    rw [← linear_real]
    exact (heads_at x wk bk h j e).trans (congrArg₂ (· + ·) (Finset.sum_congr rfl fun d _ => congrArg₂ (· * ·) (eX _) (eK _)) (eC _))
  rw [eighth, Finset.sum_congr rfl fun e _ => congrArg₂ (· * ·) (e1 e) (e2 e)]
  simp only [← EReal.coe_mul, ← AttnMath.coe_sum]
  exact ⟨_, rfl⟩

/-- The selected row's weights are reals that sum to one. -/
theorem weights (hx : Finite x) (hq : Finite wq) (hk : Finite wk) (gq : Finite bq) (gk : Finite bk)
    (hr : ∀ (h : Fin 16) (i : Fin 40), (idx (ix2 h i)).toNat < 2048) (h : Fin 16) (i : Fin 40) :
    ∃ p : Fin 2048 → ℝ, (∀ j, pr x wq wk bq bk idx idx h i j = (p j : EReal)) ∧ ∑ j, p j = 1 := by
  have hv : (idx (ix2 h i)).toNat = (rowOf (idx (ix2 h i))).val := (Nat.mod_eq_of_lt (hr h i)).symm
  have e : ∀ j, ms x wq wk bq bk idx idx h i j = if j.val ≤ (rowOf (idx (ix2 h i))).val then _ else (⊥ : EReal) := fun j =>
    (scores x wq wk bq bk idx hx hq hk gq gk hr h i j).trans ((picked_at _ idx h i j _ hv).trans (masked_at _ _ h _ j))
  refine AttnMath.weight_real (ms x wq wk bq bk idx idx h i) (fun j => ?_) (0 : Fin 2048) ?_
  · rw [e j]
    obtain ⟨v, ev⟩ := score_real x wq wk bq bk hx hq hk gq gk h (rowOf (idx (ix2 h i))) j
    rw [ev]
    split
    · exact EReal.coe_ne_top v
    · exact bot_ne_top
  · rw [e 0, if_pos (show (0 : Fin 2048).val ≤ _ from Nat.zero_le _)]
    obtain ⟨v, ev⟩ := score_real x wq wk bq bk hx hq hk gq gk h (rowOf (idx (ix2 h i))) 0
    rw [ev]
    exact EReal.coe_ne_bot v

/-- The body's result is the reference's. -/
theorem result (hx : Finite x) (hq : Finite wq) (hk : Finite wk) (hw : Finite wv) (gq : Finite bq) (gk : Finite bk) (gv : Finite bv)
    (hr : ∀ (h : Fin 16) (i : Fin 40), (idx (ix2 h i)).toNat < 2048) (h : Fin 16) (i : Fin 40) (e : Fin 64) :
    ou x wq wk wv bq bk bv idx idx h i e = REF x wq wk wv bq bk bv idx (ix3 h i e) := by
  rw [REF_at]
  obtain ⟨p, hp, h1⟩ := weights x wq wk bq bk idx hx hq hk gq gk hr h i
  obtain ⟨X, eX⟩ := reals x hx
  obtain ⟨V, eV⟩ := reals wv hw
  obtain ⟨C, eC⟩ := reals bv gv
  have key := AttnMath.attend p h1 (fun j (d : Fin 1024) => X (ix2 j d)) (fun d => V (ix2 (col h e) d)) (C (ix2 h e))
  have hs : (fun k : Fin 2048 => (show EReal from picked (masked (heads x wq bq) (heads x wk bk)) idx (ix3 h i k))) = ms x wq wk bq bk idx idx h i :=
    funext fun k => (scores x wq wk bq bk idx hx hq hk gq gk hr h i k).symm
  rw [hs]
  refine Eq.trans ?_ (key.trans ?_)
  · unfold ou
    refine congrArg₂ (· + ·) (Finset.sum_congr rfl fun d _ => congrArg₂ (· * ·) ?_ (eV _)) (eC _)
    unfold av
    exact Finset.sum_congr rfl fun j _ => congrArg₂ (· * ·) (hp j) (eX _)
  · refine Finset.sum_congr rfl fun j _ => congrArg₂ (· * ·) (hp j).symm ?_
    refine Eq.trans ?_ (heads_at x wv bv h j e).symm
    exact congrArg₂ (· + ·) (Finset.sum_congr rfl fun d _ => congrArg₂ (· * ·) (eX _).symm (eV _).symm) (eC _).symm

end Cert.AttnEq

end
-- ==== Proof.AttnFinal.lean ====
/- The attention call's result array is the reference's. -/
module

public import proofs.«01_k».proof.Proof.AttnIdealFrame
public import proofs.«01_k».proof.Proof.AttnOut
public import proofs.«01_k».proof.Proof.AttnEq
public import proofs.«01_k».proof.Proof.Gen.AttnRefIdeal.Run

@[expose] public section

set_option maxRecDepth 16384

noncomputable section

open Idealize.ShloMosaic Idealize.ShloMosaic.TcCoe Idealize.SL.Sem
open Idealize.ShloMosaic.Pipeline (Dat)
open scoped BigOperators

namespace Cert.AttnFinal

open Cert.AttnIdeal Cert.AttnIdeal.Gen Cert.AttnIdealRun Cert.AttnSpec Cert.AttnRefIdeal.Read Cert.AttnEq

variable (m : (ℓ : Loc nD τ sig) → Buf (Elt Ideal) ℓ)

theorem idx_val : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] :=
  (by decide +kernel : ∀ t : Fin grid0.N, _)

/-- Every operand's block is its array. -/
theorem blk_0 (c : Dev nD) (t : Fin cfg0.N) : iblk m c 0 t = m ((c : Thread nD τ).loc main_arg0) := by
  funext y
  obtain ⟨a, b, rfl⟩ : ∃ (a : Fin 2048) (b : Fin 1024), y = ix2 a b := ⟨y 0, y 1, by idx_vars y⟩
  blk_simp [iblk, idx_val t]
  blk_ext [idx_val t]

theorem blk_1 (c : Dev nD) (t : Fin cfg0.N) : iblk m c 1 t = m ((c : Thread nD τ).loc main_arg1) := by
  funext y
  obtain ⟨a, b, rfl⟩ : ∃ (a : Fin 1024) (b : Fin 1024), y = ix2 a b := ⟨y 0, y 1, by idx_vars y⟩
  blk_simp [iblk, idx_val t]
  blk_ext [idx_val t]

theorem blk_2 (c : Dev nD) (t : Fin cfg0.N) : iblk m c 2 t = m ((c : Thread nD τ).loc main_arg2) := by
  funext y
  obtain ⟨a, b, rfl⟩ : ∃ (a : Fin 1024) (b : Fin 1024), y = ix2 a b := ⟨y 0, y 1, by idx_vars y⟩
  blk_simp [iblk, idx_val t]
  blk_ext [idx_val t]

theorem blk_3 (c : Dev nD) (t : Fin cfg0.N) : iblk m c 3 t = m ((c : Thread nD τ).loc main_arg3) := by
  funext y
  obtain ⟨a, b, rfl⟩ : ∃ (a : Fin 1024) (b : Fin 1024), y = ix2 a b := ⟨y 0, y 1, by idx_vars y⟩
  blk_simp [iblk, idx_val t]
  blk_ext [idx_val t]

theorem blk_4 (c : Dev nD) (t : Fin cfg0.N) : iblk m c 4 t = m ((c : Thread nD τ).loc main_arg4) := by
  funext y
  obtain ⟨a, b, rfl⟩ : ∃ (a : Fin 16) (b : Fin 64), y = ix2 a b := ⟨y 0, y 1, by idx_vars y⟩
  blk_simp [iblk, idx_val t]
  blk_ext [idx_val t]

theorem blk_5 (c : Dev nD) (t : Fin cfg0.N) : iblk m c 5 t = m ((c : Thread nD τ).loc main_arg5) := by
  funext y
  obtain ⟨a, b, rfl⟩ : ∃ (a : Fin 16) (b : Fin 64), y = ix2 a b := ⟨y 0, y 1, by idx_vars y⟩
  blk_simp [iblk, idx_val t]
  blk_ext [idx_val t]

theorem blk_6 (c : Dev nD) (t : Fin cfg0.N) : iblk m c 6 t = m ((c : Thread nD τ).loc main_arg6) := by
  funext y
  obtain ⟨a, b, rfl⟩ : ∃ (a : Fin 16) (b : Fin 64), y = ix2 a b := ⟨y 0, y 1, by idx_vars y⟩
  blk_simp [iblk, idx_val t]
  blk_ext [idx_val t]

theorem blk_7 (c : Dev nD) (t : Fin cfg0.N) : iblk m c 7 t = m ((c : Thread nD τ).loc main_arg7) := by
  funext y
  obtain ⟨a, b, rfl⟩ : ∃ (a : Fin 16) (b : Fin 40), y = ix2 a b := ⟨y 0, y 1, by idx_vars y⟩
  blk_simp [iblk, idx_val t]
  blk_ext [idx_val t]

theorem blk_8 (c : Dev nD) (t : Fin cfg0.N) : iblk m c 8 t = m ((c : Thread nD τ).loc main_arg7) := by
  funext y
  obtain ⟨a, b, rfl⟩ : ∃ (a : Fin 16) (b : Fin 40), y = ix2 a b := ⟨y 0, y 1, by idx_vars y⟩
  blk_simp [iblk, idx_val t]
  blk_ext [idx_val t]

/-- The result's memref holds the body's function of the blocks. -/
theorem out_at (hrow : Rows m) (c : Dev nD) (t : Fin cfg0.N) (h8 : ∀ (h : Fin 16) (i : Fin 40), (iblk m c 8 t (ix2 h i) : BitVec 32).toNat < 2048) (y : S16x40x64.Idx) :
    outAt m hrow c t y = OU (iblk m c 0 t) (iblk m c 1 t) (iblk m c 2 t) (iblk m c 3 t) (iblk m c 4 t) (iblk m c 5 t) (iblk m c 6 t) (iblk m c 7 t) (iblk m c 8 t) y := by
  unfold outAt
  rw [View.read_writes_junk_apply_eq_canon]
  refine View.canon_apply_of_pieces _ _ (View.PiecesOf.mem ?_) y ?_
  · exact AttnOut.out_pieces c (hs0 t) (hs1 t) (hs2 t) (hs3 t) (hs4 t) (hs5 t) (hs6 t) (hs7 t) (hs8 t) sm0 sm1 sm2 sm3 _ _ _ _ _ _ _ _ _ (words_inside m hrow c t) h8 (grid0.coords t) (ms9 t) (hs9 t) (Memref.isWhole_whole _) (Memref.isWhole_whole _) (Memref.isWhole_whole _) (Memref.isWhole_whole _)
  · exact out_cover c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) _ _ _ _ _ _ _ _ _ (words_inside m hrow c t) y

set_option maxHeartbeats 1000000 in
/-- The result array at the end is the reference's term of the arguments. -/
theorem final (hrow : Rows m) (c : Dev nD)
    (f0 : Finite (m ((c : Thread nD τ).loc main_arg0))) (f1 : Finite (m ((c : Thread nD τ).loc main_arg1)))
    (f2 : Finite (m ((c : Thread nD τ).loc main_arg2))) (f3 : Finite (m ((c : Thread nD τ).loc main_arg3)))
    (f4 : Finite (m ((c : Thread nD τ).loc main_arg4))) (f5 : Finite (m ((c : Thread nD τ).loc main_arg5)))
    (f6 : Finite (m ((c : Thread nD τ).loc main_arg6))) :
    (dats m hrow 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m hrow 0 c).arrAt_eq_of_covers 9 _ (by decide +kernel) fun t hf y => ?_
  blk_simp [idx_val t]
  obtain ⟨h, i, e, rfl⟩ : ∃ (h : Fin 16) (i : Fin 40) (e : Fin 64), y = ix3 h i e := ⟨y 0, y 1, y 2, by idx_vars y⟩
  have hy : (win0_9.blk t).view.emb (ix3 h i e) = ix3 h i e := by blk_ext [idx_val t]
  rw [hy, after_9, out_at m hrow c t (fun h i => by rw [blk_8]; exact hrow c _)]
  rw [blk_0, blk_1, blk_2, blk_3, blk_4, blk_5, blk_6, blk_7, blk_8]
  exact AttnEq.result _ _ _ _ _ _ _ _ f0 f1 f2 f3 f4 f5 f6 (fun h i => hrow c _) h i e

/-- The reference's run ends at that term. -/
theorem ref_eq (m : (ℓ : Loc Cert.AttnRefIdeal.nD Cert.AttnRefIdeal.τ Cert.AttnRefIdeal.sig) → Buf (Elt Ideal) ℓ) (c : Dev Cert.AttnRefIdeal.nD) :
    Cert.AttnRefIdeal.Value.res_main_v47 m c = REF (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) := by
  unfold Cert.AttnRefIdeal.Value.res_main_v47 REF soft expo picked inside places masked heads
  rfl

end Cert.AttnFinal

end
-- ==== Proof.AttnPre.lean ====
/- What the preconditions of the attention call say. -/
module

public import proofs.«01_k».proof.Proof.Gen.Pre_rows_in_range
public import proofs.«01_k».proof.Proof.Gen.Pre_rows_in_range_and_finite
public import proofs.«01_k».proof.Proof.AttnEq
public import Idealize.ShloMosaic.Lib.Pointwise
public import Idealize.ShloMosaic.Lib.ReduceAll
public import Idealize.ShloMosaic.Lib.Affine

@[expose] public section

set_option maxRecDepth 16384

noncomputable section

namespace Cert.AttnPre

open Idealize.ShloMosaic Idealize.ShloMosaic.TcCoe Cert.AttnEq

abbrev Tab : Shape := ⟨2, ![16, 40]⟩
abbrev Z : Shape := ⟨0, ![]⟩

instance : Subsingleton Z.Idx := ⟨fun a b => funext fun x => x.elim0⟩

/-- A word that is at least 0 and below 2048, as a signed number, is so as an unsigned one. -/
theorem word_row (w : BitVec 32) (h0 : IntOp.cmpi .sge w 0#32 = 1#1) (h1 : IntOp.cmpi .slt w 2048#32 = 1#1) : w.toNat < 2048 := by
  have p4 := IntOp.cmpi_sge.1 h0
  have p5 := IntOp.cmpi_slt.1 h1
  rw [show (0#32).toInt = 0 from rfl] at p4
  rw [show (2048#32).toInt = 2048 from rfl] at p5
  have p6 := BitVec.toInt_eq_toNat_cond w
  have := w.isLt
  split at p6 <;> omega

/-- A chain of conjunctions that is one has every part one. -/
theorem nested (a b c d e f g h : IVec Z 1) (H : andi (andi (andi (andi (andi (andi (andi a b) c) d) e) f) g) h default = 1#1) :
    ((((((a default = 1#1 ∧ b default = 1#1) ∧ c default = 1#1) ∧ d default = 1#1) ∧ e default = 1#1) ∧ f default = 1#1) ∧ g default = 1#1) ∧ h default = 1#1 := by
  have k : ∀ x y : IVec Z 1, andi x y default = 1#1 → x default = 1#1 ∧ y default = 1#1 := fun x y q => IntOp.andi_eq_one.1 q
  have h1 := k _ _ H
  have h2 := k _ _ h1.1
  have h3 := k _ _ h2.1
  have h4 := k _ _ h3.1
  have h5 := k _ _ h4.1
  have h6 := k _ _ h5.1
  exact ⟨⟨⟨⟨⟨⟨k _ _ h6.1, h6.2⟩, h5.2⟩, h4.2⟩, h3.2⟩, h2.2⟩, h1.2⟩

theorem inf : Ideal.ofBits .f32 0x7F800000#32 = (⊤ : EReal) := by
  simp [Ideal.ofBits, Ideal.ieee, -EReal.coe_mul]

/-- A value whose magnitude is below infinity is a real. -/
theorem abs_finite (x : EReal) (h : Ideal.cmp .olt (max x (-x)) (Ideal.ofBits .f32 0x7F800000#32) = 1#1) : x ≠ ⊤ ∧ x ≠ ⊥ := by
  rw [inf] at h
  have l : max x (-x) < ⊤ := by
    by_contra c
    simp [Ideal.cmp, c] at h
  refine ⟨fun e => ?_, fun e => ?_⟩
  · subst e; simp at l
  · subst e; simp at l

/-- An array every one of whose magnitudes is below infinity is finite. -/
theorem array_finite {s : Shape} (x : FVec Ideal s .f32) (hb : Z.BroadcastsInDim s (![] : Fin 0 → Fin s.rank)) {axes : List (Fin s.rank)} (hr : s.ReducesTo axes Z) (hz : 0 < Z.numel)
    (H : Host.reduce IntOp.andi (cmpf .olt (Host.absf x) (broadcastInDim s ![] hb (constant (F := Ideal) Z .f32 0x7F800000#32))) (constantI Z 1 1#1) hr hz default = 1#1) :
    Finite x := fun y => abs_finite _ (Host.reduce_andi_all _ _ _ _ _ H y)

theorem table_rows {F : FTy → Type} [FloatOps F] (a : IVec Tab 32) (hb : Z.BroadcastsInDim Tab (![] : Fin 0 → Fin Tab.rank)) {axes : List (Fin Tab.rank)} (hr : Tab.ReducesTo axes Z) (hz : 0 < Z.numel)
    (H : Host.reduce IntOp.andi (andi (cmpi .sge a (broadcastInDim Tab ![] hb (constantI Z 32 0#32))) (cmpi .slt a (broadcastInDim Tab ![] hb (constantI Z 32 2048#32)))) (constantI Z 1 1#1) hr hz default = 1#1) (y : Tab.Idx) :
    (a y).toNat < 2048 := by
  obtain ⟨p, q⟩ := IntOp.andi_eq_one.1 (Host.reduce_andi_all _ _ _ _ _ H y)
  exact word_row _ p q

open Cert.Pre_rows_in_range Cert.Pre_rows_in_range.Gen in
/-- The table names rows. -/
theorem rows {F : FTy → Type} [FloatOps F] (a0 : FVec F S2048x1024 .f32) (a1 a2 a3 : FVec F S1024x1024 .f32) (a4 a5 a6 : FVec F S16x64 .f32)
    (a7 : IVec S16x40 32) (H : Cert.Pre_rows_in_range.fn (F := F) a0 a1 a2 a3 a4 a5 a6 a7 = fun _ => 1#1) (y : S16x40.Idx) :
    (a7 y).toNat < 2048 := table_rows (F := F) a7 _ _ _ (congrFun H default) y

open Cert.Pre_rows_in_range_and_finite Cert.Pre_rows_in_range_and_finite.Gen in
/-- The table names rows and every array is finite. -/
theorem finite (a0 : FVec Ideal S2048x1024 .f32) (a1 a2 a3 : FVec Ideal S1024x1024 .f32) (a4 a5 a6 : FVec Ideal S16x64 .f32)
    (a7 : IVec S16x40 32) (H : Cert.Pre_rows_in_range_and_finite.fn (F := Ideal) a0 a1 a2 a3 a4 a5 a6 a7 = fun _ => 1#1) :
    (∀ y : S16x40.Idx, (a7 y).toNat < 2048) ∧ Finite a0 ∧ Finite a1 ∧ Finite a2 ∧ Finite a3 ∧ Finite a4 ∧ Finite a5 ∧ Finite a6 := by
  have H0 := congrFun H default
  simp only [Cert.Pre_rows_in_range_and_finite.fn, Cert.Pre_rows_in_range_and_finite.fn_part1, Cert.Pre_rows_in_range_and_finite.fn_part2] at H0
  obtain ⟨⟨⟨⟨⟨⟨⟨q, f0⟩, f1⟩, f2⟩, f3⟩, f4⟩, f5⟩, f6⟩ := nested _ _ _ _ _ _ _ _ H0
  exact ⟨fun y => table_rows (F := Ideal) a7 _ _ _ q y, array_finite a0 _ _ _ f0, array_finite a1 _ _ _ f1, array_finite a2 _ _ _ f2,
    array_finite a3 _ _ _ f3, array_finite a4 _ _ _ f4, array_finite a5 _ _ _ f5, array_finite a6 _ _ _ f6⟩

end Cert.AttnPre

end
-- ==== Proof.OutPoint.lean ====
/- The projection call's block: what one grid point leaves in the scratch and in the output. -/
module

public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import Idealize.ShloMosaic.Lib.Pipeline.Value
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)
open scoped BigOperators

namespace Cert.OutCIdeal.Value

open Cert.OutCIdeal Cert.OutCIdeal.Gen

variable (m : (ℓ : Loc nD τ sig) → Buf (Elt Ideal) ℓ)

/-- The selected rows' products with their head's weights: entry `(n, d)` is row `n` of the
    selected values times the 64 weight rows of the head `n / 40`. -/
def headRows (x1 : Vec Ideal S640x64 .f32) (x2 : Vec Ideal S1024x1024 .f32) : Vec Ideal S640x1024 .f32 :=
  fun j => ∑ e : Fin 64, (show EReal from x1 (ix2 (show Fin 640 from j 0) e))
    * (show EReal from x2 (ix2 (⟨(show Fin 640 from j 0).val / 40 * 64 + e.val, by
        have := (show Fin 640 from j 0).isLt; have := e.isLt; omega⟩ : Fin 1024) (show Fin 1024 from j 1)))

theorem scratch_A (c : Dev nD) (t : Fin cfg0.N) (h0 : t.val % 8 = 0)
    (x0 : Vec Ideal S1x640 .i32) (x1 : Vec Ideal S640x64 .f32) (x2 : Vec Ideal S1024x1024 .f32) (x3 : Vec Ideal S1x1024 .f32) :
    sout0_A_0 c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0) x0 x1 x2 x3 = headRows x1 x2 := by
  funext y
  frame_out
  canon_tiles y h
  all_goals (open_payloads; pointwise [headRows]; blk_point [])

theorem out_B (c : Dev nD) (t : Fin cfg0.N) (h0 : ¬t.val % 8 = 0)
    (x0 : Vec Ideal S1x640 .i32) (x1 : Vec Ideal S640x64 .f32) (x2 : Vec Ideal S1024x1024 .f32) (x3 : Vec Ideal S1x1024 .f32)
    (xs : Vec Ideal S640x1024 .f32) :
    out0_B_4 c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) x0 x1 x2 x3 xs
      = k0_pay21 (grid0.coords t) x0 xs x3 := by
  funext y
  frame_out
  exact congrArg (fun X : Vec Ideal S640x1024 .f32 => k0_pay21 (grid0.coords t) x0 X x3 y) ((Memref.isWhole_whole cc0_scratch0).read_unread xs)

theorem out_A (c : Dev nD) (t : Fin cfg0.N) (h0 : t.val % 8 = 0)
    (x0 : Vec Ideal S1x640 .i32) (x1 : Vec Ideal S640x64 .f32) (x2 : Vec Ideal S1024x1024 .f32) (x3 : Vec Ideal S1x1024 .f32) :
    out0_A_4 c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0) x0 x1 x2 x3
      = k0_pay21 (grid0.coords t) x0 (headRows x1 x2) x3 := by
  funext y
  frame_out
  refine congrArg (fun X : Vec Ideal S640x1024 .f32 => k0_pay21 (grid0.coords t) x0 X x3 y) ?_
  rw [View.readCov_eq_canon']
  clear y
  funext y
  have hi : (Rect.unit (s := S640x1024) ![0, 0] ![640, 1024] inb_S640x1024_S640x1024_0_0).toLoadRect.idx y = y := Rect.emb_unit_full _ y
  beta_reduce
  rw [hi]
  canon_tiles x h
  all_goals (open_payloads; pointwise [headRows]; blk_point [])

theorem hot_at (g : ℕ) (hg : g < 8) (r : Fin 256) (x : Fin 640) (w : BitVec 32) :
    (FloatOps.sitofp (F := Ideal) FTy.f32
            (BitVec.setWidth 32
              (IntOp.andi
                (IntOp.cmpi CmpIPredicate.eq
                  (IntOp.addi (Scalar.muli (BitVec.ofNat 32 g) 256#32) (BitVec.ofNat 32 ↑r)) w)
                (IntOp.cmpi CmpIPredicate.slt
                  (Scalar.select
                    (IntOp.andi
                      (IntOp.xori
                        (IntOp.cmpi CmpIPredicate.slt
                          (IntOp.remsi ArithUnit.vector (BitVec.ofNat 32 ↑x)
                            (Scalar.select (Scalar.cmpi CmpIPredicate.eq 40#32 0#32) 1#32 40#32))
                          0#32)
                        (Scalar.cmpi CmpIPredicate.slt
                          (Scalar.select (Scalar.cmpi CmpIPredicate.eq 40#32 0#32) 1#32 40#32) 0#32))
                      (IntOp.cmpi CmpIPredicate.ne
                        (IntOp.remsi ArithUnit.vector (BitVec.ofNat 32 ↑x)
                          (Scalar.select (Scalar.cmpi CmpIPredicate.eq 40#32 0#32) 1#32 40#32))
                        0#32))
                    (IntOp.addi
                      (IntOp.remsi ArithUnit.vector (BitVec.ofNat 32 ↑x)
                        (Scalar.select (Scalar.cmpi CmpIPredicate.eq 40#32 0#32) 1#32 40#32))
                      (Scalar.select (Scalar.cmpi CmpIPredicate.eq 40#32 0#32) 1#32 40#32))
                    (IntOp.remsi ArithUnit.vector (BitVec.ofNat 32 ↑x)
                      (Scalar.select (Scalar.cmpi CmpIPredicate.eq 40#32 0#32) 1#32 40#32)))
                  38#32)))) = if BitVec.ofNat 32 (256 * g + r.val) = w ∧ x.val % 40 < 38 then (1 : EReal) else 0 := by
  have e1 : Scalar.select (Scalar.cmpi CmpIPredicate.eq 40#32 0#32) 1#32 40#32 = 40#32 := by decide
  have e2 : ∀ x : Fin 640, IntOp.remsi ArithUnit.vector (BitVec.ofNat 32 ↑x) 40#32 = BitVec.ofNat 32 (x.val % 40) := by decide +kernel
  rw [e1, e2]
  have e3 : ∀ k : Fin 40, (IntOp.cmpi CmpIPredicate.slt
      (Scalar.select
        (IntOp.andi (IntOp.xori (IntOp.cmpi CmpIPredicate.slt (BitVec.ofNat 32 k.val) 0#32) (Scalar.cmpi CmpIPredicate.slt 40#32 0#32))
          (IntOp.cmpi CmpIPredicate.ne (BitVec.ofNat 32 k.val) 0#32))
        (IntOp.addi (BitVec.ofNat 32 k.val) 40#32) (BitVec.ofNat 32 k.val)) 38#32) = BitVec.ofBool (decide (k.val < 38)) := by decide +kernel
  rw [e3 ⟨x.val % 40, Nat.mod_lt _ (by norm_num)⟩]
  have e4 : IntOp.addi (Scalar.muli (BitVec.ofNat 32 g) 256#32) (BitVec.ofNat 32 ↑r) = BitVec.ofNat 32 (256 * g + r.val) := by
    apply BitVec.eq_of_toNat_eq
    simp only [IntOp.addi, Scalar.muli, IntOp.muli, BitVec.toNat_add, BitVec.toNat_mul, BitVec.toNat_ofNat]
    omega
  rw [e4]
  have e5 (a b : BitVec 32) : IntOp.cmpi CmpIPredicate.eq a b = BitVec.ofBool (decide (a = b)) := rfl
  rw [e5]
  by_cases h1 : BitVec.ofNat 32 (256 * g + r.val) = w <;> by_cases h2 : x.val % 40 < 38 <;> simp [h1, h2, IntOp.andi]
  all_goals (show ((BitVec.toInt _ : ℝ) : EReal) = _; simp)

theorem pay_at (t : Fin cfg0.N) (x0 : Vec Ideal S1x640 .i32) (xs : Vec Ideal S640x1024 .f32) (x3 : Vec Ideal S1x1024 .f32)
    (r : Fin 256) (d : Fin 1024) :
    k0_pay21 (F := Ideal) (grid0.coords t) x0 xs x3 (ix2 r d)
      = (∑ x : Fin 640, (if BitVec.ofNat 32 (256 * (grid0.coords t 0).val + r.val) = x0 (ix2 0 x) ∧ x.val % 40 < 38 then (1 : EReal) else 0)
          * (show EReal from xs (ix2 x d))) + (show EReal from x3 (ix2 0 d)) := by
  pointwise [k0_pay21]
  refine congrArg (· + _) (Finset.sum_congr rfl fun x _ => congrArg (· * _) ?_)
  exact hot_at _ (grid0.coords t 0).isLt r x _

end Cert.OutCIdeal.Value

end
-- ==== Proof.OutRef.lean ====
/- The reference of the projection call as one term of its arguments, and what it holds at an index. -/
module

public import proofs.«01_k».proof.Proof.Gen.OutRefIdeal
public import Idealize.ShloMosaic.Lib.Pointwise
public import Idealize.ShloMosaic.Lib.Routing.OpsSet
public import Idealize.ShloMosaic.Lib.Pipeline.ValueKit

@[expose] public section

set_option maxRecDepth 16384

noncomputable section

namespace Cert.OutRefIdeal.Read

open Cert.OutRefIdeal Cert.OutRefIdeal.Gen Idealize.ShloMosaic Idealize.ShloMosaic.TcCoe
open scoped BigOperators

/-- The places the selected rows are put at: (0, head, row) for every head and selected position. -/
def table (a0 : IVec S16x40 32) : IVec S1x16x38x3 32 :=
  ((concatenate S1x16x38x3 3 [⟨S1x16x38x1, ((broadcastInDim S1x16x38x1 ![0, 1, 2] bcast_S1x16x38_S1x16x38x1_0_1_2 (broadcastInDim S1x16x38 ![0, 1, 2] bcast_S1x1x1_S1x16x38_0_1_2 (select (cmpi .slt (broadcastInDim S1x1x1 ![0] bcast_S1_S1x1x1_0 (iotaInDim S1 32 0)) (broadcastInDim S1x1x1 ![] bcast_S_S1x1x1 (constantI S_ 32 0#32))) (addi (broadcastInDim S1x1x1 ![0] bcast_S1_S1x1x1_0 (iotaInDim S1 32 0)) (broadcastInDim S1x1x1 ![] bcast_S_S1x1x1 (constantI S_ 32 1#32))) (broadcastInDim S1x1x1 ![0] bcast_S1_S1x1x1_0 (iotaInDim S1 32 0))))) : (⟨S1x16x38x1, .i32⟩ : BufTy).Contents (Elt Ideal))⟩, ⟨S1x16x38x1, ((broadcastInDim S1x16x38x1 ![0, 1, 2] bcast_S1x16x38_S1x16x38x1_0_1_2 (broadcastInDim S1x16x38 ![0, 1, 2] bcast_S1x16x1_S1x16x38_0_1_2 (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0))))) : (⟨S1x16x38x1, .i32⟩ : BufTy).Contents (Elt Ideal))⟩, ⟨S1x16x38x1, ((broadcastInDim S1x16x38x1 ![0, 1, 2] bcast_S1x16x38_S1x16x38x1_0_1_2 (select (cmpi .slt (broadcastInDim S1x16x38 ![1, 2] bcast_S16x38_S1x16x38_1_2 (extractStridedSlice S16x38 ![0, 0] a0 slices_S16x40_S16x38_0_0)) (broadcastInDim S1x16x38 ![] bcast_S_S1x16x38 (constantI S_ 32 0#32))) (addi (broadcastInDim S1x16x38 ![1, 2] bcast_S16x38_S1x16x38_1_2 (extractStridedSlice S16x38 ![0, 0] a0 slices_S16x40_S16x38_0_0)) (broadcastInDim S1x16x38 ![] bcast_S_S1x16x38 (constantI S_ 32 2048#32))) (broadcastInDim S1x16x38 ![1, 2] bcast_S16x38_S1x16x38_1_2 (extractStridedSlice S16x38 ![0, 0] a0 slices_S16x40_S16x38_0_0)))) : (⟨S1x16x38x1, .i32⟩ : BufTy).Contents (Elt Ideal))⟩] concatenates_S1x16x38x1_S1x16x38x1_S1x16x38x1_S1x16x38x3_d3 : (⟨S1x16x38x3, .i32⟩ : BufTy).Contents (Elt Ideal)))

/-- The selected rows put at their places of a zero array. -/
def placed (a0 : IVec S16x40 32) (a1 : FVec Ideal S16x40x64 .f32) : FVec Ideal S1x16x2048x64 .f32 :=
  (Host.scatter scatter_S1x16x2048x64_S1x16x38x3_S1x16x38x64_3_012_012_3 (fun _ b => b) (broadcastInDim S1x16x2048x64 ![] bcast_S_S1x16x2048x64 (constant S_ .f32 0x00000000#32)) (table a0) (broadcastInDim S1x16x38x64 ![1, 2, 3] bcast_S16x38x64_S1x16x38x64_1_2_3 (extractStridedSlice S16x38x64 ![0, 0, 0] a1 slices_S16x40x64_S16x38x64_0_0_0)))

/-- The reference's result over its arguments. -/
abbrev REF (a0 : IVec S16x40 32) (a1 : FVec Ideal S16x40x64 .f32) (a2 : FVec Ideal S1024x1024 .f32)
    (a3 : FVec Ideal S1024 .f32) : FVec Ideal S2048x1024 .f32 :=
  shapeCast _ (addf (Host.dotGeneral dot_S1x2048x1024_S1024x1024_S1x2048x1024_2_0_01_1_n_n none (shapeCast _ (transpose S1x2048x16x64 [0, 2, 1, 3] (placed a0 a1) transposes_S1x16x2048x64_S1x2048x16x64_0_2_1_3) shapeCasts_S1x2048x16x64_S1x2048x1024) (transpose S1024x1024 [1, 0] a2 transposes_S1024x1024_S1024x1024_1_0)) (broadcastInDim S1x2048x1024 ![0, 1, 2] bcast_S1x1x1024_S1x2048x1024_0_1_2 (broadcastInDim S1x1x1024 ![2] bcast_S1024_S1x1x1024_2 a3))) shapeCasts_S1x2048x1024_S2048x1024

theorem table_0 (a0 : IVec S16x40 32) (h : Fin 16) (i : Fin 38) : table a0 (ix4 0 h i 0) = 0#32 := by
  pointwise [table]
  decide

theorem table_1 (a0 : IVec S16x40 32) (h : Fin 16) (i : Fin 38) : table a0 (ix4 0 h i 1) = BitVec.ofNat 32 h.val := by
  pointwise [table]
  refine Routing.wrap_of_lt _ _ ?_
  have := h.isLt
  simp only [BitVec.toNat_ofNat]
  omega

theorem table_2 (a0 : IVec S16x40 32) (h : Fin 16) (i : Fin 38) (hr : (a0 (ix2 h ⟨i.val, by omega⟩)).toNat < 2048) :
    table a0 (ix4 0 h i 2) = a0 (ix2 h ⟨i.val, by omega⟩) := by
  pointwise [table]
  exact Routing.wrap_of_lt _ _ (by omega)

abbrev sdims := scatter_S1x16x2048x64_S1x16x38x3_S1x16x38x64_3_012_012_3

theorem start_at (idx : IVec S1x16x38x3 32) (h : Fin 16) (i : Fin 38) (e : Fin 64) :
    sdims.start (ix4 0 h i e) idx 0 = (idx (ix4 0 h i 0)).toInt ∧ sdims.start (ix4 0 h i e) idx 1 = (idx (ix4 0 h i 1)).toInt
      ∧ sdims.start (ix4 0 h i e) idx 2 = (idx (ix4 0 h i 2)).toInt ∧ sdims.start (ix4 0 h i e) idx 3 = 0 := by
  refine ⟨?_, ?_, ?_, rfl⟩
  · exact congrArg (fun y => (idx y).toInt) (by funext a; fin_cases a <;> rfl)
  · exact congrArg (fun y => (idx y).toInt) (by funext a; fin_cases a <;> rfl)
  · exact congrArg (fun y => (idx y).toInt) (by funext a; fin_cases a <;> rfl)

theorem window_at (h : Fin 16) (i : Fin 38) (e : Fin 64) :
    sdims.window (ix4 0 h i e) 0 = 0 ∧ sdims.window (ix4 0 h i e) 1 = 0
      ∧ sdims.window (ix4 0 h i e) 2 = 0 ∧ sdims.window (ix4 0 h i e) 3 = e.val := ⟨rfl, rfl, rfl, rfl⟩

theorem lands (idx : IVec S1x16x38x3 32) (h h' : Fin 16) (i : Fin 38) (e e' : Fin 64) (r : Fin 2048) :
    sdims.resultIdx? (ix4 0 h i e) idx = some (ix4 0 h' r e')
      ↔ (idx (ix4 0 h i 0)).toInt = 0 ∧ (idx (ix4 0 h i 1)).toInt = h'.val ∧ (idx (ix4 0 h i 2)).toInt = r.val ∧ e = e' := by
  obtain ⟨s0, s1, s2, s3⟩ := start_at idx h i e
  obtain ⟨w0, w1, w2, w3⟩ := window_at h i e
  rw [Routing.resultIdx?_eq_some]
  constructor
  · intro q
    have q0 := q 0
    have q1 := q 1
    have q2 := q 2
    have q3 := q 3
    rw [s0, w0] at q0; rw [s1, w1] at q1; rw [s2, w2] at q2; rw [s3, w3] at q3
    change _ = (((0 : Fin 1).val : ℕ) : ℤ) at q0
    change _ = ((h'.val : ℕ) : ℤ) at q1
    change _ = ((r.val : ℕ) : ℤ) at q2
    change _ = ((e'.val : ℕ) : ℤ) at q3
    exact ⟨by simpa using q0, by simpa using q1, by simpa using q2, Fin.ext (by simpa using q3)⟩
  · rintro ⟨q0, q1, q2, rfl⟩ a
    match a with
    | ⟨0, _⟩ => exact (congrArg₂ (fun x (y : ℕ) => x + (y : ℤ)) s0 w0).trans (by rw [q0]; rfl)
    | ⟨1, _⟩ => exact (congrArg₂ (fun x (y : ℕ) => x + (y : ℤ)) s1 w1).trans (by rw [q1]; exact add_zero _)
    | ⟨2, _⟩ => exact (congrArg₂ (fun x (y : ℕ) => x + (y : ℤ)) s2 w2).trans (by rw [q2]; exact add_zero _)
    | ⟨3, _⟩ => exact (congrArg₂ (fun x (y : ℕ) => x + (y : ℤ)) s3 w3).trans (zero_add _)

theorem REF_at (a0 : IVec S16x40 32) (a1 : FVec Ideal S16x40x64 .f32) (a2 : FVec Ideal S1024x1024 .f32)
    (a3 : FVec Ideal S1024 .f32) (r : Fin 2048) (d : Fin 1024) : REF a0 a1 a2 a3 (ix2 r d)
      = (∑ x : Fin 1024, (show EReal from placed a0 a1 (ix4 0 (⟨x.val / 64, by omega⟩ : Fin 16) r (⟨x.val % 64, by omega⟩ : Fin 64)))
          * (show EReal from a2 (ix2 d x))) + (show EReal from a3 (ix1 d)) := by
  pointwise [REF]

variable (a0 : IVec S16x40 32) (a1 : FVec Ideal S16x40x64 .f32)

theorem toInt_small (w : BitVec 32) (hw : w.toNat < 2048) : w.toInt = (w.toNat : ℤ) := by
  rw [BitVec.toInt_eq_toNat_cond, if_pos (by omega)]

/-- Which updates land on row `r` of head `h`. -/
theorem lands_table (hr : ∀ (h : Fin 16) (i : Fin 40), (a0 (ix2 h i)).toNat < 2048)
    (h h' : Fin 16) (i : Fin 38) (e e' : Fin 64) (r : Fin 2048) :
    sdims.resultIdx? (ix4 0 h i e) (table a0) = some (ix4 0 h' r e')
      ↔ h = h' ∧ (a0 (ix2 h ⟨i.val, by omega⟩)).toNat = r.val ∧ e = e' := by
  rw [lands, table_0, table_1, table_2 a0 h i (hr _ _), toInt_small _ (hr _ _), toInt_small (BitVec.ofNat 32 h.val)
    (by have := h.isLt; simp only [BitVec.toNat_ofNat]; omega)]
  have hh : (BitVec.ofNat 32 h.val).toNat = h.val := by have := h.isLt; simp only [BitVec.toNat_ofNat]; omega
  rw [hh]
  constructor
  · rintro ⟨_, q1, q2, q3⟩; exact ⟨Fin.ext (by omega), by omega, q3⟩
  · rintro ⟨rfl, q2, q3⟩; exact ⟨rfl, rfl, by omega, q3⟩

theorem upd_at (h : Fin 16) (i : Fin 38) (e : Fin 64) :
    (broadcastInDim S1x16x38x64 ![1, 2, 3] bcast_S16x38x64_S1x16x38x64_1_2_3 (extractStridedSlice S16x38x64 ![0, 0, 0] a1 slices_S16x40x64_S16x38x64_0_0_0)) (ix4 0 h i e)
      = a1 (ix3 h ⟨i.val, by omega⟩ e) := by
  pointwise

theorem idx_eta (k : S1x16x38x64.Idx) : ∃ (h : Fin 16) (i : Fin 38) (e : Fin 64), k = ix4 0 h i e := by
  refine ⟨k 1, k 2, k 3, ?_⟩
  funext a
  match a with
  | ⟨0, _⟩ => exact Subsingleton.elim (α := Fin 1) _ _
  | ⟨1, _⟩ => rfl
  | ⟨2, _⟩ => rfl
  | ⟨3, _⟩ => rfl

/-- Where a selected position holds the row, the placed array holds that position's values. -/
theorem placed_hit (hr : ∀ (h : Fin 16) (i : Fin 40), (a0 (ix2 h i)).toNat < 2048)
    (hd : ∀ (h : Fin 16) (i j : Fin 40), i.val < 38 → j.val < 38 → a0 (ix2 h i) = a0 (ix2 h j) → i = j)
    (h : Fin 16) (i : Fin 40) (hi : i.val < 38) (r : Fin 2048) (e : Fin 64) (q : (a0 (ix2 h i)).toNat = r.val) :
    placed a0 a1 (ix4 0 h r e) = a1 (ix3 h i e) := by
  refine Routing.scatter_set_hit sdims _ (table a0) _ (ix4 0 h r e) _ (fun k hk => ?_) (ix4 0 h (⟨i.val, hi⟩ : Fin 38) e)
    ((lands_table a0 hr h h ⟨i.val, hi⟩ e e r).2 ⟨rfl, q, rfl⟩)
  obtain ⟨kh, ki, ke, rfl⟩ := idx_eta k
  obtain ⟨rfl, k2, rfl⟩ := (lands_table a0 hr _ _ _ _ _ _).1 hk
  rw [upd_at]
  have hji : (⟨ki.val, by omega⟩ : Fin 40) = i :=
    hd kh _ _ ki.isLt hi (BitVec.eq_of_toNat_eq (k2.trans q.symm))
  rw [hji]

/-- Where none does, zero. -/
theorem placed_miss (hr : ∀ (h : Fin 16) (i : Fin 40), (a0 (ix2 h i)).toNat < 2048)
    (h : Fin 16) (r : Fin 2048) (e : Fin 64) (q : ∀ i : Fin 40, i.val < 38 → (a0 (ix2 h i)).toNat ≠ r.val) :
    placed a0 a1 (ix4 0 h r e) = (0 : EReal) := by
  refine (Routing.scatter_set_miss sdims _ (table a0) _ (ix4 0 h r e) (fun k hk => ?_)).trans ?_
  · obtain ⟨kh, ki, ke, rfl⟩ := idx_eta k
    obtain ⟨rfl, k2, rfl⟩ := (lands_table a0 hr _ _ _ _ _ _).1 hk
    exact q _ ki.isLt k2
  · pointwise
    try exact Ideal.ofBits_zero

end Cert.OutRefIdeal.Read

end
-- ==== Proof.OutMath.lean ====
/- The two forms of the projection, over the extended reals. -/
module

public import Mathlib.Data.EReal.Operations
public import Mathlib.Algebra.BigOperators.Fin
public import Mathlib.Algebra.BigOperators.Group.Finset.Basic

@[expose] public section

noncomputable section

namespace Cert.OutMath

open scoped BigOperators

/-- A sum over `n` is the sum over the quotients of the sums over the remainders. -/
theorem sum_split {a b n : ℕ} (hn : a * b = n) (hb : 0 < b) (f : Fin n → EReal) :
    ∑ x, f x = ∑ i : Fin a, ∑ j : Fin b, f ⟨i.val * b + j.val, by
      have h1 := i.isLt; have h2 := j.isLt
      calc i.val * b + j.val < i.val * b + b := by omega
        _ = (i.val + 1) * b := by ring
        _ ≤ a * b := Nat.mul_le_mul_right _ h1
        _ = n := hn⟩ := by
  subst hn
  rw [← (finProdFinEquiv (m := a) (n := b)).sum_comp, Fintype.sum_prod_type]
  refine Finset.sum_congr rfl fun i _ => Finset.sum_congr rfl fun j _ => congrArg f (Fin.ext ?_)
  simp [finProdFinEquiv, Nat.mul_comm, Nat.add_comm]

/-- Rows picked by an indicator that holds at most once: the picked row, or nothing. -/
theorem pick {p : ℕ} {q : ℕ} (on : Fin p → Prop) [DecidablePred on] (uniq : ∀ i j, on i → on j → i = j)
    (A : Fin p → Fin q → EReal) (w z : Fin q → EReal) (hit : ∀ i, on i → z = A i) (miss : (∀ i, ¬ on i) → z = fun _ => 0) :
    ∑ i, (if on i then (1 : EReal) else 0) * ∑ e, A i e * w e = ∑ e, z e * w e := by
  by_cases h : ∃ i, on i
  · obtain ⟨i, hi⟩ := h
    rw [Finset.sum_eq_single i (fun j _ hj => by rw [if_neg (fun c => hj (uniq j i c hi)), zero_mul])
      (fun c => absurd (Finset.mem_univ i) c), if_pos hi, one_mul, hit i hi]
  · have hn : ∀ i, ¬ on i := fun i c => h ⟨i, c⟩
    rw [miss hn]
    simp [hn]

end Cert.OutMath

end
-- ==== Proof.OutFinal.lean ====
/- The projection call's result array is the reference's. -/
module

public import proofs.«01_k».proof.Proof.OutPoint
public import proofs.«01_k».proof.Proof.OutRef
public import proofs.«01_k».proof.Proof.OutMath

@[expose] public section

set_option maxRecDepth 16384

noncomputable section

open Idealize.ShloMosaic Idealize.ShloMosaic.TcCoe Idealize.SL.Sem
open Idealize.ShloMosaic.Pipeline (Dat)
open scoped BigOperators

namespace Cert.OutCIdeal.Value

open Cert.OutCIdeal Cert.OutCIdeal.Gen Cert.OutRefIdeal.Read

variable (m : (ℓ : Loc nD τ sig) → Buf (Elt Ideal) ℓ)

theorem idx_val : ∀ t : Fin cfg0.N, win0_0.index t = ![0, 0]
    ∧ win0_1.index t = ![0, 0]
    ∧ win0_2.index t = ![0, 0]
    ∧ win0_3.index t = ![0, 0]
    ∧ win0_4.index t = ![t.val, 0] :=
  (by decide +kernel : ∀ t : Fin grid0.N, _)

theorem coord_val : ∀ t : Fin cfg0.N, (grid0.coords t 0).val = t.val :=
  (by decide +kernel : ∀ t : Fin grid0.N, _)

/-- The four operand blocks at any point, as the launch's arrays. -/
theorem blk_idx (c : Dev nD) (t : Fin cfg0.N) (x : Fin 640) :
    iblk m c 0 t (ix2 0 x) = m ((c : Thread nD τ).loc main_arg0) (ix2 (⟨x.val / 40, by omega⟩ : Fin 16) (⟨x.val % 40, by omega⟩ : Fin 40)) := by
  blk_simp [iblk, idx_val t]
  entry_read
  pointwise
  blk_ext [idx_val t]

theorem blk_sel (c : Dev nD) (t : Fin cfg0.N) (x : Fin 640) (e : Fin 64) :
    iblk m c 1 t (ix2 x e) = m ((c : Thread nD τ).loc main_arg1) (ix3 (⟨x.val / 40, by omega⟩ : Fin 16) (⟨x.val % 40, by omega⟩ : Fin 40) e) := by
  blk_simp [iblk, idx_val t]
  entry_read
  pointwise
  blk_ext [idx_val t]

theorem blk_wo (c : Dev nD) (t : Fin cfg0.N) (x d : Fin 1024) :
    iblk m c 2 t (ix2 x d) = m ((c : Thread nD τ).loc main_arg2) (ix2 d x) := by
  blk_simp [iblk, idx_val t]
  entry_read
  pointwise
  blk_ext [idx_val t]

theorem blk_bo (c : Dev nD) (t : Fin cfg0.N) (d : Fin 1024) :
    iblk m c 3 t (ix2 0 d) = m ((c : Thread nD τ).loc main_arg3) (ix1 d) := by
  blk_simp [iblk, idx_val t]
  entry_read
  pointwise
  blk_ext [idx_val t]

theorem sel_const (c : Dev nD) (t t' : Fin cfg0.N) : iblk m c 1 t = iblk m c 1 t' := by
  funext j
  obtain ⟨x, e, rfl⟩ : ∃ (x : Fin 640) (e : Fin 64), j = ix2 x e := ⟨j 0, j 1, by idx_vars j⟩
  rw [blk_sel, blk_sel]

theorem wo_const (c : Dev nD) (t t' : Fin cfg0.N) : iblk m c 2 t = iblk m c 2 t' := by
  funext j
  obtain ⟨x, e, rfl⟩ : ∃ (x : Fin 1024) (e : Fin 1024), j = ix2 x e := ⟨j 0, j 1, by idx_vars j⟩
  rw [blk_wo, blk_wo]

/-- After every point the scratch holds the rows' products. -/
theorem scratch_all (c : Dev nD) (t : Fin cfg0.N) :
    (outsAt0 m c t.val t.isLt).2 = headRows (iblk m c 1 t) (iblk m c 2 t) := by
  obtain ⟨n, hn⟩ := t
  induction n with
  | zero =>
    have e := congrArg Prod.snd (outsAt0_A m c ⟨0, hn⟩ (Nat.zero_mod 8))
    dsimp only at e ⊢
    rw [e, scratch_A c ⟨0, hn⟩ (Nat.zero_mod 8)]
  | succ n ih =>
    by_cases h : (n + 1) % 8 = 0
    · have e := congrArg Prod.snd (outsAt0_A m c ⟨n + 1, hn⟩ h)
      dsimp only at e ⊢
      rw [e, scratch_A c ⟨n + 1, hn⟩ h]
    · have e := congrArg Prod.snd (outsAt0_B m c ⟨n + 1, hn⟩ h)
      dsimp only at e ⊢
      rw [e]
      unfold sout0_B_0
      have := ih (Nat.lt_of_succ_lt hn)
      dsimp only at this
      rw [sel_const m c ⟨n + 1, hn⟩ ⟨n, Nat.lt_of_succ_lt hn⟩, wo_const m c ⟨n + 1, hn⟩ ⟨n, Nat.lt_of_succ_lt hn⟩]
      exact this

theorem out_all (c : Dev nD) (t : Fin cfg0.N) :
    (outsAt0 m c t.val t.isLt).1 = k0_pay21 (grid0.coords t) (iblk m c 0 t) (headRows (iblk m c 1 t) (iblk m c 2 t)) (iblk m c 3 t) := by
  by_cases h : t.val % 8 = 0
  · have e := congrArg Prod.fst (outsAt0_A m c t h)
    dsimp only at e
    rw [e, out_A c t h]
  · have e := congrArg Prod.fst (outsAt0_B m c t h)
    dsimp only at e
    rw [e, out_B c t h]
    have hn : t.val - 1 < cfg0.N := Nat.lt_of_le_of_lt (Nat.sub_le _ _) t.isLt
    have := scratch_all m c ⟨t.val - 1, hn⟩
    dsimp only at this
    rw [this, sel_const m c ⟨t.val - 1, hn⟩ t, wo_const m c ⟨t.val - 1, hn⟩ t]

/-- One entry of the result. -/
theorem entry (a0 : IVec Cert.OutRefIdeal.S16x40 32) (a1 : FVec Ideal Cert.OutRefIdeal.S16x40x64 .f32) (a2 : FVec Ideal Cert.OutRefIdeal.S1024x1024 .f32)
    (a3 : FVec Ideal Cert.OutRefIdeal.S1024 .f32)
    (hr : ∀ (h : Fin 16) (i : Fin 40), (a0 (ix2 h i)).toNat < 2048)
    (hd : ∀ (h : Fin 16) (i j : Fin 40), i.val < 38 → j.val < 38 → a0 (ix2 h i) = a0 (ix2 h j) → i = j)
    (r : Fin 2048) (d : Fin 1024) :
    (∑ x : Fin 640, (if BitVec.ofNat 32 r.val = a0 (ix2 (⟨x.val / 40, by omega⟩ : Fin 16) (⟨x.val % 40, by omega⟩ : Fin 40)) ∧ x.val % 40 < 38 then (1 : EReal) else 0)
        * ∑ e : Fin 64, (show EReal from a1 (ix3 (⟨x.val / 40, by omega⟩ : Fin 16) (⟨x.val % 40, by omega⟩ : Fin 40) e))
          * (show EReal from a2 (ix2 d (⟨x.val / 40 * 64 + e.val, by omega⟩ : Fin 1024)))) + (show EReal from a3 (ix1 d))
      = REF a0 a1 a2 a3 (ix2 r d) := by
  rw [REF_at]
  refine congrArg (· + _) ?_
  rw [OutMath.sum_split (a := 16) (b := 40) rfl (by norm_num), OutMath.sum_split (a := 16) (b := 64) rfl (by norm_num)]
  refine Finset.sum_congr rfl fun h _ => ?_
  have e1 : ∀ i : Fin 40, (h.val * 40 + i.val) / 40 = h.val := fun i => by omega
  have e2 : ∀ i : Fin 40, (h.val * 40 + i.val) % 40 = i.val := fun i => by omega
  have e3 : ∀ e : Fin 64, (h.val * 64 + e.val) / 64 = h.val := fun e => by omega
  have e4 : ∀ e : Fin 64, (h.val * 64 + e.val) % 64 = e.val := fun e => by omega
  simp only [e1, e2, e3, e4]
  refine OutMath.pick (fun i : Fin 40 => BitVec.ofNat 32 r.val = a0 (ix2 h i) ∧ i.val < 38) (fun i j hi hj => hd h i j hi.2 hj.2 (hi.1.symm.trans hj.1))
    (fun i e => a1 (ix3 h i e)) (fun e => a2 (ix2 d (⟨h.val * 64 + e.val, by omega⟩ : Fin 1024)))
    (fun e => placed a0 a1 (ix4 0 h r e)) (fun i hi => ?_) (fun hn => ?_)
  · funext e
    refine placed_hit a0 a1 hr hd h i hi.2 r e ?_
    rw [← hi.1]
    have := r.isLt
    simp only [BitVec.toNat_ofNat]; omega
  · funext e
    refine placed_miss a0 a1 hr h r e fun i hi q => hn i ⟨?_, hi⟩
    apply BitVec.eq_of_toNat_eq
    rw [q]
    have := r.isLt
    simp only [BitVec.toNat_ofNat]; omega

theorem final (c : Dev nD)
    (hr : ∀ (h : Fin 16) (i : Fin 40), ((m ((c : Thread nD τ).loc main_arg0) : IVec S16x40 32) (ix2 h i)).toNat < 2048)
    (hd : ∀ (h : Fin 16) (i j : Fin 40), i.val < 38 → j.val < 38 → (m ((c : Thread nD τ).loc main_arg0) : IVec S16x40 32) (ix2 h i) = (m ((c : Thread nD τ).loc main_arg0) : IVec S16x40 32) (ix2 h j) → i = j) :
    (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp [idx_val t]
  rw [after0_4, out_all]
  obtain ⟨r, d, rfl⟩ : ∃ (r : Fin 256) (d : Fin 1024), y = ix2 r d := ⟨y 0, y 1, by idx_vars y⟩
  have ht : t.val < 8 := t.isLt
  have hy : (win0_4.blk t).view.emb (ix2 r d) = ix2 (⟨256 * t.val + r.val, by omega⟩ : Fin 2048) d := by blk_ext [idx_val t]
  rw [hy, ← entry _ _ _ _ hr hd, pay_at]
  simp only [coord_val, headRows, blk_idx]
  exact congrArg₂ (· + ·) (Finset.sum_congr rfl fun x _ => congrArg₂ (· * ·) rfl
    (Finset.sum_congr rfl fun e _ => congrArg₂ (· * ·) (blk_sel m c t x e) (blk_wo m c t _ d))) (blk_bo m c t d)

end Cert.OutCIdeal.Value

end
-- ==== Proof.OutPre.lean ====
/- What the precondition of the projection call says. -/
module

public import proofs.«01_k».proof.Proof.Gen.Pre_distinct_rows
public import Idealize.ShloMosaic.Lib.Pointwise
public import Idealize.ShloMosaic.Lib.ReduceAll
public import Idealize.ShloMosaic.Lib.Affine
public import Idealize.ShloMosaic.Lib.Pipeline.ValueKit

@[expose] public section

set_option maxRecDepth 16384

noncomputable section

namespace Cert.OutPre

open Cert.Pre_distinct_rows Cert.Pre_distinct_rows.Gen Idealize.ShloMosaic Idealize.ShloMosaic.TcCoe

instance : Subsingleton S_.Idx := ⟨fun a b => funext fun x => x.elim0⟩

theorem distinct (a0 : IVec S16x40 32) (a1 : FVec Ideal S16x40x64 .f32) (a2 : FVec Ideal S1024x1024 .f32)
    (a3 : FVec Ideal S1024 .f32) (H : Cert.Pre_distinct_rows.fn (F := Ideal) a0 a1 a2 a3 = fun _ => 1#1) :
    (∀ (h : Fin 16) (i : Fin 40), (a0 (ix2 h i)).toNat < 2048)
    ∧ ∀ (h : Fin 16) (i j : Fin 40), i.val < 38 → j.val < 38 → a0 (ix2 h i) = a0 (ix2 h j) → i = j := by
  have H0 := congrFun H default
  simp only [Cert.Pre_distinct_rows.fn, Cert.Pre_distinct_rows.fn_part1] at H0
  obtain ⟨p, q⟩ := IntOp.andi_eq_one.1 H0
  constructor
  · intro h i
    have p1 := Host.reduce_andi_all _ _ _ _ _ p (ix2 h i)
    revert p1
    pointwise
    intro p1
    obtain ⟨p2, p3⟩ := IntOp.andi_eq_one.1 p1
    generalize a0 (ix2 h i) = x at p2 p3 ⊢
    have p4 := IntOp.cmpi_sge.1 p2
    have p5 := IntOp.cmpi_slt.1 p3
    rw [show (0#32).toInt = 0 from rfl] at p4
    rw [show (2048#32).toInt = 2048 from rfl] at p5
    have p6 := BitVec.toInt_eq_toNat_cond x
    have := x.isLt
    split at p6 <;> omega
  · intro h i j hi hj e
    have q1 := Host.reduce_andi_all _ _ _ _ _ q (ix3 h (⟨i.val, hi⟩ : Fin 38) (⟨j.val, hj⟩ : Fin 38))
    revert q1
    pointwise
    intro q1
    rw [e] at q1
    refine Fin.ext ?_
    by_contra hn
    have hne : BitVec.ofNat 32 i.val ≠ BitVec.ofNat 32 j.val := fun hh => hn (by
      have := congrArg BitVec.toNat hh
      simp only [BitVec.toNat_ofNat] at this
      omega)
    simp [IntOp.cmpi, IntOp.ori] at q1
    rw [beq_false_of_ne hne] at q1
    exact absurd q1 (by decide)

end Cert.OutPre

end
-- ==== Proof.TopKIdealFrame.lean ====
/-
  The token choice's frame: the body run at each grid coordinate over whole memrefs, its inputs left as they were and
  what it writes forgotten, the launch, and the argument arrays unchanged with every counter at zero.
-/
module

public import proofs.«01_k».proof.Proof.Gen.TopKIdeal.Frame
public import proofs.«01_k».proof.Proof.Gen.TopKIdeal.Loops
public import Idealize.ShloMosaic.Lib.Claim

@[expose] public section

set_option maxRecDepth 16384

noncomputable section

namespace Cert.TopKIdealRun

open Cert.TopKIdeal Cert.TopKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point before the last: the rows' norms are computed and stored. -/
theorem run_point (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
    (hc1 : k0_cond1 i = 1#1) (hc2 : ¬ k0_cond2 i = 1#1) (x0 : Vec F S2048x1024 .f32) (x1 : Vec F S1024x1024 .f32) (x2 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0__qn_topk_body i arg1 harg1 arg2 harg2 arg3 harg3 arg4 harg4 arg5 harg5 arg6 harg6) K := by
  simp only [cc0__qn_topk_body_eq_skeleton]; unfold cc0__qn_topk_body_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec_parts (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; iexists _; isplitr
    swap; · iexact H3
    ipureintro; rfl
  isplitl [H4]
  · iexists _; iexists _; isplitr
    swap; · iexact H4
    ipureintro; rfl
  iexists _; iexists _; isplitr
  swap; · iexact H5
  ipureintro; rfl

set_option maxHeartbeats 4000000 in
/-- The last point: the columns' best are found round by round and the result stored. -/
theorem run_last (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
    (hc1 : ¬ k0_cond1 i = 1#1) (hc2 : k0_cond2 i = 1#1) (x0 : Vec F S2048x1024 .f32) (x1 : Vec F S1024x1024 .f32) (x2 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0__qn_topk_body i arg1 harg1 arg2 harg2 arg3 harg3 arg4 harg4 arg5 harg5 arg6 harg6) K := by
  simp only [cc0__qn_topk_body_eq_skeleton]; unfold cc0__qn_topk_body_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec_parts (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; iexists _; isplitr
    swap; · iexact H3
    ipureintro; rfl
  isplitl [H4]
  · iexists _; iexists _; isplitr
    swap; · iexact H4
    ipureintro; rfl
  iexists _; iexists _; isplitr
  swap; · iexact H5
  ipureintro; rfl

/-- Norms are computed at every point but the last, the selection at the last alone. -/
theorem norms_iff (t : Fin cfg0.N) : k0_cond1 (grid0.coords t) = 1#1 ↔ t.val < 8 := by
  have e0 : (grid0.coords t 0).val = t.val / 1 % 9 := Pipeline.Grid.coords_val t 0 (by decide) rfl
  have hN : t.val < 9 := lt_of_lt_of_eq t.isLt (show cfg0.N = 9 from N_0)
  simp only [k0_cond1, e0]
  word_cmp

theorem select_iff (t : Fin cfg0.N) : k0_cond2 (grid0.coords t) = 1#1 ↔ t.val = 8 := by
  have e0 : (grid0.coords t 0).val = t.val / 1 % 9 := Pipeline.Grid.coords_val t 0 (by decide) rfl
  have hN : t.val < 9 := lt_of_lt_of_eq t.isLt (show cfg0.N = 9 from N_0)
  simp only [k0_cond2, e0]
  word_cmp

abbrev ms0 (t : Fin cfg0.N) : Memref sig .tc .vmem S2048x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S16x40 .i32 := win0_3.stage (cfg0.slots t 3)
abbrev sm0 : Memref sig .tc .vmem S2048x16 .f32 := Memref.whole cc0_scratch0
abbrev sm1 : Memref sig .tc .vmem S256x128 .f32 := Memref.whole cc0_scratch1

theorem scratch_eq (c : Dev nD) :
    (Pipeline.ΦA spec0 c : sProp 𝕄)
      = iprop(iprop((∃ d, owns (c : Thread nD τ) sm0 fullShare d) ∗ (∃ d, owns (c : Thread nD τ) sm1 fullShare d)) ∗ (∃ r, prngReg c r)) := by
  unfold Pipeline.ΦA; rw [scopedRest0_eq]; simp only [sm0, sm1, owns_whole]; try rfl

/-- The windows nothing is said of: the result's. -/
def hidden (w : Fin cfg0.W) : Bool := match w with
  | ⟨0, _⟩ => false
  | ⟨1, _⟩ => false
  | ⟨2, _⟩ => false
  | ⟨3, _⟩ => true

/-- The proof data: each input's buffer keeps its block; the result and the scratch are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2]
  rw [show (dats m 0 c).Φ t.succ = Pipeline.ΦA spec0 c from rfl,
    show (dats m 0 c).Φ t.castSucc = Pipeline.ΦA spec0 c from rfl, scratch_eq]
  have hN : t.val < 9 := lt_of_lt_of_eq t.isLt (show cfg0.N = 9 from N_0)
  by_cases h : t.val < 8
  · iintro ⟨⟨⟨HS0, HS1⟩, Hg⟩, Ho, ⟨%d0, H0⟩, ⟨%d1, H1⟩, ⟨%d2, H2⟩, H3⟩
    iapply (run_point c (grid0.coords t) _ _ _ _ _ _ _ _ _ _ _ _ ((norms_iff t).mpr h) (fun h2 => absurd ((select_iff t).mp h2) (by omega)) (iblk m c 0 t) (iblk m c 1 t) (iblk m c 2 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3
  · iintro ⟨⟨⟨HS0, HS1⟩, Hg⟩, Ho, ⟨%d0, H0⟩, ⟨%d1, H1⟩, ⟨%d2, H2⟩, H3⟩
    iapply (run_last c (grid0.coords t) _ _ _ _ _ _ _ _ _ _ _ _ (fun h1 => h ((norms_iff t).mp h1)) ((select_iff t).mpr (by omega)) (iblk m c 0 t) (iblk m c 1 t) (iblk m c 2 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ hidden := fun t => by
  rw [bigSep_W0, bigSep_W0, defs₀_row]
  exact triple_restated (sound_body m c t) rfl .rfl fun _ => .rfl

set_option backward.isDefEq.respectTransparency.types false in
/-- The launch: every input's array unchanged, every counter at zero. -/
theorem run_quiescent : θ_run defs (onTc (τ := τ) (main (F := F))) (s₀ m ρ)
    (fun r => Pipeline.RDat.FramePost cfg0 (fun c => (dats m 0 c).toRForget hidden) (V m) r ∧ r.2.sem = fun _ => 0) :=
  Pipeline.θ_run_frame_forget (Q' := _) cfgs (dats m) (0 : Fin 1) launch0 defs₀ Variants.none hidden m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(((dats m 0 c).toRForget_arrAt_iff (fgt := hidden) (w := 0) rfl _ _).mp ((h.1 c).1 0)).trans (((dats m 0 c).arrAt_in 0 rfl _).trans ((A_eq m c 0).trans (V_main_arg0 m c))),
     (((dats m 0 c).toRForget_arrAt_iff (fgt := hidden) (w := 1) rfl _ _).mp ((h.1 c).1 1)).trans (((dats m 0 c).arrAt_in 1 rfl _).trans ((A_eq m c 1).trans (V_main_arg1 m c))),
     (((dats m 0 c).toRForget_arrAt_iff (fgt := hidden) (w := 2) rfl _ _).mp ((h.1 c).1 2)).trans (((dats m 0 c).arrAt_in 2 rfl _).trans ((A_eq m c 2).trans (V_main_arg2 m c)))⟩, h.2⟩)
    (run_quiescent m ρ)

end Cert.TopKIdealRun

end
-- ==== Proof.TopKExact.lean ====
/-
  The token choice's body run exactly: what a point before the last stores into the norms, and what the last stores
  into the result.
-/
module

public import proofs.«01_k».proof.Proof.Gen.TopKIdeal.Frame
public import proofs.«01_k».proof.Proof.Gen.TopKIdeal.Loops
public import Idealize.ShloMosaic.Lib.Claim
public import Idealize.ShloMosaic.Lib.Pipeline.ReadBack

@[expose] public section

set_option maxRecDepth 16384

noncomputable section

namespace Cert.TopKExact

open Cert.TopKIdeal Cert.TopKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What a point before the last stores into the norms, with the run that ends there. -/
noncomputable def normRun (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
    (hc1 : k0_cond1 i = 1#1) (hc2 : ¬ k0_cond2 i = 1#1) (x0 : Vec F S2048x1024 .f32) (x1 : Vec F S1024x1024 .f32) (x2 : Vec F S1x1024 .f32) (x4 : Vec F S2048x16 .f32) :
    { L : List (View.Piece (Elt F) S2048x16 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg5 fullShare x4
        ∗ (iprop(owns (c : Thread nD τ) arg1 fullShare x0 ∗ owns (c : Thread nD τ) arg2 fullShare x1 ∗ owns (c : Thread nD τ) arg3 fullShare x2 ∗ arg5.view.loc (c : Thread nD τ) ↦[arg5.view.set]{fullShare} arg5.view.writes (Elt F) (harg5.unread x4) L) -∗ K ⟨⟩))
      ⊢ wp frame (wpE (defs₀ (F := F)) Variants.none c none) E (cc0__qn_topk_body i arg1 harg1 arg2 harg2 arg3 harg3 arg4 harg4 arg5 harg5 arg6 harg6) K } := by
  refine ⟨?_, fun E K => ?run⟩
  case run =>
    simp only [cc0__qn_topk_body_eq_skeleton]; unfold cc0__qn_topk_body_skel
    unfold owns
    iintro ⟨⟨%f0, %hf0, H0⟩, ⟨%f1, %hf1, H1⟩, ⟨%f2, %hf2, H2⟩, ⟨%f4, %hf4, H4⟩, Hk⟩
    obtain rfl := harg1.eq_unread hf0; obtain rfl := harg2.eq_unread hf1; obtain rfl := harg3.eq_unread hf2; obtain rfl := harg5.eq_unread hf4
    sl_exec_parts (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    sl_close

set_option maxHeartbeats 4000000 in
/-- What the last point stores into the result, with the run that ends there. -/
noncomputable def pickRun (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
    (hc1 : ¬ k0_cond1 i = 1#1) (hc2 : k0_cond2 i = 1#1) (x0 : Vec F S2048x1024 .f32) (x1 : Vec F S1024x1024 .f32) (x2 : Vec F S1x1024 .f32) (x4 : Vec F S2048x16 .f32) (x5 : Vec F S256x128 .f32) :
    { L : List (View.Piece (Elt F) S16x40 .i32) // ∀ (E : Set ℕ) (K : PUnit → sProp 𝕄),
      iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L) ∗ owns (c : Thread nD τ) arg5 fullShare x4 ∗ (∃ f, arg6.view.loc (c : Thread nD τ) ↦[arg6.view.set]{fullShare} f)) -∗ K ⟨⟩))
      ⊢ wp frame (wpE (defs₀ (F := F)) Variants.none c none) E (cc0__qn_topk_body i arg1 harg1 arg2 harg2 arg3 harg3 arg4 harg4 arg5 harg5 arg6 harg6) K } := by
  refine ⟨?_, fun E K => ?run⟩
  case run =>
    simp only [cc0__qn_topk_body_eq_skeleton]; unfold cc0__qn_topk_body_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec_parts (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; isplitr; · ipureintro; exact harg5.read_unread _
      iexact H4
    iexists _; iexact H5

end Cert.TopKExact

end
-- ==== Proof.TopKMath.lean ====
/-
  Choosing the largest entries of a list one after the other, and choosing them out of the largest entries of its strips.
  An entry comes before another when it is larger, or equal and earlier; an entry's rank is how many come before it.
-/
module

public import Idealize.ShloMosaic.PureOps.Ideal.Laws

@[expose] public section

noncomputable section

namespace Cert.TopKMath

open Classical

variable {n : ℕ}

/-- Entry `i` comes before entry `j`. -/
def Before (v : Fin n → EReal) (i j : Fin n) : Prop := v j < v i ∨ (v i = v j ∧ i < j)

theorem Before.trans {v : Fin n → EReal} {i j k : Fin n} (h : Before v i j) (g : Before v j k) : Before v i k := by
  rcases h with h | ⟨h, h'⟩ <;> rcases g with g | ⟨g, g'⟩
  · exact .inl (g.trans h)
  · exact .inl (g ▸ h)
  · exact .inl (h ▸ g)
  · exact .inr ⟨h.trans g, h'.trans g'⟩

theorem Before.irrefl {v : Fin n → EReal} {i : Fin n} (h : Before v i i) : False := by
  rcases h with h | ⟨_, h⟩ <;> exact lt_irrefl _ h

theorem before_total (v : Fin n → EReal) {i j : Fin n} (h : i ≠ j) : Before v i j ∨ Before v j i := by
  rcases lt_trichotomy (v i) (v j) with g | g | g
  · exact .inr (.inl g)
  · rcases lt_or_gt_of_ne h with h | h
    · exact .inl (.inr ⟨g, h⟩)
    · exact .inr (.inr ⟨g.symm, h⟩)
  · exact .inl (.inl g)

/-- The entries before an entry. -/
def preds (v : Fin n → EReal) (i : Fin n) : Finset (Fin n) := Finset.univ.filter fun j => Before v j i

theorem mem_preds {v : Fin n → EReal} {i j : Fin n} : j ∈ preds v i ↔ Before v j i := by simp [preds]

/-- How many entries come before an entry. -/
def rank (v : Fin n → EReal) (i : Fin n) : ℕ := (preds v i).card

theorem rank_lt {v : Fin n → EReal} {i j : Fin n} (h : Before v i j) : rank v i < rank v j := by
  refine Finset.card_lt_card (Finset.ssubset_iff_of_subset (fun k hk => ?_) |>.mpr ⟨i, mem_preds.mpr h, fun g => (mem_preds.mp g).irrefl⟩)
  exact mem_preds.mpr ((mem_preds.mp hk).trans h)

theorem before_of_rank {v : Fin n → EReal} {i j : Fin n} (h : rank v i < rank v j) : Before v i j := by
  have hne : i ≠ j := fun e => by subst e; exact lt_irrefl _ h
  rcases before_total v hne with g | g
  · exact g
  · exact absurd (rank_lt g) (by omega)

theorem rank_inj {v : Fin n → EReal} {i j : Fin n} (h : rank v i = rank v j) : i = j := by
  by_contra hne
  rcases before_total v hne with g | g <;> exact absurd (rank_lt g) (by omega)

theorem card_below (v : Fin n → EReal) (k : ℕ) : (Finset.univ.filter fun i => rank v i < k).card ≤ k := by
  have h := Finset.card_le_card_of_injOn (s := Finset.univ.filter fun i => rank v i < k) (t := Finset.range k) (rank v)
    (fun i hi => by simpa using hi) (fun i _ j _ e => rank_inj e)
  simpa using h

/-- The first of the largest entries. -/
def First (v : Fin n → EReal) (l : Fin n) : Prop := (∀ i, v i ≤ v l) ∧ ∀ i, v i = v l → l ≤ i

/-- What is left of a list after its first `k` entries in order are struck out. -/
def left (v : Fin n → EReal) (k : ℕ) (i : Fin n) : EReal := if rank v i < k then ⊥ else v i

theorem left_zero (v : Fin n → EReal) : left v 0 = v := by funext i; simp [left]

theorem rank_of_first {v : Fin n → EReal} {k : ℕ} (hk : k < (Finset.univ.filter fun i => ⊥ < v i).card) {l : Fin n}
    (h : First (left v k) l) : rank v l = k ∧ ⊥ < v l ∧ left v k l = v l := by
  obtain ⟨e, he, hr⟩ : ∃ e, ⊥ < v e ∧ ¬ rank v e < k := by
    by_contra hno
    push Not at hno
    have h1 : (Finset.univ.filter fun i => ⊥ < v i) ⊆ Finset.univ.filter fun i => rank v i < k := fun i hi => by
      simp only [Finset.mem_filter, Finset.mem_univ, true_and] at hi ⊢
      exact hno i hi
    have := (Finset.card_le_card h1).trans (card_below v k)
    omega
  have hpos : ⊥ < left v k l := lt_of_lt_of_le (by rw [left, if_neg hr]; exact he) (h.1 e)
  have hlr : ¬ rank v l < k := fun g => by rw [left, if_pos g] at hpos; exact lt_irrefl _ hpos
  have hl : left v k l = v l := by rw [left, if_neg hlr]
  refine ⟨le_antisymm ?_ (not_lt.mp hlr), hl ▸ hpos, hl⟩
  refine (Finset.card_le_card (t := Finset.univ.filter fun i => rank v i < k) fun i hi => ?_).trans (card_below v k)
  simp only [Finset.mem_filter, Finset.mem_univ, true_and]
  by_contra hge
  have hi' : left v k i = v i := by rw [left, if_neg hge]
  rcases mem_preds.mp hi with g | ⟨g, g'⟩
  · have := h.1 i; rw [hi', hl] at this; exact absurd g (not_lt.mpr this)
  · have := h.2 i (by rw [hi', hl, g]); exact absurd g' (not_lt.mpr this)

/-- Striking out the first of what is left leaves what is left one entry later. -/
theorem left_succ {v : Fin n → EReal} {k : ℕ} {l : Fin n} (h : rank v l = k) (i : Fin n) :
    left v (k + 1) i = if i = l then ⊥ else left v k i := by
  unfold left
  by_cases e : i = l
  · subst e; rw [if_pos (by omega), if_pos rfl]
  · rw [if_neg e]
    have hne : rank v i ≠ k := fun g => e (rank_inj (g.trans h.symm))
    by_cases g : rank v i < k
    · rw [if_pos g, if_pos (by omega)]
    · rw [if_neg g, if_neg (by omega)]

/-- Entry `i` of strip `s`. -/
def at_ (s : Fin 8) (i : Fin 256) : Fin 2048 := ⟨256 * s.val + i.val, by omega⟩

def strip (v : Fin 2048 → EReal) (s : Fin 8) (i : Fin 256) : EReal := v (at_ s i)

def place (j : Fin 320) : Fin 8 := ⟨j.val / 40, by omega⟩

/-- The entries chosen out of the strips' chosen ones are the whole list's. `p s r` is the entry of rank `r` of strip
    `s`; `c` lists them forty to a strip, the last two of each forty nothing. -/
theorem rank_of_strips (v : Fin 2048 → EReal) (p : Fin 8 → ℕ → Fin 256) (hp : ∀ s r, r < 38 → rank (strip v s) (p s r) = r)
    (c : Fin 320 → EReal) (hc : ∀ j : Fin 320, j.val % 40 < 38 → c j = v (at_ (place j) (p (place j) (j.val % 40))))
    (hc' : ∀ j : Fin 320, ¬ j.val % 40 < 38 → c j = ⊥) {j : Fin 320} (hpos : ⊥ < c j) (hj : rank c j < 38) :
    rank v (at_ (place j) (p (place j) (j.val % 40))) = rank c j := by
  set tok : Fin 320 → Fin 2048 := fun j => at_ (place j) (p (place j) (j.val % 40)) with htok
  have val : ∀ j : Fin 320, (tok j).val = 256 * (j.val / 40) + (p (place j) (j.val % 40)).val := fun _ => rfl
  have good : ∀ i : Fin 320, ⊥ < c i → i.val % 40 < 38 := fun i hi => by
    by_contra hno; rw [hc' i hno] at hi; exact lt_irrefl _ hi
  have inj : ∀ i i' : Fin 320, i.val % 40 < 38 → i'.val % 40 < 38 → tok i = tok i' → i = i' := by
    intro i i' hi hi' e
    have e' := congrArg Fin.val e
    rw [val, val] at e'
    have a := (p (place i) (i.val % 40)).isLt
    have a' := (p (place i') (i'.val % 40)).isLt
    have hs : i.val / 40 = i'.val / 40 := by omega
    have hpl : place i = place i' := Fin.ext hs
    have hpp : p (place i) (i.val % 40) = p (place i') (i'.val % 40) := Fin.ext (by omega)
    have r1 := hp (place i) _ hi
    have r2 := hp (place i') _ hi'
    rw [hpp, hpl] at r1
    exact Fin.ext (by omega)
  have mono : ∀ i i' : Fin 320, i.val % 40 < 38 → i'.val % 40 < 38 → Before c i i' → Before v (tok i) (tok i') := by
    intro i i' hi hi' h
    rw [Before, hc i hi, hc i' hi'] at h
    rcases h with h | ⟨h, h'⟩
    · exact .inl h
    · refine .inr ⟨h, ?_⟩
      show (tok i).val < (tok i').val
      rw [val, val]
      have a := (p (place i) (i.val % 40)).isLt
      have a' := (p (place i') (i'.val % 40)).isLt
      have hlt : i.val < i'.val := h'
      by_cases hs : i.val / 40 = i'.val / 40
      · have hpl : place i = place i' := Fin.ext hs
        have r1 := hp (place i) _ hi
        have r2 := hp (place i') _ hi'
        rw [← hpl] at r2 h ⊢
        have := before_of_rank (v := strip v (place i)) (i := p (place i) (i.val % 40)) (j := p (place i) (i'.val % 40)) (by omega)
        rcases this with g | ⟨_, g⟩
        · exact absurd h.symm (ne_of_lt g)
        · have : (p (place i) (i.val % 40)).val < (p (place i) (i'.val % 40)).val := g
          omega
      · omega
  have hj38 := good j hpos
  have predGood : ∀ i ∈ preds c j, i.val % 40 < 38 := fun i hi => good i <| by
    rcases mem_preds.mp hi with g | ⟨g, _⟩
    · exact hpos.trans g
    · exact g ▸ hpos
  have himg : (preds c j).image tok = preds v (tok j) := by
    ext i
    simp only [Finset.mem_image, mem_preds]
    constructor
    · rintro ⟨i', hi', rfl⟩
      exact mono i' j (predGood i' (mem_preds.mpr hi')) hj38 hi'
    · intro hi
      obtain ⟨s, a, rfl⟩ : ∃ s a, i = at_ s a := ⟨⟨i.val / 256, by omega⟩, ⟨i.val % 256, by omega⟩, Fin.ext (by simp only [at_]; omega)⟩
      -- every candidate of the strip up to the entry's rank comes before `j`
      have key : ∀ r, r < 38 → r ≤ rank (strip v s) a → ∃ i' : Fin 320, i'.val = 40 * s.val + r ∧ tok i' = at_ s (p s r) ∧ Before c i' j := by
        intro r hr hle
        have hlt : 40 * s.val + r < 320 := by omega
        have hm : (40 * s.val + r) % 40 = r := by omega
        have hd : place ⟨40 * s.val + r, hlt⟩ = s := Fin.ext (by simp only [place]; omega)
        have ht : tok ⟨40 * s.val + r, hlt⟩ = at_ s (p s r) := by
          show at_ (place ⟨40 * s.val + r, hlt⟩) (p (place ⟨40 * s.val + r, hlt⟩) ((40 * s.val + r) % 40)) = _
          rw [hd, hm]
        refine ⟨⟨40 * s.val + r, hlt⟩, rfl, ht, ?_⟩
        have hb : Before v (at_ s (p s r)) (tok j) := by
          rcases Nat.lt_or_eq_of_le hle with g | g
          · refine Before.trans ?_ hi
            have := before_of_rank (v := strip v s) (i := p s r) (j := a) (by rw [hp s r hr]; exact g)
            rcases this with g | ⟨g, g'⟩
            · exact .inl g
            · refine .inr ⟨g, ?_⟩
              show 256 * s.val + (p s r).val < 256 * s.val + a.val
              have : (p s r).val < a.val := g'
              omega
          · have : p s r = a := rank_inj (v := strip v s) (by rw [hp s r hr]; exact g)
            rw [this]; exact hi
        by_contra hno
        have hne : (⟨40 * s.val + r, hlt⟩ : Fin 320) ≠ j := fun e => by rw [← ht, e] at hb; exact hb.irrefl
        rcases before_total c hne with g | g
        · exact hno g
        · have := mono j ⟨40 * s.val + r, hlt⟩ hj38 (by show (40 * s.val + r) % 40 < 38; omega) g
          rw [ht] at this
          exact (hb.trans this).irrefl
      by_cases hr : rank (strip v s) a < 38
      · obtain ⟨i', _, ht, hb⟩ := key _ hr le_rfl
        refine ⟨i', hb, ht.trans ?_⟩
        rw [rank_inj (v := strip v s) (hp s _ hr)]
      · exfalso
        have : 38 ≤ (preds c j).card := by
          have h := Finset.card_le_card_of_injOn (s := Finset.range 38) (t := preds c j)
            (fun r => if h : 40 * s.val + r < 320 then ⟨40 * s.val + r, h⟩ else j)
            (fun r hr' => by
              have hr' : r < 38 := by simpa using hr'
              obtain ⟨i', hv, _, hb⟩ := key r hr' (by omega)
              have hlt : 40 * s.val + r < 320 := by omega
              simp only [dif_pos hlt]
              rw [show (⟨40 * s.val + r, hlt⟩ : Fin 320) = i' from Fin.ext hv.symm]
              exact mem_preds.mpr hb)
            (fun r hr' r' hr'' e => by
              have hr' : r < 38 := by simpa using hr'
              have hr'' : r' < 38 := by simpa using hr''
              have hlt : 40 * s.val + r < 320 := by omega
              have hlt' : 40 * s.val + r' < 320 := by omega
              simp only [dif_pos hlt, dif_pos hlt'] at e
              have := congrArg Fin.val e
              simp only at this
              omega)
          simpa using h
        have hj' : (preds c j).card < 38 := hj
        omega
  unfold rank
  rw [← show tok j = at_ (place j) (p (place j) (j.val % 40)) from rfl, ← himg]
  exact Finset.card_image_of_injOn fun i hi i' hi' e =>
    inj i i' (predGood i hi) (predGood i' hi') e

end Cert.TopKMath

end
-- ==== Proof.TopKSort.lean ====
/-
  The host's choice of the largest entries, in order: the entry it puts at position `k` has rank `k`.
-/
module

public import proofs.«01_k».proof.Proof.TopKMath
public import Idealize.ShloMosaic.Lib.SortFacts
public import Idealize.ShloMosaic.Lib.SortNet.Extract

@[expose] public section

noncomputable section

namespace Cert.TopKMath

open Classical
open Idealize.ShloMosaic

variable {n : ℕ}

/-- Inserting an entry among later ones is the same by "larger" and by "comes before". -/
theorem insert_same (v : Fin n → EReal) (R : Fin n → Fin n → Bool) (hR : ∀ a b, R a b = decide (v b < v a)) (a : Fin n) :
    ∀ l : List (Fin n), (∀ b ∈ l, a < b) → insertBefore R a l = insertBefore (fun a b => decide (Before v a b)) a l
  | [], _ => rfl
  | b :: l, h => by
    unfold insertBefore
    rw [insert_same v R hR a l fun c hc => h c (List.mem_cons_of_mem _ hc)]
    have : R b a = decide (Before v b a) := by
      rw [hR, decide_eq_decide]
      refine ⟨fun g => .inl g, fun g => ?_⟩
      rcases g with g | ⟨_, g⟩
      · exact g
      · exact absurd (h b (List.mem_cons_self ..)) (lt_asymm g)
    rw [this]

theorem sort_same (v : Fin n → EReal) (R : Fin n → Fin n → Bool) (hR : ∀ a b, R a b = decide (v b < v a)) :
    ∀ l : List (Fin n), l.Pairwise (· < ·) → stableSort R l = stableSort (fun a b => decide (Before v a b)) l
  | [], _ => rfl
  | a :: l, h => by
    unfold stableSort
    rw [sort_same v R hR l (List.pairwise_cons.mp h).2]
    exact insert_same v R hR a _ fun b hb => (List.pairwise_cons.mp h).1 b ((perm_stableSort _ l).mem_iff.mp hb)

theorem sortedFrom_same (v : Fin n → EReal) (R : Fin n → Fin n → Bool) (hR : ∀ a b, R a b = decide (v b < v a)) (k : Fin n) :
    sortedFrom R k = sortedFrom (fun a b => decide (Before v a b)) k := by
  have h : sortPositions n R = sortPositions n (fun a b => decide (Before v a b)) := sort_same v R hR _ (List.pairwise_lt_finRange n)
  unfold sortedFrom
  simp only [List.get_eq_getElem, h, Fin.val_cast]

/-- The entry at position `k` has rank `k`. -/
theorem rank_sorted (v : Fin n → EReal) (R : Fin n → Fin n → Bool) (hR : ∀ a b, R a b = decide (v b < v a)) (k : Fin n) :
    rank v (sortedFrom R k) = k.val := by
  rw [sortedFrom_same v R hR k]
  set B : Fin n → Fin n → Bool := fun a b => decide (Before v a b) with hB
  have inv : ∀ i j : Fin n, i < j → Before v (sortedFrom B i) (sortedFrom B j) := by
    intro i j hij
    have h := sortedFrom_noInversion B B
      (fun a b h => decide_eq_false fun g => ((of_decide_eq_true h : Before v a b).trans g).irrefl)
      (fun a b h => h)
      (fun a b c h g => decide_eq_false fun e => by
        have h : ¬ Before v a b := of_decide_eq_false h
        have g : ¬ Before v b c := of_decide_eq_false g
        by_cases hab : a = b
        · subst hab; exact g e
        · by_cases hbc : b = c
          · subst hbc; exact h e
          · have h' := (before_total v hab).resolve_left h
            have g' := (before_total v hbc).resolve_left g
            exact (e.trans (g'.trans h')).irrefl) i j hij
    have hne : sortedFrom B i ≠ sortedFrom B j := fun e => (ne_of_lt hij) (sortedFrom_injective B e)
    exact (before_total v hne).resolve_right (of_decide_eq_false h)
  have : preds v (sortedFrom B k) = (Finset.univ.filter fun i : Fin n => i < k).image (sortedFrom B) := by
    ext i
    simp only [mem_preds, Finset.mem_image, Finset.mem_filter, Finset.mem_univ, true_and]
    constructor
    · intro h
      obtain ⟨i', rfl⟩ := sortedFrom_surjective B i
      refine ⟨i', ?_, rfl⟩
      rcases lt_trichotomy i' k with g | g | g
      · exact g
      · subst g; exact absurd h fun h => h.irrefl
      · exact absurd (h.trans (inv k i' g)) fun h => h.irrefl
    · rintro ⟨i', h, rfl⟩
      exact inv i' k h
  unfold rank
  rw [this, Finset.card_image_of_injective _ (sortedFrom_injective B)]
  have h : (Finset.univ.filter fun i : Fin n => i < k) = Finset.Iio k := by ext; simp
  rw [h, Fin.card_Iio]

/-! ## Reductions down a column -/

theorem fold_max_spec (w : Fin n → EReal) : ∀ (S : Finset (Fin n)), (∀ i ∈ S, w i ≤ S.fold max ⊥ w) ∧
    (S.fold max ⊥ w = ⊥ ∨ ∃ i ∈ S, w i = S.fold max ⊥ w) := by
  intro S
  induction S using Finset.induction with
  | empty => exact ⟨fun i hi => absurd hi (Finset.notMem_empty _), .inl (Finset.fold_empty)⟩
  | insert a S ha ih =>
    rw [Finset.fold_insert ha]
    refine ⟨fun i hi => ?_, ?_⟩
    · rcases Finset.mem_insert.mp hi with rfl | hi
      · exact le_max_left _ _
      · exact (ih.1 i hi).trans (le_max_right _ _)
    · rcases le_total (w a) (S.fold max ⊥ w) with g | g
      · rw [max_eq_right g]
        rcases ih.2 with h | ⟨i, hi, h⟩
        · exact .inl h
        · exact .inr ⟨i, Finset.mem_insert_of_mem hi, h⟩
      · rw [max_eq_left g]
        exact .inr ⟨a, Finset.mem_insert_self _ _, rfl⟩

/-- The largest entry of a column that has one. -/
theorem fold_max_attained (hn : 0 < n) (w : Fin n → EReal) :
    (∀ i, w i ≤ (Finset.univ : Finset (Fin n)).fold max ⊥ w) ∧ ∃ i, w i = (Finset.univ : Finset (Fin n)).fold max ⊥ w := by
  have h := fold_max_spec w Finset.univ
  refine ⟨fun i => h.1 i (Finset.mem_univ _), ?_⟩
  rcases h.2 with g | ⟨i, _, g⟩
  · exact ⟨⟨0, hn⟩, le_antisymm (h.1 _ (Finset.mem_univ _)) (by rw [g]; exact bot_le)⟩
  · exact ⟨i, g⟩

/-- The fold of the signed minimum, in integers. -/
theorem fold_min_toInt (w : Fin n → BitVec 32) (S : Finset (Fin n)) :
    (∀ i ∈ S, (S.fold IntOp.minsi 2147483647#32 w).toInt ≤ (w i).toInt) ∧
    (S.fold IntOp.minsi 2147483647#32 w = 2147483647#32 ∨ ∃ i ∈ S, w i = S.fold IntOp.minsi 2147483647#32 w) := by
  induction S using Finset.induction with
  | empty => exact ⟨fun i hi => absurd hi (Finset.notMem_empty _), .inl (Finset.fold_empty)⟩
  | insert a S ha ih =>
    rw [Finset.fold_insert ha]
    refine ⟨fun i hi => ?_, ?_⟩
    · rw [SortNet.toInt_minsi]
      rcases Finset.mem_insert.mp hi with rfl | hi
      · exact min_le_left _ _
      · exact (min_le_right _ _).trans (ih.1 i hi)
    · by_cases g : (w a).slt (S.fold IntOp.minsi 2147483647#32 w)
      · rw [show IntOp.minsi (w a) (S.fold IntOp.minsi 2147483647#32 w) = w a from if_pos g]
        exact .inr ⟨a, Finset.mem_insert_self _ _, rfl⟩
      · rw [show IntOp.minsi (w a) (S.fold IntOp.minsi 2147483647#32 w) = S.fold IntOp.minsi 2147483647#32 w from if_neg g]
        rcases ih.2 with h | ⟨i, hi, h⟩
        · exact .inl h
        · exact .inr ⟨i, Finset.mem_insert_of_mem hi, h⟩

theorem toInt_small (k : ℕ) (h : k < 2048) : (BitVec.ofNat 32 k).toInt = k := by
  rw [BitVec.toInt_eq_toNat_of_lt (by rw [BitVec.toNat_ofNat]; omega), BitVec.toNat_ofNat, Nat.mod_eq_of_lt (by omega)]

/-- The smallest row number among the rows at the maximum names the first of the largest entries. -/
theorem first_of_fold (hn : 0 < n) (hN : n < 2048) (w : Fin n → EReal) (q : Fin n → BitVec 32)
    (hq : ∀ i, q i = if w i = (Finset.univ : Finset (Fin n)).fold max ⊥ w then BitVec.ofNat 32 i.val else BitVec.ofNat 32 n) :
    ∃ l : Fin n, First w l ∧ (Finset.univ : Finset (Fin n)).fold max ⊥ w = w l
      ∧ (Finset.univ : Finset (Fin n)).fold IntOp.minsi 2147483647#32 q = BitVec.ofNat 32 l.val := by
  obtain ⟨hle, i0, hi0⟩ := fold_max_attained hn w
  obtain ⟨mle, matt⟩ := fold_min_toInt q Finset.univ
  set M := (Finset.univ : Finset (Fin n)).fold max ⊥ w with hM
  set m := (Finset.univ : Finset (Fin n)).fold IntOp.minsi 2147483647#32 q with hm
  have hm0 : m.toInt ≤ i0.val := by
    have := mle i0 (Finset.mem_univ _)
    rwa [hq, if_pos hi0, toInt_small _ (by omega)] at this
  rcases matt with g | ⟨l, _, g⟩
  · rw [g] at hm0
    have : (2147483647#32 : BitVec 32).toInt = 2147483647 := by decide
    omega
  · rw [hq] at g
    by_cases hl : w l = M
    · rw [if_pos hl] at g
      refine ⟨l, ⟨fun i => hl ▸ hle i, fun i hi => ?_⟩, hl.symm, g.symm⟩
      have := mle i (Finset.mem_univ _)
      rw [hq, if_pos (hi.trans hl), ← g, toInt_small _ (by omega), toInt_small _ (by omega)] at this
      exact Fin.le_def.mpr (by omega)
    · rw [if_neg hl] at g
      rw [← g, toInt_small _ hN] at hm0
      omega

end Cert.TopKMath

end
-- ==== Proof.TopKRead.lean ====
/-
  What the token choice's pure steps hold at an index.
-/
module

public import proofs.«01_k».proof.Proof.Gen.TopKIdeal.Loops
public import proofs.«01_k».proof.Proof.TopKSort
public import Idealize.ShloMosaic.Lib.Pointwise
public import Idealize.ShloMosaic.Lib.WordSum
public import Idealize.ShloMosaic.Lib.Routing.OpsSet
public import Idealize.ShloMosaic.Lib.Pipeline.ValueKit

@[expose] public section

set_option maxRecDepth 16384

noncomputable section

namespace Cert.TopKRead

open Classical
open scoped BigOperators
open Cert.TopKIdeal Cert.TopKIdeal.Gen Idealize.ShloMosaic Idealize.ShloMosaic.TcCoe

theorem ninf : Ideal.ofBits .f32 0xFF800000#32 = (⊥ : EReal) := by
  simp [Ideal.ofBits, Ideal.ieee, -EReal.coe_mul]

/-- The row numbers of the strips laid side by side. -/
abbrev rows : IVec S256x128 32 := iota .tc S256x128 32 [0] iota_S256x128_d0_w32

theorem select_eq {α : Type} (a b : BitVec 32) (x y : α) : Scalar.select (IntOp.cmpi .eq a b) x y = if a = b then x else y := by
  unfold Scalar.select
  by_cases h : a = b
  · rw [if_pos h]; exact if_pos (IntOp.cmpi_eq.2 h)
  · rw [if_neg h]; exact if_neg fun g => h (IntOp.cmpi_eq.1 g)

theorem word_inj (a b : ℕ) (ha : a < 4096) (hb : b < 4096) : BitVec.ofNat 32 a = BitVec.ofNat 32 b ↔ a = b := by
  refine ⟨fun h => ?_, fun h => h ▸ rfl⟩
  have := congrArg BitVec.toNat h
  rw [BitVec.toNat_ofNat, BitVec.toNat_ofNat] at this
  omega

theorem iv_eq (k : ℕ) : Scf.iv 0#32 1#32 k = BitVec.ofNat 32 k := by
  unfold Scf.iv
  rw [BitVec.mul_one, BitVec.zero_add]

theorem trips_le1 (k : Fin k0_t1_loop.trips) : k.val < 38 := Nat.lt_of_lt_of_le k.isLt k0_t1_abs.2.1

/-- The largest of a column. -/
theorem pay4_at (v : Vec Ideal S256x128 .f32) (w : Fin 128) :
    k0_pay4 (F := Ideal) v (ix1 w) = (Finset.univ : Finset (Fin 256)).fold max (⊥ : EReal) fun i => (show EReal from v (ix2 i w)) := by
  pointwise [k0_pay4]
  rw [ninf]

theorem pay5_at (v : Vec Ideal S256x128 .f32) (w : Fin 128) :
    k0_pay5 (F := Ideal) rows v (ix1 w) = (Finset.univ : Finset (Fin 256)).fold IntOp.minsi 2147483647#32
      fun i => if (show EReal from v (ix2 i w)) = k0_pay4 (F := Ideal) v (ix1 w) then BitVec.ofNat 32 i.val else 256#32 := by
  pointwise [k0_pay5]

/-- A round on a column: the largest, its first row, and the column with that row struck. -/
theorem round_at (v : Vec Ideal S256x128 .f32) (w : Fin 128) : ∃ l : Fin 256,
    TopKMath.First (fun i => (show EReal from v (ix2 i w))) l
    ∧ k0_pay4 (F := Ideal) v (ix1 w) = v (ix2 l w) ∧ k0_pay5 (F := Ideal) rows v (ix1 w) = BitVec.ofNat 32 l.val := by
  rw [pay5_at, pay4_at]
  obtain ⟨l, h1, h2, h3⟩ := TopKMath.first_of_fold (by decide) (by decide) (fun i : Fin 256 => (show EReal from v (ix2 i w))) _ (fun _ => rfl)
  exact ⟨l, h1, h2, h3⟩

theorem pay6_at (v : Vec Ideal S256x128 .f32) (l i : Fin 256) (w : Fin 128) (h : k0_pay5 (F := Ideal) rows v (ix1 w) = BitVec.ofNat 32 l.val) :
    k0_pay6 (F := Ideal) rows v (ix2 i w) = if i = l then (⊥ : EReal) else (show EReal from v (ix2 i w)) := by
  pointwise [k0_pay6]
  rw [h, select_eq, ninf]
  have e : (BitVec.ofNat 32 i.val = BitVec.ofNat 32 l.val) ↔ i = l := (word_inj _ _ (by omega) (by omega)).trans Fin.ext_iff.symm
  by_cases g : i = l
  · rw [if_pos g, if_pos (e.mpr g)]
  · rw [if_neg g, if_neg fun q => g (e.mp q)]

theorem pay8_at (k : Fin k0_t1_loop.trips) (a : FVec Ideal S40x128 .f32) (v : Vec Ideal S256x128 .f32) (j : Fin 40) (w : Fin 128) :
    k0_pay8 (F := Ideal) k a v (ix2 j w) = if j.val = k.val then k0_pay4 (F := Ideal) v (ix1 w) else a (ix2 j w) := by
  pointwise [k0_pay8, k0_pay7]
  have hk := trips_le1 k
  rw [select_eq, iv_eq, if_congr (word_inj _ _ (by omega) (by omega)) rfl rfl]

theorem pay9_at (k : Fin k0_t1_loop.trips) (a : IVec S40x128 32) (v : Vec Ideal S256x128 .f32) (j : Fin 40) (w : Fin 128) :
    k0_pay9 (F := Ideal) rows k a v (ix2 j w) = if j.val = k.val then k0_pay5 (F := Ideal) rows v (ix1 w) else a (ix2 j w) := by
  pointwise [k0_pay9, k0_pay7]
  have hk := trips_le1 k
  rw [select_eq, iv_eq, if_congr (word_inj _ _ (by omega) (by omega)) rfl rfl]

/-- A round on the candidates of a column: which one is struck. -/
theorem pay12_at (v : FVec Ideal S320x16 .f32) (w : Fin 16) : ∃ l : Fin 320,
    TopKMath.First (fun i => (show EReal from v (ix2 i w))) l ∧ ∀ i : Fin 320, k0_pay12 (F := Ideal) v (ix2 i w) = 1#1 ↔ i = l := by
  obtain ⟨l, h1, h2, h3⟩ := TopKMath.first_of_fold (by decide) (by decide) (fun i : Fin 320 => (show EReal from v (ix2 i w))) _ (fun _ => rfl)
  refine ⟨l, h1, fun i => ?_⟩
  have e : k0_pay12 (F := Ideal) v (ix2 i w) = IntOp.cmpi .eq (BitVec.ofNat 32 i.val) ((Finset.univ : Finset (Fin 320)).fold IntOp.minsi 2147483647#32
      fun i => if (show EReal from v (ix2 i w)) = ((Finset.univ : Finset (Fin 320)).fold max (⊥ : EReal) fun i => (show EReal from v (ix2 i w))) then BitVec.ofNat 32 i.val else 320#32) := by
    pointwise [k0_pay12]
    rw [ninf]
  rw [e]
  refine IntOp.cmpi_eq.trans ?_
  refine Iff.trans (Eq.congr_right h3) ?_
  exact (word_inj _ _ (by omega) (by omega)).trans Fin.ext_iff.symm

theorem pay13_at (v : FVec Ideal S320x16 .f32) (i l : Fin 320) (w : Fin 16) (h : k0_pay12 (F := Ideal) v (ix2 i w) = 1#1 ↔ i = l) :
    k0_pay13 (F := Ideal) v (ix2 i w) = if i = l then (⊥ : EReal) else (show EReal from v (ix2 i w)) := by
  pointwise [k0_pay13]
  rw [ninf]
  unfold Scalar.select
  exact if_congr h rfl rfl

/-- Eight blocks of forty rows, one under the other. -/
theorem stack_at {α : Type} (v0 v1 v2 v3 v4 v5 v6 v7 : S40x16.Idx → α) (B : Fin 40 → Fin 128 → α)
    (h0 : ∀ i (w : Fin 16), v0 (ix2 i w) = B i ⟨0 + w.val, by omega⟩) (h1 : ∀ i (w : Fin 16), v1 (ix2 i w) = B i ⟨16 + w.val, by omega⟩)
    (h2 : ∀ i (w : Fin 16), v2 (ix2 i w) = B i ⟨32 + w.val, by omega⟩) (h3 : ∀ i (w : Fin 16), v3 (ix2 i w) = B i ⟨48 + w.val, by omega⟩)
    (h4 : ∀ i (w : Fin 16), v4 (ix2 i w) = B i ⟨64 + w.val, by omega⟩) (h5 : ∀ i (w : Fin 16), v5 (ix2 i w) = B i ⟨80 + w.val, by omega⟩)
    (h6 : ∀ i (w : Fin 16), v6 (ix2 i w) = B i ⟨96 + w.val, by omega⟩) (h7 : ∀ i (w : Fin 16), v7 (ix2 i w) = B i ⟨112 + w.val, by omega⟩)
    (j : Fin 320) (w : Fin 16) :
    concatenate S320x16 0 [⟨S40x16, v0⟩, ⟨S40x16, v1⟩, ⟨S40x16, v2⟩, ⟨S40x16, v3⟩, ⟨S40x16, v4⟩, ⟨S40x16, v5⟩, ⟨S40x16, v6⟩, ⟨S40x16, v7⟩] concatenates_S40x16_S40x16_S40x16_S40x16_S40x16_S40x16_S40x16_S40x16_S320x16_d0 (ix2 j w)
      = B (⟨j.val % 40, Nat.mod_lt _ (by decide)⟩ : Fin 40) (⟨16 * (j.val / 40) + w.val, by omega⟩ : Fin 128) := by
  pointwise
  simp only [h0, h1, h2, h3, h4, h5, h6, h7]
  have hj := j.isLt
  have hw := w.isLt
  split_ifs <;> exact congrArg₂ B (Fin.ext (by simp only []; omega)) (Fin.ext (by simp only []; omega))

/-- The candidates of a column: the best of each strip, strip after strip. -/
theorem pay10_at (a : FVec Ideal S40x128 .f32) (j : Fin 320) (w : Fin 16) :
    k0_pay10 (F := Ideal) a (ix2 j w) = a (ix2 (⟨j.val % 40, Nat.mod_lt _ (by decide)⟩ : Fin 40) (⟨16 * (j.val / 40) + w.val, by omega⟩ : Fin 128)) := by
  unfold k0_pay10
  refine stack_at _ _ _ _ _ _ _ _ (fun i w => a (ix2 i w)) ?_ ?_ ?_ ?_ ?_ ?_ ?_ ?_ j w <;>
  · intro i w
    pointwise

/-- A strip's number of a column. -/
theorem strip_at (j : Fin 40) (w : Fin 128) :
    (select k0_pay17 (subi k0_pay16 (broadcast S40x128 1#32)) k0_pay16 : IVec S40x128 32) (ix2 j w) = BitVec.ofNat 32 (w.val / 16) := by
  pointwise [k0_pay17, k0_pay16]
  revert w
  decide

/-- The token of a strip's best: the strip's first row and the row in the strip. -/
theorem token_at (b : IVec S40x128 32) (j : Fin 40) (w : Fin 128) (p : Fin 256) (h : b (ix2 j w) = BitVec.ofNat 32 p.val) :
    (addi b (muli (select k0_pay17 (subi k0_pay16 (broadcast S40x128 1#32)) k0_pay16) (broadcast S40x128 256#32)) : IVec S40x128 32) (ix2 j w)
      = BitVec.ofNat 32 (256 * (w.val / 16) + p.val) := by
  show IntOp.addi (b (ix2 j w)) (IntOp.muli ((select k0_pay17 (subi k0_pay16 (broadcast S40x128 1#32)) k0_pay16 : IVec S40x128 32) (ix2 j w)) 256#32) = _
  rw [strip_at, h]
  show BitVec.ofNat 32 p.val + BitVec.ofNat 32 (w.val / 16) * 256#32 = _
  apply BitVec.eq_of_toNat_eq
  rw [BitVec.toNat_add, BitVec.toNat_mul, BitVec.toNat_ofNat, BitVec.toNat_ofNat, BitVec.toNat_ofNat, BitVec.toNat_ofNat]
  omega

/-- One round of the merge writes the struck candidate's token into its column. -/
theorem pay14_at (b : IVec S40x128 32) (k : Fin k0_t2_loop.trips) (o : IVec S16x40 32) (v : FVec Ideal S320x16 .f32) (w : Fin 16) (j : Fin 40)
    (l : Fin 320) (tok : Fin 320 → BitVec 32)
    (hl : ∀ i : Fin 320, k0_pay12 (F := Ideal) v (ix2 i w) = 1#1 ↔ i = l)
    (ht : tok l = (addi b (muli (select k0_pay17 (subi k0_pay16 (broadcast S40x128 1#32)) k0_pay16) (broadcast S40x128 256#32)) : IVec S40x128 32)
        (ix2 (⟨l.val % 40, Nat.mod_lt _ (by decide)⟩ : Fin 40) (⟨16 * (l.val / 40) + w.val, by omega⟩ : Fin 128))) :
    k0_pay14 (F := Ideal) k0_pay16 k0_pay17 b k o v (ix2 w j) = o (ix2 w j) + if j.val = k.val then tok l else 0#32 := by
  have hk : k.val < 38 := Nat.lt_of_lt_of_le k.isLt k0_t2_abs.2.1
  unfold k0_pay14
  generalize hm : (addi b (muli (select k0_pay17 (subi k0_pay16 (broadcast S40x128 1#32)) k0_pay16) (broadcast S40x128 256#32)) : IVec S40x128 32) = m at ht ⊢
  simp only []
  generalize hc : (concatenate S320x16 0 [⟨S40x16, extractStridedSlice S40x16 ![0, 0] m slices_S40x128_o0_0_S40x16⟩, ⟨S40x16, extractStridedSlice S40x16 ![0, 16] m slices_S40x128_o0_16_S40x16⟩, ⟨S40x16, extractStridedSlice S40x16 ![0, 32] m slices_S40x128_o0_32_S40x16⟩, ⟨S40x16, extractStridedSlice S40x16 ![0, 48] m slices_S40x128_o0_48_S40x16⟩, ⟨S40x16, extractStridedSlice S40x16 ![0, 64] m slices_S40x128_o0_64_S40x16⟩, ⟨S40x16, extractStridedSlice S40x16 ![0, 80] m slices_S40x128_o0_80_S40x16⟩, ⟨S40x16, extractStridedSlice S40x16 ![0, 96] m slices_S40x128_o0_96_S40x16⟩, ⟨S40x16, extractStridedSlice S40x16 ![0, 112] m slices_S40x128_o0_112_S40x16⟩] concatenates_S40x16_S40x16_S40x16_S40x16_S40x16_S40x16_S40x16_S40x16_S320x16_d0 : IVec S320x16 32) = c
  have hcl : c (ix2 l w) = tok l := by
    rw [ht, ← hc]
    refine stack_at _ _ _ _ _ _ _ _ (fun i w => m (ix2 i w)) ?_ ?_ ?_ ?_ ?_ ?_ ?_ ?_ l w <;>
    · intro i w
      pointwise
  pointwise
  have e : Finset.fold IntOp.addi (0#32) (fun x : Fin 320 => Scalar.select (k0_pay12 (F := Ideal) v (ix2 x w)) (c (ix2 x w)) 0#32) Finset.univ = tok l := by
    have e1 : (fun x : Fin 320 => Scalar.select (k0_pay12 (F := Ideal) v (ix2 x w)) (c (ix2 x w)) 0#32) = fun x => if x = l then tok l else 0 := by
      funext x
      unfold Scalar.select
      by_cases hx : x = l
      · subst hx
        rw [if_pos (rfl : x = x), ← hcl]
        exact if_pos ((hl x).mpr rfl)
      · rw [if_neg hx]
        exact if_neg fun q => hx ((hl x).mp q)
    rw [e1]
    show ∑ x : Fin 320, (if x = l then tok l else 0) = tok l
    rw [Finset.sum_ite_eq' Finset.univ l fun _ => tok l, if_pos (Finset.mem_univ _)]
  rw [e, select_eq, iv_eq, if_congr (word_inj _ _ (by omega) (by omega)) rfl rfl]
  rfl

/-- The strips laid side by side. -/
theorem pay15_at (v0 v1 v2 v3 v4 v5 v6 v7 : Vec Ideal S256x16 .f32) (B : Fin 2048 → Fin 16 → EReal)
    (h0 : ∀ i w, v0 (ix2 i w) = B (TopKMath.at_ 0 i) w) (h1 : ∀ i w, v1 (ix2 i w) = B (TopKMath.at_ 1 i) w)
    (h2 : ∀ i w, v2 (ix2 i w) = B (TopKMath.at_ 2 i) w) (h3 : ∀ i w, v3 (ix2 i w) = B (TopKMath.at_ 3 i) w)
    (h4 : ∀ i w, v4 (ix2 i w) = B (TopKMath.at_ 4 i) w) (h5 : ∀ i w, v5 (ix2 i w) = B (TopKMath.at_ 5 i) w)
    (h6 : ∀ i w, v6 (ix2 i w) = B (TopKMath.at_ 6 i) w) (h7 : ∀ i w, v7 (ix2 i w) = B (TopKMath.at_ 7 i) w) (i : Fin 256) (w : Fin 128) :
    k0_pay15 (F := Ideal) v0 v1 v2 v3 v4 v5 v6 v7 (ix2 i w) = B (TopKMath.at_ (⟨w.val / 16, by omega⟩ : Fin 8) i) (⟨w.val % 16, Nat.mod_lt _ (by decide)⟩ : Fin 16) := by
  pointwise [k0_pay15]
  simp only [h0, h1, h2, h3, h4, h5, h6, h7]
  have hw := w.isLt
  split_ifs <;> exact congrArg₂ B (congrArg (TopKMath.at_ · i) (Fin.ext (by simp; omega))) (Fin.ext (by simp only []; omega))

end Cert.TopKRead

end
-- ==== Proof.TopKRounds.lean ====
/-
  The two chains of rounds: after `k` rounds a strip's column is what is left of it less its `k` best entries, and the
  candidate blocks hold those; after `k` rounds of the merge the result holds the tokens of the `k` best candidates.
-/
module

public import proofs.«01_k».proof.Proof.TopKRead

@[expose] public section

set_option maxRecDepth 16384

noncomputable section

namespace Cert.TopKRead

open Classical
open scoped BigOperators
open Cert.TopKIdeal Cert.TopKIdeal.Gen Cert.TopKMath Idealize.ShloMosaic Idealize.ShloMosaic.TcCoe

/-- The entry of rank `r` of a strip. -/
def best (v : Fin 256 → EReal) (r : ℕ) : Fin 256 := if h : r < 256 then sortedFrom (fun a b => decide (v b < v a)) ⟨r, h⟩ else 0

theorem rank_best (v : Fin 256 → EReal) (r : ℕ) (h : r < 256) : rank v (best v r) = r := by
  unfold best
  rw [dif_pos h]
  exact rank_sorted v _ (fun _ _ => rfl) ⟨r, h⟩

/-- What the first chain holds after `k` rounds: the strips, the best values, the best rows. -/
structure Struck (V : Fin 128 → Fin 256 → EReal) (k : ℕ) (c : Vec Ideal S256x128 .f32) (a : FVec Ideal S40x128 .f32) (b : IVec S40x128 32) : Prop where
  strips : ∀ (i : Fin 256) (w : Fin 128), (show EReal from c (ix2 i w)) = left (V w) k i
  values : ∀ (j : Fin 40) (w : Fin 128), (show EReal from a (ix2 j w)) = if j.val < k then V w (best (V w) j.val) else ⊥
  rowsOf : ∀ (j : Fin 40) (w : Fin 128), j.val < k → b (ix2 j w) = BitVec.ofNat 32 (best (V w) j.val).val

theorem struck_zero (V : Fin 128 → Fin 256 → EReal) (c : Vec Ideal S256x128 .f32) (hc : ∀ (i : Fin 256) (w : Fin 128), (show EReal from c (ix2 i w)) = V w i) :
    Struck V 0 c (k0_pay2 (F := Ideal)) k0_pay3 where
  strips i w := by rw [left_zero]; exact hc i w
  values j w := by
    rw [if_neg (Nat.not_lt_zero _)]
    show Ideal.ofBits .f32 0xFF800000#32 = _
    exact ninf
  rowsOf j w h := absurd h (Nat.not_lt_zero _)

theorem struck_succ (V : Fin 128 → Fin 256 → EReal) (hV : ∀ w i, ⊥ < V w i) (k : Fin k0_t1_loop.trips) {c : Vec Ideal S256x128 .f32}
    {a : FVec Ideal S40x128 .f32} {b : IVec S40x128 32} (h : Struck V k.val c a b) :
    Struck V (k.val + 1) (k0_pay6 (F := Ideal) rows c) (k0_pay8 (F := Ideal) k a c) (k0_pay9 (F := Ideal) rows k b c) := by
  have hk := trips_le1 k
  have key : ∀ w : Fin 128, ∃ l : Fin 256, rank (V w) l = k.val ∧ l = best (V w) k.val
      ∧ k0_pay4 (F := Ideal) c (ix1 w) = V w l ∧ k0_pay5 (F := Ideal) rows c (ix1 w) = BitVec.ofNat 32 l.val := by
    intro w
    obtain ⟨l, h1, h2, h3⟩ := round_at c w
    have e : (fun i => (show EReal from c (ix2 i w))) = left (V w) k.val := funext fun i => h.strips i w
    rw [e] at h1
    have hcard : k.val < (Finset.univ.filter fun i => ⊥ < V w i).card := by
      rw [Finset.filter_true_of_mem fun i _ => hV w i, Finset.card_univ, Fintype.card_fin]; omega
    obtain ⟨r1, r2, r3⟩ := rank_of_first hcard h1
    refine ⟨l, r1, rank_inj (r1.trans (rank_best _ _ (by omega)).symm), ?_, h3⟩
    rw [h2]
    exact (h.strips l w).trans r3
  constructor
  · intro i w
    obtain ⟨l, r, _, _, h5⟩ := key w
    rw [show (show EReal from k0_pay6 (F := Ideal) rows c (ix2 i w)) = _ from pay6_at c l i w h5, left_succ r i, h.strips i w]
  · intro j w
    obtain ⟨l, r, e, h4, _⟩ := key w
    rw [show (show EReal from k0_pay8 (F := Ideal) k a c (ix2 j w)) = _ from pay8_at k a c j w]
    by_cases g : j.val = k.val
    · rw [if_pos g, if_pos (by omega), h4, e, g]
    · rw [if_neg g]
      refine (h.values j w).trans (if_congr (by omega) rfl rfl)
  · intro j w hj
    obtain ⟨l, r, e, _, h5⟩ := key w
    rw [pay9_at]
    by_cases g : j.val = k.val
    · rw [if_pos g, h5, e, g]
    · rw [if_neg g]
      exact h.rowsOf j w (by omega)

/-- What the merge holds after `k` rounds: the candidates left, and the tokens so far. -/
structure Merged (v : Fin 16 → Fin 2048 → EReal) (cand : Fin 16 → Fin 320 → EReal) (k : ℕ) (o : IVec S16x40 32) (c : FVec Ideal S320x16 .f32) : Prop where
  cands : ∀ (j : Fin 320) (w : Fin 16), (show EReal from c (ix2 j w)) = left (cand w) k j
  later : ∀ (w : Fin 16) (j : Fin 40), k ≤ j.val → o (ix2 w j) = 0#32
  toks : ∀ (w : Fin 16) (j : Fin 40), j.val < k → ∃ l : Fin 2048, rank (v w) l = j.val ∧ o (ix2 w j) = BitVec.ofNat 32 l.val

/-- A column of all the norms' strip. -/
abbrev stripOf (v : Fin 16 → Fin 2048 → EReal) (w : Fin 128) : Fin 256 → EReal :=
  strip (v ⟨w.val % 16, Nat.mod_lt _ (by decide)⟩) ⟨w.val / 16, by omega⟩

/-- The candidates of a head. -/
def candOf (v : Fin 16 → Fin 2048 → EReal) (w : Fin 16) (j : Fin 320) : EReal :=
  if j.val % 40 < 38 then v w (at_ (place j) (best (strip (v w) (place j)) (j.val % 40))) else ⊥

theorem strip_col (v : Fin 16 → Fin 2048 → EReal) (j : Fin 320) (w : Fin 16) :
    stripOf v (⟨16 * (j.val / 40) + w.val, by omega⟩ : Fin 128) = strip (v w) (place j) := by
  have e1 : ∀ p, (⟨(16 * (j.val / 40) + w.val) % 16, p⟩ : Fin 16) = w := fun p => Fin.ext (by simp only []; omega)
  have e2 : ∀ p, (⟨(16 * (j.val / 40) + w.val) / 16, p⟩ : Fin 8) = place j := fun p => Fin.ext (by show (16 * (j.val / 40) + w.val) / 16 = j.val / 40; omega)
  unfold stripOf
  rw [e1, e2]

theorem merged_zero (v : Fin 16 → Fin 2048 → EReal) {c : Vec Ideal S256x128 .f32} {a : FVec Ideal S40x128 .f32} {b : IVec S40x128 32}
    (h : Struck (stripOf v) 38 c a b) : Merged v (candOf v) 0 k0_pay11 (k0_pay10 (F := Ideal) a) where
  cands j w := by
    rw [left_zero, show (show EReal from k0_pay10 (F := Ideal) a (ix2 j w)) = _ from pay10_at a j w]
    refine (h.values _ _).trans ?_
    rw [strip_col]
    rfl
  later w j _ := rfl
  toks w j h := absurd h (Nat.not_lt_zero _)

theorem cand_card (v : Fin 16 → Fin 2048 → EReal) (hv : ∀ w i, ⊥ < v w i) (w : Fin 16) (k : ℕ) (hk : k < 38) :
    k < (Finset.univ.filter fun j => ⊥ < candOf v w j).card := by
  have : (Finset.univ.image fun r : Fin 38 => (⟨r.val, by omega⟩ : Fin 320)) ⊆ Finset.univ.filter fun j => ⊥ < candOf v w j := by
    intro j hj
    obtain ⟨r, _, rfl⟩ := Finset.mem_image.mp hj
    refine Finset.mem_filter.mpr ⟨Finset.mem_univ _, ?_⟩
    have hr := r.isLt
    unfold candOf
    rw [if_pos (by simp only []; omega)]
    exact hv _ _
  refine lt_of_lt_of_le ?_ (Finset.card_le_card this)
  have inj : Function.Injective fun r : Fin 38 => (⟨r.val, by omega⟩ : Fin 320) := fun r s e => Fin.ext (Fin.mk.inj_iff.mp e)
  rw [Finset.card_image_of_injective _ inj, Finset.card_univ, Fintype.card_fin]
  exact hk

theorem merged_succ (v : Fin 16 → Fin 2048 → EReal) (hv : ∀ w i, ⊥ < v w i) {c1 : Vec Ideal S256x128 .f32} {a : FVec Ideal S40x128 .f32} {b : IVec S40x128 32}
    (hb : Struck (stripOf v) 38 c1 a b) (k : Fin k0_t2_loop.trips) {o : IVec S16x40 32} {c : FVec Ideal S320x16 .f32}
    (h : Merged v (candOf v) k.val o c) :
    Merged v (candOf v) (k.val + 1) (k0_pay14 (F := Ideal) k0_pay16 k0_pay17 b k o c) (k0_pay13 (F := Ideal) c) := by
  have hk : k.val < 38 := Nat.lt_of_lt_of_le k.isLt k0_t2_abs.2.1
  have key : ∀ w : Fin 16, ∃ (l : Fin 320) (t : Fin 2048), rank (candOf v w) l = k.val ∧ (∀ i : Fin 320, k0_pay12 (F := Ideal) c (ix2 i w) = 1#1 ↔ i = l)
      ∧ rank (v w) t = k.val ∧ ∀ j : Fin 40, k0_pay14 (F := Ideal) k0_pay16 k0_pay17 b k o c (ix2 w j) = o (ix2 w j) + if j.val = k.val then BitVec.ofNat 32 t.val else 0#32 := by
    intro w
    obtain ⟨l, h1, h2⟩ := pay12_at c w
    have e : (fun i => (show EReal from c (ix2 i w))) = left (candOf v w) k.val := funext fun i => h.cands i w
    rw [e] at h1
    obtain ⟨r1, r2, r3⟩ := rank_of_first (cand_card v hv w k.val hk) h1
    have good : l.val % 40 < 38 := by
      by_contra g
      unfold candOf at r2
      rw [if_neg g] at r2
      exact absurd r2 (lt_irrefl _)
    have hr := rank_of_strips (v w) (fun s r => best (strip (v w) s) r) (fun s r hr => rank_best _ _ (by omega)) (candOf v w)
      (fun j hj => if_pos hj) (fun j hj => if_neg hj) (j := l) r2 (by rw [r1]; exact hk)
    refine ⟨l, at_ (place l) (best (strip (v w) (place l)) (l.val % 40)), r1, h2, hr.trans r1, fun j => ?_⟩
    refine pay14_at b k o c w j l (fun l => BitVec.ofNat 32 (at_ (place l) (best (strip (v w) (place l)) (l.val % 40))).val) h2 ?_
    have hbl := hb.rowsOf (⟨l.val % 40, Nat.mod_lt _ (by decide)⟩ : Fin 40) (⟨16 * (l.val / 40) + w.val, by omega⟩ : Fin 128) good
    rw [token_at b _ _ _ hbl, strip_col]
    refine congrArg (BitVec.ofNat 32) ?_
    show 256 * (l.val / 40) + _ = 256 * ((16 * (l.val / 40) + w.val) / 16) + _
    have : (16 * (l.val / 40) + w.val) / 16 = l.val / 40 := by omega
    rw [this]
  constructor
  · intro j w
    obtain ⟨l, t, r, h2, _, _⟩ := key w
    rw [show (show EReal from k0_pay13 (F := Ideal) c (ix2 j w)) = _ from pay13_at c j l w (h2 j), left_succ r j, h.cands j w]
  · intro w j hj
    obtain ⟨l, t, _, _, _, h4⟩ := key w
    rw [h4 j, if_neg (by omega), h.later w j (by omega)]
    rfl
  · intro w j hj
    obtain ⟨l, t, _, _, r, h4⟩ := key w
    by_cases g : j.val = k.val
    · refine ⟨t, r.trans g.symm, ?_⟩
      rw [h4 j, if_pos g, h.later w j (by omega)]
      exact BitVec.zero_add _
    · obtain ⟨t', r', e'⟩ := h.toks w j (by omega)
      refine ⟨t', r', ?_⟩
      rw [h4 j, if_neg g, e']
      exact BitVec.add_zero _

end Cert.TopKRead

end
-- ==== Proof.TopKPick.lean ====
/-
  What the last point stores: a head's first 38 entries are the tokens of its largest norms in order, the rest zero.
-/
module

public import proofs.«01_k».proof.Proof.TopKExact
public import proofs.«01_k».proof.Proof.TopKRounds
public import proofs.«01_k».proof.Proof.AttnFill

@[expose] public section

set_option maxRecDepth 16384

noncomputable section

namespace Cert.TopKPick

open Cert.TopKIdeal Cert.TopKIdeal.Gen Cert.TopKMath Cert.TopKRead Cert.TopKExact Cert.AttnFill Idealize.ShloMosaic Idealize.ShloMosaic.TcCoe

variable (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
  (hc2 : k0_cond2 i = 1#1)

/-- The strips' buffer read whole. -/
abbrev held (arg6 : Memref sig .tc .vmem S256x128 .f32) (f : BufTy.Contents (Elt Ideal) arg6.view.ty) : Vec Ideal S256x128 .f32 :=
  View.readAt (Elt Ideal) arg6.view (Rect.unit (s := S256x128) ![0, 0] ![256, 128] inb_S256x128_S256x128_0_0).toLoadRect f

/-- What a round yields, -/
theorem trip_yields (k : Fin k0_t1_loop.trips) (acc : FVec Ideal S40x128 .f32 × IVec S40x128 32) (f : BufTy.Contents (Elt Ideal) arg6.view.ty) :
    tripR_k0_t1 (F := Ideal) Variants.none c none i arg1 harg1 arg2 harg2 arg3 harg3 arg4 harg4 arg5 harg5 arg6 harg6 hc2 rows k acc f
      = (k0_pay8 (F := Ideal) k acc.1 (held arg6 f), k0_pay9 (F := Ideal) rows k acc.2 (held arg6 f)) := by
  dsimp only [tripR_k0_t1]
  unfold trip_k0_t1
  rfl

/-- and what it stores. -/
theorem trip_stores (k : Fin k0_t1_loop.trips) (acc : FVec Ideal S40x128 .f32 × IVec S40x128 32) (f : BufTy.Contents (Elt Ideal) arg6.view.ty) :
    tripL_k0_t1 (F := Ideal) Variants.none c none i arg1 harg1 arg2 harg2 arg3 harg3 arg4 harg4 arg5 harg5 arg6 harg6 hc2 rows k acc f
      = [⟨Rect.unit (s := S256x128) ![0, 0] ![256, 128] inb_S256x128_S256x128_0_0, k0_pay6 (F := Ideal) rows (held arg6 f)⟩] := by
  dsimp only [tripL_k0_t1]
  unfold trip_k0_t1
  rfl

theorem held_stored (g : BufTy.Contents (Elt Ideal) arg6.view.ty) (p : Vec Ideal S256x128 .f32) (L : List (View.Piece (Elt Ideal) S256x128 .f32)) :
    held arg6 (arg6.view.writes (Elt Ideal) g ([⟨Rect.unit (s := S256x128) ![0, 0] ![256, 128] inb_S256x128_S256x128_0_0, p⟩] ++ L)) = p :=
  View.readAt_writes_full (s := S256x128) (Val := Elt Ideal) (off := ![0, 0]) (off' := ![0, 0]) arg6.view g inb_S256x128_S256x128_0_0 inb_S256x128_S256x128_0_0 p L

/-- The first chain of rounds. -/
theorem struck_rounds (V : Fin 128 → Fin 256 → EReal) (hV : ∀ w i, ⊥ < V w i) (g : BufTy.Contents (Elt Ideal) arg6.view.ty)
    (h0 : Struck V 0 (held arg6 g) (k0_pay2 (F := Ideal)) k0_pay3) (k : ℕ) (hk : k ≤ k0_t1_loop.trips) : Struck V k
      (held arg6 (arg6.view.writes (Elt Ideal) g (st_k0_t1 (F := Ideal) Variants.none c none i arg1 harg1 arg2 harg2 arg3 harg3 arg4 harg4 arg5 harg5 arg6 harg6 hc2 rows g (k0_pay2, k0_pay3) k).2))
      (st_k0_t1 (F := Ideal) Variants.none c none i arg1 harg1 arg2 harg2 arg3 harg3 arg4 harg4 arg5 harg5 arg6 harg6 hc2 rows g (k0_pay2, k0_pay3) k).1.1
      (st_k0_t1 (F := Ideal) Variants.none c none i arg1 harg1 arg2 harg2 arg3 harg3 arg4 harg4 arg5 harg5 arg6 harg6 hc2 rows g (k0_pay2, k0_pay3) k).1.2 := by
  induction k with
  | zero => exact h0
  | succ k ih =>
    have s := struck_succ V hV ⟨k, hk⟩ (ih (Nat.le_of_succ_le hk))
    have e := st_k0_t1_succ (F := Ideal) Variants.none c none i arg1 harg1 arg2 harg2 arg3 harg3 arg4 harg4 arg5 harg5 arg6 harg6 hc2 rows g (k0_pay2, k0_pay3) ⟨k, hk⟩
    clear ih h0
    generalize st_k0_t1 (F := Ideal) Variants.none c none i arg1 harg1 arg2 harg2 arg3 harg3 arg4 harg4 arg5 harg5 arg6 harg6 hc2 rows g (k0_pay2, k0_pay3) (k + 1) = T at e ⊢
    generalize st_k0_t1 (F := Ideal) Variants.none c none i arg1 harg1 arg2 harg2 arg3 harg3 arg4 harg4 arg5 harg5 arg6 harg6 hc2 rows g (k0_pay2, k0_pay3) k = T0 at e s
    rw [trip_yields, trip_stores] at e
    subst e
    rw [held_stored]
    exact s

/-- A count of rounds, whatever they hold. -/
theorem fold_rounds {α : Type} {n : ℕ} (g : Fin n → α → α) (P : ℕ → α → Prop) (a : α) (h0 : P 0 a) (hs : ∀ (k : Fin n) b, P k.val b → P (k.val + 1) (g k b)) :
    P n (Scf.fold g a) := by
  rw [Scf.fold_eq]
  induction n generalizing a P with
  | zero => exact h0
  | succ n ih =>
    have := ih (fun k => g k.succ) (fun k => P (k + 1)) (g 0 a) (hs 0 a h0) (fun k b hb => hs k.succ b hb)
    rw [List.finRange_succ, List.foldl_cons, List.foldl_map]
    exact this

/-- The norms laid out in strips. -/
theorem laid (V : Fin 16 → Fin 2048 → EReal) (x4 : Vec Ideal S2048x16 .f32) (hx : ∀ (t : Fin 2048) (w : Fin 16), (show EReal from x4 (ix2 t w)) = V w t)
    (r : Fin 256) (w : Fin 128) : (show EReal from pickRun.sl.v17 (F := Ideal) c arg5 harg5 x4 (ix2 r w)) = stripOf V w r := by
  have ld : ∀ (o : ℕ) (inb : ∀ a, (![o, 0] : Fin 2 → ℕ) a + S256x16.size a ≤ S2048x16.size a) (s : Fin 8) (hs : o = 256 * s.val) (a : Fin 256) (b : Fin 16),
      View.readAt (Elt Ideal) arg5.view (Rect.unit (s := S2048x16) ![o, 0] S256x16.size inb).toLoadRect (harg5.unread x4) (ix2 a b) = x4 (ix2 (at_ s a) b) := by
    intro o inb s hs a b
    subst hs
    exact load_rows harg5 x4 (256 * s.val) inb a b (by omega) b.isLt
  refine (pay15_at _ _ _ _ _ _ _ _ (fun t w => x4 (ix2 t w)) (ld 0 _ 0 rfl) (ld 256 _ 1 rfl) (ld 512 _ 2 rfl) (ld 768 _ 3 rfl) (ld 1024 _ 4 rfl) (ld 1280 _ 5 rfl) (ld 1536 _ 6 rfl) (ld 1792 _ 7 rfl) r w).trans ?_
  exact hx _ _

/-- The tokens chosen. -/
theorem picked (V : Fin 16 → Fin 2048 → EReal) (hV : ∀ w i, ⊥ < V w i) (x4 : Vec Ideal S2048x16 .f32)
    (hx : ∀ (t : Fin 2048) (w : Fin 16), (show EReal from x4 (ix2 t w)) = V w t) :
    ∃ d, Merged V (candOf V) 38 (pickRun.sl.r (F := Ideal) c i arg1 harg1 arg2 harg2 arg3 harg3 arg4 harg4 arg5 harg5 arg6 harg6 hc2 x4).1 d := by
  have s := struck_rounds c i arg1 harg1 arg2 harg2 arg3 harg3 arg4 harg4 arg5 harg5 arg6 harg6 hc2 (stripOf V) (fun w i => hV _ _)
    (arg6.view.writes (Elt Ideal) arg6.view.junk (pickRun.sl.H5_1 (F := Ideal) c arg5 harg5 x4))
    (struck_zero _ _ fun r w => by
      have r' : held arg6 (arg6.view.writes (Elt Ideal) arg6.view.junk (pickRun.sl.H5_1 (F := Ideal) c arg5 harg5 x4)) = pickRun.sl.v17 (F := Ideal) c arg5 harg5 x4 :=
        View.readAt_writes_full _ _ _ _ _ _
      rw [r']
      exact laid c arg5 harg5 V x4 hx r w) 38 (le_of_eq (by decide))
  refine ⟨(pickRun.sl.r (F := Ideal) c i arg1 harg1 arg2 harg2 arg3 harg3 arg4 harg4 arg5 harg5 arg6 harg6 hc2 x4).2, ?_⟩
  unfold pickRun.sl.r
  exact fold_rounds (n := k0_t2_loop.trips) _ (fun k (a : IVec S16x40 32 × FVec Ideal S320x16 .f32) => Merged V (candOf V) k a.1 a.2) _ (merged_zero V s) (fun k b hb => merged_succ V hV s k hb)

end Cert.TopKPick

end
-- ==== Proof.TopKSpec.lean ====
/-
  The norms the tokens are chosen by: for a head and a token, the sum of the magnitudes of the head's 64 columns of the
  query projection.
-/
module

public import Idealize.ShloMosaic.PureOps.Ideal.Laws
public import Idealize.ShloMosaic.Lib.Pointwise

@[expose] public section

noncomputable section

namespace Cert.TopKSpec

open Idealize.ShloMosaic
open scoped BigOperators

variable (x : (⟨2, ![2048, 1024]⟩ : Shape).Idx → EReal) (wq : (⟨2, ![1024, 1024]⟩ : Shape).Idx → EReal) (b : (⟨2, ![1, 1024]⟩ : Shape).Idx → EReal)

/-- The magnitude of one entry of the projection. -/
def mag (r : Fin 2048) (j : Fin 1024) : EReal :=
  max ((∑ d : Fin 1024, x (ix2 r d) * wq (ix2 j d)) + b (ix2 0 j)) (-((∑ d : Fin 1024, x (ix2 r d) * wq (ix2 j d)) + b (ix2 0 j)))

/-- A head's norm at a token. -/
def norm (h : Fin 16) (r : Fin 2048) : EReal := ∑ e : Fin 64, mag x wq b r ⟨h.val * 64 + e.val, by omega⟩

theorem mag_nonneg (r : Fin 2048) (j : Fin 1024) : 0 ≤ mag x wq b r j := by
  unfold mag
  generalize (∑ d : Fin 1024, x (ix2 r d) * wq (ix2 j d)) + b (ix2 0 j) = a
  rcases le_total 0 a with h | h
  · exact h.trans (le_max_left _ _)
  · exact le_max_of_le_right (EReal.neg_nonneg.mpr h)

theorem bot_lt_norm (h : Fin 16) (r : Fin 2048) : ⊥ < norm x wq b h r :=
  lt_of_lt_of_le EReal.bot_lt_zero (Finset.sum_nonneg fun _ _ => mag_nonneg x wq b _ _)

end Cert.TopKSpec

end
-- ==== Proof.TopKNorms.lean ====
/-
  A block of the norms as the kernel adds them: halves onto halves.
-/
module

public import proofs.«01_k».proof.Proof.Gen.TopKIdeal.Skeleton
public import proofs.«01_k».proof.Proof.TopKSpec

@[expose] public section

set_option maxRecDepth 16384

noncomputable section

namespace Cert.TopKNorms

open Cert.TopKIdeal Cert.TopKIdeal.Gen Idealize.ShloMosaic Idealize.ShloMosaic.TcCoe
open scoped BigOperators

/-- Halves added onto halves. -/
theorem sum_halves {n : ℕ} (m : ℕ) (hm : n = m + m) (f : Fin n → EReal) :
    ∑ e : Fin n, f e = ∑ e : Fin m, (f ⟨e.val, by omega⟩ + f ⟨m + e.val, by omega⟩) := by
  subst hm
  rw [Fin.sum_univ_add, Finset.sum_add_distrib]
  rfl

theorem pay1_at (X : (⟨2, ![2048, 1024]⟩ : Shape).Idx → EReal) (v8 : Vec Ideal S256x1024 .f32) (v9 : Vec Ideal S1024x1024 .f32) (v11 : Vec Ideal S1x1024 .f32)
    (r : Fin 2048) (a : Fin 256) (hx : ∀ d : Fin 1024, (show EReal from v8 (ix2 a d)) = X (ix2 r d)) (w : Fin 16) :
    (show EReal from k0_pay1 (F := Ideal) v8 v9 v11 (ix2 a w)) = TopKSpec.norm X v9 v11 w r := by
  unfold TopKSpec.norm
  rw [sum_halves 32 rfl, sum_halves 16 rfl, sum_halves 8 rfl, sum_halves 4 rfl, sum_halves 2 rfl, sum_halves 1 rfl, Fin.sum_univ_one]
  pointwise [k0_pay1]
  have e : ∀ q : Fin 1024, FloatOps.absf (F := Ideal) (φ := .f32) ((∑ x : Fin 1024, (show EReal from v8 (ix2 a x)) * (show EReal from v9 (ix2 q x))) + (show EReal from v11 (ix2 0 q))) = TopKSpec.mag X v9 v11 r q := by
    intro q
    unfold TopKSpec.mag
    simp only [hx]
    rfl
  repeat' first | exact e _ | refine congrArg₂ (fun a b : EReal => a + b) ?_ ?_

end Cert.TopKNorms

end
-- ==== Proof.TopKRef.lean ====
/- The reference of the token choice as one term of its arguments, and what it holds at an index. -/
module

public import proofs.«01_k».proof.Proof.Gen.TopKRefIdeal
public import proofs.«01_k».proof.Proof.TopKSort
public import proofs.«01_k».proof.Proof.TopKSpec
public import Idealize.ShloMosaic.Lib.Pointwise
public import Idealize.ShloMosaic.Lib.KernelVsHost

@[expose] public section

set_option maxRecDepth 16384

noncomputable section

namespace Cert.TopKRefIdeal.Read

open Cert.TopKRefIdeal Cert.TopKRefIdeal.Gen Cert.TopKMath Idealize.ShloMosaic Idealize.ShloMosaic.TcCoe
open scoped BigOperators

/-- Every head's norms. -/
def norms (x : FVec Ideal S2048x1024 .f32) (w : FVec Ideal S1024x1024 .f32) (b : FVec Ideal S1x1024 .f32) : FVec Ideal S16x2048 .f32 :=
  Host.reduceAdd (Host.absf (transpose S16x2048x64 [1, 0, 2] (shapeCast _ (addf (Host.dotGeneral dot_S2048x1024_S1024x1024_S2048x1024_1_0_0_1_n_n none x (transpose S1024x1024 [1, 0] w transposes_S1024x1024_S1024x1024_1_0)) (broadcastInDim S2048x1024 ![0, 1] bcast_S1x1024_S2048x1024_0_1 (broadcastInDim S1x1024 ![1] bcast_S1024_S1x1024_1 (shapeCast _ b shapeCasts_S1x1024_S1024)))) shapeCasts_S2048x1024_S2048x16x64) transposes_S2048x16x64_S16x2048x64_1_0_2)) (constant S_ .f32 0x00000000#32) reducesTo_S16x2048x64_S16x2048_d2 h_S_

/-- The tokens of each head's largest norms. -/
def chosen (n : FVec Ideal S16x2048 .f32) : IVec S16x38 32 := (Host.topK S16x38 1 (FloatOps.cmpfTotal .gt) n sliceFits_S16x2048_S16x38).2

/-- The reference's result over its arguments. -/
def REF (x : FVec Ideal S2048x1024 .f32) (w : FVec Ideal S1024x1024 .f32) (b : FVec Ideal S1x1024 .f32) : IVec S16x40 32 :=
  pad S16x40 ![0, 0] ![0, 2] ![0, 0] (chosen (norms x w b)) (id (constantI S_ 32 0#32)) pads_S16x38_S16x40_000_020 h_S_

theorem norms_at (x : FVec Ideal S2048x1024 .f32) (w : FVec Ideal S1024x1024 .f32) (b : FVec Ideal S1x1024 .f32) (h : Fin 16) (r : Fin 2048) :
    (show EReal from norms x w b (ix2 h r)) = TopKSpec.norm x w b h r := by
  pointwise [norms, TopKSpec.norm, TopKSpec.mag]
  rfl

theorem along_row (h : Fin 16) (j k : Fin 2048) : (ix2 h j : S16x2048.Idx).along 1 k = ix2 h k := by
  funext a
  match a with
  | ⟨0, _⟩ => rfl
  | ⟨1, _⟩ => rfl

theorem chosen_at (n : FVec Ideal S16x2048 .f32) (h : Fin 16) (j : Fin 38) :
    ∃ l : Fin 2048, rank (fun r => (show EReal from n (ix2 h r))) l = j.val ∧ chosen n (ix2 h j) = BitVec.ofNat 32 l.val := by
  have hj : j.val < 2048 := by omega
  refine ⟨sortedFrom (fun k k' => FloatOps.cmpfTotal (F := Ideal) (φ := .f32) .gt (n ((ix2 h (⟨j.val, hj⟩ : Fin 2048) : S16x2048.Idx).along 1 k)) (n ((ix2 h (⟨j.val, hj⟩ : Fin 2048) : S16x2048.Idx).along 1 k')) == 1#1) (⟨j.val, hj⟩ : Fin 2048), ?_, ?_⟩
  · refine rank_sorted _ _ (fun a b => ?_) _
    rw [along_row, along_row]
    show (BitVec.ofBool (decide ((show EReal from n (ix2 h b)) < n (ix2 h a))) == 1#1) = decide ((show EReal from n (ix2 h b)) < n (ix2 h a))
    generalize decide ((show EReal from n (ix2 h b)) < n (ix2 h a)) = q
    cases q <;> rfl
  · unfold chosen Host.topK Host.sort2
    pointwise
    rw [along_row]
    rfl

theorem REF_first (x : FVec Ideal S2048x1024 .f32) (w : FVec Ideal S1024x1024 .f32) (b : FVec Ideal S1x1024 .f32) (h : Fin 16) (j : Fin 40) (hj : j.val < 38) :
    REF x w b (ix2 h j) = chosen (norms x w b) (ix2 h (⟨j.val, hj⟩ : Fin 38)) := by
  unfold REF
  refine pad_apply_of_inside _ _ _ _ _ _ _ _ _ (fun a => ?_)
  match a with
  | ⟨0, _⟩ => show h.val = 0 + h.val * 1; omega
  | ⟨1, _⟩ => show j.val = 0 + j.val * 1; omega

theorem REF_rest (x : FVec Ideal S2048x1024 .f32) (w : FVec Ideal S1024x1024 .f32) (b : FVec Ideal S1x1024 .f32) (h : Fin 16) (j : Fin 40) (hj : ¬ j.val < 38) :
    REF x w b (ix2 h j) = 0#32 := by
  unfold REF
  refine (pad_apply_of_not_inside _ _ _ _ _ _ _ _ 1 (fun q => hj ?_)).trans rfl
  have q3 : (j.val - 0) / 1 < 38 := q.2.2
  omega

end Cert.TopKRefIdeal.Read

end
-- ==== Proof.TopKPoint.lean ====
/-
  What the points leave: a point before the last adds its rows' norms to those already there, and over all the norms
  the last point's choice is the reference's.
-/
module

public import proofs.«01_k».proof.Proof.TopKPick
public import proofs.«01_k».proof.Proof.TopKNorms
public import proofs.«01_k».proof.Proof.TopKRef

@[expose] public section

set_option maxRecDepth 16384

noncomputable section

namespace Cert.TopKPoint

open Cert.TopKIdeal Cert.TopKIdeal.Gen Cert.TopKMath Cert.TopKRead Cert.TopKExact Cert.TopKPick Idealize.ShloMosaic Idealize.ShloMosaic.TcCoe

variable (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S16x40 .i32) (harg4 : arg4.IsWhole) (arg5 : Memref sig .tc .vmem S2048x16 .f32) (harg5 : arg5.IsWhole) (arg6 : Memref sig .tc .vmem S256x128 .f32) (harg6 : arg6.IsWhole)
  (x0 : Vec Ideal S2048x1024 .f32) (x1 : Vec Ideal S1024x1024 .f32) (x2 : Vec Ideal S1x1024 .f32)

/-- The rows below `n` of a norms' array hold the norms. -/
def Filled (n : ℕ) (d : Vec Ideal S2048x16 .f32) : Prop :=
  ∀ (r : Fin 2048) (w : Fin 16), r.val < n → (show EReal from d (ix2 r w)) = TopKSpec.norm x0 x1 x2 w r

/-- The last point's choice over all the norms. -/
theorem choice (hc2 : k0_cond2 i = 1#1) (x4 : Vec Ideal S2048x16 .f32) (h : Filled x0 x1 x2 2048 x4) :
    (pickRun.sl.r (F := Ideal) c i arg1 harg1 arg2 harg2 arg3 harg3 arg4 harg4 arg5 harg5 arg6 harg6 hc2 x4).1 = Cert.TopKRefIdeal.Read.REF x0 x1 x2 := by
  obtain ⟨d, g⟩ := picked c i arg1 harg1 arg2 harg2 arg3 harg3 arg4 harg4 arg5 harg5 arg6 harg6 hc2
    (fun w r => TopKSpec.norm x0 x1 x2 w r) (fun w r => TopKSpec.bot_lt_norm x0 x1 x2 w r) x4 (fun r w => h r w r.isLt)
  funext y
  obtain ⟨w, j, rfl⟩ : ∃ (w : Fin 16) (j : Fin 40), y = ix2 w j := ⟨y 0, y 1, by funext k; match k with | ⟨0, _⟩ => rfl | ⟨1, _⟩ => rfl⟩
  by_cases hj : j.val < 38
  · obtain ⟨l, r1, e1⟩ := g.toks w j hj
    obtain ⟨l', r2, e2⟩ := Cert.TopKRefIdeal.Read.chosen_at (Cert.TopKRefIdeal.Read.norms x0 x1 x2) w ⟨j.val, hj⟩
    have ev : (fun r : Fin 2048 => (show EReal from Cert.TopKRefIdeal.Read.norms x0 x1 x2 (ix2 w r))) = fun r => TopKSpec.norm x0 x1 x2 w r :=
      funext fun r => Cert.TopKRefIdeal.Read.norms_at x0 x1 x2 w r
    rw [ev] at r2
    have el : l = l' := rank_inj (r1.trans r2.symm)
    rw [e1, el]
    exact ((Cert.TopKRefIdeal.Read.REF_first x0 x1 x2 w j hj).trans e2).symm
  · rw [g.later w j (by omega)]
    exact (Cert.TopKRefIdeal.Read.REF_rest x0 x1 x2 w j hj).symm

/-- A load of a block of rows. -/
theorem rows_read {o : ℕ} (h1 : k0_off1 i = ![o, 0]) (inb : ∀ a, (k0_off1 i) a + S256x1024.size a ≤ S2048x1024.size a) (a : Fin 256) (d : Fin 1024) (r : Fin 2048) (hr : r.val = o + a.val) :
    View.readAt (Elt Ideal) arg1.view (Rect.unit (s := S2048x1024) (k0_off1 i) S256x1024.size inb).toLoadRect (harg1.unread x0) (ix2 a d) = x0 (ix2 r d) := by
  rw [harg1.readAt_unread]
  refine congrArg x0 (funext fun k => Fin.ext ?_)
  match k with
  | ⟨0, _⟩ =>
    show k0_off1 i 0 + 1 * a.val = r.val
    rw [h1, hr, Nat.one_mul]
    rfl
  | ⟨1, _⟩ =>
    show k0_off1 i 1 + 1 * d.val = d.val
    rw [h1, Nat.one_mul]
    exact Nat.zero_add _

/-- What a point before the last stores. -/
theorem stored_eq (hc1 : k0_cond1 i = 1#1) (hc2 : ¬ k0_cond2 i = 1#1) (x4 : Vec Ideal S2048x16 .f32) :
    (normRun (F := Ideal) c i arg1 harg1 arg2 harg2 arg3 harg3 arg4 harg4 arg5 harg5 arg6 harg6 hc1 hc2 x0 x1 x2 x4).1
      = [⟨Rect.unit (s := S2048x16) (k0_off2 i) S256x16.size (k0_off2_inb i hc1),
          k0_pay1 (View.readAt (Elt Ideal) arg1.view (Rect.unit (s := S2048x1024) (k0_off1 i) S256x1024.size (k0_off1_inb i hc1)).toLoadRect (harg1.unread x0))
            (View.readAt (Elt Ideal) arg2.view (Rect.unit (s := S1024x1024) ![0, 0] S1024x1024.size inb_S1024x1024_S1024x1024_0_0).toLoadRect (harg2.unread x1))
            (View.readAt (Elt Ideal) arg3.view (Rect.unit (s := S1x1024) ![0, 0] S1x1024.size inb_S1x1024_S1x1024_0_0).toLoadRect (harg3.unread x2))⟩] := rfl

/-- A point's rows added. -/
theorem more (hc1 : k0_cond1 i = 1#1) (hc2 : ¬ k0_cond2 i = 1#1) (x4 : Vec Ideal S2048x16 .f32) {o : ℕ} (h1 : k0_off1 i = ![o, 0]) (h2 : k0_off2 i = ![o, 0])
    (h : Filled x0 x1 x2 o x4) :
    Filled x0 x1 x2 (o + 256) (arg5.view.read (Elt Ideal) (arg5.view.writes (Elt Ideal) (harg5.unread x4)
      (normRun (F := Ideal) c i arg1 harg1 arg2 harg2 arg3 harg3 arg4 harg4 arg5 harg5 arg6 harg6 hc1 hc2 x0 x1 x2 x4).1)) := by
  rw [stored_eq]
  intro r w hr
  by_cases hlt : r.val < o
  · refine Eq.trans (View.read_writes_cons_rows_of_not_mem arg5.view _ _ _ _ (ix2 r w) h2 rfl (Or.inl hlt)) ?_
    rw [View.writes_nil, harg5.read_unread]
    exact h r w hlt
  · have ha : r.val - o < 256 := by omega
    refine Eq.trans (View.read_writes_cons_rows_of_mem arg5.view _ _ _ _ (ix2 r w) (ix2 (⟨r.val - o, ha⟩ : Fin 256) w) h2 (by show r.val = o + (r.val - o); omega) rfl) ?_
    have e1 : View.readAt (Elt Ideal) arg2.view (Rect.unit (s := S1024x1024) ![0, 0] S1024x1024.size inb_S1024x1024_S1024x1024_0_0).toLoadRect (harg2.unread x1) = x1 := by
      rw [View.readAt_full, harg2.read_unread]
    have e2 : View.readAt (Elt Ideal) arg3.view (Rect.unit (s := S1x1024) ![0, 0] S1x1024.size inb_S1x1024_S1x1024_0_0).toLoadRect (harg3.unread x2) = x2 := by
      rw [View.readAt_full, harg3.read_unread]
    rw [e1, e2]
    exact TopKNorms.pay1_at x0 _ x1 x2 r ⟨r.val - o, ha⟩
      (fun d => rows_read i arg1 harg1 x0 h1 _ _ d r (by show r.val = o + (r.val - o); omega)) w

end Cert.TopKPoint

end
-- ==== Proof.TopKValue.lean ====
/-
  The token choice's run with the norms carried from point to point and the result named.
-/
module

public import proofs.«01_k».proof.Proof.TopKIdealFrame
public import proofs.«01_k».proof.Proof.TopKPoint

@[expose] public section

set_option maxRecDepth 16384

noncomputable section

namespace Cert.TopKValue

open Cert.TopKIdeal Cert.TopKIdeal.Gen
open Cert.TopKIdealRun (ms0 ms1 ms2 ms3 sm0 sm1 norms_iff select_iff scratch_eq defs₀_row)
open Cert.TopKExact Cert.TopKPoint
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem idx_val : ∀ t : Fin cfg0.N, win0_0.index t = ![0, 0] ∧ win0_1.index t = ![0, 0] ∧ win0_2.index t = ![0, 0] ∧ win0_3.index t = ![0, 0] :=
  (by decide +kernel : ∀ t : Fin grid0.N, _)

theorem off_val : ∀ t : Fin cfg0.N, k0_off1 (grid0.coords t) = ![256 * t.val, 0] ∧ k0_off2 (grid0.coords t) = ![256 * t.val, 0] :=
  (by decide +kernel : ∀ t : Fin grid0.N, _)

theorem blk_0 (c : Dev nD) (t : Fin cfg0.N) : iblk m c 0 t = m ((c : Thread nD τ).loc main_arg0) := by
  funext y
  obtain ⟨a, b, rfl⟩ : ∃ (a : Fin 2048) (b : Fin 1024), y = ix2 a b := ⟨y 0, y 1, by idx_vars y⟩
  blk_simp [iblk, idx_val t]
  blk_ext [idx_val t]

theorem blk_1 (c : Dev nD) (t : Fin cfg0.N) : iblk m c 1 t = m ((c : Thread nD τ).loc main_arg1) := by
  funext y
  obtain ⟨a, b, rfl⟩ : ∃ (a : Fin 1024) (b : Fin 1024), y = ix2 a b := ⟨y 0, y 1, by idx_vars y⟩
  blk_simp [iblk, idx_val t]
  blk_ext [idx_val t]

theorem blk_2 (c : Dev nD) (t : Fin cfg0.N) : iblk m c 2 t = m ((c : Thread nD τ).loc main_arg2) := by
  funext y
  obtain ⟨a, b, rfl⟩ : ∃ (a : Fin 1) (b : Fin 1024), y = ix2 a b := ⟨y 0, y 1, by idx_vars y⟩
  blk_simp [iblk, idx_val t]
  blk_ext [idx_val t]

/-- The rows below `n` hold the arguments' norms. -/
abbrev Known (c : Dev nD) (n : ℕ) (d : Vec Ideal S2048x16 .f32) : Prop :=
  Filled (m ((c : Thread nD τ).loc main_arg0)) (m ((c : Thread nD τ).loc main_arg1)) (m ((c : Thread nD τ).loc main_arg2)) n d

/-- The reference's term of the arguments. -/
abbrev ANS (c : Dev nD) : IVec S16x40 32 :=
  Cert.TopKRefIdeal.Read.REF (m ((c : Thread nD τ).loc main_arg0)) (m ((c : Thread nD τ).loc main_arg1)) (m ((c : Thread nD τ).loc main_arg2))

/-- What is carried to point `n`: the norms of the rows before it. -/
def Carried (c : Dev nD) (n : ℕ) : sProp 𝕄 :=
  iprop(iprop((∃ d, owns (c : Thread nD τ) sm0 fullShare d ∗ ⌜Known m c (256 * n) d⌝) ∗ (∃ d, owns (c : Thread nD τ) sm1 fullShare d)) ∗ (∃ r, prngReg c r))

/-- The proof data: each input's buffer keeps its block, the result's ends at the reference's term. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ANS m c
  Φ t := Carried m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = ANS m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

theorem result_kept (c : Dev nD) (t : Fin cfg0.N) (h : t.val < 8) :
    (dats m 0 c).leavesExact 3 t = iprop(∃ d, owns (c : Thread nD τ) (ms3 t) fullShare ((dats m 0 c).before 3 t d)) := by
  refine (dats m 0 c).leavesExact_idle 3 t ?_ ?_
  · show (!(k0_cond2 (grid0.coords t) == 1#1)) = true
    rw [Bool.not_eq_true', beq_eq_false_iff_ne]
    exact fun h2 => absurd ((select_iff t).mp h2) (by omega)
  · rw [← Bool.not_eq_true]
    exact fun g => absurd ((flush0_3 t).mp g) (by omega)

theorem result_left (c : Dev nD) (t : Fin cfg0.N) (h : t.val = 8) :
    (dats m 0 c).leavesExact 3 t = owns (c : Thread nD τ) (ms3 t) fullShare (ANS m c) := by
  have hi : cfg0.idle 3 (cfg0.grid.coords t) = false := by
    show (!(k0_cond2 (grid0.coords t) == 1#1)) = false
    rw [(select_iff t).mpr h]
    rfl
  unfold Dat.leavesExact
  rw [hi]
  dsimp only []
  rw [after_3]

theorem whole_at {v : View sig .tc .vmem S16x40 .i32} (f : v.ty.Contents (Elt Ideal)) (p : IVec S16x40 32) :
    v.read (Elt Ideal) (v.writes (Elt Ideal) f [⟨Rect.unit (s := S16x40) ![0, 0] S16x40.size inb_S16x40_S16x40_0_0, p⟩]) = p :=
  View.read_writes_full (s := S16x40) (Val := Elt Ideal) (off := ![0, 0]) v f inb_S16x40_S16x40_0_0 p []

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2]
  rw [show (dats m 0 c).Φ t.succ = Carried m c (t.val + 1) from rfl,
    show (dats m 0 c).Φ t.castSucc = Carried m c t.val from rfl]
  unfold Carried
  have hN : t.val < 9 := lt_of_lt_of_eq t.isLt (show cfg0.N = 9 from N_0)
  by_cases h : t.val < 8
  · rw [result_kept m c t h]
    iintro ⟨⟨⟨⟨%d4, HS0, %hd⟩, HS1⟩, Hg⟩, Ho, ⟨%d0, H0⟩, ⟨%d1, H1⟩, ⟨%d2, H2⟩, H3⟩
    iapply ((normRun (F := Ideal) c (grid0.coords t) (ms0 t) _ (ms1 t) _ (ms2 t) _ (ms3 t) _ sm0 _ sm1 _ ((norms_iff t).mpr h) (fun h2 => absurd ((select_iff t).mp h2) (by omega)) (iblk m c 0 t) (iblk m c 1 t) (iblk m c 2 t) d4).2 Set.univ _)
    isplitl [H0]; · iexact H0
    isplitl [H1]; · iexact H1
    isplitl [H2]; · iexact H2
    isplitl [HS0]; · iexact HS0
    iintro ⟨H0, H1, H2, HS0⟩
    isplitl [HS0 HS1 Hg]
    · isplitl [HS0 HS1]
      · isplitl [HS0]
        · iexists _
          isplitl [HS0]
          · unfold owns
            iexists _; isplitr
            swap; · iexact HS0
            ipureintro; rfl
          ipureintro
          have hf : Filled (iblk m c 0 t) (iblk m c 1 t) (iblk m c 2 t) (256 * t.val) d4 := by
            rw [blk_0 m c t, blk_1 m c t, blk_2 m c t]; exact hd
          unfold Known
          rw [← blk_0 m c t, ← blk_1 m c t, ← blk_2 m c t]
          exact more c (grid0.coords t) (ms0 t) _ (ms1 t) _ (ms2 t) _ (ms3 t) _ sm0 _ sm1 _ (iblk m c 0 t) (iblk m c 1 t) (iblk m c 2 t) _ _ d4 (off_val t).1 (off_val t).2 hf
        iexact HS1
      iexact Hg
    isplitl [Ho]; · iexact Ho
    isplitl [H0]; · iexact H0
    isplitl [H1]; · iexact H1
    isplitl [H2]; · iexact H2
    iexact H3
  · have h8 : t.val = 8 := by omega
    rw [result_left m c t h8]
    iintro ⟨⟨⟨⟨%d4, HS0, %hd⟩, ⟨%d5, HS1⟩⟩, Hg⟩, Ho, ⟨%d0, H0⟩, ⟨%d1, H1⟩, ⟨%d2, H2⟩, ⟨%d3, H3⟩⟩
    iapply ((pickRun (F := Ideal) c (grid0.coords t) (ms0 t) _ (ms1 t) _ (ms2 t) _ (ms3 t) _ sm0 _ sm1 _ (fun h1 => h ((norms_iff t).mp h1)) ((select_iff t).mpr h8) (iblk m c 0 t) (iblk m c 1 t) (iblk m c 2 t) d4 d5).2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%f3, H3⟩, HS0, ⟨%f5, HS1⟩⟩
    have hd' : Known m c 2048 d4 := fun r w _ => hd r w (by rw [h8]; exact r.isLt)
    isplitl [HS0 HS1 Hg]
    · isplitl [HS0 HS1]
      · isplitl [HS0]
        · iexists _
          isplitl [HS0]; · iexact HS0
          ipureintro
          exact fun r w _ => hd' r w r.isLt
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    unfold owns
    iexists _; isplitr
    swap; · iexact H3
    ipureintro
    refine (whole_at f3 _).trans ?_
    exact choice c (grid0.coords t) (ms0 t) _ (ms1 t) _ (ms2 t) _ (ms3 t) _ sm0 _ sm1 _ _ _ _ ((select_iff t).mpr h8) d4 hd'

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Carried m c 0 from rfl, scratch_eq]
  unfold Carried
  iintro ⟨⟨⟨%d, HS0⟩, HS1⟩, Hg⟩
  isplitl [HS0 HS1]
  · isplitl [HS0]
    · iexists _
      isplitl [HS0]; · iexact HS0
      ipureintro
      exact fun r w h => absurd h (Nat.not_lt_zero _)
    iexact HS1
  iexact Hg

theorem hout (c : Dev nD) : (dats m 0 c).Φ (Fin.last cfg0.N) ⊢ Pipeline.ΦA spec0 c := by
  rw [show (dats m 0 c).Φ (Fin.last cfg0.N) = Carried m c cfg0.N from rfl, scratch_eq]
  unfold Carried
  iintro ⟨⟨⟨%d, HS0, %hd⟩, HS1⟩, Hg⟩
  isplitl [HS0 HS1]
  · isplitl [HS0]
    · iexists _; iexact HS0
    iexact HS1
  iexact Hg

set_option backward.isDefEq.respectTransparency.types false in
/-- The launch: the arrays end at what the proof data give, every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result array at the end is the reference's term of the arguments. -/
theorem final (c : Dev nD) : (dats m 0 c).arrAt 3 (cfgs 0).N = ANS m c := by
  refine (dats m 0 c).arrAt_eq_of_covers 3 _ (by decide +kernel) fun t hf y => ?_
  blk_simp [idx_val t]
  obtain ⟨h, i, rfl⟩ : ∃ (h : Fin 16) (i : Fin 40), y = ix2 h i := ⟨y 0, y 1, by idx_vars y⟩
  have hy : (win0_3.blk t).view.emb (ix2 h i) = ix2 h i := by blk_ext [idx_val t]
  rw [hy, after_3]

/-- The run: the result is the reference's term of the arguments, which end unchanged. -/
theorem run_value : θ_run defs (onTc (τ := τ) (main (F := Ideal))) ⟨m, fun _ => 0, ρ⟩ (fun r => ∀ c : Dev nD,
      r.2.mem ((c.tc : Thread nD τ).loc main_v0) = ANS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 3).trans (final m c),
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).1 2).trans (((dats m 0 c).arrAt_in 2 rfl _).trans ((A_eq m c 2).trans (V_main_arg2 m c)))⟩)
    (run_main m ρ)

end Cert.TopKValue

end
-- ==== Proof.lean ====
/- The claims about the selection call, the attention call and the projection call, put together. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_rows_in_range
public import proofs.«01_k».proof.Proof.Gen.Pre_rows_in_range_and_finite
public import proofs.«01_k».proof.Proof.Gen.AttnRefIdeal.Run
public import proofs.«01_k».proof.Proof.AttnFrame
public import proofs.«01_k».proof.Proof.AttnFinal
public import proofs.«01_k».proof.Proof.AttnPre
public import proofs.«01_k».proof.Proof.Gen.OutC
public import proofs.«01_k».proof.Proof.Gen.OutC.Skeleton
public import proofs.«01_k».proof.Proof.Gen.OutC.Launch
public import proofs.«01_k».proof.Proof.Gen.OutC.Points
public import proofs.«01_k».proof.Proof.Gen.OutC.Frame
public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import proofs.«01_k».proof.Proof.Gen.OutRefIdeal
public import proofs.«01_k».proof.Proof.Gen.Pre_distinct_rows
public import proofs.«01_k».proof.Proof.Gen.OutCIdeal.Value
public import proofs.«01_k».proof.Proof.Gen.OutRefIdeal.Run
public import proofs.«01_k».proof.Proof.OutFinal
public import proofs.«01_k».proof.Proof.OutPre
public import proofs.«01_k».proof.Proof.Gen.TopK
public import proofs.«01_k».proof.Proof.Gen.TopK.Skeleton
public import proofs.«01_k».proof.Proof.Gen.TopK.Launch
public import proofs.«01_k».proof.Proof.Gen.TopK.Points
public import proofs.«01_k».proof.Proof.Gen.TopK.Frame
public import proofs.«01_k».proof.Proof.Gen.TopK.Loops
public import proofs.«01_k».proof.Proof.Gen.TopKIdeal
public import proofs.«01_k».proof.Proof.Gen.TopKIdeal.Skeleton
public import proofs.«01_k».proof.Proof.Gen.TopKIdeal.Launch
public import proofs.«01_k».proof.Proof.Gen.TopKIdeal.Points
public import proofs.«01_k».proof.Proof.Gen.TopKIdeal.Frame
public import proofs.«01_k».proof.Proof.Gen.TopKIdeal.Loops
public import proofs.«01_k».proof.Proof.Gen.TopKRefIdeal
public import proofs.«01_k».proof.Proof.Gen.TopKRefIdeal.Run
public import proofs.«01_k».proof.Proof.TopKFrame
public import proofs.«01_k».proof.Proof.TopKValue
public import Idealize.ShloMosaic.Lib.Claim
public import Idealize.ShloMosaic.Adequacy
public import Idealize.ShloMosaic.Init

@[expose] public section

noncomputable section

namespace Cert.Proof

open Idealize.ShloMosaic Idealize.SL.Sem Cert.OutC

/-- The reference of the projection call ends, keeps its arguments and leaves every counter at zero. -/
theorem outRef_frame : Cert.quiescent_OutRefIdeal := fun m g _ =>
  (θ_run Cert.OutRefIdeal.defs _ _).mono (fun r h => And.intro (fun c => (h c).2) (sem_eq_zero_of_no_sems rfl r.2))
    (Cert.OutRefIdeal.Value.run m g)

set_option maxRecDepth 16384 in
/-- The projection call and its reference end with the same array. -/
theorem out_value : Cert.algebraic_OutCIdeal_OutRefIdeal_pre_distinct_rows := by
  pair_intro
  · run_from Cert.OutCIdeal.Gen.run_main m g
  · refine (θ_run Cert.OutRefIdeal.defs _ _).mono (fun r h c => ⟨?_, (h c).2⟩) (Cert.OutRefIdeal.Value.run m' g')
    obtain ⟨h0, h1, h2, h3⟩ := hagree c
    have hp := Cert.OutPre.distinct _ _ _ _ (hpre c)
    have e := (h c).1
    rw [h0, h1, h2, h3] at e
    exact e.trans (Cert.OutCIdeal.Value.final m c hp.1 hp.2).symm

/-- The attention call ends, keeps its arguments and leaves every counter at zero, when the table names rows; -/
theorem attn_frame : Cert.quiescent_Attn := fun m g hpre =>
  Cert.AttnRun.frame m g fun c y => Cert.AttnPre.rows _ _ _ _ _ _ _ _ (hpre c) y

/-- so does its idealized text, -/
theorem attnIdeal_frame : Cert.quiescent_AttnIdeal := fun m g hpre =>
  Cert.AttnIdealRun.frame m g fun c y => Cert.AttnPre.rows _ _ _ _ _ _ _ _ (hpre c) y

theorem attnIdeal_frame_finite : Cert.quiescent_AttnIdeal_pre_rows_in_range_and_finite := fun m g hpre =>
  Cert.AttnIdealRun.frame m g fun c y => (Cert.AttnPre.finite _ _ _ _ _ _ _ _ (hpre c)).1 y

/-- and its reference. -/
theorem attnRef_frame : Cert.quiescent_AttnRefIdeal := fun m g _ =>
  (θ_run Cert.AttnRefIdeal.defs _ _).mono (fun r h => And.intro (fun c => (h c).2) (sem_eq_zero_of_no_sems rfl r.2))
    (Cert.AttnRefIdeal.Value.run m g)

theorem attnRef_frame_finite : Cert.quiescent_AttnRefIdeal_pre_rows_in_range_and_finite := fun m g _ =>
  (θ_run Cert.AttnRefIdeal.defs _ _).mono (fun r h => And.intro (fun c => (h c).2) (sem_eq_zero_of_no_sems rfl r.2))
    (Cert.AttnRefIdeal.Value.run m g)

set_option maxRecDepth 16384 in
/-- The attention call and its reference end with the same array. -/
theorem attn_value : Cert.algebraic_AttnIdeal_AttnRefIdeal_pre_rows_in_range_and_finite := by
  pair_intro
  · run_from Cert.AttnIdealRun.run_main m g fun c y => (Cert.AttnPre.finite _ _ _ _ _ _ _ _ (hpre c)).1 y
  · refine (θ_run Cert.AttnRefIdeal.defs _ _).mono (fun r h c => ⟨?_, (h c).2⟩) (Cert.AttnRefIdeal.Value.run m' g')
    obtain ⟨h0, h1, h2, h3, h4, h5, h6, h7⟩ := hagree c
    obtain ⟨hr, f0, f1, f2, f3, f4, f5, f6⟩ := Cert.AttnPre.finite _ _ _ _ _ _ _ _ (hpre c)
    have e := (h c).1.trans (Cert.AttnFinal.ref_eq m' c)
    rw [h0, h1, h2, h3, h4, h5, h6, h7] at e
    exact e.trans (Cert.AttnFinal.final m _ c f0 f1 f2 f3 f4 f5 f6).symm

/-- The reference of the selection call ends, keeps its arguments and leaves every counter at zero. -/
theorem topKRef_frame : Cert.quiescent_TopKRefIdeal := fun m g _ =>
  (θ_run Cert.TopKRefIdeal.defs _ _).mono (fun r h => And.intro (fun c => (h c).2) (sem_eq_zero_of_no_sems rfl r.2))
    (Cert.TopKRefIdeal.Value.run m g)

set_option maxRecDepth 16384 in
/-- The selection call and its reference end with the same table. -/
theorem topK_value : Cert.algebraic_TopKIdeal_TopKRefIdeal := by
  intro m g m' g' _ hagree
  refine ⟨fun c => Cert.TopKValue.ANS m c, Cert.TopKValue.run_value m g, ?_⟩
  refine (θ_run Cert.TopKRefIdeal.defs _ _).mono (fun r h c => ⟨?_, (h c).2⟩) (Cert.TopKRefIdeal.Value.run m' g')
  obtain ⟨h0, h1, h2⟩ := hagree c
  have e := (h c).1
  rw [h0, h1, h2] at e
  exact e

theorem claim : Cert.Claim :=
  ⟨Cert.Attn.Gen.facts, Cert.AttnIdeal.Gen.facts, Cert.AttnRefIdeal.Gen.facts,
    Cert.OutC.Gen.facts, Cert.OutCIdeal.Gen.facts, Cert.OutRefIdeal.Gen.facts,
    Cert.TopK.Gen.facts, Cert.TopKIdeal.Gen.facts, Cert.TopKRefIdeal.Gen.facts,
    Cert.Pre_rows_in_range.Gen.facts, Cert.Pre_rows_in_range_and_finite.Gen.facts, Cert.Pre_distinct_rows.Gen.facts,
    attn_frame, attnIdeal_frame, attnIdeal_frame_finite, attnRef_frame, attnRef_frame_finite,
    fun m g _ => Cert.OutC.Gen.frame m g, fun m g _ => Cert.OutCIdeal.Gen.frame m g,
    fun m g _ => Cert.OutCIdeal.Gen.frame m g, outRef_frame, fun m g _ => outRef_frame m g trivial,
    fun m g _ => Cert.TopKRun.frame m g, fun m g _ => Cert.TopKIdealRun.frame m g, topKRef_frame,
    trivial, attn_value, trivial, out_value, trivial, topK_value⟩

end Cert.Proof
